-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pack.Statement Cert.KernelIdeal.S64x4
  ∧ IdealRules.bf16_pack.Statement Cert.KernelIdeal.S2x128
  ∧ IdealRules.bf16_pack.Statement Cert.KernelIdeal.S32x32
  ∧ IdealRules.bf16_pack.Statement Cert.KernelIdeal.S128x256
  ∧ IdealRules.bf16_pack.Statement Cert.KernelIdeal.S64x64
  ∧ IdealRules.bf16_pack.Statement Cert.KernelIdeal.S64x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v726) = v0 c
          ∧ r.2.mem ((c.tc : Thread Cert.ReferenceIdeal.nD Cert.ReferenceIdeal.τ).loc Cert.ReferenceIdeal.main_v772) = v1 c
          ∧ r.2.mem ((c.tc : Thread Cert.ReferenceIdeal.nD Cert.ReferenceIdeal.τ).loc Cert.ReferenceIdeal.main_v467) = v2 c
          ∧ r.2.mem ((c.tc : Thread Cert.ReferenceIdeal.nD Cert.ReferenceIdeal.τ).loc Cert.ReferenceIdeal.main_v785) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x896x16x128 : Shape := ⟨4, ![2, 896, 16, 128]⟩
abbrev S2x14x16 : Shape := ⟨3, ![2, 14, 16]⟩
abbrev S2x896x16x256 : Shape := ⟨4, ![2, 896, 16, 256]⟩
abbrev S2x896x16 : Shape := ⟨3, ![2, 896, 16]⟩
abbrev S_ : Shape := ⟨0, ![]⟩

class Facts : Prop where
  natLt_8_32 : 8 < 32
  bcast_S_S2x896x16x128 : S_.BroadcastsInDim S2x896x16x128 (![] : Fin 0 → Fin S2x896x16x128.rank)
  bcast_S_S2x14x16 : S_.BroadcastsInDim S2x14x16 (![] : Fin 0 → Fin S2x14x16.rank)
  bcast_S_S2x896x16x256 : S_.BroadcastsInDim S2x896x16x256 (![] : Fin 0 → Fin S2x896x16x256.rank)
  bcast_S_S2x896x16 : S_.BroadcastsInDim S2x896x16 (![] : Fin 0 → Fin S2x896x16.rank)

variable [Facts]

def fn_part1 {F : FTy → Type} [FloatOps F] (main_arg5 : FVec F S2x896x16 .f32) (main_arg6 : FVec F S2x896x16 .f32) (main_arg7 : IVec S2x896x16x256 8) (main_arg8 : FVec F S2x14x16 .f32) (main_v4 : IVec S2x896x16x128 1) (main_v7 : IVec S2x14x16 1) (main_v12 : IVec S2x896x16x128 1) (main_v15 : IVec S2x14x16 1) (main_v16 : FVec F S2x896x16x256 .bf16) (main_cst_4 : FVec F S_ .bf16) : IVec S2x896x16x128 1 × IVec S2x14x16 1 × IVec S2x896x16x128 1 × IVec S2x14x16 1 × IVec S2x896x16x256 1 × IVec S2x896x16 1 × IVec S2x896x16 1 × IVec S2x896x16 1 × IVec S2x896x16x256 1 × IVec S2x14x16 1 :=
  let main_v17 : FVec F S2x896x16x256 .bf16 := broadcastInDim S2x896x16x256 ![] bcast_S_S2x896x16x256 main_cst_4
  let main_v18 : IVec S2x896x16x256 1 := cmpf .olt main_v16 main_v17
  let main_v19 : FVec F S2x896x16 .f32 := Host.absf main_arg5
  let main_cst_5 : FVec F S_ .f32 := constant S_ .f32 0x7F800000#32
  let main_v20 : FVec F S2x896x16 .f32 := broadcastInDim S2x896x16 ![] bcast_S_S2x896x16 main_cst_5
  let main_v21 : IVec S2x896x16 1 := cmpf .olt main_v19 main_v20
  let main_cst_6 : FVec F S_ .f32 := constant S_ .f32 0x00000000#32
  let main_v22 : FVec F S2x896x16 .f32 := broadcastInDim S2x896x16 ![] bcast_S_S2x896x16 main_cst_6
  let main_v23 : IVec S2x896x16 1 := cmpf .ogt main_arg5 main_v22
  let main_v24 : FVec F S2x896x16 .f32 := Host.absf main_arg6
  let main_cst_7 : FVec F S_ .f32 := constant S_ .f32 0x7F800000#32
  let main_v25 : FVec F S2x896x16 .f32 := broadcastInDim S2x896x16 ![] bcast_S_S2x896x16 main_cst_7
  let main_v26 : IVec S2x896x16 1 := cmpf .olt main_v24 main_v25
  let main_v27 : IVec S2x896x16x256 32 := (extui 32 · natLt_8_32) main_arg7
  let main_c_8 : IVec S_ 32 := constantI S_ 32 127#32
  let main_v28 : IVec S2x896x16x256 32 := broadcastInDim S2x896x16x256 ![] bcast_S_S2x896x16x256 main_c_8
  let main_v29 : IVec S2x896x16x256 32 := andi main_v27 main_v28
  let main_c_9 : IVec S_ 32 := constantI S_ 32 124#32
  let main_v30 : IVec S2x896x16x256 32 := broadcastInDim S2x896x16x256 ![] bcast_S_S2x896x16x256 main_c_9
  let main_v31 : IVec S2x896x16x256 1 := cmpi .slt main_v29 main_v30
  let main_v32 : FVec F S2x14x16 .f32 := Host.absf main_arg8
  let main_cst_10 : FVec F S_ .f32 := constant S_ .f32 0x7F800000#32
  let main_v33 : FVec F S2x14x16 .f32 := broadcastInDim S2x14x16 ![] bcast_S_S2x14x16 main_cst_10
  let main_v34 : IVec S2x14x16 1 := cmpf .olt main_v32 main_v33
  (main_v4, main_v7, main_v12, main_v15, main_v18, main_v21, main_v23, main_v26, main_v31, main_v34)

def fn {F : FTy → Type} [FloatOps F] (main_arg0 : IVec S2x896x16x128 8) (main_arg1 : FVec F S2x14x16 .f32) (main_arg2 : IVec S2x896x16x128 8) (main_arg3 : FVec F S2x14x16 .f32) (main_arg4 : FVec F S2x896x16x256 .bf16) (main_arg5 : FVec F S2x896x16 .f32) (main_arg6 : FVec F S2x896x16 .f32) (main_arg7 : IVec S2x896x16x256 8) (main_arg8 : FVec F S2x14x16 .f32) : IVec S2x896x16x128 1 × IVec S2x14x16 1 × IVec S2x896x16x128 1 × IVec S2x14x16 1 × IVec S2x896x16x256 1 × IVec S2x896x16 1 × IVec S2x896x16 1 × IVec S2x896x16 1 × IVec S2x896x16x256 1 × IVec S2x14x16 1 :=
  let main_v0 : IVec S2x896x16x128 32 := (extui 32 · natLt_8_32) main_arg0
  let main_c : IVec S_ 32 := constantI S_ 32 127#32
  let main_v1 : IVec S2x896x16x128 32 := broadcastInDim S2x896x16x128 ![] bcast_S_S2x896x16x128 main_c
  let main_v2 : IVec S2x896x16x128 32 := andi main_v0 main_v1
  let main_c_0 : IVec S_ 32 := constantI S_ 32 127#32
  let main_v3 : IVec S2x896x16x128 32 := broadcastInDim S2x896x16x128 ![] bcast_S_S2x896x16x128 main_c_0
  let main_v4 : IVec S2x896x16x128 1 := cmpi .slt main_v2 main_v3
  let main_v5 : FVec F S2x14x16 .f32 := Host.absf main_arg1
  let main_cst : FVec F S_ .f32 := constant S_ .f32 0x7F800000#32
  let main_v6 : FVec F S2x14x16 .f32 := broadcastInDim S2x14x16 ![] bcast_S_S2x14x16 main_cst
  let main_v7 : IVec S2x14x16 1 := cmpf .olt main_v5 main_v6
  let main_v8 : IVec S2x896x16x128 32 := (extui 32 · natLt_8_32) main_arg2
  let main_c_1 : IVec S_ 32 := constantI S_ 32 127#32
  let main_v9 : IVec S2x896x16x128 32 := broadcastInDim S2x896x16x128 ![] bcast_S_S2x896x16x128 main_c_1
  let main_v10 : IVec S2x896x16x128 32 := andi main_v8 main_v9
  let main_c_2 : IVec S_ 32 := constantI S_ 32 127#32
  let main_v11 : IVec S2x896x16x128 32 := broadcastInDim S2x896x16x128 ![] bcast_S_S2x896x16x128 main_c_2
  let main_v12 : IVec S2x896x16x128 1 := cmpi .slt main_v10 main_v11
  let main_v13 : FVec F S2x14x16 .f32 := Host.absf main_arg3
  let main_cst_3 : FVec F S_ .f32 := constant S_ .f32 0x7F800000#32
  let main_v14 : FVec F S2x14x16 .f32 := broadcastInDim S2x14x16 ![] bcast_S_S2x14x16 main_cst_3
  let main_v15 : IVec S2x14x16 1 := cmpf .olt main_v13 main_v14
  let main_v16 : FVec F S2x896x16x256 .bf16 := Host.absf main_arg4
  let main_cst_4 : FVec F S_ .bf16 := constant S_ .bf16 0x7F80#16
  fn_part1 (F := F) main_arg5 main_arg6 main_arg7 main_arg8 main_v4 main_v7 main_v12 main_v15 main_v16 main_cst_4
-- ==== Kernel.lean ====
abbrev S2x896x16x128 : Shape := ⟨4, ![2, 896, 16, 128]⟩
abbrev S2x14x16 : Shape := ⟨3, ![2, 14, 16]⟩
abbrev S2x896x16x256 : Shape := ⟨4, ![2, 896, 16, 256]⟩
abbrev S2x896x16 : Shape := ⟨3, ![2, 896, 16]⟩
abbrev S2x14x64x4x2x2 : Shape := ⟨6, ![2, 14, 64, 4, 2, 2]⟩
abbrev S2x4x14x2x2x64 : Shape := ⟨6, ![2, 4, 14, 2, 2, 64]⟩
abbrev S2x4x14x2x128 : Shape := ⟨5, ![2, 4, 14, 2, 128]⟩
abbrev S448 : Shape := ⟨1, ![448]⟩
abbrev S2x16x896x128 : Shape := ⟨4, ![2, 16, 896, 128]⟩
abbrev S2x16x896x256 : Shape := ⟨4, ![2, 16, 896, 256]⟩
abbrev S2x896x4x4 : Shape := ⟨4, ![2, 896, 4, 4]⟩
abbrev S2x4x896x4 : Shape := ⟨4, ![2, 4, 896, 4]⟩
abbrev S1x4x896x128 : Shape := ⟨4, ![1, 4, 896, 128]⟩
abbrev S1x4x896x256 : Shape := ⟨4, ![1, 4, 896, 256]⟩
abbrev S1x1x896x4 : Shape := ⟨4, ![1, 1, 896, 4]⟩
abbrev S1x1x14x2x128 : Shape := ⟨5, ![1, 1, 14, 2, 128]⟩
abbrev S14x4x3x128x256 : Shape := ⟨5, ![14, 4, 3, 128, 256]⟩
abbrev S14x4x3x64x256 : Shape := ⟨5, ![14, 4, 3, 64, 256]⟩
abbrev S14x4x64x64 : Shape := ⟨4, ![14, 4, 64, 64]⟩
abbrev S4x128x256 : Shape := ⟨3, ![4, 128, 256]⟩
abbrev S64x64 : Shape := ⟨2, ![64, 64]⟩
abbrev S64x128 : Shape := ⟨2, ![64, 128]⟩
abbrev S128x128 : Shape := ⟨2, ![128, 128]⟩
abbrev S1 : Shape := ⟨1, ![1]⟩
abbrev S1x1x64x4 : Shape := ⟨4, ![1, 1, 64, 4]⟩
abbrev S64x4 : Shape := ⟨2, ![64, 4]⟩
abbrev S64x192 : Shape := ⟨2, ![64, 192]⟩
abbrev S192x4 : Shape := ⟨2, ![192, 4]⟩
abbrev S1x1x1x2x128 : Shape := ⟨5, ![1, 1, 1, 2, 128]⟩
abbrev S2x128 : Shape := ⟨2, ![2, 128]⟩
abbrev S2x384 : Shape := ⟨2, ![2, 384]⟩
abbrev S384x128 : Shape := ⟨2, ![384, 128]⟩
abbrev S1x4 : Shape := ⟨2, ![1, 4]⟩
abbrev S1x1x64x128 : Shape := ⟨4, ![1, 1, 64, 128]⟩
abbrev S64x1 : Shape := ⟨2, ![64, 1]⟩
abbrev S1x128 : Shape := ⟨2, ![1, 128]⟩
abbrev S32x128 : Shape := ⟨2, ![32, 128]⟩
abbrev S32x128x1 : Shape := ⟨3, ![32, 128, 1]⟩
abbrev S32x32 : Shape := ⟨2, ![32, 32]⟩
abbrev S32x192 : Shape := ⟨2, ![32, 192]⟩
abbrev S192x32 : Shape := ⟨2, ![192, 32]⟩
abbrev S32x64 : Shape := ⟨2, ![32, 64]⟩
abbrev S1x128x256 : Shape := ⟨3, ![1, 128, 256]⟩
abbrev S128x256 : Shape := ⟨2, ![128, 256]⟩
abbrev S1x1x1x128x256 : Shape := ⟨5, ![1, 1, 1, 128, 256]⟩
abbrev S64x384 : Shape := ⟨2, ![64, 384]⟩
abbrev S384x256 : Shape := ⟨2, ![384, 256]⟩
abbrev S64x256 : Shape := ⟨2, ![64, 256]⟩
abbrev S1x1x64x256 : Shape := ⟨4, ![1, 1, 64, 256]⟩
abbrev S1x1x1x64x256 : Shape := ⟨5, ![1, 1, 1, 64, 256]⟩
abbrev S1x1x64x64 : Shape := ⟨4, ![1, 1, 64, 64]⟩
abbrev S128x64 : Shape := ⟨2, ![128, 64]⟩
abbrev S1x1 : Shape := ⟨2, ![1, 1]⟩
abbrev S128x192 : Shape := ⟨2, ![128, 192]⟩
abbrev S192x256 : Shape := ⟨2, ![192, 256]⟩
abbrev S256 : Shape := ⟨1, ![256]⟩
abbrev S1x256 : Shape := ⟨2, ![1, 256]⟩
abbrev S64x768 : Shape := ⟨2, ![64, 768]⟩
abbrev S64x1536 : Shape := ⟨2, ![64, 1536]⟩
abbrev S128x768 : Shape := ⟨2, ![128, 768]⟩
abbrev S128x1536 : Shape := ⟨2, ![128, 1536]⟩
abbrev S192x64 : Shape := ⟨2, ![192, 64]⟩
abbrev S64 : Shape := ⟨1, ![64]⟩
abbrev S192x128 : Shape := ⟨2, ![192, 128]⟩

abbrev nBuf : Space → Nat
  | .hbm => 31
  | .vmem => 28
  | .smem => 3
  | _ => 0

abbrev bufTy : (tb : Table) → Fin (tcTables nBuf tb) → BufTy
  | .hbm, ⟨0, _⟩ => ⟨S2x896x16x128, .i8⟩
  | .hbm, ⟨1, _⟩ => ⟨S2x14x16, .f32⟩
  | .hbm, ⟨2, _⟩ => ⟨S2x896x16x128, .i8⟩
  | .hbm, ⟨3, _⟩ => ⟨S2x14x16, .f32⟩
  | .hbm, ⟨4, _⟩ => ⟨S2x896x16x256, .bf16⟩
  | .hbm, ⟨5, _⟩ => ⟨S2x896x16, .f32⟩
  | .hbm, ⟨6, _⟩ => ⟨S2x896x16, .f32⟩
  | .hbm, ⟨7, _⟩ => ⟨S2x896x16x256, .i8⟩
  | .hbm, ⟨8, _⟩ => ⟨S2x14x16, .f32⟩
  | .hbm, ⟨9, _⟩ => ⟨S2x896x16x128, .fp8e4m3⟩
  | .hbm, ⟨10, _⟩ => ⟨S2x896x16x128, .fp8e4m3⟩
  | .hbm, ⟨11, _⟩ => ⟨S2x896x16x256, .fp8e5m2⟩
  | .hbm, ⟨12, _⟩ => ⟨S2x14x64x4x2x2, .f32⟩
  | .hbm, ⟨13, _⟩ => ⟨S2x4x14x2x2x64, .f32⟩
  | .hbm, ⟨14, _⟩ => ⟨S2x4x14x2x128, .f32⟩
  | .hbm, ⟨15, _⟩ => ⟨S448, .f32⟩
  | .hbm, ⟨16, _⟩ => ⟨S448, .f32⟩
  | .hbm, ⟨17, _⟩ => ⟨S448, .f32⟩
  | .hbm, ⟨18, _⟩ => ⟨S2x16x896x128, .fp8e4m3⟩
  | .hbm, ⟨19, _⟩ => ⟨S2x16x896x128, .fp8e4m3⟩
  | .hbm, ⟨20, _⟩ => ⟨S2x16x896x256, .bf16⟩
  | .hbm, ⟨21, _⟩ => ⟨S2x16x896x256, .fp8e5m2⟩
  | .hbm, ⟨22, _⟩ => ⟨S2x896x4x4, .f32⟩
  | .hbm, ⟨23, _⟩ => ⟨S2x4x896x4, .f32⟩
  | .hbm, ⟨24, _⟩ => ⟨S2x896x4x4, .f32⟩
  | .hbm, ⟨25, _⟩ => ⟨S2x4x896x4, .f32⟩
  | .hbm, ⟨26, _⟩ => ⟨S2x16x896x128, .bf16⟩
  | .hbm, ⟨27, _⟩ => ⟨S2x16x896x128, .bf16⟩
  | .hbm, ⟨28, _⟩ => ⟨S2x16x896x256, .bf16⟩
  | .hbm, ⟨29, _⟩ => ⟨S2x4x896x4, .f32⟩
  | .hbm, ⟨30, _⟩ => ⟨S2x4x896x4, .f32⟩
  | .local _ .vmem, ⟨0, _⟩ => ⟨S1x4x896x128, .fp8e4m3⟩
  | .local _ .vmem, ⟨1, _⟩ => ⟨S1x4x896x128, .fp8e4m3⟩
  | .local _ .vmem, ⟨2, _⟩ => ⟨S1x4x896x128, .fp8e4m3⟩
  | .local _ .vmem, ⟨3, _⟩ => ⟨S1x4x896x128, .fp8e4m3⟩
  | .local _ .vmem, ⟨4, _⟩ => ⟨S1x4x896x256, .bf16⟩
  | .local _ .vmem, ⟨5, _⟩ => ⟨S1x4x896x256, .bf16⟩
  | .local _ .vmem, ⟨6, _⟩ => ⟨S1x4x896x256, .fp8e5m2⟩
  | .local _ .vmem, ⟨7, _⟩ => ⟨S1x4x896x256, .fp8e5m2⟩
  | .local _ .vmem, ⟨8, _⟩ => ⟨S1x1x896x4, .f32⟩
  | .local _ .vmem, ⟨9, _⟩ => ⟨S1x1x896x4, .f32⟩
  | .local _ .vmem, ⟨10, _⟩ => ⟨S1x1x14x2x128, .f32⟩
  | .local _ .vmem, ⟨11, _⟩ => ⟨S1x1x14x2x128, .f32⟩
  | .local _ .vmem, ⟨12, _⟩ => ⟨S1x1x896x4, .f32⟩
  | .local _ .vmem, ⟨13, _⟩ => ⟨S1x1x896x4, .f32⟩
  | .local _ .vmem, ⟨14, _⟩ => ⟨S1x4x896x128, .bf16⟩
  | .local _ .vmem, ⟨15, _⟩ => ⟨S1x4x896x128, .bf16⟩
  | .local _ .vmem, ⟨16, _⟩ => ⟨S1x4x896x128, .bf16⟩
  | .local _ .vmem, ⟨17, _⟩ => ⟨S1x4x896x128, .bf16⟩
  | .local _ .vmem, ⟨18, _⟩ => ⟨S1x4x896x256, .bf16⟩
  | .local _ .vmem, ⟨19, _⟩ => ⟨S1x4x896x256, .bf16⟩
  | .local _ .vmem, ⟨20, _⟩ => ⟨S1x1x896x4, .f32⟩
  | .local _ .vmem, ⟨21, _⟩ => ⟨S1x1x896x4, .f32⟩
  | .local _ .vmem, ⟨22, _⟩ => ⟨S1x1x896x4, .f32⟩
  | .local _ .vmem, ⟨23, _⟩ => ⟨S1x1x896x4, .f32⟩
  | .local _ .vmem, ⟨24, _⟩ => ⟨S14x4x3x128x256, .bf16⟩
  | .local _ .vmem, ⟨25, _⟩ => ⟨S14x4x3x64x256, .bf16⟩
  | .local _ .vmem, ⟨26, _⟩ => ⟨S14x4x64x64, .f32⟩
  | .local _ .vmem, ⟨27, _⟩ => ⟨S4x128x256, .f32⟩
  | .local _ .smem, ⟨0, _⟩ => ⟨S448, .f32⟩
  | .local _ .smem, ⟨1, _⟩ => ⟨S448, .f32⟩
  | .local _ .smem, ⟨2, _⟩ => ⟨S448, .f32⟩
  | _, _ => ⟨S2x896x16x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [BitOps F]

abbrev grid0 : Pipeline.Grid := ⟨2, ![2, 4], ![false, false]⟩

@[reducible] def k0_t1_loop : Scf.Loop 32 :=
  let c0_i32 : BitVec 32 := 0#32
  let c14_i32 : BitVec 32 := 14#32
  let v42 : BitVec 32 := Scalar.addi c0_i32 c14_i32
  let c1_i32 : BitVec 32 := 1#32
  ⟨c0_i32, v42, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c64_i32_22 : BitVec 32 := 64#32
  let v48 : BitVec 32 := Scalar.muli arg21 c64_i32_22
  v48
def k0_off1 (i : grid0.Coords) (k0_t1 : Fin k0_t1_loop.trips) (c0_i32_24 : BitVec 32) : Fin 1 → Nat :=
  let arg0 : BitVec 32 := BitVec.ofNat 32 (i 0).val
  let c14_i32_23 : BitVec 32 := 14#32
  let v50 : BitVec 32 := Scalar.muli arg0 c14_i32_23
  let c0_i32 : BitVec 32 := 0#32
  let c1_i32 : BitVec 32 := 1#32
  let arg21 : BitVec 32 := Scf.iv c0_i32 c1_i32 k0_t1
  let v51 : BitVec 32 := Scalar.addi v50 arg21
  let c16_i32 : BitVec 32 := 16#32
  let v52 : BitVec 32 := Scalar.muli v51 c16_i32
  let arg1 : BitVec 32 := BitVec.ofNat 32 (i 1).val
  let c4_i32 : BitVec 32 := 4#32
  let v0 : BitVec 32 := Scalar.muli arg1 c4_i32
  let v53 : BitVec 32 := Scalar.addi v52 v0
  let v54 : BitVec 32 := Scalar.addi v53 c0_i32_24
  let v55 : Index := Scalar.indexCast v54
  ![v55.toNat]
def k0_mult2 (k0_t1 : Fin k0_t1_loop.trips) : BitVec 32 :=
  let c0_i32 : BitVec 32 := 0#32
  let c1_i32 : BitVec 32 := 1#32
  let arg21 : BitVec 32 := Scf.iv c0_i32 c1_i32 k0_t1
  let c64_i32_32 : BitVec 32 := 64#32
  let v78 : BitVec 32 := Scalar.muli arg21 c64_i32_32
  v78
def k0_off2 (k0_t1 : Fin k0_t1_loop.trips) : Fin 4 → Nat :=
  let c0_33 : Index := 0#32
  let c0_34 : Index := 0#32
  let c0_i32 : BitVec 32 := 0#32
  let c1_i32 : BitVec 32 := 1#32
  let arg21 : BitVec 32 := Scf.iv c0_i32 c1_i32 k0_t1
  let c64_i32_32 : BitVec 32 := 64#32
  let v78 : BitVec 32 := Scalar.muli arg21 c64_i32_32
  let v79 : BitVec 32 := v78
  let v80 : Index := Scalar.indexCast v79
  let c0_35 : Index := 0#32
  ![0, 0, v80.toNat, 0]
def k0_off3 (k0_t1 : Fin k0_t1_loop.trips) : Fin 5 → Nat :=
  let c0_38 : Index := 0#32
  let c0_39 : Index := 0#32
  let c0_i32 : BitVec 32 := 0#32
  let c1_i32 : BitVec 32 := 1#32
  let arg21 : BitVec 32 := Scf.iv c0_i32 c1_i32 k0_t1
  let v100 : Index := Scalar.indexCast arg21
  let c0_40 : Index := 0#32
  let c0_41 : Index := 0#32
  ![0, 0, v100.toNat, 0, 0]
def k0_off4 (k0_t1 : Fin k0_t1_loop.trips) : Fin 4 → Nat :=
  let c0_48 : Index := 0#32
  let c0_49 : Index := 0#32
  let c0_i32 : BitVec 32 := 0#32
  let c1_i32 : BitVec 32 := 1#32
  let arg21 : BitVec 32 := Scf.iv c0_i32 c1_i32 k0_t1
  let c64_i32_22 : BitVec 32 := 64#32
  let v48 : BitVec 32 := Scalar.muli arg21 c64_i32_22
  let v49 : BitVec 32 := v48
  let v128 : Index := Scalar.indexCast v49
  let c0_50 : Index := 0#32
  ![0, 0, v128.toNat, 0]
def k0_off5 (k0_t1 : Fin k0_t1_loop.trips) : Fin 4 → Nat :=
  let c0_51 : Index := 0#32
  let c1 : Index := 1#32
  let c0_i32 : BitVec 32 := 0#32
  let c1_i32 : BitVec 32 := 1#32
  let arg21 : BitVec 32 := Scf.iv c0_i32 c1_i32 k0_t1
  let c64_i32_22 : BitVec 32 := 64#32
  let v48 : BitVec 32 := Scalar.muli arg21 c64_i32_22
  let v49 : BitVec 32 := v48
  let v131 : Index := Scalar.indexCast v49
  let c0_52 : Index := 0#32
  ![0, 1, v131.toNat, 0]
def k0_off6 (k0_t1 : Fin k0_t1_loop.trips) : Fin 4 → Nat :=
  let c0_53 : Index := 0#32
  let c2 : Index := 2#32
  let c0_i32 : BitVec 32 := 0#32
  let c1_i32 : BitVec 32 := 1#32
  let arg21 : BitVec 32 := Scf.iv c0_i32 c1_i32 k0_t1
  let c64_i32_22 : BitVec 32 := 64#32
  let v48 : BitVec 32 := Scalar.muli arg21 c64_i32_22
  let v49 : BitVec 32 := v48
  let v134 : Index := Scalar.indexCast v49
  let c0_54 : Index := 0#32
  ![0, 2, v134.toNat, 0]
def k0_off7 (k0_t1 : Fin k0_t1_loop.trips) : Fin 4 → Nat :=
  let c0_55 : Index := 0#32
  let c3 : Index := 3#32
  let c0_i32 : BitVec 32 := 0#32
  let c1_i32 : BitVec 32 := 1#32
  let arg21 : BitVec 32 := Scf.iv c0_i32 c1_i32 k0_t1
  let c64_i32_22 : BitVec 32 := 64#32
  let v48 : BitVec 32 := Scalar.muli arg21 c64_i32_22
  let v49 : BitVec 32 := v48
  let v137 : Index := Scalar.indexCast v49
  let c0_56 : Index := 0#32
  ![0, 3, v137.toNat, 0]
def k0_off8 (k0_t1 : Fin k0_t1_loop.trips) : Fin 5 → Nat :=
  let c0_i32 : BitVec 32 := 0#32
  let c1_i32 : BitVec 32 := 1#32
  let arg21 : BitVec 32 := Scf.iv c0_i32 c1_i32 k0_t1
  let v774 : Index := Scalar.indexCast arg21
  let c0_160 : Index := 0#32
  let c0_161 : Index := 0#32
  let c0_162 : Index := 0#32
  let c0_163 : Index := 0#32
  ![v774.toNat, 0, 0, 0, 0]
def k0_off9 (k0_t1 : Fin k0_t1_loop.trips) : Fin 5 → Nat :=
  let c0_i32 : BitVec 32 := 0#32
  let c1_i32 : BitVec 32 := 1#32
  let arg21 : BitVec 32 := Scf.iv c0_i32 c1_i32 k0_t1
  let v778 : Index := Scalar.indexCast arg21
  let c0_164 : Index := 0#32
  let c1_165 : Index := 1#32
  let c0_166 : Index := 0#32
  let c0_167 : Index := 0#32
  ![v778.toNat, 0, 1, 0, 0]
def k0_off10 (k0_t1 : Fin k0_t1_loop.trips) : Fin 5 → Nat :=
  let c0_i32 : BitVec 32 := 0#32
  let c1_i32 : BitVec 32 := 1#32
  let arg21 : BitVec 32 := Scf.iv c0_i32 c1_i32 k0_t1
  let v782 : Index := Scalar.indexCast arg21
  let c0_168 : Index := 0#32
  let c2_169 : Index := 2#32
  let c0_170 : Index := 0#32
  let c0_171 : Index := 0#32
  ![v782.toNat, 0, 2, 0, 0]
def k0_off11 (k0_t1 : Fin k0_t1_loop.trips) : Fin 4 → Nat :=
  let c0_173 : Index := 0#32
  let c0_174 : Index := 0#32
  let c0_i32 : BitVec 32 := 0#32
  let c1_i32 : BitVec 32 := 1#32
  let arg21 : BitVec 32 := Scf.iv c0_i32 c1_i32 k0_t1
  let c64_i32_22 : BitVec 32 := 64#32
  let v48 : BitVec 32 := Scalar.muli arg21 c64_i32_22
  let v49 : BitVec 32 := v48
  let v792 : Index := Scalar.indexCast v49
  let c0_175 : Index := 0#32
  ![0, 0, v792.toNat, 0]
def k0_off12 (k0_t1 : Fin k0_t1_loop.trips) : Fin 5 → Nat :=
  let c0_i32 : BitVec 32 := 0#32
  let c1_i32 : BitVec 32 := 1#32
  let arg21 : BitVec 32 := Scf.iv c0_i32 c1_i32 k0_t1
  let v844 : Index := Scalar.indexCast arg21
  let c0_183 : Index := 0#32
  let c0_184 : Index := 0#32
  let c0_185 : Index := 0#32
  let c0_186 : Index := 0#32
  ![v844.toNat, 0, 0, 0, 0]
def k0_off13 (k0_t1 : Fin k0_t1_loop.trips) : Fin 5 → Nat :=
  let c0_i32 : BitVec 32 := 0#32
  let c1_i32 : BitVec 32 := 1#32
  let arg21 : BitVec 32 := Scf.iv c0_i32 c1_i32 k0_t1
  let v848 : Index := Scalar.indexCast arg21
  let c0_187 : Index := 0#32
  let c1_188 : Index := 1#32
  let c0_189 : Index := 0#32
  let c0_190 : Index := 0#32
  ![v848.toNat, 0, 1, 0, 0]
def k0_off14 (k0_t1 : Fin k0_t1_loop.trips) : Fin 5 → Nat :=
  let c0_i32 : BitVec 32 := 0#32
  let c1_i32 : BitVec 32 := 1#32
  let arg21 : BitVec 32 := Scf.iv c0_i32 c1_i32 k0_t1
  let v852 : Index := Scalar.indexCast arg21
  let c0_191 : Index := 0#32
  let c2_192 : Index := 2#32
  let c0_193 : Index := 0#32
  let c0_194 : Index := 0#32
  ![v852.toNat, 0, 2, 0, 0]
def k0_off15 (k0_t1 : Fin k0_t1_loop.trips) : Fin 4 → Nat :=
  let c0_i32 : BitVec 32 := 0#32
  let c1_i32 : BitVec 32 := 1#32
  let arg21 : BitVec 32 := Scf.iv c0_i32 c1_i32 k0_t1
  let v857 : Index := Scalar.indexCast arg21
  let c0_195 : Index := 0#32
  let c0_196 : Index := 0#32
  let c0_197 : Index := 0#32
  ![v857.toNat, 0, 0, 0]
def k0_off16 (k0_t1 : Fin k0_t1_loop.trips) : Fin 5 → Nat :=
  let c0_i32 : BitVec 32 := 0#32
  let c1_i32 : BitVec 32 := 1#32
  let arg21 : BitVec 32 := Scf.iv c0_i32 c1_i32 k0_t1
  let v908 : Index := Scalar.indexCast arg21
  let c1_209 : Index := 1#32
  let c0_210 : Index := 0#32
  let c0_211 : Index := 0#32
  let c0_212 : Index := 0#32
  ![v908.toNat, 1, 0, 0, 0]
def k0_off17 (k0_t1 : Fin k0_t1_loop.trips) : Fin 5 → Nat :=
  let c0_i32 : BitVec 32 := 0#32
  let c1_i32 : BitVec 32 := 1#32
  let arg21 : BitVec 32 := Scf.iv c0_i32 c1_i32 k0_t1
  let v912 : Index := Scalar.indexCast arg21
  let c1_213 : Index := 1#32
  let c1_214 : Index := 1#32
  let c0_215 : Index := 0#32
  let c0_216 : Index := 0#32
  ![v912.toNat, 1, 1, 0, 0]
def k0_off18 (k0_t1 : Fin k0_t1_loop.trips) : Fin 5 → Nat :=
  let c0_i32 : BitVec 32 := 0#32
  let c1_i32 : BitVec 32 := 1#32
  let arg21 : BitVec 32 := Scf.iv c0_i32 c1_i32 k0_t1
  let v916 : Index := Scalar.indexCast arg21
  let c1_217 : Index := 1#32
  let c2_218 : Index := 2#32
  let c0_219 : Index := 0#32
  let c0_220 : Index := 0#32
  ![v916.toNat, 1, 2, 0, 0]
def k0_off19 (k0_t1 : Fin k0_t1_loop.trips) : Fin 4 → Nat :=
  let c0_222 : Index := 0#32
  let c1_223 : Index := 1#32
  let c0_i32 : BitVec 32 := 0#32
  let c1_i32 : BitVec 32 := 1#32
  let arg21 : BitVec 32 := Scf.iv c0_i32 c1_i32 k0_t1
  let c64_i32_22 : BitVec 32 := 64#32
  let v48 : BitVec 32 := Scalar.muli arg21 c64_i32_22
  let v49 : BitVec 32 := v48
  let v926 : Index := Scalar.indexCast v49
  let c0_224 : Index := 0#32
  ![0, 1, v926.toNat, 0]
def k0_off20 (k0_t1 : Fin k0_t1_loop.trips) : Fin 5 → Nat :=
  let c0_i32 : BitVec 32 := 0#32
  let c1_i32 : BitVec 32 := 1#32
  let arg21 : BitVec 32 := Scf.iv c0_i32 c1_i32 k0_t1
  let v978 : Index := Scalar.indexCast arg21
  let c1_232 : Index := 1#32
  let c0_233 : Index := 0#32
  let c0_234 : Index := 0#32
  let c0_235 : Index := 0#32
  ![v978.toNat, 1, 0, 0, 0]
def k0_off21 (k0_t1 : Fin k0_t1_loop.trips) : Fin 5 → Nat :=
  let c0_i32 : BitVec 32 := 0#32
  let c1_i32 : BitVec 32 := 1#32
  let arg21 : BitVec 32 := Scf.iv c0_i32 c1_i32 k0_t1
  let v982 : Index := Scalar.indexCast arg21
  let c1_236 : Index := 1#32
  let c1_237 : Index := 1#32
  let c0_238 : Index := 0#32
  let c0_239 : Index := 0#32
  ![v982.toNat, 1, 1, 0, 0]
def k0_off22 (k0_t1 : Fin k0_t1_loop.trips) : Fin 5 → Nat :=
  let c0_i32 : BitVec 32 := 0#32
  let c1_i32 : BitVec 32 := 1#32
  let arg21 : BitVec 32 := Scf.iv c0_i32 c1_i32 k0_t1
  let v986 : Index := Scalar.indexCast arg21
  let c1_240 : Index := 1#32
  let c2_241 : Index := 2#32
  let c0_242 : Index := 0#32
  let c0_243 : Index := 0#32
  ![v986.toNat, 1, 2, 0, 0]
def k0_off23 (k0_t1 : Fin k0_t1_loop.trips) : Fin 4 → Nat :=
  let c0_i32 : BitVec 32 := 0#32
  let c1_i32 : BitVec 32 := 1#32
  let arg21 : BitVec 32 := Scf.iv c0_i32 c1_i32 k0_t1
  let v991 : Index := Scalar.indexCast arg21
  let c1_244 : Index := 1#32
  let c0_245 : Index := 0#32
  let c0_246 : Index := 0#32
  ![v991.toNat, 1, 0, 0]
def k0_off24 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1660 : Index := Scalar.indexCast arg21
  let c2_384 : Index := 2#32
  let c0_385 : Index := 0#32
  let c0_386 : Index := 0#32
  let c0_387 : Index := 0#32
  ![v1660.toNat, 2, 0, 0, 0]
def k0_off25 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1664 : Index := Scalar.indexCast arg21
  let c2_388 : Index := 2#32
  let c1_389 : Index := 1#32
  let c0_390 : Index := 0#32
  let c0_391 : Index := 0#32
  ![v1664.toNat, 2, 1, 0, 0]
def k0_off26 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1668 : Index := Scalar.indexCast arg21
  let c2_392 : Index := 2#32
  let c2_393 : Index := 2#32
  let c0_394 : Index := 0#32
  let c0_395 : Index := 0#32
  ![v1668.toNat, 2, 2, 0, 0]
def k0_off27 (k0_t1 : Fin k0_t1_loop.trips) : Fin 4 → Nat :=
  let c0_397 : Index := 0#32
  let c2_398 : Index := 2#32
  let c0_i32 : BitVec 32 := 0#32
  let c1_i32 : BitVec 32 := 1#32
  let arg21 : BitVec 32 := Scf.iv c0_i32 c1_i32 k0_t1
  let c64_i32_22 : BitVec 32 := 64#32
  let v48 : BitVec 32 := Scalar.muli arg21 c64_i32_22
  let v49 : BitVec 32 := v48
  let v1678 : Index := Scalar.indexCast v49
  let c0_399 : Index := 0#32
  ![0, 2, v1678.toNat, 0]
def k0_off28 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1730 : Index := Scalar.indexCast arg21
  let c2_407 : Index := 2#32
  let c0_408 : Index := 0#32
  let c0_409 : Index := 0#32
  let c0_410 : Index := 0#32
  ![v1730.toNat, 2, 0, 0, 0]
def k0_off29 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1734 : Index := Scalar.indexCast arg21
  let c2_411 : Index := 2#32
  let c1_412 : Index := 1#32
  let c0_413 : Index := 0#32
  let c0_414 : Index := 0#32
  ![v1734.toNat, 2, 1, 0, 0]
def k0_off30 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1738 : Index := Scalar.indexCast arg21
  let c2_415 : Index := 2#32
  let c2_416 : Index := 2#32
  let c0_417 : Index := 0#32
  let c0_418 : Index := 0#32
  ![v1738.toNat, 2, 2, 0, 0]
def k0_off31 (k0_t1 : Fin k0_t1_loop.trips) : Fin 4 → Nat :=
  let c0_i32 : BitVec 32 := 0#32
  let c1_i32 : BitVec 32 := 1#32
  let arg21 : BitVec 32 := Scf.iv c0_i32 c1_i32 k0_t1
  let v1743 : Index := Scalar.indexCast arg21
  let c2_419 : Index := 2#32
  let c0_420 : Index := 0#32
  let c0_421 : Index := 0#32
  ![v1743.toNat, 2, 0, 0]
def k0_off32 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1794 : Index := Scalar.indexCast arg21
  let c3_433 : Index := 3#32
  let c0_434 : Index := 0#32
  let c0_435 : Index := 0#32
  let c0_436 : Index := 0#32
  ![v1794.toNat, 3, 0, 0, 0]
def k0_off33 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1798 : Index := Scalar.indexCast arg21
  let c3_437 : Index := 3#32
  let c1_438 : Index := 1#32
  let c0_439 : Index := 0#32
  let c0_440 : Index := 0#32
  ![v1798.toNat, 3, 1, 0, 0]
def k0_off34 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1802 : Index := Scalar.indexCast arg21
  let c3_441 : Index := 3#32
  let c2_442 : Index := 2#32
  let c0_443 : Index := 0#32
  let c0_444 : Index := 0#32
  ![v1802.toNat, 3, 2, 0, 0]
def k0_off35 (k0_t1 : Fin k0_t1_loop.trips) : Fin 4 → Nat :=
  let c0_446 : Index := 0#32
  let c3_447 : Index := 3#32
  let c0_i32 : BitVec 32 := 0#32
  let c1_i32 : BitVec 32 := 1#32
  let arg21 : BitVec 32 := Scf.iv c0_i32 c1_i32 k0_t1
  let c64_i32_22 : BitVec 32 := 64#32
  let v48 : BitVec 32 := Scalar.muli arg21 c64_i32_22
  let v49 : BitVec 32 := v48
  let v1812 : Index := Scalar.indexCast v49
  let c0_448 : Index := 0#32
  ![0, 3, v1812.toNat, 0]
def k0_off36 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1864 : Index := Scalar.indexCast arg21
  let c3_456 : Index := 3#32
  let c0_457 : Index := 0#32
  let c0_458 : Index := 0#32
  let c0_459 : Index := 0#32
  ![v1864.toNat, 3, 0, 0, 0]
def k0_off37 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1868 : Index := Scalar.indexCast arg21
  let c3_460 : Index := 3#32
  let c1_461 : Index := 1#32
  let c0_462 : Index := 0#32
  let c0_463 : Index := 0#32
  ![v1868.toNat, 3, 1, 0, 0]
def k0_off38 (k0_t1 : Fin k0_t1_loop.trips) : Fin 5 → Nat :=
  let c0_i32 : BitVec 32 := 0#32
  let c1_i32 : BitVec 32 := 1#32
  let arg21 : BitVec 32 := Scf.iv c0_i32 c1_i32 k0_t1
  let v1872 : Index := Scalar.indexCast arg21
  let c3_464 : Index := 3#32
  let c2_465 : Index := 2#32
  let c0_466 : Index := 0#32
  let c0_467 : Index := 0#32
  ![v1872.toNat, 3, 2, 0, 0]
def k0_off39 (k0_t1 : Fin k0_t1_loop.trips) : Fin 4 → Nat :=
  let c0_i32 : BitVec 32 := 0#32
  let c1_i32 : BitVec 32 := 1#32
  let arg21 : BitVec 32 := Scf.iv c0_i32 c1_i32 k0_t1
  let v1877 : Index := Scalar.indexCast arg21
  let c3_468 : Index := 3#32
  let c0_469 : Index := 0#32
  let c0_470 : Index := 0#32
  ![v1877.toNat, 3, 0, 0]
@[reducible] def k0_t2_loop : Scf.Loop 32 :=
  let c0_i32_18 : BitVec 32 := 0#32
  let c14_i32_19 : BitVec 32 := 14#32
  let v47 : BitVec 32 := Scalar.addi c0_i32_18 c14_i32_19
  let c1_i32_20 : BitVec 32 := 1#32
  ⟨c0_i32_18, v47, c1_i32_20⟩
def k0_mult3 (k0_t2 : Fin k0_t2_loop.trips) : BitVec 32 :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_22 : BitVec 32 := 64#32
  let v49 : BitVec 32 := Scalar.muli v48 c64_i32_22
  v49
def k0_off40 (i : grid0.Coords) (k0_t2 : Fin k0_t2_loop.trips) (c0_i32_24 : BitVec 32) : Fin 1 → Nat :=
  let arg0 : BitVec 32 := BitVec.ofNat 32 (i 0).val
  let c14_i32_23 : BitVec 32 := 14#32
  let v51 : BitVec 32 := Scalar.muli arg0 c14_i32_23
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v52 : BitVec 32 := Scalar.addi v51 v48
  let c16_i32 : BitVec 32 := 16#32
  let v53 : BitVec 32 := Scalar.muli v52 c16_i32
  let arg1 : BitVec 32 := BitVec.ofNat 32 (i 1).val
  let c4_i32 : BitVec 32 := 4#32
  let v0 : BitVec 32 := Scalar.muli arg1 c4_i32
  let v54 : BitVec 32 := Scalar.addi v53 v0
  let v55 : BitVec 32 := Scalar.addi v54 c0_i32_24
  let v56 : Index := Scalar.indexCast v55
  ![v56.toNat]
def k0_mult4 (k0_t2 : Fin k0_t2_loop.trips) : BitVec 32 :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_60 : BitVec 32 := 64#32
  let v139 : BitVec 32 := Scalar.muli v48 c64_i32_60
  v139
def k0_off41 (k0_t2 : Fin k0_t2_loop.trips) : Fin 4 → Nat :=
  let c0_61 : Index := 0#32
  let c0_62 : Index := 0#32
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_60 : BitVec 32 := 64#32
  let v139 : BitVec 32 := Scalar.muli v48 c64_i32_60
  let v140 : BitVec 32 := v139
  let v141 : Index := Scalar.indexCast v140
  let c0_63 : Index := 0#32
  ![0, 0, v141.toNat, 0]
def k0_off42 (k0_t2 : Fin k0_t2_loop.trips) : Fin 5 → Nat :=
  let c0_66 : Index := 0#32
  let c0_67 : Index := 0#32
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v161 : Index := Scalar.indexCast v48
  let c0_68 : Index := 0#32
  let c0_69 : Index := 0#32
  ![0, 0, v161.toNat, 0, 0]
def k0_off43 (k0_t2 : Fin k0_t2_loop.trips) : Fin 4 → Nat :=
  let c0_76 : Index := 0#32
  let c0_77 : Index := 0#32
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_22 : BitVec 32 := 64#32
  let v49 : BitVec 32 := Scalar.muli v48 c64_i32_22
  let v50 : BitVec 32 := v49
  let v189 : Index := Scalar.indexCast v50
  let c0_78 : Index := 0#32
  ![0, 0, v189.toNat, 0]
def k0_off44 (k0_t2 : Fin k0_t2_loop.trips) : Fin 4 → Nat :=
  let c0_79 : Index := 0#32
  let c1 : Index := 1#32
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_22 : BitVec 32 := 64#32
  let v49 : BitVec 32 := Scalar.muli v48 c64_i32_22
  let v50 : BitVec 32 := v49
  let v192 : Index := Scalar.indexCast v50
  let c0_80 : Index := 0#32
  ![0, 1, v192.toNat, 0]
def k0_off45 (k0_t2 : Fin k0_t2_loop.trips) : Fin 4 → Nat :=
  let c0_81 : Index := 0#32
  let c2 : Index := 2#32
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_22 : BitVec 32 := 64#32
  let v49 : BitVec 32 := Scalar.muli v48 c64_i32_22
  let v50 : BitVec 32 := v49
  let v195 : Index := Scalar.indexCast v50
  let c0_82 : Index := 0#32
  ![0, 2, v195.toNat, 0]
def k0_off46 (k0_t2 : Fin k0_t2_loop.trips) : Fin 4 → Nat :=
  let c0_83 : Index := 0#32
  let c3 : Index := 3#32
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_22 : BitVec 32 := 64#32
  let v49 : BitVec 32 := Scalar.muli v48 c64_i32_22
  let v50 : BitVec 32 := v49
  let v198 : Index := Scalar.indexCast v50
  let c0_84 : Index := 0#32
  ![0, 3, v198.toNat, 0]
def k0_off47 (k0_t2 : Fin k0_t2_loop.trips) : Fin 4 → Nat :=
  let c0_106 : Index := 0#32
  let c0_107 : Index := 0#32
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_22 : BitVec 32 := 64#32
  let v49 : BitVec 32 := Scalar.muli v48 c64_i32_22
  let v50 : BitVec 32 := v49
  let v271 : Index := Scalar.indexCast v50
  let c0_108 : Index := 0#32
  ![0, 0, v271.toNat, 0]
def k0_off48 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v276 : Index := Scalar.indexCast v48
  let c0_109 : Index := 0#32
  let c0_110 : Index := 0#32
  let c0_111 : Index := 0#32
  let c0_112 : Index := 0#32
  ![v276.toNat, 0, 0, 0, 0]
def k0_off49 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v279 : Index := Scalar.indexCast v48
  let c0_113 : Index := 0#32
  let c1_114 : Index := 1#32
  let c0_115 : Index := 0#32
  let c0_116 : Index := 0#32
  ![v279.toNat, 0, 1, 0, 0]
def k0_off50 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v282 : Index := Scalar.indexCast v48
  let c0_117 : Index := 0#32
  let c2_118 : Index := 2#32
  let c0_119 : Index := 0#32
  let c0_120 : Index := 0#32
  ![v282.toNat, 0, 2, 0, 0]
def k0_off51 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v285 : Index := Scalar.indexCast v48
  let c0_121 : Index := 0#32
  let c0_122 : Index := 0#32
  let c0_123 : Index := 0#32
  let c0_124 : Index := 0#32
  ![v285.toNat, 0, 0, 0, 0]
def k0_off52 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v288 : Index := Scalar.indexCast v48
  let c0_125 : Index := 0#32
  let c1_126 : Index := 1#32
  let c0_127 : Index := 0#32
  let c0_128 : Index := 0#32
  ![v288.toNat, 0, 1, 0, 0]
def k0_off53 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v291 : Index := Scalar.indexCast v48
  let c0_129 : Index := 0#32
  let c2_130 : Index := 2#32
  let c0_131 : Index := 0#32
  let c0_132 : Index := 0#32
  ![v291.toNat, 0, 2, 0, 0]
def k0_off54 (k0_t2 : Fin k0_t2_loop.trips) : Fin 4 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v351 : Index := Scalar.indexCast v48
  let c0_144 : Index := 0#32
  let c0_145 : Index := 0#32
  let c0_146 : Index := 0#32
  ![v351.toNat, 0, 0, 0]
def k0_off55 (k0_t2 : Fin k0_t2_loop.trips) : Fin 4 → Nat :=
  let c0_204 : Index := 0#32
  let c1_205 : Index := 1#32
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_22 : BitVec 32 := 64#32
  let v49 : BitVec 32 := Scalar.muli v48 c64_i32_22
  let v50 : BitVec 32 := v49
  let v643 : Index := Scalar.indexCast v50
  let c0_206 : Index := 0#32
  ![0, 1, v643.toNat, 0]
def k0_off56 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v648 : Index := Scalar.indexCast v48
  let c1_207 : Index := 1#32
  let c0_208 : Index := 0#32
  let c0_209 : Index := 0#32
  let c0_210 : Index := 0#32
  ![v648.toNat, 1, 0, 0, 0]
def k0_off57 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v651 : Index := Scalar.indexCast v48
  let c1_211 : Index := 1#32
  let c1_212 : Index := 1#32
  let c0_213 : Index := 0#32
  let c0_214 : Index := 0#32
  ![v651.toNat, 1, 1, 0, 0]
def k0_off58 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v654 : Index := Scalar.indexCast v48
  let c1_215 : Index := 1#32
  let c2_216 : Index := 2#32
  let c0_217 : Index := 0#32
  let c0_218 : Index := 0#32
  ![v654.toNat, 1, 2, 0, 0]
def k0_off59 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v657 : Index := Scalar.indexCast v48
  let c1_219 : Index := 1#32
  let c0_220 : Index := 0#32
  let c0_221 : Index := 0#32
  let c0_222 : Index := 0#32
  ![v657.toNat, 1, 0, 0, 0]
def k0_off60 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v660 : Index := Scalar.indexCast v48
  let c1_223 : Index := 1#32
  let c1_224 : Index := 1#32
  let c0_225 : Index := 0#32
  let c0_226 : Index := 0#32
  ![v660.toNat, 1, 1, 0, 0]
def k0_off61 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v663 : Index := Scalar.indexCast v48
  let c1_227 : Index := 1#32
  let c2_228 : Index := 2#32
  let c0_229 : Index := 0#32
  let c0_230 : Index := 0#32
  ![v663.toNat, 1, 2, 0, 0]
def k0_off62 (k0_t2 : Fin k0_t2_loop.trips) : Fin 4 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v723 : Index := Scalar.indexCast v48
  let c1_242 : Index := 1#32
  let c0_243 : Index := 0#32
  let c0_244 : Index := 0#32
  ![v723.toNat, 1, 0, 0]
def k0_off63 (k0_t2 : Fin k0_t2_loop.trips) : Fin 4 → Nat :=
  let c0_311 : Index := 0#32
  let c2_312 : Index := 2#32
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_22 : BitVec 32 := 64#32
  let v49 : BitVec 32 := Scalar.muli v48 c64_i32_22
  let v50 : BitVec 32 := v49
  let v1065 : Index := Scalar.indexCast v50
  let c0_313 : Index := 0#32
  ![0, 2, v1065.toNat, 0]
def k0_off64 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1070 : Index := Scalar.indexCast v48
  let c2_314 : Index := 2#32
  let c0_315 : Index := 0#32
  let c0_316 : Index := 0#32
  let c0_317 : Index := 0#32
  ![v1070.toNat, 2, 0, 0, 0]
def k0_off65 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1073 : Index := Scalar.indexCast v48
  let c2_318 : Index := 2#32
  let c1_319 : Index := 1#32
  let c0_320 : Index := 0#32
  let c0_321 : Index := 0#32
  ![v1073.toNat, 2, 1, 0, 0]
def k0_off66 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1076 : Index := Scalar.indexCast v48
  let c2_322 : Index := 2#32
  let c2_323 : Index := 2#32
  let c0_324 : Index := 0#32
  let c0_325 : Index := 0#32
  ![v1076.toNat, 2, 2, 0, 0]
def k0_off67 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1079 : Index := Scalar.indexCast v48
  let c2_326 : Index := 2#32
  let c0_327 : Index := 0#32
  let c0_328 : Index := 0#32
  let c0_329 : Index := 0#32
  ![v1079.toNat, 2, 0, 0, 0]
def k0_off68 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1082 : Index := Scalar.indexCast v48
  let c2_330 : Index := 2#32
  let c1_331 : Index := 1#32
  let c0_332 : Index := 0#32
  let c0_333 : Index := 0#32
  ![v1082.toNat, 2, 1, 0, 0]
def k0_off69 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1085 : Index := Scalar.indexCast v48
  let c2_334 : Index := 2#32
  let c2_335 : Index := 2#32
  let c0_336 : Index := 0#32
  let c0_337 : Index := 0#32
  ![v1085.toNat, 2, 2, 0, 0]
def k0_off70 (k0_t2 : Fin k0_t2_loop.trips) : Fin 4 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1145 : Index := Scalar.indexCast v48
  let c2_349 : Index := 2#32
  let c0_350 : Index := 0#32
  let c0_351 : Index := 0#32
  ![v1145.toNat, 2, 0, 0]
def k0_off71 (k0_t2 : Fin k0_t2_loop.trips) : Fin 4 → Nat :=
  let c0_409 : Index := 0#32
  let c3_410 : Index := 3#32
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let c64_i32_22 : BitVec 32 := 64#32
  let v49 : BitVec 32 := Scalar.muli v48 c64_i32_22
  let v50 : BitVec 32 := v49
  let v1437 : Index := Scalar.indexCast v50
  let c0_411 : Index := 0#32
  ![0, 3, v1437.toNat, 0]
def k0_off72 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1442 : Index := Scalar.indexCast v48
  let c3_412 : Index := 3#32
  let c0_413 : Index := 0#32
  let c0_414 : Index := 0#32
  let c0_415 : Index := 0#32
  ![v1442.toNat, 3, 0, 0, 0]
def k0_off73 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1445 : Index := Scalar.indexCast v48
  let c3_416 : Index := 3#32
  let c1_417 : Index := 1#32
  let c0_418 : Index := 0#32
  let c0_419 : Index := 0#32
  ![v1445.toNat, 3, 1, 0, 0]
def k0_off74 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1448 : Index := Scalar.indexCast v48
  let c3_420 : Index := 3#32
  let c2_421 : Index := 2#32
  let c0_422 : Index := 0#32
  let c0_423 : Index := 0#32
  ![v1448.toNat, 3, 2, 0, 0]
def k0_off75 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1451 : Index := Scalar.indexCast v48
  let c3_424 : Index := 3#32
  let c0_425 : Index := 0#32
  let c0_426 : Index := 0#32
  let c0_427 : Index := 0#32
  ![v1451.toNat, 3, 0, 0, 0]
def k0_off76 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1454 : Index := Scalar.indexCast v48
  let c3_428 : Index := 3#32
  let c1_429 : Index := 1#32
  let c0_430 : Index := 0#32
  let c0_431 : Index := 0#32
  ![v1454.toNat, 3, 1, 0, 0]
def k0_off77 (k0_t2 : Fin k0_t2_loop.trips) : Fin 5 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1457 : Index := Scalar.indexCast v48
  let c3_432 : Index := 3#32
  let c2_433 : Index := 2#32
  let c0_434 : Index := 0#32
  let c0_435 : Index := 0#32
  ![v1457.toNat, 3, 2, 0, 0]
def k0_off78 (k0_t2 : Fin k0_t2_loop.trips) : Fin 4 → Nat :=
  let c13_i32 : BitVec 32 := 13#32
  let c0_i32_18 : BitVec 32 := 0#32
  let c1_i32_20 : BitVec 32 := 1#32
  let arg21 : BitVec 32 := Scf.iv c0_i32_18 c1_i32_20 k0_t2
  let v48 : BitVec 32 := Scalar.subi c13_i32 arg21
  let v1517 : Index := Scalar.indexCast v48
  let c3_447 : Index := 3#32
  let c0_448 : Index := 0#32
  let c0_449 : Index := 0#32
  ![v1517.toNat, 3, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S448 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S448 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x896x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x896x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x896x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x896x256 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x896x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x14x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x896x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x896x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x896x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x896x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x896x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x896x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F]
-- ==== ReferenceIdeal.lean ====
abbrev S2x896x16x128 : Shape := ⟨4, ![2, 896, 16, 128]⟩
abbrev S2x14x16 : Shape := ⟨3, ![2, 14, 16]⟩
abbrev S2x896x16x256 : Shape := ⟨4, ![2, 896, 16, 256]⟩
abbrev S2x896x16 : Shape := ⟨3, ![2, 896, 16]⟩
abbrev S14x2x16 : Shape := ⟨3, ![14, 2, 16]⟩
abbrev S14x2x16x1x1 : Shape := ⟨5, ![14, 2, 16, 1, 1]⟩
abbrev S2x14x64x16x128 : Shape := ⟨5, ![2, 14, 64, 16, 128]⟩
abbrev S14x2x16x64x128 : Shape := ⟨5, ![14, 2, 16, 64, 128]⟩
abbrev S2x14x64x16x256 : Shape := ⟨5, ![2, 14, 64, 16, 256]⟩
abbrev S14x2x16x64x256 : Shape := ⟨5, ![14, 2, 16, 64, 256]⟩
abbrev S_ : Shape := ⟨0, ![]⟩
abbrev S2x14x64x16 : Shape := ⟨4, ![2, 14, 64, 16]⟩
abbrev S14x2x16x64 : Shape := ⟨4, ![14, 2, 16, 64]⟩
abbrev S14x2x16x1 : Shape := ⟨4, ![14, 2, 16, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S14x2x16x64x1 : Shape := ⟨5, ![14, 2, 16, 64, 1]⟩
abbrev S14x2x16x1x64 : Shape := ⟨5, ![14, 2, 16, 1, 64]⟩
abbrev S14x2x16x64x64 : Shape := ⟨5, ![14, 2, 16, 64, 64]⟩
abbrev S1x1x1x64x64 : Shape := ⟨5, ![1, 1, 1, 64, 64]⟩
abbrev S2x16x128x256 : Shape := ⟨4, ![2, 16, 128, 256]⟩
abbrev S1x2x16x64x64 : Shape := ⟨5, ![1, 2, 16, 64, 64]⟩
abbrev S2x16x64x64 : Shape := ⟨4, ![2, 16, 64, 64]⟩
abbrev S1x2x16x64x256 : Shape := ⟨5, ![1, 2, 16, 64, 256]⟩
abbrev S2x16x64x256 : Shape := ⟨4, ![2, 16, 64, 256]⟩
abbrev S1x2x16x64x128 : Shape := ⟨5, ![1, 2, 16, 64, 128]⟩
abbrev S2x16x64x128 : Shape := ⟨4, ![2, 16, 64, 128]⟩
abbrev S1x2x16 : Shape := ⟨3, ![1, 2, 16]⟩
abbrev S2x16 : Shape := ⟨2, ![2, 16]⟩
abbrev S2x16x1x1 : Shape := ⟨4, ![2, 16, 1, 1]⟩
abbrev S2x16x14x64x256 : Shape := ⟨5, ![2, 16, 14, 64, 256]⟩
abbrev S2x16x896x256 : Shape := ⟨4, ![2, 16, 896, 256]⟩
abbrev S1x2x16x128x256 : Shape := ⟨5, ![1, 2, 16, 128, 256]⟩
abbrev S14x2x16x128x256 : Shape := ⟨5, ![14, 2, 16, 128, 256]⟩
abbrev S2x16x14x64x128 : Shape := ⟨5, ![2, 16, 14, 64, 128]⟩
abbrev S2x16x896x128 : Shape := ⟨4, ![2, 16, 896, 128]⟩
abbrev S14x2x4x4x64 : Shape := ⟨5, ![14, 2, 4, 4, 64]⟩
abbrev S2x4x14x64x4 : Shape := ⟨5, ![2, 4, 14, 64, 4]⟩
abbrev S2x4x896x4 : Shape := ⟨4, ![2, 4, 896, 4]⟩

abbrev nBuf : Space → Nat
  | .hbm => 818
  | .vmem => 6
  | .smem => 0
  | _ => 0

abbrev hbmTy0_0 (i : Nat) : BufTy := match i % 128 with
  | 0 => ⟨S2x896x16x128, .i8⟩
  | 1 => ⟨S2x14x16, .f32⟩
  | 2 => ⟨S2x896x16x128, .i8⟩
  | 3 => ⟨S2x14x16, .f32⟩
  | 4 => ⟨S2x896x16x256, .bf16⟩
  | 5 => ⟨S2x896x16, .f32⟩
  | 6 => ⟨S2x896x16, .f32⟩
  | 7 => ⟨S2x896x16x256, .i8⟩
  | 8 => ⟨S2x14x16, .f32⟩
  | 9 => ⟨S2x896x16x128, .fp8e4m3⟩
  | 10 => ⟨S2x896x16x128, .fp8e4m3⟩
  | 11 => ⟨S2x896x16x256, .fp8e5m2⟩
  | 12 => ⟨S2x896x16x128, .f32⟩
  | 13 => ⟨S2x896x16x128, .f32⟩
  | 14 => ⟨S2x896x16x256, .f32⟩
  | 15 => ⟨S14x2x16, .f32⟩
  | 16 => ⟨S14x2x16x1x1, .f32⟩
  | 17 => ⟨S14x2x16, .f32⟩
  | 18 => ⟨S14x2x16x1x1, .f32⟩
  | 19 => ⟨S14x2x16, .f32⟩
  | 20 => ⟨S14x2x16x1x1, .f32⟩
  | 21 => ⟨S2x14x64x16x128, .f32⟩
  | 22 => ⟨S14x2x16x64x128, .f32⟩
  | 23 => ⟨S14x2x16x64x128, .f32⟩
  | 24 => ⟨S14x2x16x64x128, .f32⟩
  | 25 => ⟨S2x14x64x16x128, .f32⟩
  | 26 => ⟨S14x2x16x64x128, .f32⟩
  | 27 => ⟨S14x2x16x64x128, .f32⟩
  | 28 => ⟨S14x2x16x64x128, .f32⟩
  | 29 => ⟨S2x14x64x16x256, .f32⟩
  | 30 => ⟨S14x2x16x64x256, .f32⟩
  | 31 => ⟨S14x2x16x64x256, .f32⟩
  | 32 => ⟨S14x2x16x64x256, .f32⟩
  | 33 => ⟨S_, .f32⟩
  | 34 => ⟨S14x2x16x64x256, .f32⟩
  | 35 => ⟨S14x2x16x64x256, .f32⟩
  | 36 => ⟨S2x14x64x16, .f32⟩
  | 37 => ⟨S14x2x16x64, .f32⟩
  | 38 => ⟨S2x14x64x16, .f32⟩
  | 39 => ⟨S14x2x16x64, .f32⟩
  | 40 => ⟨S14x2x16x64, .f32⟩
  | 41 => ⟨S_, .f32⟩
  | 42 => ⟨S_, .f32⟩
  | 43 => ⟨S14x2x16x64, .f32⟩
  | 44 => ⟨S14x2x16x64, .f32⟩
  | 45 => ⟨S14x2x16x1, .f32⟩
  | 46 => ⟨S14x2x16, .f32⟩
  | 47 => ⟨S14x2x16x1, .f32⟩
  | 48 => ⟨S14x2x16x64, .f32⟩
  | 49 => ⟨S14x2x16x64, .f32⟩
  | 50 => ⟨S14x2x16x64, .f32⟩
  | 51 => ⟨S64, .i32⟩
  | 52 => ⟨S64x1, .i32⟩
  | 53 => ⟨S1x64, .i32⟩
  | 54 => ⟨S64x64, .i32⟩
  | 55 => ⟨S64x64, .i32⟩
  | 56 => ⟨S64x64, .i1⟩
  | 57 => ⟨S64x1, .i32⟩
  | 58 => ⟨S1x64, .i32⟩
  | 59 => ⟨S64x64, .i32⟩
  | 60 => ⟨S64x64, .i32⟩
  | 61 => ⟨S64x64, .i1⟩
  | 62 => ⟨S14x2x16x64x1, .f32⟩
  | 63 => ⟨S14x2x16x1x64, .f32⟩
  | 64 => ⟨S14x2x16x64x64, .f32⟩
  | 65 => ⟨S14x2x16x64x64, .f32⟩
  | 66 => ⟨S14x2x16x64x64, .f32⟩
  | 67 => ⟨S_, .f32⟩
  | 68 => ⟨S_, .f32⟩
  | 69 => ⟨S14x2x16x64x64, .i1⟩
  | 70 => ⟨S14x2x16x64x64, .f32⟩
  | 71 => ⟨S14x2x16x64x64, .f32⟩
  | 72 => ⟨S14x2x16x64x64, .f32⟩
  | 73 => ⟨S14x2x16x64x64, .f32⟩
  | 74 => ⟨S14x2x16x64x64, .f32⟩
  | 75 => ⟨S14x2x16x64x64, .f32⟩
  | 76 => ⟨S14x2x16x64x1, .f32⟩
  | 77 => ⟨S14x2x16x64x64, .f32⟩
  | 78 => ⟨S14x2x16x64x64, .f32⟩
  | 79 => ⟨S14x2x16x64x64, .f32⟩
  | 80 => ⟨S_, .f32⟩
  | 81 => ⟨S_, .f32⟩
  | 82 => ⟨S14x2x16x64x64, .i1⟩
  | 83 => ⟨S14x2x16x64x64, .f32⟩
  | 84 => ⟨S14x2x16x64x64, .f32⟩
  | 85 => ⟨S64x64, .i32⟩
  | 86 => ⟨S64x64, .i32⟩
  | 87 => ⟨S_, .i32⟩
  | 88 => ⟨S64x64, .i32⟩
  | 89 => ⟨S64x64, .i32⟩
  | 90 => ⟨S64x64, .i1⟩
  | 91 => ⟨S64x64, .f32⟩
  | 92 => ⟨S14x2x16x64x64, .f32⟩
  | 93 => ⟨S1x1x1x64x64, .f32⟩
  | 94 => ⟨S14x2x16x64x64, .f32⟩
  | 95 => ⟨S14x2x16x64x64, .f32⟩
  | 96 => ⟨S14x2x16x64x64, .f32⟩
  | 97 => ⟨S1x1x1x64x64, .f32⟩
  | 98 => ⟨S14x2x16x64x64, .f32⟩
  | 99 => ⟨S14x2x16x64x64, .f32⟩
  | 100 => ⟨S14x2x16x64x64, .f32⟩
  | 101 => ⟨S14x2x16x64x64, .f32⟩
  | 102 => ⟨S1x1x1x64x64, .f32⟩
  | 103 => ⟨S14x2x16x64x64, .f32⟩
  | 104 => ⟨S14x2x16x64x64, .f32⟩
  | 105 => ⟨S14x2x16x64x64, .f32⟩
  | 106 => ⟨S14x2x16x64x64, .f32⟩
  | 107 => ⟨S1x1x1x64x64, .f32⟩
  | 108 => ⟨S14x2x16x64x64, .f32⟩
  | 109 => ⟨S14x2x16x64x64, .f32⟩
  | 110 => ⟨S14x2x16x64x64, .f32⟩
  | 111 => ⟨S14x2x16x64x64, .f32⟩
  | 112 => ⟨S1x1x1x64x64, .f32⟩
  | 113 => ⟨S14x2x16x64x64, .f32⟩
  | 114 => ⟨S14x2x16x64x64, .f32⟩
  | 115 => ⟨S14x2x16x64x64, .f32⟩
  | 116 => ⟨S14x2x16x64x64, .f32⟩
  | 117 => ⟨S1x1x1x64x64, .f32⟩
  | 118 => ⟨S14x2x16x64x64, .f32⟩
  | 119 => ⟨S14x2x16x64x64, .f32⟩
  | 120 => ⟨S14x2x16x64x64, .f32⟩
  | 121 => ⟨S14x2x16x64, .f32⟩
  | 122 => ⟨S14x2x16x64x1, .f32⟩
  | 123 => ⟨S14x2x16x64x128, .f32⟩
  | 124 => ⟨S14x2x16x64x128, .f32⟩
  | 125 => ⟨S14x2x16x64x128, .f32⟩
  | 126 => ⟨S14x2x16x64x1, .f32⟩
  | 127 => ⟨S14x2x16x64x128, .f32⟩
  | _ => ⟨S2x896x16x128, .i8⟩

abbrev hbmTy0_1 (i : Nat) : BufTy := match i % 128 with
  | 0 => ⟨S14x2x16x64x128, .f32⟩
  | 1 => ⟨S14x2x16x64x1, .f32⟩
  | 2 => ⟨S14x2x16x64x128, .f32⟩
  | 3 => ⟨S14x2x16x64x128, .f32⟩
  | 4 => ⟨S_, .f32⟩
  | 5 => ⟨S2x16x128x256, .f32⟩
  | 6 => ⟨S1x2x16x64x64, .f32⟩
  | 7 => ⟨S2x16x64x64, .f32⟩
  | 8 => ⟨S1x2x16x64x256, .f32⟩
  | 9 => ⟨S2x16x64x256, .f32⟩
  | 10 => ⟨S2x16x64x256, .f32⟩
  | 11 => ⟨S1x2x16x64x128, .f32⟩
  | 12 => ⟨S2x16x64x128, .f32⟩
  | 13 => ⟨S2x16x64x256, .f32⟩
  | 14 => ⟨S2x16x64x256, .f32⟩
  | 15 => ⟨S1x2x16x64x128, .f32⟩
  | 16 => ⟨S2x16x64x128, .f32⟩
  | 17 => ⟨S1x2x16x64x256, .f32⟩
  | 18 => ⟨S2x16x64x256, .f32⟩
  | 19 => ⟨S2x16x128x256, .f32⟩
  | 20 => ⟨S1x2x16, .f32⟩
  | 21 => ⟨S2x16, .f32⟩
  | 22 => ⟨S2x16x1x1, .f32⟩
  | 23 => ⟨S2x16x128x256, .f32⟩
  | 24 => ⟨S2x16x128x256, .f32⟩
  | 25 => ⟨S2x16x128x256, .f32⟩
  | 26 => ⟨S1x2x16x64x128, .f32⟩
  | 27 => ⟨S2x16x64x128, .f32⟩
  | 28 => ⟨S2x16x128x256, .f32⟩
  | 29 => ⟨S2x16x128x256, .f32⟩
  | 30 => ⟨S1x2x16x64x64, .f32⟩
  | 31 => ⟨S2x16x64x64, .f32⟩
  | 32 => ⟨S1x2x16x64x256, .f32⟩
  | 33 => ⟨S2x16x64x256, .f32⟩
  | 34 => ⟨S2x16x64x256, .f32⟩
  | 35 => ⟨S1x2x16x64x128, .f32⟩
  | 36 => ⟨S2x16x64x128, .f32⟩
  | 37 => ⟨S2x16x64x256, .f32⟩
  | 38 => ⟨S2x16x64x256, .f32⟩
  | 39 => ⟨S1x2x16x64x128, .f32⟩
  | 40 => ⟨S2x16x64x128, .f32⟩
  | 41 => ⟨S1x2x16x64x256, .f32⟩
  | 42 => ⟨S2x16x64x256, .f32⟩
  | 43 => ⟨S2x16x128x256, .f32⟩
  | 44 => ⟨S1x2x16, .f32⟩
  | 45 => ⟨S2x16, .f32⟩
  | 46 => ⟨S2x16x1x1, .f32⟩
  | 47 => ⟨S2x16x128x256, .f32⟩
  | 48 => ⟨S2x16x128x256, .f32⟩
  | 49 => ⟨S2x16x128x256, .f32⟩
  | 50 => ⟨S1x2x16x64x128, .f32⟩
  | 51 => ⟨S2x16x64x128, .f32⟩
  | 52 => ⟨S2x16x128x256, .f32⟩
  | 53 => ⟨S2x16x128x256, .f32⟩
  | 54 => ⟨S1x2x16x64x64, .f32⟩
  | 55 => ⟨S2x16x64x64, .f32⟩
  | 56 => ⟨S1x2x16x64x256, .f32⟩
  | 57 => ⟨S2x16x64x256, .f32⟩
  | 58 => ⟨S2x16x64x256, .f32⟩
  | 59 => ⟨S1x2x16x64x128, .f32⟩
  | 60 => ⟨S2x16x64x128, .f32⟩
  | 61 => ⟨S2x16x64x256, .f32⟩
  | 62 => ⟨S2x16x64x256, .f32⟩
  | 63 => ⟨S1x2x16x64x128, .f32⟩
  | 64 => ⟨S2x16x64x128, .f32⟩
  | 65 => ⟨S1x2x16x64x256, .f32⟩
  | 66 => ⟨S2x16x64x256, .f32⟩
  | 67 => ⟨S2x16x128x256, .f32⟩
  | 68 => ⟨S1x2x16, .f32⟩
  | 69 => ⟨S2x16, .f32⟩
  | 70 => ⟨S2x16x1x1, .f32⟩
  | 71 => ⟨S2x16x128x256, .f32⟩
  | 72 => ⟨S2x16x128x256, .f32⟩
  | 73 => ⟨S2x16x128x256, .f32⟩
  | 74 => ⟨S1x2x16x64x128, .f32⟩
  | 75 => ⟨S2x16x64x128, .f32⟩
  | 76 => ⟨S2x16x128x256, .f32⟩
  | 77 => ⟨S2x16x128x256, .f32⟩
  | 78 => ⟨S1x2x16x64x64, .f32⟩
  | 79 => ⟨S2x16x64x64, .f32⟩
  | 80 => ⟨S1x2x16x64x256, .f32⟩
  | 81 => ⟨S2x16x64x256, .f32⟩
  | 82 => ⟨S2x16x64x256, .f32⟩
  | 83 => ⟨S1x2x16x64x128, .f32⟩
  | 84 => ⟨S2x16x64x128, .f32⟩
  | 85 => ⟨S2x16x64x256, .f32⟩
  | 86 => ⟨S2x16x64x256, .f32⟩
  | 87 => ⟨S1x2x16x64x128, .f32⟩
  | 88 => ⟨S2x16x64x128, .f32⟩
  | 89 => ⟨S1x2x16x64x256, .f32⟩
  | 90 => ⟨S2x16x64x256, .f32⟩
  | 91 => ⟨S2x16x128x256, .f32⟩
  | 92 => ⟨S1x2x16, .f32⟩
  | 93 => ⟨S2x16, .f32⟩
  | 94 => ⟨S2x16x1x1, .f32⟩
  | 95 => ⟨S2x16x128x256, .f32⟩
  | 96 => ⟨S2x16x128x256, .f32⟩
  | 97 => ⟨S2x16x128x256, .f32⟩
  | 98 => ⟨S1x2x16x64x128, .f32⟩
  | 99 => ⟨S2x16x64x128, .f32⟩
  | 100 => ⟨S2x16x128x256, .f32⟩
  | 101 => ⟨S2x16x128x256, .f32⟩
  | 102 => ⟨S1x2x16x64x64, .f32⟩
  | 103 => ⟨S2x16x64x64, .f32⟩
  | 104 => ⟨S1x2x16x64x256, .f32⟩
  | 105 => ⟨S2x16x64x256, .f32⟩
  | 106 => ⟨S2x16x64x256, .f32⟩
  | 107 => ⟨S1x2x16x64x128, .f32⟩
  | 108 => ⟨S2x16x64x128, .f32⟩
  | 109 => ⟨S2x16x64x256, .f32⟩
  | 110 => ⟨S2x16x64x256, .f32⟩
  | 111 => ⟨S1x2x16x64x128, .f32⟩
  | 112 => ⟨S2x16x64x128, .f32⟩
  | 113 => ⟨S1x2x16x64x256, .f32⟩
  | 114 => ⟨S2x16x64x256, .f32⟩
  | 115 => ⟨S2x16x128x256, .f32⟩
  | 116 => ⟨S1x2x16, .f32⟩
  | 117 => ⟨S2x16, .f32⟩
  | 118 => ⟨S2x16x1x1, .f32⟩
  | 119 => ⟨S2x16x128x256, .f32⟩
  | 120 => ⟨S2x16x128x256, .f32⟩
  | 121 => ⟨S2x16x128x256, .f32⟩
  | 122 => ⟨S1x2x16x64x128, .f32⟩
  | 123 => ⟨S2x16x64x128, .f32⟩
  | 124 => ⟨S2x16x128x256, .f32⟩
  | 125 => ⟨S2x16x128x256, .f32⟩
  | 126 => ⟨S1x2x16x64x64, .f32⟩
  | 127 => ⟨S2x16x64x64, .f32⟩
  | _ => ⟨S2x896x16x128, .i8⟩

abbrev hbmTy0_2 (i : Nat) : BufTy := match i % 128 with
  | 0 => ⟨S1x2x16x64x256, .f32⟩
  | 1 => ⟨S2x16x64x256, .f32⟩
  | 2 => ⟨S2x16x64x256, .f32⟩
  | 3 => ⟨S1x2x16x64x128, .f32⟩
  | 4 => ⟨S2x16x64x128, .f32⟩
  | 5 => ⟨S2x16x64x256, .f32⟩
  | 6 => ⟨S2x16x64x256, .f32⟩
  | 7 => ⟨S1x2x16x64x128, .f32⟩
  | 8 => ⟨S2x16x64x128, .f32⟩
  | 9 => ⟨S1x2x16x64x256, .f32⟩
  | 10 => ⟨S2x16x64x256, .f32⟩
  | 11 => ⟨S2x16x128x256, .f32⟩
  | 12 => ⟨S1x2x16, .f32⟩
  | 13 => ⟨S2x16, .f32⟩
  | 14 => ⟨S2x16x1x1, .f32⟩
  | 15 => ⟨S2x16x128x256, .f32⟩
  | 16 => ⟨S2x16x128x256, .f32⟩
  | 17 => ⟨S2x16x128x256, .f32⟩
  | 18 => ⟨S1x2x16x64x128, .f32⟩
  | 19 => ⟨S2x16x64x128, .f32⟩
  | 20 => ⟨S2x16x128x256, .f32⟩
  | 21 => ⟨S2x16x128x256, .f32⟩
  | 22 => ⟨S1x2x16x64x64, .f32⟩
  | 23 => ⟨S2x16x64x64, .f32⟩
  | 24 => ⟨S1x2x16x64x256, .f32⟩
  | 25 => ⟨S2x16x64x256, .f32⟩
  | 26 => ⟨S2x16x64x256, .f32⟩
  | 27 => ⟨S1x2x16x64x128, .f32⟩
  | 28 => ⟨S2x16x64x128, .f32⟩
  | 29 => ⟨S2x16x64x256, .f32⟩
  | 30 => ⟨S2x16x64x256, .f32⟩
  | 31 => ⟨S1x2x16x64x128, .f32⟩
  | 32 => ⟨S2x16x64x128, .f32⟩
  | 33 => ⟨S1x2x16x64x256, .f32⟩
  | 34 => ⟨S2x16x64x256, .f32⟩
  | 35 => ⟨S2x16x128x256, .f32⟩
  | 36 => ⟨S1x2x16, .f32⟩
  | 37 => ⟨S2x16, .f32⟩
  | 38 => ⟨S2x16x1x1, .f32⟩
  | 39 => ⟨S2x16x128x256, .f32⟩
  | 40 => ⟨S2x16x128x256, .f32⟩
  | 41 => ⟨S2x16x128x256, .f32⟩
  | 42 => ⟨S1x2x16x64x128, .f32⟩
  | 43 => ⟨S2x16x64x128, .f32⟩
  | 44 => ⟨S2x16x128x256, .f32⟩
  | 45 => ⟨S2x16x128x256, .f32⟩
  | 46 => ⟨S1x2x16x64x64, .f32⟩
  | 47 => ⟨S2x16x64x64, .f32⟩
  | 48 => ⟨S1x2x16x64x256, .f32⟩
  | 49 => ⟨S2x16x64x256, .f32⟩
  | 50 => ⟨S2x16x64x256, .f32⟩
  | 51 => ⟨S1x2x16x64x128, .f32⟩
  | 52 => ⟨S2x16x64x128, .f32⟩
  | 53 => ⟨S2x16x64x256, .f32⟩
  | 54 => ⟨S2x16x64x256, .f32⟩
  | 55 => ⟨S1x2x16x64x128, .f32⟩
  | 56 => ⟨S2x16x64x128, .f32⟩
  | 57 => ⟨S1x2x16x64x256, .f32⟩
  | 58 => ⟨S2x16x64x256, .f32⟩
  | 59 => ⟨S2x16x128x256, .f32⟩
  | 60 => ⟨S1x2x16, .f32⟩
  | 61 => ⟨S2x16, .f32⟩
  | 62 => ⟨S2x16x1x1, .f32⟩
  | 63 => ⟨S2x16x128x256, .f32⟩
  | 64 => ⟨S2x16x128x256, .f32⟩
  | 65 => ⟨S2x16x128x256, .f32⟩
  | 66 => ⟨S1x2x16x64x128, .f32⟩
  | 67 => ⟨S2x16x64x128, .f32⟩
  | 68 => ⟨S2x16x128x256, .f32⟩
  | 69 => ⟨S2x16x128x256, .f32⟩
  | 70 => ⟨S1x2x16x64x64, .f32⟩
  | 71 => ⟨S2x16x64x64, .f32⟩
  | 72 => ⟨S1x2x16x64x256, .f32⟩
  | 73 => ⟨S2x16x64x256, .f32⟩
  | 74 => ⟨S2x16x64x256, .f32⟩
  | 75 => ⟨S1x2x16x64x128, .f32⟩
  | 76 => ⟨S2x16x64x128, .f32⟩
  | 77 => ⟨S2x16x64x256, .f32⟩
  | 78 => ⟨S2x16x64x256, .f32⟩
  | 79 => ⟨S1x2x16x64x128, .f32⟩
  | 80 => ⟨S2x16x64x128, .f32⟩
  | 81 => ⟨S1x2x16x64x256, .f32⟩
  | 82 => ⟨S2x16x64x256, .f32⟩
  | 83 => ⟨S2x16x128x256, .f32⟩
  | 84 => ⟨S1x2x16, .f32⟩
  | 85 => ⟨S2x16, .f32⟩
  | 86 => ⟨S2x16x1x1, .f32⟩
  | 87 => ⟨S2x16x128x256, .f32⟩
  | 88 => ⟨S2x16x128x256, .f32⟩
  | 89 => ⟨S2x16x128x256, .f32⟩
  | 90 => ⟨S1x2x16x64x128, .f32⟩
  | 91 => ⟨S2x16x64x128, .f32⟩
  | 92 => ⟨S2x16x128x256, .f32⟩
  | 93 => ⟨S2x16x128x256, .f32⟩
  | 94 => ⟨S1x2x16x64x64, .f32⟩
  | 95 => ⟨S2x16x64x64, .f32⟩
  | 96 => ⟨S1x2x16x64x256, .f32⟩
  | 97 => ⟨S2x16x64x256, .f32⟩
  | 98 => ⟨S2x16x64x256, .f32⟩
  | 99 => ⟨S1x2x16x64x128, .f32⟩
  | 100 => ⟨S2x16x64x128, .f32⟩
  | 101 => ⟨S2x16x64x256, .f32⟩
  | 102 => ⟨S2x16x64x256, .f32⟩
  | 103 => ⟨S1x2x16x64x128, .f32⟩
  | 104 => ⟨S2x16x64x128, .f32⟩
  | 105 => ⟨S1x2x16x64x256, .f32⟩
  | 106 => ⟨S2x16x64x256, .f32⟩
  | 107 => ⟨S2x16x128x256, .f32⟩
  | 108 => ⟨S1x2x16, .f32⟩
  | 109 => ⟨S2x16, .f32⟩
  | 110 => ⟨S2x16x1x1, .f32⟩
  | 111 => ⟨S2x16x128x256, .f32⟩
  | 112 => ⟨S2x16x128x256, .f32⟩
  | 113 => ⟨S2x16x128x256, .f32⟩
  | 114 => ⟨S1x2x16x64x128, .f32⟩
  | 115 => ⟨S2x16x64x128, .f32⟩
  | 116 => ⟨S2x16x128x256, .f32⟩
  | 117 => ⟨S2x16x128x256, .f32⟩
  | 118 => ⟨S1x2x16x64x64, .f32⟩
  | 119 => ⟨S2x16x64x64, .f32⟩
  | 120 => ⟨S1x2x16x64x256, .f32⟩
  | 121 => ⟨S2x16x64x256, .f32⟩
  | 122 => ⟨S2x16x64x256, .f32⟩
  | 123 => ⟨S1x2x16x64x128, .f32⟩
  | 124 => ⟨S2x16x64x128, .f32⟩
  | 125 => ⟨S2x16x64x256, .f32⟩
  | 126 => ⟨S2x16x64x256, .f32⟩
  | 127 => ⟨S1x2x16x64x128, .f32⟩
  | _ => ⟨S2x896x16x128, .i8⟩

abbrev hbmTy0_3 (i : Nat) : BufTy := match i % 128 with
  | 0 => ⟨S2x16x64x128, .f32⟩
  | 1 => ⟨S1x2x16x64x256, .f32⟩
  | 2 => ⟨S2x16x64x256, .f32⟩
  | 3 => ⟨S2x16x128x256, .f32⟩
  | 4 => ⟨S1x2x16, .f32⟩
  | 5 => ⟨S2x16, .f32⟩
  | 6 => ⟨S2x16x1x1, .f32⟩
  | 7 => ⟨S2x16x128x256, .f32⟩
  | 8 => ⟨S2x16x128x256, .f32⟩
  | 9 => ⟨S2x16x128x256, .f32⟩
  | 10 => ⟨S1x2x16x64x128, .f32⟩
  | 11 => ⟨S2x16x64x128, .f32⟩
  | 12 => ⟨S2x16x128x256, .f32⟩
  | 13 => ⟨S2x16x128x256, .f32⟩
  | 14 => ⟨S1x2x16x64x64, .f32⟩
  | 15 => ⟨S2x16x64x64, .f32⟩
  | 16 => ⟨S1x2x16x64x256, .f32⟩
  | 17 => ⟨S2x16x64x256, .f32⟩
  | 18 => ⟨S2x16x64x256, .f32⟩
  | 19 => ⟨S1x2x16x64x128, .f32⟩
  | 20 => ⟨S2x16x64x128, .f32⟩
  | 21 => ⟨S2x16x64x256, .f32⟩
  | 22 => ⟨S2x16x64x256, .f32⟩
  | 23 => ⟨S1x2x16x64x128, .f32⟩
  | 24 => ⟨S2x16x64x128, .f32⟩
  | 25 => ⟨S1x2x16x64x256, .f32⟩
  | 26 => ⟨S2x16x64x256, .f32⟩
  | 27 => ⟨S2x16x128x256, .f32⟩
  | 28 => ⟨S1x2x16, .f32⟩
  | 29 => ⟨S2x16, .f32⟩
  | 30 => ⟨S2x16x1x1, .f32⟩
  | 31 => ⟨S2x16x128x256, .f32⟩
  | 32 => ⟨S2x16x128x256, .f32⟩
  | 33 => ⟨S2x16x128x256, .f32⟩
  | 34 => ⟨S1x2x16x64x128, .f32⟩
  | 35 => ⟨S2x16x64x128, .f32⟩
  | 36 => ⟨S2x16x128x256, .f32⟩
  | 37 => ⟨S2x16x128x256, .f32⟩
  | 38 => ⟨S1x2x16x64x64, .f32⟩
  | 39 => ⟨S2x16x64x64, .f32⟩
  | 40 => ⟨S1x2x16x64x256, .f32⟩
  | 41 => ⟨S2x16x64x256, .f32⟩
  | 42 => ⟨S2x16x64x256, .f32⟩
  | 43 => ⟨S1x2x16x64x128, .f32⟩
  | 44 => ⟨S2x16x64x128, .f32⟩
  | 45 => ⟨S2x16x64x256, .f32⟩
  | 46 => ⟨S2x16x64x256, .f32⟩
  | 47 => ⟨S1x2x16x64x128, .f32⟩
  | 48 => ⟨S2x16x64x128, .f32⟩
  | 49 => ⟨S1x2x16x64x256, .f32⟩
  | 50 => ⟨S2x16x64x256, .f32⟩
  | 51 => ⟨S2x16x128x256, .f32⟩
  | 52 => ⟨S1x2x16, .f32⟩
  | 53 => ⟨S2x16, .f32⟩
  | 54 => ⟨S2x16x1x1, .f32⟩
  | 55 => ⟨S2x16x128x256, .f32⟩
  | 56 => ⟨S2x16x128x256, .f32⟩
  | 57 => ⟨S2x16x128x256, .f32⟩
  | 58 => ⟨S1x2x16x64x128, .f32⟩
  | 59 => ⟨S2x16x64x128, .f32⟩
  | 60 => ⟨S2x16x128x256, .f32⟩
  | 61 => ⟨S2x16x128x256, .f32⟩
  | 62 => ⟨S1x2x16x64x64, .f32⟩
  | 63 => ⟨S2x16x64x64, .f32⟩
  | 64 => ⟨S1x2x16x64x256, .f32⟩
  | 65 => ⟨S2x16x64x256, .f32⟩
  | 66 => ⟨S2x16x64x256, .f32⟩
  | 67 => ⟨S1x2x16x64x128, .f32⟩
  | 68 => ⟨S2x16x64x128, .f32⟩
  | 69 => ⟨S2x16x64x256, .f32⟩
  | 70 => ⟨S2x16x64x256, .f32⟩
  | 71 => ⟨S1x2x16x64x128, .f32⟩
  | 72 => ⟨S2x16x64x128, .f32⟩
  | 73 => ⟨S1x2x16x64x256, .f32⟩
  | 74 => ⟨S2x16x64x256, .f32⟩
  | 75 => ⟨S2x16x128x256, .f32⟩
  | 76 => ⟨S1x2x16, .f32⟩
  | 77 => ⟨S2x16, .f32⟩
  | 78 => ⟨S2x16x1x1, .f32⟩
  | 79 => ⟨S2x16x128x256, .f32⟩
  | 80 => ⟨S2x16x128x256, .f32⟩
  | 81 => ⟨S2x16x128x256, .f32⟩
  | 82 => ⟨S1x2x16x64x128, .f32⟩
  | 83 => ⟨S2x16x64x128, .f32⟩
  | 84 => ⟨S2x16x128x256, .f32⟩
  | 85 => ⟨S2x16x128x256, .f32⟩
  | 86 => ⟨S1x2x16x64x256, .f32⟩
  | 87 => ⟨S1x2x16x64x256, .f32⟩
  | 88 => ⟨S1x2x16x64x256, .f32⟩
  | 89 => ⟨S1x2x16x64x256, .f32⟩
  | 90 => ⟨S1x2x16x64x256, .f32⟩
  | 91 => ⟨S1x2x16x64x256, .f32⟩
  | 92 => ⟨S1x2x16x64x256, .f32⟩
  | 93 => ⟨S1x2x16x64x256, .f32⟩
  | 94 => ⟨S1x2x16x64x256, .f32⟩
  | 95 => ⟨S1x2x16x64x256, .f32⟩
  | 96 => ⟨S1x2x16x64x256, .f32⟩
  | 97 => ⟨S1x2x16x64x256, .f32⟩
  | 98 => ⟨S1x2x16x64x256, .f32⟩
  | 99 => ⟨S1x2x16x64x256, .f32⟩
  | 100 => ⟨S14x2x16x64x256, .f32⟩
  | 101 => ⟨S14x2x16x64x256, .f32⟩
  | 102 => ⟨S14x2x16x64x1, .f32⟩
  | 103 => ⟨S14x2x16x64x256, .f32⟩
  | 104 => ⟨S14x2x16x64x256, .f32⟩
  | 105 => ⟨S2x16x14x64x256, .f32⟩
  | 106 => ⟨S2x16x896x256, .f32⟩
  | 107 => ⟨S2x16x896x256, .bf16⟩
  | 108 => ⟨S2x14x64x16x256, .bf16⟩
  | 109 => ⟨S14x2x16x64x256, .bf16⟩
  | 110 => ⟨S14x2x16x64x256, .f32⟩
  | 111 => ⟨S14x2x16x64x1, .f32⟩
  | 112 => ⟨S14x2x16x64x256, .f32⟩
  | 113 => ⟨S14x2x16x64x256, .f32⟩
  | 114 => ⟨S14x2x16x64x256, .f32⟩
  | 115 => ⟨S_, .f32⟩
  | 116 => ⟨S2x16x128x256, .f32⟩
  | 117 => ⟨S1x2x16x64x256, .f32⟩
  | 118 => ⟨S2x16x64x256, .f32⟩
  | 119 => ⟨S1x2x16x64x128, .f32⟩
  | 120 => ⟨S2x16x64x128, .f32⟩
  | 121 => ⟨S2x16x64x256, .f32⟩
  | 122 => ⟨S2x16x64x256, .f32⟩
  | 123 => ⟨S1x2x16, .f32⟩
  | 124 => ⟨S2x16, .f32⟩
  | 125 => ⟨S2x16x1x1, .f32⟩
  | 126 => ⟨S2x16x128x256, .f32⟩
  | 127 => ⟨S2x16x128x256, .f32⟩
  | _ => ⟨S2x896x16x128, .i8⟩

abbrev hbmTy0_4 (i : Nat) : BufTy := match i % 128 with
  | 0 => ⟨S1x2x16x64x128, .f32⟩
  | 1 => ⟨S2x16x64x128, .f32⟩
  | 2 => ⟨S2x16x128x256, .f32⟩
  | 3 => ⟨S2x16x128x256, .f32⟩
  | 4 => ⟨S1x2x16x64x256, .f32⟩
  | 5 => ⟨S2x16x64x256, .f32⟩
  | 6 => ⟨S1x2x16x64x128, .f32⟩
  | 7 => ⟨S2x16x64x128, .f32⟩
  | 8 => ⟨S2x16x64x256, .f32⟩
  | 9 => ⟨S2x16x64x256, .f32⟩
  | 10 => ⟨S1x2x16, .f32⟩
  | 11 => ⟨S2x16, .f32⟩
  | 12 => ⟨S2x16x1x1, .f32⟩
  | 13 => ⟨S2x16x128x256, .f32⟩
  | 14 => ⟨S2x16x128x256, .f32⟩
  | 15 => ⟨S1x2x16x64x128, .f32⟩
  | 16 => ⟨S2x16x64x128, .f32⟩
  | 17 => ⟨S2x16x128x256, .f32⟩
  | 18 => ⟨S2x16x128x256, .f32⟩
  | 19 => ⟨S1x2x16x64x256, .f32⟩
  | 20 => ⟨S2x16x64x256, .f32⟩
  | 21 => ⟨S1x2x16x64x128, .f32⟩
  | 22 => ⟨S2x16x64x128, .f32⟩
  | 23 => ⟨S2x16x64x256, .f32⟩
  | 24 => ⟨S2x16x64x256, .f32⟩
  | 25 => ⟨S1x2x16, .f32⟩
  | 26 => ⟨S2x16, .f32⟩
  | 27 => ⟨S2x16x1x1, .f32⟩
  | 28 => ⟨S2x16x128x256, .f32⟩
  | 29 => ⟨S2x16x128x256, .f32⟩
  | 30 => ⟨S1x2x16x64x128, .f32⟩
  | 31 => ⟨S2x16x64x128, .f32⟩
  | 32 => ⟨S2x16x128x256, .f32⟩
  | 33 => ⟨S2x16x128x256, .f32⟩
  | 34 => ⟨S1x2x16x64x256, .f32⟩
  | 35 => ⟨S2x16x64x256, .f32⟩
  | 36 => ⟨S1x2x16x64x128, .f32⟩
  | 37 => ⟨S2x16x64x128, .f32⟩
  | 38 => ⟨S2x16x64x256, .f32⟩
  | 39 => ⟨S2x16x64x256, .f32⟩
  | 40 => ⟨S1x2x16, .f32⟩
  | 41 => ⟨S2x16, .f32⟩
  | 42 => ⟨S2x16x1x1, .f32⟩
  | 43 => ⟨S2x16x128x256, .f32⟩
  | 44 => ⟨S2x16x128x256, .f32⟩
  | 45 => ⟨S1x2x16x64x128, .f32⟩
  | 46 => ⟨S2x16x64x128, .f32⟩
  | 47 => ⟨S2x16x128x256, .f32⟩
  | 48 => ⟨S2x16x128x256, .f32⟩
  | 49 => ⟨S1x2x16x64x256, .f32⟩
  | 50 => ⟨S2x16x64x256, .f32⟩
  | 51 => ⟨S1x2x16x64x128, .f32⟩
  | 52 => ⟨S2x16x64x128, .f32⟩
  | 53 => ⟨S2x16x64x256, .f32⟩
  | 54 => ⟨S2x16x64x256, .f32⟩
  | 55 => ⟨S1x2x16, .f32⟩
  | 56 => ⟨S2x16, .f32⟩
  | 57 => ⟨S2x16x1x1, .f32⟩
  | 58 => ⟨S2x16x128x256, .f32⟩
  | 59 => ⟨S2x16x128x256, .f32⟩
  | 60 => ⟨S1x2x16x64x128, .f32⟩
  | 61 => ⟨S2x16x64x128, .f32⟩
  | 62 => ⟨S2x16x128x256, .f32⟩
  | 63 => ⟨S2x16x128x256, .f32⟩
  | 64 => ⟨S1x2x16x64x256, .f32⟩
  | 65 => ⟨S2x16x64x256, .f32⟩
  | 66 => ⟨S1x2x16x64x128, .f32⟩
  | 67 => ⟨S2x16x64x128, .f32⟩
  | 68 => ⟨S2x16x64x256, .f32⟩
  | 69 => ⟨S2x16x64x256, .f32⟩
  | 70 => ⟨S1x2x16, .f32⟩
  | 71 => ⟨S2x16, .f32⟩
  | 72 => ⟨S2x16x1x1, .f32⟩
  | 73 => ⟨S2x16x128x256, .f32⟩
  | 74 => ⟨S2x16x128x256, .f32⟩
  | 75 => ⟨S1x2x16x64x128, .f32⟩
  | 76 => ⟨S2x16x64x128, .f32⟩
  | 77 => ⟨S2x16x128x256, .f32⟩
  | 78 => ⟨S2x16x128x256, .f32⟩
  | 79 => ⟨S1x2x16x64x256, .f32⟩
  | 80 => ⟨S2x16x64x256, .f32⟩
  | 81 => ⟨S1x2x16x64x128, .f32⟩
  | 82 => ⟨S2x16x64x128, .f32⟩
  | 83 => ⟨S2x16x64x256, .f32⟩
  | 84 => ⟨S2x16x64x256, .f32⟩
  | 85 => ⟨S1x2x16, .f32⟩
  | 86 => ⟨S2x16, .f32⟩
  | 87 => ⟨S2x16x1x1, .f32⟩
  | 88 => ⟨S2x16x128x256, .f32⟩
  | 89 => ⟨S2x16x128x256, .f32⟩
  | 90 => ⟨S1x2x16x64x128, .f32⟩
  | 91 => ⟨S2x16x64x128, .f32⟩
  | 92 => ⟨S2x16x128x256, .f32⟩
  | 93 => ⟨S2x16x128x256, .f32⟩
  | 94 => ⟨S1x2x16x64x256, .f32⟩
  | 95 => ⟨S2x16x64x256, .f32⟩
  | 96 => ⟨S1x2x16x64x128, .f32⟩
  | 97 => ⟨S2x16x64x128, .f32⟩
  | 98 => ⟨S2x16x64x256, .f32⟩
  | 99 => ⟨S2x16x64x256, .f32⟩
  | 100 => ⟨S1x2x16, .f32⟩
  | 101 => ⟨S2x16, .f32⟩
  | 102 => ⟨S2x16x1x1, .f32⟩
  | 103 => ⟨S2x16x128x256, .f32⟩
  | 104 => ⟨S2x16x128x256, .f32⟩
  | 105 => ⟨S1x2x16x64x128, .f32⟩
  | 106 => ⟨S2x16x64x128, .f32⟩
  | 107 => ⟨S2x16x128x256, .f32⟩
  | 108 => ⟨S2x16x128x256, .f32⟩
  | 109 => ⟨S1x2x16x64x256, .f32⟩
  | 110 => ⟨S2x16x64x256, .f32⟩
  | 111 => ⟨S1x2x16x64x128, .f32⟩
  | 112 => ⟨S2x16x64x128, .f32⟩
  | 113 => ⟨S2x16x64x256, .f32⟩
  | 114 => ⟨S2x16x64x256, .f32⟩
  | 115 => ⟨S1x2x16, .f32⟩
  | 116 => ⟨S2x16, .f32⟩
  | 117 => ⟨S2x16x1x1, .f32⟩
  | 118 => ⟨S2x16x128x256, .f32⟩
  | 119 => ⟨S2x16x128x256, .f32⟩
  | 120 => ⟨S1x2x16x64x128, .f32⟩
  | 121 => ⟨S2x16x64x128, .f32⟩
  | 122 => ⟨S2x16x128x256, .f32⟩
  | 123 => ⟨S2x16x128x256, .f32⟩
  | 124 => ⟨S1x2x16x64x256, .f32⟩
  | 125 => ⟨S2x16x64x256, .f32⟩
  | 126 => ⟨S1x2x16x64x128, .f32⟩
  | 127 => ⟨S2x16x64x128, .f32⟩
  | _ => ⟨S2x896x16x128, .i8⟩

abbrev hbmTy0_5 (i : Nat) : BufTy := match i % 128 with
  | 0 => ⟨S2x16x64x256, .f32⟩
  | 1 => ⟨S2x16x64x256, .f32⟩
  | 2 => ⟨S1x2x16, .f32⟩
  | 3 => ⟨S2x16, .f32⟩
  | 4 => ⟨S2x16x1x1, .f32⟩
  | 5 => ⟨S2x16x128x256, .f32⟩
  | 6 => ⟨S2x16x128x256, .f32⟩
  | 7 => ⟨S1x2x16x64x128, .f32⟩
  | 8 => ⟨S2x16x64x128, .f32⟩
  | 9 => ⟨S2x16x128x256, .f32⟩
  | 10 => ⟨S2x16x128x256, .f32⟩
  | 11 => ⟨S1x2x16x64x256, .f32⟩
  | 12 => ⟨S2x16x64x256, .f32⟩
  | 13 => ⟨S1x2x16x64x128, .f32⟩
  | 14 => ⟨S2x16x64x128, .f32⟩
  | 15 => ⟨S2x16x64x256, .f32⟩
  | 16 => ⟨S2x16x64x256, .f32⟩
  | 17 => ⟨S1x2x16, .f32⟩
  | 18 => ⟨S2x16, .f32⟩
  | 19 => ⟨S2x16x1x1, .f32⟩
  | 20 => ⟨S2x16x128x256, .f32⟩
  | 21 => ⟨S2x16x128x256, .f32⟩
  | 22 => ⟨S1x2x16x64x128, .f32⟩
  | 23 => ⟨S2x16x64x128, .f32⟩
  | 24 => ⟨S2x16x128x256, .f32⟩
  | 25 => ⟨S2x16x128x256, .f32⟩
  | 26 => ⟨S1x2x16x64x256, .f32⟩
  | 27 => ⟨S2x16x64x256, .f32⟩
  | 28 => ⟨S1x2x16x64x128, .f32⟩
  | 29 => ⟨S2x16x64x128, .f32⟩
  | 30 => ⟨S2x16x64x256, .f32⟩
  | 31 => ⟨S2x16x64x256, .f32⟩
  | 32 => ⟨S1x2x16, .f32⟩
  | 33 => ⟨S2x16, .f32⟩
  | 34 => ⟨S2x16x1x1, .f32⟩
  | 35 => ⟨S2x16x128x256, .f32⟩
  | 36 => ⟨S2x16x128x256, .f32⟩
  | 37 => ⟨S1x2x16x64x128, .f32⟩
  | 38 => ⟨S2x16x64x128, .f32⟩
  | 39 => ⟨S2x16x128x256, .f32⟩
  | 40 => ⟨S2x16x128x256, .f32⟩
  | 41 => ⟨S1x2x16x64x256, .f32⟩
  | 42 => ⟨S2x16x64x256, .f32⟩
  | 43 => ⟨S1x2x16x64x128, .f32⟩
  | 44 => ⟨S2x16x64x128, .f32⟩
  | 45 => ⟨S2x16x64x256, .f32⟩
  | 46 => ⟨S2x16x64x256, .f32⟩
  | 47 => ⟨S1x2x16, .f32⟩
  | 48 => ⟨S2x16, .f32⟩
  | 49 => ⟨S2x16x1x1, .f32⟩
  | 50 => ⟨S2x16x128x256, .f32⟩
  | 51 => ⟨S2x16x128x256, .f32⟩
  | 52 => ⟨S1x2x16x64x128, .f32⟩
  | 53 => ⟨S2x16x64x128, .f32⟩
  | 54 => ⟨S2x16x128x256, .f32⟩
  | 55 => ⟨S2x16x128x256, .f32⟩
  | 56 => ⟨S1x2x16x64x256, .f32⟩
  | 57 => ⟨S2x16x64x256, .f32⟩
  | 58 => ⟨S1x2x16x64x128, .f32⟩
  | 59 => ⟨S2x16x64x128, .f32⟩
  | 60 => ⟨S2x16x64x256, .f32⟩
  | 61 => ⟨S2x16x64x256, .f32⟩
  | 62 => ⟨S1x2x16, .f32⟩
  | 63 => ⟨S2x16, .f32⟩
  | 64 => ⟨S2x16x1x1, .f32⟩
  | 65 => ⟨S2x16x128x256, .f32⟩
  | 66 => ⟨S2x16x128x256, .f32⟩
  | 67 => ⟨S1x2x16x64x128, .f32⟩
  | 68 => ⟨S2x16x64x128, .f32⟩
  | 69 => ⟨S2x16x128x256, .f32⟩
  | 70 => ⟨S2x16x128x256, .f32⟩
  | 71 => ⟨S1x2x16x128x256, .f32⟩
  | 72 => ⟨S1x2x16x128x256, .f32⟩
  | 73 => ⟨S1x2x16x128x256, .f32⟩
  | 74 => ⟨S1x2x16x128x256, .f32⟩
  | 75 => ⟨S1x2x16x128x256, .f32⟩
  | 76 => ⟨S1x2x16x128x256, .f32⟩
  | 77 => ⟨S1x2x16x128x256, .f32⟩
  | 78 => ⟨S1x2x16x128x256, .f32⟩
  | 79 => ⟨S1x2x16x128x256, .f32⟩
  | 80 => ⟨S1x2x16x128x256, .f32⟩
  | 81 => ⟨S1x2x16x128x256, .f32⟩
  | 82 => ⟨S1x2x16x128x256, .f32⟩
  | 83 => ⟨S1x2x16x128x256, .f32⟩
  | 84 => ⟨S1x2x16x128x256, .f32⟩
  | 85 => ⟨S14x2x16x128x256, .f32⟩
  | 86 => ⟨S1x2x16x64x256, .f32⟩
  | 87 => ⟨S1x2x16x64x256, .f32⟩
  | 88 => ⟨S1x2x16x64x256, .f32⟩
  | 89 => ⟨S1x2x16x64x256, .f32⟩
  | 90 => ⟨S1x2x16x64x256, .f32⟩
  | 91 => ⟨S1x2x16x64x256, .f32⟩
  | 92 => ⟨S1x2x16x64x256, .f32⟩
  | 93 => ⟨S1x2x16x64x256, .f32⟩
  | 94 => ⟨S1x2x16x64x256, .f32⟩
  | 95 => ⟨S1x2x16x64x256, .f32⟩
  | 96 => ⟨S1x2x16x64x256, .f32⟩
  | 97 => ⟨S1x2x16x64x256, .f32⟩
  | 98 => ⟨S1x2x16x64x256, .f32⟩
  | 99 => ⟨S1x2x16x64x256, .f32⟩
  | 100 => ⟨S14x2x16x64x256, .f32⟩
  | 101 => ⟨S14x2x16x64x64, .f32⟩
  | 102 => ⟨S14x2x16x64x64, .f32⟩
  | 103 => ⟨S14x2x16x64x1, .f32⟩
  | 104 => ⟨S14x2x16x64x128, .f32⟩
  | 105 => ⟨S14x2x16x64x128, .f32⟩
  | 106 => ⟨S14x2x16x64x128, .f32⟩
  | 107 => ⟨S14x2x16x64x128, .f32⟩
  | 108 => ⟨S14x2x16x64x128, .f32⟩
  | 109 => ⟨S2x16x14x64x128, .f32⟩
  | 110 => ⟨S2x16x896x128, .f32⟩
  | 111 => ⟨S2x16x896x128, .bf16⟩
  | 112 => ⟨S14x2x16x64x128, .f32⟩
  | 113 => ⟨S14x2x16x64x128, .f32⟩
  | 114 => ⟨S14x2x16x64x128, .f32⟩
  | 115 => ⟨S14x2x16x64x64, .f32⟩
  | 116 => ⟨S14x2x16x64x64, .f32⟩
  | 117 => ⟨S14x2x16x64x64, .f32⟩
  | 118 => ⟨S14x2x16x64x64, .f32⟩
  | 119 => ⟨S14x2x16x64x64, .f32⟩
  | 120 => ⟨S14x2x16x64x64, .f32⟩
  | 121 => ⟨S_, .f32⟩
  | 122 => ⟨S_, .f32⟩
  | 123 => ⟨S14x2x16x64x64, .i1⟩
  | 124 => ⟨S14x2x16x64x64, .f32⟩
  | 125 => ⟨S14x2x16x64x64, .f32⟩
  | 126 => ⟨S14x2x16x64x64, .f32⟩
  | 127 => ⟨S14x2x16x64x1, .f32⟩
  | _ => ⟨S2x896x16x128, .i8⟩

abbrev hbmTy0_6 (i : Nat) : BufTy := match i % 128 with
  | 0 => ⟨S14x2x16x64x64, .f32⟩
  | 1 => ⟨S14x2x16x64x64, .f32⟩
  | 2 => ⟨S1x2x16x128x256, .f32⟩
  | 3 => ⟨S1x2x16x128x256, .f32⟩
  | 4 => ⟨S1x2x16x128x256, .f32⟩
  | 5 => ⟨S1x2x16x128x256, .f32⟩
  | 6 => ⟨S1x2x16x128x256, .f32⟩
  | 7 => ⟨S1x2x16x128x256, .f32⟩
  | 8 => ⟨S1x2x16x128x256, .f32⟩
  | 9 => ⟨S1x2x16x128x256, .f32⟩
  | 10 => ⟨S1x2x16x128x256, .f32⟩
  | 11 => ⟨S1x2x16x128x256, .f32⟩
  | 12 => ⟨S1x2x16x128x256, .f32⟩
  | 13 => ⟨S1x2x16x128x256, .f32⟩
  | 14 => ⟨S1x2x16x128x256, .f32⟩
  | 15 => ⟨S1x2x16x128x256, .f32⟩
  | 16 => ⟨S14x2x16x128x256, .f32⟩
  | 17 => ⟨S14x2x16x64x128, .f32⟩
  | 18 => ⟨S14x2x16x64x128, .f32⟩
  | 19 => ⟨S14x2x16x64x1, .f32⟩
  | 20 => ⟨S14x2x16x64x128, .f32⟩
  | 21 => ⟨S14x2x16x64x128, .f32⟩
  | 22 => ⟨S14x2x16x64x128, .f32⟩
  | 23 => ⟨S14x2x16x64x1, .f32⟩
  | 24 => ⟨S14x2x16x64x128, .f32⟩
  | 25 => ⟨S14x2x16x64x128, .f32⟩
  | 26 => ⟨S14x2x16x64x128, .f32⟩
  | 27 => ⟨S14x2x16x64x64, .f32⟩
  | 28 => ⟨S14x2x16x64x64, .f32⟩
  | 29 => ⟨S14x2x16x64x128, .f32⟩
  | 30 => ⟨S14x2x16x64x128, .f32⟩
  | 31 => ⟨S2x16x14x64x128, .f32⟩
  | 32 => ⟨S2x16x896x128, .f32⟩
  | 33 => ⟨S2x16x896x128, .bf16⟩
  | 34 => ⟨S14x2x16x64x128, .f32⟩
  | 35 => ⟨S_, .f32⟩
  | 36 => ⟨S14x2x16x64, .f32⟩
  | 37 => ⟨S14x2x16x64x256, .f32⟩
  | 38 => ⟨S_, .f32⟩
  | 39 => ⟨S14x2x16x64, .f32⟩
  | 40 => ⟨S14x2x16x64, .f32⟩
  | 41 => ⟨S14x2x16x64, .f32⟩
  | 42 => ⟨S14x2x16x64x64, .f32⟩
  | 43 => ⟨S14x2x16x64x64, .f32⟩
  | 44 => ⟨S_, .f32⟩
  | 45 => ⟨S14x2x16x64, .f32⟩
  | 46 => ⟨S14x2x16x64, .f32⟩
  | 47 => ⟨S14x2x4x4x64, .f32⟩
  | 48 => ⟨S2x4x14x64x4, .f32⟩
  | 49 => ⟨S2x4x896x4, .f32⟩
  | _ => ⟨S2x896x16x128, .i8⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x896x16x128, .i8⟩

abbrev bufTy : (tb : Table) → Fin (tcTables nBuf tb) → BufTy
  | .hbm, ⟨i, _⟩ => hbmTy i
  | .local _ .vmem, ⟨0, _⟩ => ⟨S2x896x16x128, .fp8e4m3⟩
  | .local _ .vmem, ⟨1, _⟩ => ⟨S2x896x16x128, .fp8e4m3⟩
  | .local _ .vmem, ⟨2, _⟩ => ⟨S2x896x16x256, .fp8e5m2⟩
  | .local _ .vmem, ⟨3, _⟩ => ⟨S2x896x16x128, .f32⟩
  | .local _ .vmem, ⟨4, _⟩ => ⟨S2x896x16x128, .f32⟩
  | .local _ .vmem, ⟨5, _⟩ => ⟨S2x896x16x256, .f32⟩
  | _, _ => ⟨S2x896x16x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_call0_cst : Ref sig .tc := ⟨.hbm, 41, rfl⟩
abbrev main_call0_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_0 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_1 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_2 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_v345 : Ref sig .tc := ⟨.hbm, 369, rfl⟩
abbrev main_v346 : Ref sig .tc := ⟨.hbm, 370, rfl⟩
abbrev main_v347 : Ref sig .tc := ⟨.hbm, 371, rfl⟩
abbrev main_v348 : Ref sig .tc := ⟨.hbm, 372, rfl⟩
abbrev main_v349 : Ref sig .tc := ⟨.hbm, 373, rfl⟩
abbrev main_v350 : Ref sig .tc := ⟨.hbm, 374, rfl⟩
abbrev main_v351 : Ref sig .tc := ⟨.hbm, 375, rfl⟩
abbrev main_v352 : Ref sig .tc := ⟨.hbm, 376, rfl⟩
abbrev main_v353 : Ref sig .tc := ⟨.hbm, 377, rfl⟩
abbrev main_v354 : Ref sig .tc := ⟨.hbm, 378, rfl⟩
abbrev main_v355 : Ref sig .tc := ⟨.hbm, 379, rfl⟩
abbrev main_v356 : Ref sig .tc := ⟨.hbm, 380, rfl⟩
abbrev main_v357 : Ref sig .tc := ⟨.hbm, 381, rfl⟩
abbrev main_v358 : Ref sig .tc := ⟨.hbm, 382, rfl⟩
abbrev main_v359 : Ref sig .tc := ⟨.hbm, 383, rfl⟩
abbrev main_v360 : Ref sig .tc := ⟨.hbm, 384, rfl⟩
abbrev main_v361 : Ref sig .tc := ⟨.hbm, 385, rfl⟩
abbrev main_v362 : Ref sig .tc := ⟨.hbm, 386, rfl⟩
abbrev main_v363 : Ref sig .tc := ⟨.hbm, 387, rfl⟩
abbrev main_v364 : Ref sig .tc := ⟨.hbm, 388, rfl⟩
abbrev main_v365 : Ref sig .tc := ⟨.hbm, 389, rfl⟩
abbrev main_v366 : Ref sig .tc := ⟨.hbm, 390, rfl⟩
abbrev main_v367 : Ref sig .tc := ⟨.hbm, 391, rfl⟩
abbrev main_v368 : Ref sig .tc := ⟨.hbm, 392, rfl⟩
abbrev main_v369 : Ref sig .tc := ⟨.hbm, 393, rfl⟩
abbrev main_v370 : Ref sig .tc := ⟨.hbm, 394, rfl⟩
abbrev main_v371 : Ref sig .tc := ⟨.hbm, 395, rfl⟩
abbrev main_v372 : Ref sig .tc := ⟨.hbm, 396, rfl⟩
abbrev main_v373 : Ref sig .tc := ⟨.hbm, 397, rfl⟩
abbrev main_v374 : Ref sig .tc := ⟨.hbm, 398, rfl⟩
abbrev main_v375 : Ref sig .tc := ⟨.hbm, 399, rfl⟩
abbrev main_v376 : Ref sig .tc := ⟨.hbm, 400, rfl⟩
abbrev main_v377 : Ref sig .tc := ⟨.hbm, 401, rfl⟩
abbrev main_v378 : Ref sig .tc := ⟨.hbm, 402, rfl⟩
abbrev main_v379 : Ref sig .tc := ⟨.hbm, 403, rfl⟩
abbrev main_v380 : Ref sig .tc := ⟨.hbm, 404, rfl⟩
abbrev main_v381 : Ref sig .tc := ⟨.hbm, 405, rfl⟩
abbrev main_v382 : Ref sig .tc := ⟨.hbm, 406, rfl⟩
abbrev main_v383 : Ref sig .tc := ⟨.hbm, 407, rfl⟩
abbrev main_v384 : Ref sig .tc := ⟨.hbm, 408, rfl⟩
abbrev main_v385 : Ref sig .tc := ⟨.hbm, 409, rfl⟩
abbrev main_v386 : Ref sig .tc := ⟨.hbm, 410, rfl⟩
abbrev main_v387 : Ref sig .tc := ⟨.hbm, 411, rfl⟩
abbrev main_v388 : Ref sig .tc := ⟨.hbm, 412, rfl⟩
abbrev main_v389 : Ref sig .tc := ⟨.hbm, 413, rfl⟩
abbrev main_v390 : Ref sig .tc := ⟨.hbm, 414, rfl⟩
abbrev main_v391 : Ref sig .tc := ⟨.hbm, 415, rfl⟩
abbrev main_v392 : Ref sig .tc := ⟨.hbm, 416, rfl⟩
abbrev main_v393 : Ref sig .tc := ⟨.hbm, 417, rfl⟩
abbrev main_v394 : Ref sig .tc := ⟨.hbm, 418, rfl⟩
abbrev main_v395 : Ref sig .tc := ⟨.hbm, 419, rfl⟩
abbrev main_v396 : Ref sig .tc := ⟨.hbm, 420, rfl⟩
abbrev main_v397 : Ref sig .tc := ⟨.hbm, 421, rfl⟩
abbrev main_v398 : Ref sig .tc := ⟨.hbm, 422, rfl⟩
abbrev main_v399 : Ref sig .tc := ⟨.hbm, 423, rfl⟩
abbrev main_v400 : Ref sig .tc := ⟨.hbm, 424, rfl⟩
abbrev main_v401 : Ref sig .tc := ⟨.hbm, 425, rfl⟩
abbrev main_v402 : Ref sig .tc := ⟨.hbm, 426, rfl⟩
abbrev main_v403 : Ref sig .tc := ⟨.hbm, 427, rfl⟩
abbrev main_v404 : Ref sig .tc := ⟨.hbm, 428, rfl⟩
abbrev main_v405 : Ref sig .tc := ⟨.hbm, 429, rfl⟩
abbrev main_v406 : Ref sig .tc := ⟨.hbm, 430, rfl⟩
abbrev main_v407 : Ref sig .tc := ⟨.hbm, 431, rfl⟩
abbrev main_v408 : Ref sig .tc := ⟨.hbm, 432, rfl⟩
abbrev main_v409 : Ref sig .tc := ⟨.hbm, 433, rfl⟩
abbrev main_v410 : Ref sig .tc := ⟨.hbm, 434, rfl⟩
abbrev main_v411 : Ref sig .tc := ⟨.hbm, 435, rfl⟩
abbrev main_v412 : Ref sig .tc := ⟨.hbm, 436, rfl⟩
abbrev main_v413 : Ref sig .tc := ⟨.hbm, 437, rfl⟩
abbrev main_v414 : Ref sig .tc := ⟨.hbm, 438, rfl⟩
abbrev main_v415 : Ref sig .tc := ⟨.hbm, 439, rfl⟩
abbrev main_v416 : Ref sig .tc := ⟨.hbm, 440, rfl⟩
abbrev main_v417 : Ref sig .tc := ⟨.hbm, 441, rfl⟩
abbrev main_v418 : Ref sig .tc := ⟨.hbm, 442, rfl⟩
abbrev main_v419 : Ref sig .tc := ⟨.hbm, 443, rfl⟩
abbrev main_v420 : Ref sig .tc := ⟨.hbm, 444, rfl⟩
abbrev main_v421 : Ref sig .tc := ⟨.hbm, 445, rfl⟩
abbrev main_v422 : Ref sig .tc := ⟨.hbm, 446, rfl⟩
abbrev main_v423 : Ref sig .tc := ⟨.hbm, 447, rfl⟩
abbrev main_v424 : Ref sig .tc := ⟨.hbm, 448, rfl⟩
abbrev main_v425 : Ref sig .tc := ⟨.hbm, 449, rfl⟩
abbrev main_v426 : Ref sig .tc := ⟨.hbm, 450, rfl⟩
abbrev main_v427 : Ref sig .tc := ⟨.hbm, 451, rfl⟩
abbrev main_v428 : Ref sig .tc := ⟨.hbm, 452, rfl⟩
abbrev main_v429 : Ref sig .tc := ⟨.hbm, 453, rfl⟩
abbrev main_v430 : Ref sig .tc := ⟨.hbm, 454, rfl⟩
abbrev main_v431 : Ref sig .tc := ⟨.hbm, 455, rfl⟩
abbrev main_v432 : Ref sig .tc := ⟨.hbm, 456, rfl⟩
abbrev main_v433 : Ref sig .tc := ⟨.hbm, 457, rfl⟩
abbrev main_v434 : Ref sig .tc := ⟨.hbm, 458, rfl⟩
abbrev main_v435 : Ref sig .tc := ⟨.hbm, 459, rfl⟩
abbrev main_v436 : Ref sig .tc := ⟨.hbm, 460, rfl⟩
abbrev main_v437 : Ref sig .tc := ⟨.hbm, 461, rfl⟩
abbrev main_v438 : Ref sig .tc := ⟨.hbm, 462, rfl⟩
abbrev main_v439 : Ref sig .tc := ⟨.hbm, 463, rfl⟩
abbrev main_v440 : Ref sig .tc := ⟨.hbm, 464, rfl⟩
abbrev main_v441 : Ref sig .tc := ⟨.hbm, 465, rfl⟩
abbrev main_v442 : Ref sig .tc := ⟨.hbm, 466, rfl⟩
abbrev main_v443 : Ref sig .tc := ⟨.hbm, 467, rfl⟩
abbrev main_v444 : Ref sig .tc := ⟨.hbm, 468, rfl⟩
abbrev main_v445 : Ref sig .tc := ⟨.hbm, 469, rfl⟩
abbrev main_v446 : Ref sig .tc := ⟨.hbm, 470, rfl⟩
abbrev main_v447 : Ref sig .tc := ⟨.hbm, 471, rfl⟩
abbrev main_v448 : Ref sig .tc := ⟨.hbm, 472, rfl⟩
abbrev main_v449 : Ref sig .tc := ⟨.hbm, 473, rfl⟩
abbrev main_v450 : Ref sig .tc := ⟨.hbm, 474, rfl⟩
abbrev main_v451 : Ref sig .tc := ⟨.hbm, 475, rfl⟩
abbrev main_v452 : Ref sig .tc := ⟨.hbm, 476, rfl⟩
abbrev main_v453 : Ref sig .tc := ⟨.hbm, 477, rfl⟩
abbrev main_v454 : Ref sig .tc := ⟨.hbm, 478, rfl⟩
abbrev main_v455 : Ref sig .tc := ⟨.hbm, 479, rfl⟩
abbrev main_v456 : Ref sig .tc := ⟨.hbm, 480, rfl⟩
abbrev main_v457 : Ref sig .tc := ⟨.hbm, 481, rfl⟩
abbrev main_v458 : Ref sig .tc := ⟨.hbm, 482, rfl⟩
abbrev main_v459 : Ref sig .tc := ⟨.hbm, 483, rfl⟩
abbrev main_v460 : Ref sig .tc := ⟨.hbm, 484, rfl⟩
abbrev main_v461 : Ref sig .tc := ⟨.hbm, 485, rfl⟩
abbrev main_v462 : Ref sig .tc := ⟨.hbm, 486, rfl⟩
abbrev main_v463 : Ref sig .tc := ⟨.hbm, 487, rfl⟩
abbrev main_v464 : Ref sig .tc := ⟨.hbm, 488, rfl⟩
abbrev main_v465 : Ref sig .tc := ⟨.hbm, 489, rfl⟩
abbrev main_v466 : Ref sig .tc := ⟨.hbm, 490, rfl⟩
abbrev main_v467 : Ref sig .tc := ⟨.hbm, 491, rfl⟩
abbrev main_v468 : Ref sig .tc := ⟨.hbm, 492, rfl⟩
abbrev main_v469 : Ref sig .tc := ⟨.hbm, 493, rfl⟩
abbrev main_v470 : Ref sig .tc := ⟨.hbm, 494, rfl⟩
abbrev main_v471 : Ref sig .tc := ⟨.hbm, 495, rfl⟩
abbrev main_v472 : Ref sig .tc := ⟨.hbm, 496, rfl⟩
abbrev main_v473 : Ref sig .tc := ⟨.hbm, 497, rfl⟩
abbrev main_v474 : Ref sig .tc := ⟨.hbm, 498, rfl⟩
abbrev main_cst_3 : Ref sig .tc := ⟨.hbm, 499, rfl⟩
abbrev main_v475 : Ref sig .tc := ⟨.hbm, 500, rfl⟩
abbrev main_v476 : Ref sig .tc := ⟨.hbm, 501, rfl⟩
abbrev main_v477 : Ref sig .tc := ⟨.hbm, 502, rfl⟩
abbrev main_v478 : Ref sig .tc := ⟨.hbm, 503, rfl⟩
abbrev main_v479 : Ref sig .tc := ⟨.hbm, 504, rfl⟩
abbrev main_v480 : Ref sig .tc := ⟨.hbm, 505, rfl⟩
abbrev main_v481 : Ref sig .tc := ⟨.hbm, 506, rfl⟩
abbrev main_v482 : Ref sig .tc := ⟨.hbm, 507, rfl⟩
abbrev main_v483 : Ref sig .tc := ⟨.hbm, 508, rfl⟩
abbrev main_v484 : Ref sig .tc := ⟨.hbm, 509, rfl⟩
abbrev main_v485 : Ref sig .tc := ⟨.hbm, 510, rfl⟩
abbrev main_v486 : Ref sig .tc := ⟨.hbm, 511, rfl⟩
abbrev main_v487 : Ref sig .tc := ⟨.hbm, 512, rfl⟩
abbrev main_v488 : Ref sig .tc := ⟨.hbm, 513, rfl⟩
abbrev main_v489 : Ref sig .tc := ⟨.hbm, 514, rfl⟩
abbrev main_v490 : Ref sig .tc := ⟨.hbm, 515, rfl⟩
abbrev main_v491 : Ref sig .tc := ⟨.hbm, 516, rfl⟩
abbrev main_v492 : Ref sig .tc := ⟨.hbm, 517, rfl⟩
abbrev main_v493 : Ref sig .tc := ⟨.hbm, 518, rfl⟩
abbrev main_v494 : Ref sig .tc := ⟨.hbm, 519, rfl⟩
abbrev main_v495 : Ref sig .tc := ⟨.hbm, 520, rfl⟩
abbrev main_v496 : Ref sig .tc := ⟨.hbm, 521, rfl⟩
abbrev main_v497 : Ref sig .tc := ⟨.hbm, 522, rfl⟩
abbrev main_v498 : Ref sig .tc := ⟨.hbm, 523, rfl⟩
abbrev main_v499 : Ref sig .tc := ⟨.hbm, 524, rfl⟩
abbrev main_v500 : Ref sig .tc := ⟨.hbm, 525, rfl⟩
abbrev main_v501 : Ref sig .tc := ⟨.hbm, 526, rfl⟩
abbrev main_v502 : Ref sig .tc := ⟨.hbm, 527, rfl⟩
abbrev main_v503 : Ref sig .tc := ⟨.hbm, 528, rfl⟩
abbrev main_v504 : Ref sig .tc := ⟨.hbm, 529, rfl⟩
abbrev main_v505 : Ref sig .tc := ⟨.hbm, 530, rfl⟩
abbrev main_v506 : Ref sig .tc := ⟨.hbm, 531, rfl⟩
abbrev main_v507 : Ref sig .tc := ⟨.hbm, 532, rfl⟩
abbrev main_v508 : Ref sig .tc := ⟨.hbm, 533, rfl⟩
abbrev main_v509 : Ref sig .tc := ⟨.hbm, 534, rfl⟩
abbrev main_v510 : Ref sig .tc := ⟨.hbm, 535, rfl⟩
abbrev main_v511 : Ref sig .tc := ⟨.hbm, 536, rfl⟩
abbrev main_v512 : Ref sig .tc := ⟨.hbm, 537, rfl⟩
abbrev main_v513 : Ref sig .tc := ⟨.hbm, 538, rfl⟩
abbrev main_v514 : Ref sig .tc := ⟨.hbm, 539, rfl⟩
abbrev main_v515 : Ref sig .tc := ⟨.hbm, 540, rfl⟩
abbrev main_v516 : Ref sig .tc := ⟨.hbm, 541, rfl⟩
abbrev main_v517 : Ref sig .tc := ⟨.hbm, 542, rfl⟩
abbrev main_v518 : Ref sig .tc := ⟨.hbm, 543, rfl⟩
abbrev main_v519 : Ref sig .tc := ⟨.hbm, 544, rfl⟩
abbrev main_v520 : Ref sig .tc := ⟨.hbm, 545, rfl⟩
abbrev main_v521 : Ref sig .tc := ⟨.hbm, 546, rfl⟩
abbrev main_v522 : Ref sig .tc := ⟨.hbm, 547, rfl⟩
abbrev main_v523 : Ref sig .tc := ⟨.hbm, 548, rfl⟩
abbrev main_v524 : Ref sig .tc := ⟨.hbm, 549, rfl⟩
abbrev main_v525 : Ref sig .tc := ⟨.hbm, 550, rfl⟩
abbrev main_v526 : Ref sig .tc := ⟨.hbm, 551, rfl⟩
abbrev main_v527 : Ref sig .tc := ⟨.hbm, 552, rfl⟩
abbrev main_v528 : Ref sig .tc := ⟨.hbm, 553, rfl⟩
abbrev main_v529 : Ref sig .tc := ⟨.hbm, 554, rfl⟩
abbrev main_v530 : Ref sig .tc := ⟨.hbm, 555, rfl⟩
abbrev main_v531 : Ref sig .tc := ⟨.hbm, 556, rfl⟩
abbrev main_v532 : Ref sig .tc := ⟨.hbm, 557, rfl⟩
abbrev main_v533 : Ref sig .tc := ⟨.hbm, 558, rfl⟩
abbrev main_v534 : Ref sig .tc := ⟨.hbm, 559, rfl⟩
abbrev main_v535 : Ref sig .tc := ⟨.hbm, 560, rfl⟩
abbrev main_v536 : Ref sig .tc := ⟨.hbm, 561, rfl⟩
abbrev main_v537 : Ref sig .tc := ⟨.hbm, 562, rfl⟩
abbrev main_v538 : Ref sig .tc := ⟨.hbm, 563, rfl⟩
abbrev main_v539 : Ref sig .tc := ⟨.hbm, 564, rfl⟩
abbrev main_v540 : Ref sig .tc := ⟨.hbm, 565, rfl⟩
abbrev main_v541 : Ref sig .tc := ⟨.hbm, 566, rfl⟩
abbrev main_v542 : Ref sig .tc := ⟨.hbm, 567, rfl⟩
abbrev main_v543 : Ref sig .tc := ⟨.hbm, 568, rfl⟩
abbrev main_v544 : Ref sig .tc := ⟨.hbm, 569, rfl⟩
abbrev main_v545 : Ref sig .tc := ⟨.hbm, 570, rfl⟩
abbrev main_v546 : Ref sig .tc := ⟨.hbm, 571, rfl⟩
abbrev main_v547 : Ref sig .tc := ⟨.hbm, 572, rfl⟩
abbrev main_v548 : Ref sig .tc := ⟨.hbm, 573, rfl⟩
abbrev main_v549 : Ref sig .tc := ⟨.hbm, 574, rfl⟩
abbrev main_v550 : Ref sig .tc := ⟨.hbm, 575, rfl⟩
abbrev main_v551 : Ref sig .tc := ⟨.hbm, 576, rfl⟩
abbrev main_v552 : Ref sig .tc := ⟨.hbm, 577, rfl⟩
abbrev main_v553 : Ref sig .tc := ⟨.hbm, 578, rfl⟩
abbrev main_v554 : Ref sig .tc := ⟨.hbm, 579, rfl⟩
abbrev main_v555 : Ref sig .tc := ⟨.hbm, 580, rfl⟩
abbrev main_v556 : Ref sig .tc := ⟨.hbm, 581, rfl⟩
abbrev main_v557 : Ref sig .tc := ⟨.hbm, 582, rfl⟩
abbrev main_v558 : Ref sig .tc := ⟨.hbm, 583, rfl⟩
abbrev main_v559 : Ref sig .tc := ⟨.hbm, 584, rfl⟩
abbrev main_v560 : Ref sig .tc := ⟨.hbm, 585, rfl⟩
abbrev main_v561 : Ref sig .tc := ⟨.hbm, 586, rfl⟩
abbrev main_v562 : Ref sig .tc := ⟨.hbm, 587, rfl⟩
abbrev main_v563 : Ref sig .tc := ⟨.hbm, 588, rfl⟩
abbrev main_v564 : Ref sig .tc := ⟨.hbm, 589, rfl⟩
abbrev main_v565 : Ref sig .tc := ⟨.hbm, 590, rfl⟩
abbrev main_v566 : Ref sig .tc := ⟨.hbm, 591, rfl⟩
abbrev main_v567 : Ref sig .tc := ⟨.hbm, 592, rfl⟩
abbrev main_v568 : Ref sig .tc := ⟨.hbm, 593, rfl⟩
abbrev main_v569 : Ref sig .tc := ⟨.hbm, 594, rfl⟩
abbrev main_v570 : Ref sig .tc := ⟨.hbm, 595, rfl⟩
abbrev main_v571 : Ref sig .tc := ⟨.hbm, 596, rfl⟩
abbrev main_v572 : Ref sig .tc := ⟨.hbm, 597, rfl⟩
abbrev main_v573 : Ref sig .tc := ⟨.hbm, 598, rfl⟩
abbrev main_v574 : Ref sig .tc := ⟨.hbm, 599, rfl⟩
abbrev main_v575 : Ref sig .tc := ⟨.hbm, 600, rfl⟩
abbrev main_v576 : Ref sig .tc := ⟨.hbm, 601, rfl⟩
abbrev main_v577 : Ref sig .tc := ⟨.hbm, 602, rfl⟩
abbrev main_v578 : Ref sig .tc := ⟨.hbm, 603, rfl⟩
abbrev main_v579 : Ref sig .tc := ⟨.hbm, 604, rfl⟩
abbrev main_v580 : Ref sig .tc := ⟨.hbm, 605, rfl⟩
abbrev main_v581 : Ref sig .tc := ⟨.hbm, 606, rfl⟩
abbrev main_v582 : Ref sig .tc := ⟨.hbm, 607, rfl⟩
abbrev main_v583 : Ref sig .tc := ⟨.hbm, 608, rfl⟩
abbrev main_v584 : Ref sig .tc := ⟨.hbm, 609, rfl⟩
abbrev main_v585 : Ref sig .tc := ⟨.hbm, 610, rfl⟩
abbrev main_v586 : Ref sig .tc := ⟨.hbm, 611, rfl⟩
abbrev main_v587 : Ref sig .tc := ⟨.hbm, 612, rfl⟩
abbrev main_v588 : Ref sig .tc := ⟨.hbm, 613, rfl⟩
abbrev main_v589 : Ref sig .tc := ⟨.hbm, 614, rfl⟩
abbrev main_v590 : Ref sig .tc := ⟨.hbm, 615, rfl⟩
abbrev main_v591 : Ref sig .tc := ⟨.hbm, 616, rfl⟩
abbrev main_v592 : Ref sig .tc := ⟨.hbm, 617, rfl⟩
abbrev main_v593 : Ref sig .tc := ⟨.hbm, 618, rfl⟩
abbrev main_v594 : Ref sig .tc := ⟨.hbm, 619, rfl⟩
abbrev main_v595 : Ref sig .tc := ⟨.hbm, 620, rfl⟩
abbrev main_v596 : Ref sig .tc := ⟨.hbm, 621, rfl⟩
abbrev main_v597 : Ref sig .tc := ⟨.hbm, 622, rfl⟩
abbrev main_v598 : Ref sig .tc := ⟨.hbm, 623, rfl⟩
abbrev main_v599 : Ref sig .tc := ⟨.hbm, 624, rfl⟩
abbrev main_v600 : Ref sig .tc := ⟨.hbm, 625, rfl⟩
abbrev main_v601 : Ref sig .tc := ⟨.hbm, 626, rfl⟩
abbrev main_v602 : Ref sig .tc := ⟨.hbm, 627, rfl⟩
abbrev main_v603 : Ref sig .tc := ⟨.hbm, 628, rfl⟩
abbrev main_v604 : Ref sig .tc := ⟨.hbm, 629, rfl⟩
abbrev main_v605 : Ref sig .tc := ⟨.hbm, 630, rfl⟩
abbrev main_v606 : Ref sig .tc := ⟨.hbm, 631, rfl⟩
abbrev main_v607 : Ref sig .tc := ⟨.hbm, 632, rfl⟩
abbrev main_v608 : Ref sig .tc := ⟨.hbm, 633, rfl⟩
abbrev main_v609 : Ref sig .tc := ⟨.hbm, 634, rfl⟩
abbrev main_v610 : Ref sig .tc := ⟨.hbm, 635, rfl⟩
abbrev main_v611 : Ref sig .tc := ⟨.hbm, 636, rfl⟩
abbrev main_v612 : Ref sig .tc := ⟨.hbm, 637, rfl⟩
abbrev main_v613 : Ref sig .tc := ⟨.hbm, 638, rfl⟩
abbrev main_v614 : Ref sig .tc := ⟨.hbm, 639, rfl⟩
abbrev main_v615 : Ref sig .tc := ⟨.hbm, 640, rfl⟩
abbrev main_v616 : Ref sig .tc := ⟨.hbm, 641, rfl⟩
abbrev main_v617 : Ref sig .tc := ⟨.hbm, 642, rfl⟩
abbrev main_v618 : Ref sig .tc := ⟨.hbm, 643, rfl⟩
abbrev main_v619 : Ref sig .tc := ⟨.hbm, 644, rfl⟩
abbrev main_v620 : Ref sig .tc := ⟨.hbm, 645, rfl⟩
abbrev main_v621 : Ref sig .tc := ⟨.hbm, 646, rfl⟩
abbrev main_v622 : Ref sig .tc := ⟨.hbm, 647, rfl⟩
abbrev main_v623 : Ref sig .tc := ⟨.hbm, 648, rfl⟩
abbrev main_v624 : Ref sig .tc := ⟨.hbm, 649, rfl⟩
abbrev main_v625 : Ref sig .tc := ⟨.hbm, 650, rfl⟩
abbrev main_v626 : Ref sig .tc := ⟨.hbm, 651, rfl⟩
abbrev main_v627 : Ref sig .tc := ⟨.hbm, 652, rfl⟩
abbrev main_v628 : Ref sig .tc := ⟨.hbm, 653, rfl⟩
abbrev main_v629 : Ref sig .tc := ⟨.hbm, 654, rfl⟩
abbrev main_v630 : Ref sig .tc := ⟨.hbm, 655, rfl⟩
abbrev main_v631 : Ref sig .tc := ⟨.hbm, 656, rfl⟩
abbrev main_v632 : Ref sig .tc := ⟨.hbm, 657, rfl⟩
abbrev main_v633 : Ref sig .tc := ⟨.hbm, 658, rfl⟩
abbrev main_v634 : Ref sig .tc := ⟨.hbm, 659, rfl⟩
abbrev main_v635 : Ref sig .tc := ⟨.hbm, 660, rfl⟩
abbrev main_v636 : Ref sig .tc := ⟨.hbm, 661, rfl⟩
abbrev main_v637 : Ref sig .tc := ⟨.hbm, 662, rfl⟩
abbrev main_v638 : Ref sig .tc := ⟨.hbm, 663, rfl⟩
abbrev main_v639 : Ref sig .tc := ⟨.hbm, 664, rfl⟩
abbrev main_v640 : Ref sig .tc := ⟨.hbm, 665, rfl⟩
abbrev main_v641 : Ref sig .tc := ⟨.hbm, 666, rfl⟩
abbrev main_v642 : Ref sig .tc := ⟨.hbm, 667, rfl⟩
abbrev main_v643 : Ref sig .tc := ⟨.hbm, 668, rfl⟩
abbrev main_v644 : Ref sig .tc := ⟨.hbm, 669, rfl⟩
abbrev main_v645 : Ref sig .tc := ⟨.hbm, 670, rfl⟩
abbrev main_v646 : Ref sig .tc := ⟨.hbm, 671, rfl⟩
abbrev main_v647 : Ref sig .tc := ⟨.hbm, 672, rfl⟩
abbrev main_v648 : Ref sig .tc := ⟨.hbm, 673, rfl⟩
abbrev main_v649 : Ref sig .tc := ⟨.hbm, 674, rfl⟩
abbrev main_v650 : Ref sig .tc := ⟨.hbm, 675, rfl⟩
abbrev main_v651 : Ref sig .tc := ⟨.hbm, 676, rfl⟩
abbrev main_v652 : Ref sig .tc := ⟨.hbm, 677, rfl⟩
abbrev main_v653 : Ref sig .tc := ⟨.hbm, 678, rfl⟩
abbrev main_v654 : Ref sig .tc := ⟨.hbm, 679, rfl⟩
abbrev main_v655 : Ref sig .tc := ⟨.hbm, 680, rfl⟩
abbrev main_v656 : Ref sig .tc := ⟨.hbm, 681, rfl⟩
abbrev main_v657 : Ref sig .tc := ⟨.hbm, 682, rfl⟩
abbrev main_v658 : Ref sig .tc := ⟨.hbm, 683, rfl⟩
abbrev main_v659 : Ref sig .tc := ⟨.hbm, 684, rfl⟩
abbrev main_v660 : Ref sig .tc := ⟨.hbm, 685, rfl⟩
abbrev main_v661 : Ref sig .tc := ⟨.hbm, 686, rfl⟩
abbrev main_v662 : Ref sig .tc := ⟨.hbm, 687, rfl⟩
abbrev main_v663 : Ref sig .tc := ⟨.hbm, 688, rfl⟩
abbrev main_v664 : Ref sig .tc := ⟨.hbm, 689, rfl⟩
abbrev main_v665 : Ref sig .tc := ⟨.hbm, 690, rfl⟩
abbrev main_v666 : Ref sig .tc := ⟨.hbm, 691, rfl⟩
abbrev main_v667 : Ref sig .tc := ⟨.hbm, 692, rfl⟩
abbrev main_v668 : Ref sig .tc := ⟨.hbm, 693, rfl⟩
abbrev main_v669 : Ref sig .tc := ⟨.hbm, 694, rfl⟩
abbrev main_v670 : Ref sig .tc := ⟨.hbm, 695, rfl⟩
abbrev main_v671 : Ref sig .tc := ⟨.hbm, 696, rfl⟩
abbrev main_v672 : Ref sig .tc := ⟨.hbm, 697, rfl⟩
abbrev main_v673 : Ref sig .tc := ⟨.hbm, 698, rfl⟩
abbrev main_v674 : Ref sig .tc := ⟨.hbm, 699, rfl⟩
abbrev main_v675 : Ref sig .tc := ⟨.hbm, 700, rfl⟩
abbrev main_v676 : Ref sig .tc := ⟨.hbm, 701, rfl⟩
abbrev main_v677 : Ref sig .tc := ⟨.hbm, 702, rfl⟩
abbrev main_v678 : Ref sig .tc := ⟨.hbm, 703, rfl⟩
abbrev main_v679 : Ref sig .tc := ⟨.hbm, 704, rfl⟩
abbrev main_v680 : Ref sig .tc := ⟨.hbm, 705, rfl⟩
abbrev main_v681 : Ref sig .tc := ⟨.hbm, 706, rfl⟩
abbrev main_v682 : Ref sig .tc := ⟨.hbm, 707, rfl⟩
abbrev main_v683 : Ref sig .tc := ⟨.hbm, 708, rfl⟩
abbrev main_v684 : Ref sig .tc := ⟨.hbm, 709, rfl⟩
abbrev main_v685 : Ref sig .tc := ⟨.hbm, 710, rfl⟩
abbrev main_v686 : Ref sig .tc := ⟨.hbm, 711, rfl⟩
abbrev main_v687 : Ref sig .tc := ⟨.hbm, 712, rfl⟩
abbrev main_v688 : Ref sig .tc := ⟨.hbm, 713, rfl⟩
abbrev main_v689 : Ref sig .tc := ⟨.hbm, 714, rfl⟩
abbrev main_v690 : Ref sig .tc := ⟨.hbm, 715, rfl⟩
abbrev main_v691 : Ref sig .tc := ⟨.hbm, 716, rfl⟩
abbrev main_v692 : Ref sig .tc := ⟨.hbm, 717, rfl⟩
abbrev main_v693 : Ref sig .tc := ⟨.hbm, 718, rfl⟩
abbrev main_v694 : Ref sig .tc := ⟨.hbm, 719, rfl⟩
abbrev main_v695 : Ref sig .tc := ⟨.hbm, 720, rfl⟩
abbrev main_v696 : Ref sig .tc := ⟨.hbm, 721, rfl⟩
abbrev main_v697 : Ref sig .tc := ⟨.hbm, 722, rfl⟩
abbrev main_v698 : Ref sig .tc := ⟨.hbm, 723, rfl⟩
abbrev main_v699 : Ref sig .tc := ⟨.hbm, 724, rfl⟩
abbrev main_v700 : Ref sig .tc := ⟨.hbm, 725, rfl⟩
abbrev main_v701 : Ref sig .tc := ⟨.hbm, 726, rfl⟩
abbrev main_v702 : Ref sig .tc := ⟨.hbm, 727, rfl⟩
abbrev main_v703 : Ref sig .tc := ⟨.hbm, 728, rfl⟩
abbrev main_v704 : Ref sig .tc := ⟨.hbm, 729, rfl⟩
abbrev main_v705 : Ref sig .tc := ⟨.hbm, 730, rfl⟩
abbrev main_v706 : Ref sig .tc := ⟨.hbm, 731, rfl⟩
abbrev main_v707 : Ref sig .tc := ⟨.hbm, 732, rfl⟩
abbrev main_v708 : Ref sig .tc := ⟨.hbm, 733, rfl⟩
abbrev main_v709 : Ref sig .tc := ⟨.hbm, 734, rfl⟩
abbrev main_v710 : Ref sig .tc := ⟨.hbm, 735, rfl⟩
abbrev main_v711 : Ref sig .tc := ⟨.hbm, 736, rfl⟩
abbrev main_v712 : Ref sig .tc := ⟨.hbm, 737, rfl⟩
abbrev main_v713 : Ref sig .tc := ⟨.hbm, 738, rfl⟩
abbrev main_v714 : Ref sig .tc := ⟨.hbm, 739, rfl⟩
abbrev main_v715 : Ref sig .tc := ⟨.hbm, 740, rfl⟩
abbrev main_v716 : Ref sig .tc := ⟨.hbm, 741, rfl⟩
abbrev main_v717 : Ref sig .tc := ⟨.hbm, 742, rfl⟩
abbrev main_v718 : Ref sig .tc := ⟨.hbm, 743, rfl⟩
abbrev main_v719 : Ref sig .tc := ⟨.hbm, 744, rfl⟩
abbrev main_v720 : Ref sig .tc := ⟨.hbm, 745, rfl⟩
abbrev main_v721 : Ref sig .tc := ⟨.hbm, 746, rfl⟩
abbrev main_v722 : Ref sig .tc := ⟨.hbm, 747, rfl⟩
abbrev main_v723 : Ref sig .tc := ⟨.hbm, 748, rfl⟩
abbrev main_v724 : Ref sig .tc := ⟨.hbm, 749, rfl⟩
abbrev main_v725 : Ref sig .tc := ⟨.hbm, 750, rfl⟩
abbrev main_v726 : Ref sig .tc := ⟨.hbm, 751, rfl⟩
abbrev main_v727 : Ref sig .tc := ⟨.hbm, 752, rfl⟩
abbrev main_v728 : Ref sig .tc := ⟨.hbm, 753, rfl⟩
abbrev main_v729 : Ref sig .tc := ⟨.hbm, 754, rfl⟩
abbrev main_v730 : Ref sig .tc := ⟨.hbm, 755, rfl⟩
abbrev main_v731 : Ref sig .tc := ⟨.hbm, 756, rfl⟩
abbrev main_v732 : Ref sig .tc := ⟨.hbm, 757, rfl⟩
abbrev main_v733 : Ref sig .tc := ⟨.hbm, 758, rfl⟩
abbrev main_v734 : Ref sig .tc := ⟨.hbm, 759, rfl⟩
abbrev main_v735 : Ref sig .tc := ⟨.hbm, 760, rfl⟩
abbrev main_cst_4 : Ref sig .tc := ⟨.hbm, 761, rfl⟩
abbrev main_call3_v0 : Ref sig .tc := ⟨.hbm, 762, rfl⟩
abbrev main_call3_v1 : Ref sig .tc := ⟨.hbm, 763, rfl⟩
abbrev main_call3_v2 : Ref sig .tc := ⟨.hbm, 764, rfl⟩
abbrev main_v736 : Ref sig .tc := ⟨.hbm, 765, rfl⟩
abbrev main_v737 : Ref sig .tc := ⟨.hbm, 766, rfl⟩
abbrev main_v738 : Ref sig .tc := ⟨.hbm, 767, rfl⟩
abbrev main_v739 : Ref sig .tc := ⟨.hbm, 768, rfl⟩
abbrev main_v740 : Ref sig .tc := ⟨.hbm, 769, rfl⟩
abbrev main_v741 : Ref sig .tc := ⟨.hbm, 770, rfl⟩
abbrev main_v742 : Ref sig .tc := ⟨.hbm, 771, rfl⟩
abbrev main_v743 : Ref sig .tc := ⟨.hbm, 772, rfl⟩
abbrev main_v744 : Ref sig .tc := ⟨.hbm, 773, rfl⟩
abbrev main_v745 : Ref sig .tc := ⟨.hbm, 774, rfl⟩
abbrev main_v746 : Ref sig .tc := ⟨.hbm, 775, rfl⟩
abbrev main_v747 : Ref sig .tc := ⟨.hbm, 776, rfl⟩
abbrev main_v748 : Ref sig .tc := ⟨.hbm, 777, rfl⟩
abbrev main_v749 : Ref sig .tc := ⟨.hbm, 778, rfl⟩
abbrev main_v750 : Ref sig .tc := ⟨.hbm, 779, rfl⟩
abbrev main_v751 : Ref sig .tc := ⟨.hbm, 780, rfl⟩
abbrev main_v752 : Ref sig .tc := ⟨.hbm, 781, rfl⟩
abbrev main_v753 : Ref sig .tc := ⟨.hbm, 782, rfl⟩
abbrev main_v754 : Ref sig .tc := ⟨.hbm, 783, rfl⟩
abbrev main_v755 : Ref sig .tc := ⟨.hbm, 784, rfl⟩
abbrev main_v756 : Ref sig .tc := ⟨.hbm, 785, rfl⟩
abbrev main_v757 : Ref sig .tc := ⟨.hbm, 786, rfl⟩
abbrev main_v758 : Ref sig .tc := ⟨.hbm, 787, rfl⟩
abbrev main_v759 : Ref sig .tc := ⟨.hbm, 788, rfl⟩
abbrev main_v760 : Ref sig .tc := ⟨.hbm, 789, rfl⟩
abbrev main_v761 : Ref sig .tc := ⟨.hbm, 790, rfl⟩
abbrev main_v762 : Ref sig .tc := ⟨.hbm, 791, rfl⟩
abbrev main_v763 : Ref sig .tc := ⟨.hbm, 792, rfl⟩
abbrev main_v764 : Ref sig .tc := ⟨.hbm, 793, rfl⟩
abbrev main_v765 : Ref sig .tc := ⟨.hbm, 794, rfl⟩
abbrev main_v766 : Ref sig .tc := ⟨.hbm, 795, rfl⟩
abbrev main_v767 : Ref sig .tc := ⟨.hbm, 796, rfl⟩
abbrev main_v768 : Ref sig .tc := ⟨.hbm, 797, rfl⟩
abbrev main_v769 : Ref sig .tc := ⟨.hbm, 798, rfl⟩
abbrev main_v770 : Ref sig .tc := ⟨.hbm, 799, rfl⟩
abbrev main_v771 : Ref sig .tc := ⟨.hbm, 800, rfl⟩
abbrev main_v772 : Ref sig .tc := ⟨.hbm, 801, rfl⟩
abbrev main_v773 : Ref sig .tc := ⟨.hbm, 802, rfl⟩
abbrev main_cst_5 : Ref sig .tc := ⟨.hbm, 803, rfl⟩
abbrev main_v774 : Ref sig .tc := ⟨.hbm, 804, rfl⟩
abbrev main_v775 : Ref sig .tc := ⟨.hbm, 805, rfl⟩
abbrev main_cst_6 : Ref sig .tc := ⟨.hbm, 806, rfl⟩
abbrev main_v776 : Ref sig .tc := ⟨.hbm, 807, rfl⟩
abbrev main_v777 : Ref sig .tc := ⟨.hbm, 808, rfl⟩
abbrev main_v778 : Ref sig .tc := ⟨.hbm, 809, rfl⟩
abbrev main_v779 : Ref sig .tc := ⟨.hbm, 810, rfl⟩
abbrev main_v780 : Ref sig .tc := ⟨.hbm, 811, rfl⟩
abbrev main_cst_7 : Ref sig .tc := ⟨.hbm, 812, rfl⟩
abbrev main_v781 : Ref sig .tc := ⟨.hbm, 813, rfl⟩
abbrev main_v782 : Ref sig .tc := ⟨.hbm, 814, rfl⟩
abbrev main_v783 : Ref sig .tc := ⟨.hbm, 815, rfl⟩
abbrev main_v784 : Ref sig .tc := ⟨.hbm, 816, rfl⟩
abbrev main_v785 : Ref sig .tc := ⟨.hbm, 817, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x896x16x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x16x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x16x256 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x896x16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.FrameKernel.Loop.lean ====
/- The backward loop of `Kernel`'s kernel by its invariant: one trip at a symbolic counter, the pieces the trips before it have written, and
   the step from one to the next. In form it is what proof generation writes for a loop that writes fewer buffers (here six). -/
module

public import proofs.«01_k».proof.Proof.Gen.Kernel.Loops
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the generated instances: the frame kit's (Gen/<Name>/Frame.lean). -/
local notation "𝕄G" => MT nD τ sig Unit (Elt F) ℕ (UR sig nD τ) ℕ
/-! ### `k0_t2_loop`: its invariant -/

/-- One trip's resources: what the region reads (arg2, arg3, arg4, arg5, arg6, arg7, arg8, arg9,
   arg10, arg11, arg17, arg18, arg19) at its contents, what it writes (arg12, arg13, arg14, arg15,
   arg16, arg20) at any. -/
abbrev Trip_k0_t2 (c : Dev nD) (arg2 : Memref sig .tc .smem S448 .f32) (arg3 : Memref sig .tc .smem S448 .f32) (arg4 : Memref sig .tc .smem S448 .f32) (arg5 : Memref sig .tc .vmem S1x4x896x128 .fp8e4m3) (arg6 : Memref sig .tc .vmem S1x4x896x128 .fp8e4m3) (arg7 : Memref sig .tc .vmem S1x4x896x256 .bf16) (arg8 : Memref sig .tc .vmem S1x4x896x256 .fp8e5m2) (arg9 : Memref sig .tc .vmem S1x1x896x4 .f32) (arg10 : Memref sig .tc .vmem S1x1x14x2x128 .f32) (arg11 : Memref sig .tc .vmem S1x1x896x4 .f32) (arg17 : Memref sig .tc .vmem S14x4x3x128x256 .bf16) (arg18 : Memref sig .tc .vmem S14x4x3x64x256 .bf16) (arg19 : Memref sig .tc .vmem S14x4x64x64 .f32) (arg12 : Memref sig .tc .vmem S1x4x896x128 .bf16) (arg13 : Memref sig .tc .vmem S1x4x896x128 .bf16) (arg14 : Memref sig .tc .vmem S1x4x896x256 .bf16) (arg15 : Memref sig .tc .vmem S1x1x896x4 .f32) (arg16 : Memref sig .tc .vmem S1x1x896x4 .f32) (arg20 : Memref sig .tc .vmem S4x128x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg20.view.loc (c : Thread nD τ) ↦[arg20.view.set]{fullShare} f_arg20))

/-- ONE TRIP of `k0_t2_loop` at a symbolic `k`, run by `sl_exec` (its rectangles' offsets closed
   forms of `k`, their geometry linear arithmetic): the pieces it writes into arg12, arg13, arg14,
   arg15, arg16, arg20 are the run's own finds — the witnesses `sl_close` assigns handing the
   buffers to the continuation, as functions of the contents the trip finds in the memrefs it writes
   (the region loads some of them back). `@[irreducible]`: cited, never unfolded. -/
@[irreducible] def trip_k0_t2 (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (k : Fin k0_t2_loop.trips) :
    Σ' (L_arg12 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S1x4x896x128 .bf16))) (L_arg13 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S1x4x896x128 .bf16))) (L_arg14 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S1x4x896x256 .bf16))) (L_arg15 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S1x1x896x4 .f32))) (L_arg16 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S1x1x896x4 .f32))) , { L_arg20 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S4x128x256 .f32)) // ∀ (E : Set ℕ) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Trip_k0_t2 (F := F) c arg2 arg3 arg4 arg5 arg6 arg7 arg8 arg9 arg10 arg11 arg17 arg18 arg19 arg12 arg13 arg14 arg15 arg16 arg20 X_arg2 X_arg3 X_arg4 X_arg5 X_arg6 X_arg7 X_arg8 X_arg9 X_arg10 X_arg11 X_arg17 X_arg18 X_arg19 f_arg12 f_arg13 f_arg14 f_arg15 f_arg16 f_arg20
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 k PUnit.unit)
          (fun _ => Trip_k0_t2 (F := F) c arg2 arg3 arg4 arg5 arg6 arg7 arg8 arg9 arg10 arg11 arg17 arg18 arg19 arg12 arg13 arg14 arg15 arg16 arg20 X_arg2 X_arg3 X_arg4 X_arg5 X_arg6 X_arg7 X_arg8 X_arg9 X_arg10 X_arg11 X_arg17 X_arg18 X_arg19 (arg12.view.writes (Elt F) f_arg12 (L_arg12 f_arg12 f_arg13 f_arg14 f_arg15 f_arg16 f_arg20)) (arg13.view.writes (Elt F) f_arg13 (L_arg13 f_arg12 f_arg13 f_arg14 f_arg15 f_arg16 f_arg20)) (arg14.view.writes (Elt F) f_arg14 (L_arg14 f_arg12 f_arg13 f_arg14 f_arg15 f_arg16 f_arg20)) (arg15.view.writes (Elt F) f_arg15 (L_arg15 f_arg12 f_arg13 f_arg14 f_arg15 f_arg16 f_arg20)) (arg16.view.writes (Elt F) f_arg16 (L_arg16 f_arg12 f_arg13 f_arg14 f_arg15 f_arg16 f_arg20)) (arg20.view.writes (Elt F) f_arg20 (L_arg20 f_arg12 f_arg13 f_arg14 f_arg15 f_arg16 f_arg20))) } := by
  have hk : k.val < 14 := Nat.lt_of_lt_of_le k.isLt k0_t2_abs.2.1
  refine ⟨?_, ?_, ?_, ?_, ?_, ?_, fun E f_arg12 f_arg13 f_arg14 f_arg15 f_arg16 f_arg20 => ?run⟩
  case run =>
    unfold k0_t2_body
    iintro ⟨HR_arg2, HR_arg3, HR_arg4, HR_arg5, HR_arg6, HR_arg7, HR_arg8, HR_arg9, HR_arg10, HR_arg11, HR_arg17, HR_arg18, HR_arg19, HW_arg12, HW_arg13, HW_arg14, HW_arg15, HW_arg16, HW_arg20⟩
    sl_exec
    sl_step
    sl_close

/-- The trip's piece lists (plain projections of `trip_…`, for the recursion below to cite without
   its proof), at the contents the trip finds in the written memrefs. -/
abbrev tripL_k0_t2 (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (k : Fin k0_t2_loop.trips) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty) : List (View.Piece (Elt F) S1x4x896x128 .bf16) × List (View.Piece (Elt F) S1x4x896x128 .bf16) × List (View.Piece (Elt F) S1x4x896x256 .bf16) × List (View.Piece (Elt F) S1x1x896x4 .f32) × List (View.Piece (Elt F) S1x1x896x4 .f32) × List (View.Piece (Elt F) S4x128x256 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).1 f_arg12 f_arg13 f_arg14 f_arg15 f_arg16 f_arg20, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.1 f_arg12 f_arg13 f_arg14 f_arg15 f_arg16 f_arg20, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.2.1 f_arg12 f_arg13 f_arg14 f_arg15 f_arg16 f_arg20, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.2.2.1 f_arg12 f_arg13 f_arg14 f_arg15 f_arg16 f_arg20, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.2.2.2.1 f_arg12 f_arg13 f_arg14 f_arg15 f_arg16 f_arg20, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.2.2.2.2.1 f_arg12 f_arg13 f_arg14 f_arg15 f_arg16 f_arg20)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) (k : ℕ) (prev : List (View.Piece (Elt F) S1x4x896x128 .bf16) × List (View.Piece (Elt F) S1x4x896x128 .bf16) × List (View.Piece (Elt F) S1x4x896x256 .bf16) × List (View.Piece (Elt F) S1x1x896x4 .f32) × List (View.Piece (Elt F) S1x1x896x4 .f32) × List (View.Piece (Elt F) S4x128x256 .f32)) : List (View.Piece (Elt F) S1x4x896x128 .bf16) × List (View.Piece (Elt F) S1x4x896x128 .bf16) × List (View.Piece (Elt F) S1x4x896x256 .bf16) × List (View.Piece (Elt F) S1x1x896x4 .f32) × List (View.Piece (Elt F) S1x1x896x4 .f32) × List (View.Piece (Elt F) S4x128x256 .f32) :=
  if h : k < k0_t2_loop.trips then
    ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).1 ++ prev.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).2.1 ++ prev.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).2.2.1 ++ prev.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).2.2.2.1 ++ prev.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).2.2.2.2.1 ++ prev.2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).2.2.2.2.2 ++ prev.2.2.2.2.2)
  else prev

/-- The pieces of the trips before `k` (last first), per written memref, starting from the contents
   `G_·` at loop entry; each trip's pieces taken at the contents the earlier trips left. -/
def pb_k0_t2 (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) : ℕ → List (View.Piece (Elt F) S1x4x896x128 .bf16) × List (View.Piece (Elt F) S1x4x896x128 .bf16) × List (View.Piece (Elt F) S1x4x896x256 .bf16) × List (View.Piece (Elt F) S1x1x896x4 .f32) × List (View.Piece (Elt F) S1x1x896x4 .f32) × List (View.Piece (Elt F) S4x128x256 .f32)
  | 0 => ([], [], [], [], [], [])
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k)

theorem pb_k0_t2_succ (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) (k : Fin k0_t2_loop.trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 (k.val + 1)
      = ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).2.2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).2.2.2.2.2 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2) := by
  rw [pb_k0_t2.eq_2]; unfold pb_k0_t2Step; exact dif_pos k.isLt

/-- THE INVARIANT before trip `k`: arg2, arg3, arg4, arg5, arg6, arg7, arg8, arg9, arg10, arg11,
   arg17, arg18, arg19 read at `X_·`; arg12, arg13, arg14, arg15, arg16, arg20 holding the pieces of
   the trips before `k` written over the contents at loop entry `G_·` (stated `∃ f, … ∗ ⌜f = …⌝`, so
   that a hypothesis of any contents matches and the equation is what is proved). -/
abbrev inv_k0_t2 (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (∃ f, (arg12.view.loc (c : Thread nD τ) ↦[arg12.view.set]{fullShare} f) ∗ ⌜f = arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).1⌝) ∗ (∃ f, (arg13.view.loc (c : Thread nD τ) ↦[arg13.view.set]{fullShare} f) ∗ ⌜f = arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).2.1⌝) ∗ (∃ f, (arg14.view.loc (c : Thread nD τ) ↦[arg14.view.set]{fullShare} f) ∗ ⌜f = arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).2.2.1⌝) ∗ (∃ f, (arg15.view.loc (c : Thread nD τ) ↦[arg15.view.set]{fullShare} f) ∗ ⌜f = arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).2.2.2.1⌝) ∗ (∃ f, (arg16.view.loc (c : Thread nD τ) ↦[arg16.view.set]{fullShare} f) ∗ ⌜f = arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).2.2.2.2.1⌝) ∗ (∃ f, (arg20.view.loc (c : Thread nD τ) ↦[arg20.view.set]{fullShare} f) ∗ ⌜f = arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).2.2.2.2.2⌝))

set_option warn.classDefReducibility false in
/-- THE LOOP BY ITS INVARIANT — (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20
  step k acc := by
    iintro ⟨HR_arg2, HR_arg3, HR_arg4, HR_arg5, HR_arg6, HR_arg7, HR_arg8, HR_arg9, HR_arg10, HR_arg11, HR_arg17, HR_arg18, HR_arg19, ⟨%f_arg12, HW_arg12, %h_arg12⟩, ⟨%f_arg13, HW_arg13, %h_arg13⟩, ⟨%f_arg14, HW_arg14, %h_arg14⟩, ⟨%f_arg15, HW_arg15, %h_arg15⟩, ⟨%f_arg16, HW_arg16, %h_arg16⟩, ⟨%f_arg20, HW_arg20, %h_arg20⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HR_arg9 HR_arg10 HR_arg11 HR_arg17 HR_arg18 HR_arg19 HW_arg12 HW_arg13 HW_arg14 HW_arg15 HW_arg16 HW_arg20]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.2.2.2.2.2 E f_arg12 f_arg13 f_arg14 f_arg15 f_arg16 f_arg20)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HR_arg10]; · iexact HR_arg10
      isplitl [HR_arg11]; · iexact HR_arg11
      isplitl [HR_arg17]; · iexact HR_arg17
      isplitl [HR_arg18]; · iexact HR_arg18
      isplitl [HR_arg19]; · iexact HR_arg19
      isplitl [HW_arg12]; · iexact HW_arg12
      isplitl [HW_arg13]; · iexact HW_arg13
      isplitl [HW_arg14]; · iexact HW_arg14
      isplitl [HW_arg15]; · iexact HW_arg15
      isplitl [HW_arg16]; · iexact HW_arg16
      iexact HW_arg20
    · iintro %_ ⟨HR_arg2, HR_arg3, HR_arg4, HR_arg5, HR_arg6, HR_arg7, HR_arg8, HR_arg9, HR_arg10, HR_arg11, HR_arg17, HR_arg18, HR_arg19, HW_arg12, HW_arg13, HW_arg14, HW_arg15, HW_arg16, HW_arg20⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HR_arg10]; · iexact HR_arg10
      isplitl [HR_arg11]; · iexact HR_arg11
      isplitl [HR_arg17]; · iexact HR_arg17
      isplitl [HR_arg18]; · iexact HR_arg18
      isplitl [HR_arg19]; · iexact HR_arg19
      rw [pb_k0_t2_succ]
      isplitl [HW_arg12]
      · iexists _; isplitl [HW_arg12]; · iexact HW_arg12
        ipureintro; rw [h_arg12, h_arg13, h_arg14, h_arg15, h_arg16, h_arg20, ← View.writes_append]
      isplitl [HW_arg13]
      · iexists _; isplitl [HW_arg13]; · iexact HW_arg13
        ipureintro; rw [h_arg12, h_arg13, h_arg14, h_arg15, h_arg16, h_arg20, ← View.writes_append]
      isplitl [HW_arg14]
      · iexists _; isplitl [HW_arg14]; · iexact HW_arg14
        ipureintro; rw [h_arg12, h_arg13, h_arg14, h_arg15, h_arg16, h_arg20, ← View.writes_append]
      isplitl [HW_arg15]
      · iexists _; isplitl [HW_arg15]; · iexact HW_arg15
        ipureintro; rw [h_arg12, h_arg13, h_arg14, h_arg15, h_arg16, h_arg20, ← View.writes_append]
      isplitl [HW_arg16]
      · iexists _; isplitl [HW_arg16]; · iexact HW_arg16
        ipureintro; rw [h_arg12, h_arg13, h_arg14, h_arg15, h_arg16, h_arg20, ← View.writes_append]
      iexists _; isplitl [HW_arg20]; · iexact HW_arg20
      ipureintro; rw [h_arg12, h_arg13, h_arg14, h_arg15, h_arg16, h_arg20, ← View.writes_append]

end Cert.Kernel.Gen

end
-- ==== Proof.FrameKernel.Runs.lean ====
/- The staging and scratch memrefs that the run of `Kernel`'s kernel body is stated over. -/
module

public import proofs.«01_k».proof.Proof.Gen.Kernel.Frame
public import proofs.«01_k».proof.Proof.FrameKernel.Loop
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- Each window's current staging memref at point `t`, spelled as the pipeline passes it (`bodyAt0`), and its wholeness. -/
abbrev ms0_0 (t : Fin cfg0.N) : Memref sig .tc .smem S448 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S448 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S448 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x896x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x896x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x896x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x896x256 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x896x4 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x14x2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x896x4 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x896x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x4x896x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x4x896x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x896x4 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x896x4 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S14x4x3x128x256 .bf16 := Memref.whole cc0_scratch0
abbrev scM0_1 : Memref sig .tc .vmem S14x4x3x64x256 .bf16 := Memref.whole cc0_scratch1
abbrev scM0_2 : Memref sig .tc .vmem S14x4x64x64 .f32 := Memref.whole cc0_scratch2
abbrev scM0_3 : Memref sig .tc .vmem S4x128x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.FrameKernel.RunA.lean ====
/- The run of `Kernel`'s whole kernel body: its triple, the pieces each output buffer ends with being what the run finds. -/
module

public import proofs.«01_k».proof.Proof.FrameKernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 20000000 in
/-- The body's triple: on whole staging memrefs — the inputs' at their contents,
    the FORGOTTEN outputs' (10, 11, 12, 13, 14) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole)
    (x0 : Vec F S448 .f32) (x1 : Vec F S448 .f32) (x2 : Vec F S448 .f32) (x3 : Vec F S1x4x896x128 .fp8e4m3) (x4 : Vec F S1x4x896x128 .fp8e4m3) (x5 : Vec F S1x4x896x256 .bf16) (x6 : Vec F S1x4x896x256 .fp8e5m2) (x7 : Vec F S1x1x896x4 .f32) (x8 : Vec F S1x1x14x2x128 .f32) (x9 : Vec F S1x1x896x4 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_gdn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_gdn_bwd_eq_skeleton]; unfold cc0_gdn_bwd_skel
    simp only [k0_part80_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.FrameKernel.Frame.lean ====
/- The frame of `Kernel`: what the outputs hold point by point, the body obligation, the run and that the arguments end unchanged. -/
module

public import proofs.«01_k».proof.Proof.FrameKernel.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12, 13, 14): nothing reads what the kernel leaves in them, so nothing
    of it is named (Lib/Pipeline/Dat.lean `Dat.toRForget`). -/
def forgets0 : Fin 15 → Bool := fun w => w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Gen

end
-- ==== Proof.FrameKernelIdeal.Loop.lean ====
/- The backward loop of `KernelIdeal`'s kernel by its invariant: one trip at a symbolic counter, the pieces the trips before it have written, and
   the step from one to the next. In form it is what proof generation writes for a loop that writes fewer buffers (here six). -/
module

public import proofs.«01_k».proof.Proof.Gen.KernelIdeal.Loops
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ### `k0_t2_loop`: its invariant -/

/-- One trip's resources: what the region reads (arg2, arg3, arg4, arg5, arg6, arg7, arg8, arg9,
   arg10, arg11, arg17, arg18, arg19) at its contents, what it writes (arg12, arg13, arg14, arg15,
   arg16, arg20) at any. -/
abbrev Trip_k0_t2 (c : Dev nD) (arg2 : Memref sig .tc .smem S448 .f32) (arg3 : Memref sig .tc .smem S448 .f32) (arg4 : Memref sig .tc .smem S448 .f32) (arg5 : Memref sig .tc .vmem S1x4x896x128 .fp8e4m3) (arg6 : Memref sig .tc .vmem S1x4x896x128 .fp8e4m3) (arg7 : Memref sig .tc .vmem S1x4x896x256 .bf16) (arg8 : Memref sig .tc .vmem S1x4x896x256 .fp8e5m2) (arg9 : Memref sig .tc .vmem S1x1x896x4 .f32) (arg10 : Memref sig .tc .vmem S1x1x14x2x128 .f32) (arg11 : Memref sig .tc .vmem S1x1x896x4 .f32) (arg17 : Memref sig .tc .vmem S14x4x3x128x256 .bf16) (arg18 : Memref sig .tc .vmem S14x4x3x64x256 .bf16) (arg19 : Memref sig .tc .vmem S14x4x64x64 .f32) (arg12 : Memref sig .tc .vmem S1x4x896x128 .bf16) (arg13 : Memref sig .tc .vmem S1x4x896x128 .bf16) (arg14 : Memref sig .tc .vmem S1x4x896x256 .bf16) (arg15 : Memref sig .tc .vmem S1x1x896x4 .f32) (arg16 : Memref sig .tc .vmem S1x1x896x4 .f32) (arg20 : Memref sig .tc .vmem S4x128x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg20.view.loc (c : Thread nD τ) ↦[arg20.view.set]{fullShare} f_arg20))

/-- ONE TRIP of `k0_t2_loop` at a symbolic `k`, run by `sl_exec` (its rectangles' offsets closed
   forms of `k`, their geometry linear arithmetic): the pieces it writes into arg12, arg13, arg14,
   arg15, arg16, arg20 are the run's own finds — the witnesses `sl_close` assigns handing the
   buffers to the continuation, as functions of the contents the trip finds in the memrefs it writes
   (the region loads some of them back). `@[irreducible]`: cited, never unfolded. -/
@[irreducible] def trip_k0_t2 (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (k : Fin k0_t2_loop.trips) :
    Σ' (L_arg12 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S1x4x896x128 .bf16))) (L_arg13 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S1x4x896x128 .bf16))) (L_arg14 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S1x4x896x256 .bf16))) (L_arg15 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S1x1x896x4 .f32))) (L_arg16 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S1x1x896x4 .f32))) , { L_arg20 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg20.view.ty → List (View.Piece (Elt F) S4x128x256 .f32)) // ∀ (E : Set ℕ) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty),
      Trip_k0_t2 (F := F) c arg2 arg3 arg4 arg5 arg6 arg7 arg8 arg9 arg10 arg11 arg17 arg18 arg19 arg12 arg13 arg14 arg15 arg16 arg20 X_arg2 X_arg3 X_arg4 X_arg5 X_arg6 X_arg7 X_arg8 X_arg9 X_arg10 X_arg11 X_arg17 X_arg18 X_arg19 f_arg12 f_arg13 f_arg14 f_arg15 f_arg16 f_arg20
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 k PUnit.unit)
          (fun _ => Trip_k0_t2 (F := F) c arg2 arg3 arg4 arg5 arg6 arg7 arg8 arg9 arg10 arg11 arg17 arg18 arg19 arg12 arg13 arg14 arg15 arg16 arg20 X_arg2 X_arg3 X_arg4 X_arg5 X_arg6 X_arg7 X_arg8 X_arg9 X_arg10 X_arg11 X_arg17 X_arg18 X_arg19 (arg12.view.writes (Elt F) f_arg12 (L_arg12 f_arg12 f_arg13 f_arg14 f_arg15 f_arg16 f_arg20)) (arg13.view.writes (Elt F) f_arg13 (L_arg13 f_arg12 f_arg13 f_arg14 f_arg15 f_arg16 f_arg20)) (arg14.view.writes (Elt F) f_arg14 (L_arg14 f_arg12 f_arg13 f_arg14 f_arg15 f_arg16 f_arg20)) (arg15.view.writes (Elt F) f_arg15 (L_arg15 f_arg12 f_arg13 f_arg14 f_arg15 f_arg16 f_arg20)) (arg16.view.writes (Elt F) f_arg16 (L_arg16 f_arg12 f_arg13 f_arg14 f_arg15 f_arg16 f_arg20)) (arg20.view.writes (Elt F) f_arg20 (L_arg20 f_arg12 f_arg13 f_arg14 f_arg15 f_arg16 f_arg20))) } := by
  have hk : k.val < 14 := Nat.lt_of_lt_of_le k.isLt k0_t2_abs.2.1
  refine ⟨?_, ?_, ?_, ?_, ?_, ?_, fun E f_arg12 f_arg13 f_arg14 f_arg15 f_arg16 f_arg20 => ?run⟩
  case run =>
    unfold k0_t2_body
    iintro ⟨HR_arg2, HR_arg3, HR_arg4, HR_arg5, HR_arg6, HR_arg7, HR_arg8, HR_arg9, HR_arg10, HR_arg11, HR_arg17, HR_arg18, HR_arg19, HW_arg12, HW_arg13, HW_arg14, HW_arg15, HW_arg16, HW_arg20⟩
    sl_exec
    sl_step
    sl_close

/-- The trip's piece lists (plain projections of `trip_…`, for the recursion below to cite without
   its proof), at the contents the trip finds in the written memrefs. -/
abbrev tripL_k0_t2 (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (k : Fin k0_t2_loop.trips) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg20 : BufTy.Contents (Elt F) arg20.view.ty) : List (View.Piece (Elt F) S1x4x896x128 .bf16) × List (View.Piece (Elt F) S1x4x896x128 .bf16) × List (View.Piece (Elt F) S1x4x896x256 .bf16) × List (View.Piece (Elt F) S1x1x896x4 .f32) × List (View.Piece (Elt F) S1x1x896x4 .f32) × List (View.Piece (Elt F) S4x128x256 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).1 f_arg12 f_arg13 f_arg14 f_arg15 f_arg16 f_arg20, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.1 f_arg12 f_arg13 f_arg14 f_arg15 f_arg16 f_arg20, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.2.1 f_arg12 f_arg13 f_arg14 f_arg15 f_arg16 f_arg20, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.2.2.1 f_arg12 f_arg13 f_arg14 f_arg15 f_arg16 f_arg20, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.2.2.2.1 f_arg12 f_arg13 f_arg14 f_arg15 f_arg16 f_arg20, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.2.2.2.2.1 f_arg12 f_arg13 f_arg14 f_arg15 f_arg16 f_arg20)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) (k : ℕ) (prev : List (View.Piece (Elt F) S1x4x896x128 .bf16) × List (View.Piece (Elt F) S1x4x896x128 .bf16) × List (View.Piece (Elt F) S1x4x896x256 .bf16) × List (View.Piece (Elt F) S1x1x896x4 .f32) × List (View.Piece (Elt F) S1x1x896x4 .f32) × List (View.Piece (Elt F) S4x128x256 .f32)) : List (View.Piece (Elt F) S1x4x896x128 .bf16) × List (View.Piece (Elt F) S1x4x896x128 .bf16) × List (View.Piece (Elt F) S1x4x896x256 .bf16) × List (View.Piece (Elt F) S1x1x896x4 .f32) × List (View.Piece (Elt F) S1x1x896x4 .f32) × List (View.Piece (Elt F) S4x128x256 .f32) :=
  if h : k < k0_t2_loop.trips then
    ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).1 ++ prev.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).2.1 ++ prev.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).2.2.1 ++ prev.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).2.2.2.1 ++ prev.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).2.2.2.2.1 ++ prev.2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 ⟨k, h⟩ (arg12.view.writes (Elt F) G_arg12 prev.1) (arg13.view.writes (Elt F) G_arg13 prev.2.1) (arg14.view.writes (Elt F) G_arg14 prev.2.2.1) (arg15.view.writes (Elt F) G_arg15 prev.2.2.2.1) (arg16.view.writes (Elt F) G_arg16 prev.2.2.2.2.1) (arg20.view.writes (Elt F) G_arg20 prev.2.2.2.2.2)).2.2.2.2.2 ++ prev.2.2.2.2.2)
  else prev

/-- The pieces of the trips before `k` (last first), per written memref, starting from the contents
   `G_·` at loop entry; each trip's pieces taken at the contents the earlier trips left. -/
def pb_k0_t2 (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) : ℕ → List (View.Piece (Elt F) S1x4x896x128 .bf16) × List (View.Piece (Elt F) S1x4x896x128 .bf16) × List (View.Piece (Elt F) S1x4x896x256 .bf16) × List (View.Piece (Elt F) S1x1x896x4 .f32) × List (View.Piece (Elt F) S1x1x896x4 .f32) × List (View.Piece (Elt F) S4x128x256 .f32)
  | 0 => ([], [], [], [], [], [])
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k)

theorem pb_k0_t2_succ (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) (k : Fin k0_t2_loop.trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 (k.val + 1)
      = ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).2.2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2)).2.2.2.2.2 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k.val).2.2.2.2.2) := by
  rw [pb_k0_t2.eq_2]; unfold pb_k0_t2Step; exact dif_pos k.isLt

/-- THE INVARIANT before trip `k`: arg2, arg3, arg4, arg5, arg6, arg7, arg8, arg9, arg10, arg11,
   arg17, arg18, arg19 read at `X_·`; arg12, arg13, arg14, arg15, arg16, arg20 holding the pieces of
   the trips before `k` written over the contents at loop entry `G_·` (stated `∃ f, … ∗ ⌜f = …⌝`, so
   that a hypothesis of any contents matches and the equation is what is proved). -/
abbrev inv_k0_t2 (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (∃ f, (arg12.view.loc (c : Thread nD τ) ↦[arg12.view.set]{fullShare} f) ∗ ⌜f = arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).1⌝) ∗ (∃ f, (arg13.view.loc (c : Thread nD τ) ↦[arg13.view.set]{fullShare} f) ∗ ⌜f = arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).2.1⌝) ∗ (∃ f, (arg14.view.loc (c : Thread nD τ) ↦[arg14.view.set]{fullShare} f) ∗ ⌜f = arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).2.2.1⌝) ∗ (∃ f, (arg15.view.loc (c : Thread nD τ) ↦[arg15.view.set]{fullShare} f) ∗ ⌜f = arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).2.2.2.1⌝) ∗ (∃ f, (arg16.view.loc (c : Thread nD τ) ↦[arg16.view.set]{fullShare} f) ∗ ⌜f = arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).2.2.2.2.1⌝) ∗ (∃ f, (arg20.view.loc (c : Thread nD τ) ↦[arg20.view.set]{fullShare} f) ∗ ⌜f = arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20 k).2.2.2.2.2⌝))

set_option warn.classDefReducibility false in
/-- THE LOOP BY ITS INVARIANT — (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (v7 : FVec F S64x64 .bf16) (v12 : FVec F S64x64 .bf16) (v17 : FVec F S64x64 .bf16) (v18 : IVec S64x128 32) (v21 : IVec S64x128 1) (v23 : IVec S64x128 32) (v37 : FVec F S128x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg20 : BufTy.Contents (Elt F) arg20.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 G_arg12 G_arg13 G_arg14 G_arg15 G_arg16 G_arg20
  step k acc := by
    iintro ⟨HR_arg2, HR_arg3, HR_arg4, HR_arg5, HR_arg6, HR_arg7, HR_arg8, HR_arg9, HR_arg10, HR_arg11, HR_arg17, HR_arg18, HR_arg19, ⟨%f_arg12, HW_arg12, %h_arg12⟩, ⟨%f_arg13, HW_arg13, %h_arg13⟩, ⟨%f_arg14, HW_arg14, %h_arg14⟩, ⟨%f_arg15, HW_arg15, %h_arg15⟩, ⟨%f_arg16, HW_arg16, %h_arg16⟩, ⟨%f_arg20, HW_arg20, %h_arg20⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HR_arg9 HR_arg10 HR_arg11 HR_arg17 HR_arg18 HR_arg19 HW_arg12 HW_arg13 HW_arg14 HW_arg15 HW_arg16 HW_arg20]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 v7 v12 v17 v18 v21 v23 v37 X_arg2 X_arg3 X_arg4 X_arg5 X_arg6 X_arg7 X_arg8 X_arg9 X_arg10 X_arg11 X_arg17 X_arg18 X_arg19 k).2.2.2.2.2.2 E f_arg12 f_arg13 f_arg14 f_arg15 f_arg16 f_arg20)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HR_arg10]; · iexact HR_arg10
      isplitl [HR_arg11]; · iexact HR_arg11
      isplitl [HR_arg17]; · iexact HR_arg17
      isplitl [HR_arg18]; · iexact HR_arg18
      isplitl [HR_arg19]; · iexact HR_arg19
      isplitl [HW_arg12]; · iexact HW_arg12
      isplitl [HW_arg13]; · iexact HW_arg13
      isplitl [HW_arg14]; · iexact HW_arg14
      isplitl [HW_arg15]; · iexact HW_arg15
      isplitl [HW_arg16]; · iexact HW_arg16
      iexact HW_arg20
    · iintro %_ ⟨HR_arg2, HR_arg3, HR_arg4, HR_arg5, HR_arg6, HR_arg7, HR_arg8, HR_arg9, HR_arg10, HR_arg11, HR_arg17, HR_arg18, HR_arg19, HW_arg12, HW_arg13, HW_arg14, HW_arg15, HW_arg16, HW_arg20⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HR_arg10]; · iexact HR_arg10
      isplitl [HR_arg11]; · iexact HR_arg11
      isplitl [HR_arg17]; · iexact HR_arg17
      isplitl [HR_arg18]; · iexact HR_arg18
      isplitl [HR_arg19]; · iexact HR_arg19
      rw [pb_k0_t2_succ]
      isplitl [HW_arg12]
      · iexists _; isplitl [HW_arg12]; · iexact HW_arg12
        ipureintro; rw [h_arg12, h_arg13, h_arg14, h_arg15, h_arg16, h_arg20, ← View.writes_append]
      isplitl [HW_arg13]
      · iexists _; isplitl [HW_arg13]; · iexact HW_arg13
        ipureintro; rw [h_arg12, h_arg13, h_arg14, h_arg15, h_arg16, h_arg20, ← View.writes_append]
      isplitl [HW_arg14]
      · iexists _; isplitl [HW_arg14]; · iexact HW_arg14
        ipureintro; rw [h_arg12, h_arg13, h_arg14, h_arg15, h_arg16, h_arg20, ← View.writes_append]
      isplitl [HW_arg15]
      · iexists _; isplitl [HW_arg15]; · iexact HW_arg15
        ipureintro; rw [h_arg12, h_arg13, h_arg14, h_arg15, h_arg16, h_arg20, ← View.writes_append]
      isplitl [HW_arg16]
      · iexists _; isplitl [HW_arg16]; · iexact HW_arg16
        ipureintro; rw [h_arg12, h_arg13, h_arg14, h_arg15, h_arg16, h_arg20, ← View.writes_append]
      iexists _; isplitl [HW_arg20]; · iexact HW_arg20
      ipureintro; rw [h_arg12, h_arg13, h_arg14, h_arg15, h_arg16, h_arg20, ← View.writes_append]

end Cert.KernelIdeal.Gen

end
-- ==== Proof.FrameKernelIdeal.Runs.lean ====
/- The staging and scratch memrefs that the run of `KernelIdeal`'s kernel body is stated over. -/
module

public import proofs.«01_k».proof.Proof.Gen.KernelIdeal.Frame
public import proofs.«01_k».proof.Proof.FrameKernelIdeal.Loop
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- Each window's current staging memref at point `t`, spelled as the pipeline passes it (`bodyAt0`), and its wholeness. -/
abbrev ms0_0 (t : Fin cfg0.N) : Memref sig .tc .smem S448 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S448 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S448 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x896x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x896x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x896x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x896x256 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x896x4 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x14x2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x896x4 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x896x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x4x896x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x4x896x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x896x4 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x896x4 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S14x4x3x128x256 .bf16 := Memref.whole cc0_scratch0
abbrev scM0_1 : Memref sig .tc .vmem S14x4x3x64x256 .bf16 := Memref.whole cc0_scratch1
abbrev scM0_2 : Memref sig .tc .vmem S14x4x64x64 .f32 := Memref.whole cc0_scratch2
abbrev scM0_3 : Memref sig .tc .vmem S4x128x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.FrameKernelIdeal.RunA.lean ====
/- The run of `KernelIdeal`'s whole kernel body: its triple, the pieces each output buffer ends with being what the run finds. -/
module

public import proofs.«01_k».proof.Proof.FrameKernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 20000000 in
/-- The body's triple: on whole staging memrefs — the inputs' at their contents,
    the FORGOTTEN outputs' (10, 11, 12, 13, 14) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole)
    (x0 : Vec F S448 .f32) (x1 : Vec F S448 .f32) (x2 : Vec F S448 .f32) (x3 : Vec F S1x4x896x128 .fp8e4m3) (x4 : Vec F S1x4x896x128 .fp8e4m3) (x5 : Vec F S1x4x896x256 .bf16) (x6 : Vec F S1x4x896x256 .fp8e5m2) (x7 : Vec F S1x1x896x4 .f32) (x8 : Vec F S1x1x14x2x128 .f32) (x9 : Vec F S1x1x896x4 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_gdn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_gdn_bwd_eq_skeleton]; unfold cc0_gdn_bwd_skel
    simp only [k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.FrameKernelIdeal.Frame.lean ====
/- The frame of `KernelIdeal`: what the outputs hold point by point, the body obligation, the run and that the arguments end unchanged. -/
module

public import proofs.«01_k».proof.Proof.FrameKernelIdeal.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12, 13, 14): nothing reads what the kernel leaves in them, so nothing
    of it is named (Lib/Pipeline/Dat.lean `Dat.toRForget`). -/
def forgets0 : Fin 15 → Bool := fun w => w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.Value.Head.lean ====
/- What one chunk of the kernel computes for one head, as functions of the blocks it loads: the solve's factor of the
   forward pass, and the value gradient and the state gradient of the backward pass. -/
module

public import proofs.«01_k».proof.Proof.Gen.KernelIdeal.Skeleton

@[expose] public section

noncomputable section

namespace Cert.KernelIdeal.Head

open Cert.KernelIdeal Cert.KernelIdeal.Gen Idealize.ShloMosaic Idealize.SL.Sem

variable {F : FTy → Type} [FloatOps F]

/-- A value's leading bfloat16 part, as a float32. -/
def hi {s : Shape} (x : FVec F s .f32) : FVec F s .f32 := extf .f32 (truncf .bf16 x)
/-- What the leading part leaves. -/
def rest {s : Shape} (x : FVec F s .f32) : FVec F s .f32 := subf x (hi x)
/-- First limb. -/
def lim0 {s : Shape} (x : FVec F s .f32) : FVec F s .bf16 := truncf .bf16 (hi x)
/-- Second limb. -/
def lim1 {s : Shape} (x : FVec F s .f32) : FVec F s .bf16 := truncf .bf16 (hi (rest x))
/-- Third limb. -/
def lim2 {s : Shape} (x : FVec F s .f32) : FVec F s .bf16 := truncf .bf16 (subf (rest x) (hi (rest x)))

/-- Cumulative log decay of a chunk, one column per head. -/
def gate (al : FVec F S64x4 .f32) : FVec F S64x4 .f32 :=
  matmul dot_S64x192_S192x4_S64x4_1_0_0_1_n_n none
    (concatenate S64x192 1 [⟨S64x64, k0_pay519⟩, ⟨S64x64, k0_pay519⟩, ⟨S64x64, k0_pay519⟩] concatenates_S64x64_S64x64_S64x64_S64x192_d1)
    (concatenate S192x4 0 [⟨S64x4, lim0 (log al)⟩, ⟨S64x4, lim1 (log al)⟩, ⟨S64x4, lim2 (log al)⟩] concatenates_S64x4_S64x4_S64x4_S192x4_d0)
    (constant S64x4 .f32 0x00000000#32)

/-- Cumulative log decay of a chunk, one row per pair of heads. -/
def gateRow (alr : FVec F S2x128 .f32) : FVec F S2x128 .f32 :=
  matmul dot_S2x384_S384x128_S2x128_1_0_0_1_n_n none
    (concatenate S2x384 1 [⟨S2x128, lim0 (log alr)⟩, ⟨S2x128, lim1 (log alr)⟩, ⟨S2x128, lim2 (log alr)⟩] concatenates_S2x128_S2x128_S2x128_S2x384_d1)
    (concatenate S384x128 0 [⟨S128x128, k0_pay524⟩, ⟨S128x128, k0_pay524⟩, ⟨S128x128, k0_pay524⟩] concatenates_S128x128_S128x128_S128x128_S384x128_d0)
    (constant S2x128 .f32 0x00000000#32)

/-- One head's column. -/
def col (h : Fin 4) (x : FVec F S64x4 .f32) : FVec F S64x1 .f32 :=
  extractStridedSlice S64x1 ![0, h.val] x (by revert h; decide)

/-- One pair's row, on every sublane. -/
def rowB (p : Fin 2) (x : FVec F S2x128 .f32) : FVec F S64x128 .f32 :=
  broadcastTo S64x128 (extractStridedSlice S1x128 ![p.val, 0] x (by revert p; decide)) broadcasts_S1x128_S64x128

/-- Two columns over the two halves of the lanes. -/
def spread (a b : FVec F S64x1 .f32) : FVec F S64x128 .f32 :=
  select k0_pay522 (broadcastTo S64x128 (shapeCast S64x1 a shapeCasts_S64x1_S64x1) broadcasts_S64x1_S64x128)
    (broadcastTo S64x128 (shapeCast S64x1 b shapeCasts_S64x1_S64x1) broadcasts_S64x1_S64x128)

/-- Two scalars over the two halves of the lanes. -/
def spreadS (a b : F .f32) : FVec F S64x128 .f32 :=
  select k0_pay522 (broadcast S64x128 a) (broadcast S64x128 b)

/-- Row index. -/
def rowI : IVec S64x128 32 := iota .tc S64x128 32 [0] iota_S64x128_d0_w32

/-- The two heads' products side by side. -/
def packDot (a0 a1 b0 b1 : FVec F S64x128 .fp8e4m3) : FVec F S64x128 .f32 :=
  select k0_pay522
    (matmul dot_S64x128_S128x128_S64x128_1_1_0_0_n_n none a0
      (concatenate S128x128 0 [⟨S64x128, b0⟩, ⟨S64x128, b1⟩] concatenates_S64x128_S64x128_S128x128_d0) (constant S64x128 .f32 0x00000000#32))
    (matmul dot_S64x128_S128x128_S64x128_1_1_0_0_n_n none a1
      (concatenate S128x128 0 [⟨S64x128, b0⟩, ⟨S64x128, b1⟩] concatenates_S64x128_S64x128_S128x128_d0) (constant S64x128 .f32 0x00000000#32))

/-- The strictly lower matrices of the solve, two heads side by side. -/
def packA (g be : FVec F S64x4 .f32) (gr : FVec F S2x128 .f32) (p : Fin 2) (h0 h1 : Fin 4)
    (k0 k1 : FVec F S64x128 .fp8e4m3) (s0 s1 : F .f32) : FVec F S64x128 .f32 :=
  mulf (mulf (spread (col h0 be) (col h1 be)) (mulf (packDot k0 k1 k0 k1) (spreadS (Scalar.mulf s0 s0) (Scalar.mulf s1 s1))))
    (exp (select (cmpi .sgt rowI k0_pay523) (subf (spread (col h0 g) (col h1 g)) (rowB p gr))
      (broadcast S64x128 (Scalar.ofBits .f32 0xFF800000#32))))

/-- Lane index of the four blocks. -/
def laneI : IVec S32x128 32 := iota .tc S32x128 32 [1] iota_S32x128_d1_w32

/-- The four diagonal blocks side by side. -/
def blocks (a : FVec F S64x128 .f32) : FVec F S32x128 .f32 :=
  select (cmpi .eq (andi laneI (broadcast S32x128 32#32)) (broadcast S32x128 0#32))
    (extractStridedSlice S32x128 ![0, 0] a slices_S64x128_o0_0_S32x128) (extractStridedSlice S32x128 ![32, 0] a slices_S64x128_o32_0_S32x128)

/-- Four identity blocks side by side. -/
def eyes : FVec F S32x128 .f32 :=
  select (cmpi .eq (iota .tc S32x128 32 [0] iota_S32x128_d0_w32) (andi laneI (broadcast S32x128 31#32)))
    (broadcast S32x128 (Scalar.ofBits .f32 0x3F800000#32)) (broadcast S32x128 (Scalar.ofBits .f32 0x00000000#32))

/-- The lane a block's column `j` stands at, for every lane of the block. -/
def laneOf (j : Nat) : IVec S32x128 32 :=
  addi (andi laneI (broadcast S32x128 4294967264#32)) (broadcast S32x128 (BitVec.ofNat 32 j))

/-- Column `j` of every block over the block's lanes. -/
def colB (b : FVec F S32x128 .f32) (j : Nat) : FVec F S32x128 .f32 :=
  dynamicGather 1 b (shapeCast S32x128 (shapeCast S32x128x1
    (select (cmpi .slt (laneOf j) (broadcast S32x128 0#32)) (addi (laneOf j) (broadcast S32x128 128#32)) (laneOf j))
    shapeCasts_S32x128_S32x128x1) shapeCasts_S32x128x1_S32x128)

/-- Row `j` on every sublane. -/
def rowX (x : FVec F S32x128 .f32) (j : Nat) : FVec F S32x128 .f32 :=
  broadcastTo S32x128 (extractStridedSlice S1x128 ![j % 32, 0] x (by
    have h : ∀ i : Fin 32, S32x128.Slices ![i.val, 0] S1x128 := by decide
    exact h ⟨j % 32, Nat.mod_lt _ (by omega)⟩)) broadcasts_S1x128_S32x128

/-- Forward substitution, `n` steps of it, on the four blocks at once. -/
def elim (b : FVec F S32x128 .f32) : Nat → FVec F S32x128 .f32
  | 0 => eyes
  | n + 1 => subf (elim b n) (mulf (colB b n) (rowX (elim b n) n))

/-- Six products of limbs, of 32 by 32 matrices. -/
def six32 (a b : FVec F S32x32 .f32) : FVec F S32x32 .f32 :=
  matmul dot_S32x192_S192x32_S32x32_1_0_0_1_n_n none
    (concatenate S32x192 1 [⟨S32x32, lim0 a⟩, ⟨S32x32, lim0 a⟩, ⟨S32x32, lim1 a⟩, ⟨S32x32, lim0 a⟩, ⟨S32x32, lim1 a⟩, ⟨S32x32, lim2 a⟩] concatenates_S32x32_S32x32_S32x32_S32x32_S32x32_S32x32_S32x192_d1)
    (concatenate S192x32 0 [⟨S32x32, lim0 b⟩, ⟨S32x32, lim1 b⟩, ⟨S32x32, lim0 b⟩, ⟨S32x32, lim2 b⟩, ⟨S32x32, lim1 b⟩, ⟨S32x32, lim0 b⟩] concatenates_S32x32_S32x32_S32x32_S32x32_S32x32_S32x32_S192x32_d0)
    (constant S32x32 .f32 0x00000000#32)

/-- A 32 by 32 block of the solved blocks. -/
def blkX (x : FVec F S32x128 .f32) (w : Fin 2) (u : Fin 2) : FVec F S32x32 .f32 :=
  extractStridedSlice S32x32 ![0, 64 * w.val + 32 * u.val] x (by revert w u; decide)

/-- The block below the diagonal. -/
def blkA (a : FVec F S64x128 .f32) (w : Fin 2) : FVec F S32x32 .f32 :=
  extractStridedSlice S32x32 ![32, 64 * w.val] a (by revert w; decide)

/-- The solved blocks joined: one head's inverse. -/
def joinT (a : FVec F S64x128 .f32) (x : FVec F S32x128 .f32) (w : Fin 2) : FVec F S64x64 .f32 :=
  concatenate S64x64 0
    [⟨S32x64, concatenate S32x64 1 [⟨S32x32, blkX x w 0⟩, ⟨S32x32, broadcast S32x32 (Scalar.ofBits .f32 0x00000000#32)⟩] concatenates_S32x32_S32x32_S32x64_d1⟩,
     ⟨S32x64, concatenate S32x64 1 [⟨S32x32, subf (broadcast S32x32 (Scalar.ofBits .f32 0x00000000#32)) (six32 (blkX x w 1) (six32 (blkA a w) (blkX x w 0)))⟩, ⟨S32x32, blkX x w 1⟩] concatenates_S32x32_S32x32_S32x64_d1⟩]
    concatenates_S32x64_S32x64_S64x64_d0

/-- One head's inverse, transposed, as the forward pass stores it. -/
def headT (a : FVec F S64x128 .f32) (w : Fin 2) : FVec F S1x1x64x64 .f32 :=
  shapeCast S1x1x64x64 (transpose S64x64 [1, 0] (joinT a (elim (blocks a) 31) w) transposes_S64x64_p1_0_S64x64) shapeCasts_S64x64_S1x1x64x64

/-- Decay from a chunk's row to its end. -/
def toEnd (g : FVec F S64x4 .f32) : FVec F S64x4 .f32 :=
  exp (subf (broadcastTo S64x4 (extractStridedSlice S1x4 ![63, 0] g slices_S64x4_o63_0_S1x4) broadcasts_S1x4_S64x4) g)

/-- The attention matrices transposed, two heads side by side. -/
def packP (g : FVec F S64x4 .f32) (gr : FVec F S2x128 .f32) (p : Fin 2) (h0 h1 : Fin 4)
    (k0 k1 q0 q1 : FVec F S64x128 .fp8e4m3) (sq0 sk0 sq1 sk1 : F .f32) : FVec F S64x128 .f32 :=
  mulf (mulf (packDot k0 k1 q0 q1) (spreadS (Scalar.mulf sq0 sk0) (Scalar.mulf sq1 sk1)))
    (exp (select (cmpi .sle rowI k0_pay523) (subf (rowB p gr) (spread (col h0 g) (col h1 g)))
      (broadcast S64x128 (Scalar.ofBits .f32 0xFF800000#32))))

/-- One head's half of the lanes. -/
def half (w : Fin 2) (x : FVec F S64x128 .f32) : FVec F S64x64 .f32 :=
  extractStridedSlice S64x64 ![0, 64 * w.val] x (by revert w; decide)

/-- A float32 64 by 64 matrix by a bfloat16 one, three products of limbs. -/
def dotPD (a : FVec F S64x64 .f32) (b : FVec F S64x256 .bf16) : FVec F S64x256 .f32 :=
  matmul dot_S64x192_S192x256_S64x256_1_0_0_1_n_n none
    (concatenate S64x192 1 [⟨S64x64, lim0 a⟩, ⟨S64x64, lim1 a⟩, ⟨S64x64, lim2 a⟩] concatenates_S64x64_S64x64_S64x64_S64x192_d1)
    (concatenate S192x256 0 [⟨S64x256, b⟩, ⟨S64x256, b⟩, ⟨S64x256, b⟩] concatenates_S64x256_S64x256_S64x256_S192x256_d0)
    (constant S64x256 .f32 0x00000000#32)

/-- The keys by the state gradient, three products of limbs. -/
def dotKS (k : FVec F S64x128 .bf16) (s : FVec F S128x256 .f32) : FVec F S64x256 .f32 :=
  matmul dot_S64x384_S384x256_S64x256_1_0_0_1_n_n none
    (concatenate S64x384 1 [⟨S64x128, k⟩, ⟨S64x128, k⟩, ⟨S64x128, k⟩] concatenates_S64x128_S64x128_S64x128_S64x384_d1)
    (concatenate S384x256 0 [⟨S128x256, lim0 s⟩, ⟨S128x256, lim1 s⟩, ⟨S128x256, lim2 s⟩] concatenates_S128x256_S128x256_S128x256_S384x256_d0)
    (constant S64x256 .f32 0x00000000#32)

/-- The stored inverse by a 64 by 256 matrix, six products of limbs. -/
def dotTU (t : FVec F S64x64 .f32) (u : FVec F S64x256 .f32) : FVec F S64x256 .f32 :=
  matmul dot_S64x384_S384x256_S64x256_1_0_0_1_n_n none
    (concatenate S64x384 1 [⟨S64x64, lim0 t⟩, ⟨S64x64, lim0 t⟩, ⟨S64x64, lim1 t⟩, ⟨S64x64, lim0 t⟩, ⟨S64x64, lim1 t⟩, ⟨S64x64, lim2 t⟩] concatenates_S64x64_S64x64_S64x64_S64x64_S64x64_S64x64_S64x384_d1)
    (concatenate S384x256 0 [⟨S64x256, lim0 u⟩, ⟨S64x256, lim1 u⟩, ⟨S64x256, lim0 u⟩, ⟨S64x256, lim2 u⟩, ⟨S64x256, lim1 u⟩, ⟨S64x256, lim0 u⟩] concatenates_S64x256_S64x256_S64x256_S64x256_S64x256_S64x256_S384x256_d0)
    (constant S64x256 .f32 0x00000000#32)

/-- Keys or queries transposed by a 64 by 256 matrix, three products of limbs. -/
def dotXtU (x : FVec F S64x128 .bf16) (u : FVec F S64x256 .f32) : FVec F S128x256 .f32 :=
  matmul dot_S128x192_S192x256_S128x256_1_0_0_1_n_n none
    (concatenate S128x192 1 [⟨S128x64, truncf .bf16 (transpose S128x64 [1, 0] (extf .f32 x) transposes_S64x128_p1_0_S128x64)⟩, ⟨S128x64, truncf .bf16 (transpose S128x64 [1, 0] (extf .f32 x) transposes_S64x128_p1_0_S128x64)⟩, ⟨S128x64, truncf .bf16 (transpose S128x64 [1, 0] (extf .f32 x) transposes_S64x128_p1_0_S128x64)⟩] concatenates_S128x64_S128x64_S128x64_S128x192_d1)
    (concatenate S192x256 0 [⟨S64x256, lim0 u⟩, ⟨S64x256, lim1 u⟩, ⟨S64x256, lim2 u⟩] concatenates_S64x256_S64x256_S64x256_S192x256_d0)
    (constant S128x256 .f32 0x00000000#32)

/-- The scale of the output gradient with the queries' `1/√128`. -/
def sd (d : F .f32) : F .f32 := Scalar.mulf d (Scalar.ofBits .f32 0x3DB504F3#32)

/-- One head's gradient of the corrected values. -/
def headU (g : FVec F S64x4 .f32) (h : Fin 4) (pt : FVec F S64x64 .f32) (k : FVec F S64x128 .fp8e4m3)
    (d : FVec F S64x256 .fp8e5m2) (sk ds : F .f32) (st : FVec F S128x256 .f32) : FVec F S64x256 .f32 :=
  addf (mulf (dotPD pt (extf .bf16 d)) (broadcast S64x256 (sd ds)))
    (mulf (broadcastTo S64x256 (mulf (col h (toEnd g)) (broadcast S64x1 sk)) broadcasts_S64x1_S64x256) (dotKS (extf .bf16 k) st))

/-- One head's value gradient. -/
def headV (be : FVec F S64x4 .f32) (h : Fin 4) (tt : FVec F S64x64 .f32) (u : FVec F S64x256 .f32) : FVec F S64x256 .f32 :=
  mulf (broadcastTo S64x256 (col h be) broadcasts_S64x1_S64x256) (dotTU tt u)

/-- The value gradient as stored. -/
def outV (v : FVec F S64x256 .f32) : FVec F S1x1x64x256 .bf16 :=
  shapeCast S1x1x64x256 (truncf .bf16 v : FVec F S64x256 .bf16) shapeCasts_S64x256_S1x1x64x256

/-- One head's next state gradient. -/
def headS (g : FVec F S64x4 .f32) (h : Fin 4) (k q : FVec F S64x128 .fp8e4m3) (d : FVec F S64x256 .fp8e5m2)
    (sq sk ds : F .f32) (v : FVec F S64x256 .f32) (st : FVec F S128x256 .f32) : FVec F S128x256 .f32 :=
  subf (addf (mulf (broadcastTo S128x256 (extractStridedSlice S1x1 ![63, h.val] (exp g) (by revert h; decide)) broadcasts_S1x1_S128x256) st)
      (mulf (broadcast S128x256 sq) (dotXtU (extf .bf16 q)
        (mulf (broadcastTo S64x256 (mulf (col h (exp g)) (broadcast S64x1 (sd ds))) broadcasts_S64x1_S64x256) (extf .f32 (extf .bf16 d : FVec F S64x256 .bf16))))))
    (mulf (broadcast S128x256 sk) (dotXtU (extf .bf16 k) (mulf (broadcastTo S64x256 (col h (exp g)) broadcasts_S64x1_S64x256) v)))

/-- The state gradient as stored. -/
def outS (s : FVec F S128x256 .f32) : FVec F S1x128x256 .f32 := shapeCast S1x128x256 s shapeCasts_S128x256_S1x128x256

/-- The pair a head is in. -/
def hp : Fin 4 → Fin 2 := ![0, 0, 1, 1]
/-- The head's place in its pair. -/
def hw : Fin 4 → Fin 2 := ![0, 1, 0, 1]
/-- A pair's first head. -/
def ha : Fin 2 → Fin 4 := ![0, 2]
/-- A pair's second head. -/
def hb : Fin 2 → Fin 4 := ![1, 3]

/-- What the forward pass loads of a chunk. -/
structure FBlk (F : FTy → Type) [FloatOps F] where
  /-- decay, a column per head -/
  al : FVec F S64x4 .f32
  /-- decay, a row per pair -/
  alr : FVec F S2x128 .f32
  /-- write strength -/
  be : FVec F S64x4 .f32
  /-- key codes -/
  k : Fin 4 → FVec F S64x128 .fp8e4m3
  /-- key scales -/
  sk : Fin 4 → F .f32

/-- What the backward pass loads of a chunk. -/
structure Blk (F : FTy → Type) [FloatOps F] extends FBlk F where
  /-- query codes -/
  q : Fin 4 → FVec F S64x128 .fp8e4m3
  /-- query scales -/
  sq : Fin 4 → F .f32
  /-- output gradient codes -/
  d : Fin 4 → FVec F S64x256 .fp8e5m2
  /-- output gradient scales -/
  ds : Fin 4 → F .f32

/-- The pair's two strictly lower matrices. -/
def FBlk.A (B : FBlk F) (p : Fin 2) : FVec F S64x128 .f32 :=
  packA (gate B.al) B.be (gateRow B.alr) p (ha p) (hb p) (B.k (ha p)) (B.k (hb p)) (B.sk (ha p)) (B.sk (hb p))

/-- The head's inverse, transposed, as stored. -/
def FBlk.T (B : FBlk F) (h : Fin 4) : FVec F S1x1x64x64 .f32 := headT (B.A (hp h)) (hw h)

/-- The pair's two attention matrices, transposed. -/
def Blk.P (B : Blk F) (p : Fin 2) : FVec F S64x128 .f32 :=
  packP (gate B.al) (gateRow B.alr) p (ha p) (hb p) (B.k (ha p)) (B.k (hb p)) (B.q (ha p)) (B.q (hb p))
    (B.sq (ha p)) (B.sk (ha p)) (B.sq (hb p)) (B.sk (hb p))

/-- The head's gradient of the corrected values. -/
def Blk.U (B : Blk F) (h : Fin 4) (st : FVec F S128x256 .f32) : FVec F S64x256 .f32 :=
  headU (gate B.al) h (half (hw h) (B.P (hp h))) (B.k h) (B.d h) (B.sk h) (B.ds h) st

/-- The head's value gradient. -/
def Blk.V (B : Blk F) (h : Fin 4) (tt : FVec F S64x64 .f32) (st : FVec F S128x256 .f32) : FVec F S64x256 .f32 :=
  headV B.be h tt (B.U h st)

/-- The head's next state gradient. -/
def Blk.S (B : Blk F) (h : Fin 4) (tt : FVec F S64x64 .f32) (st : FVec F S128x256 .f32) : FVec F S128x256 .f32 :=
  headS (gate B.al) h (B.k h) (B.q h) (B.d h) (B.sq h) (B.sk h) (B.ds h) (B.V h tt st) st

end Cert.KernelIdeal.Head
-- ==== Proof.Value.TripF.lean ====
/- One trip of the forward loop, what it stores in the buffer of the inverses. -/
module

public import proofs.«01_k».proof.Proof.FrameKernelIdeal.Loop
public import proofs.«01_k».proof.Proof.Value.Head

@[expose] public section

set_option maxRecDepth 100000

noncomputable section

namespace Cert.KernelIdeal.Head

open Cert.KernelIdeal Cert.KernelIdeal.Gen Idealize.ShloMosaic Idealize.ShloMosaic.TcCoe Idealize.ShloMosaic.Tactic Idealize.SL.Sem

variable {F : FTy → Type} [FloatOps F]

/-- What a trip of the forward loop loads. -/
def fblk (i : grid0.Coords) (arg3 : Memref sig .tc .smem S448 .f32) (arg6 : Memref sig .tc .vmem S1x4x896x128 .fp8e4m3) (arg9 : Memref sig .tc .vmem S1x1x896x4 .f32) (arg10 : Memref sig .tc .vmem S1x1x14x2x128 .f32) (arg11 : Memref sig .tc .vmem S1x1x896x4 .f32) (X_arg3 : BufTy.Contents (Elt F) arg3.view.ty) (X_arg6 : BufTy.Contents (Elt F) arg6.view.ty) (X_arg9 : BufTy.Contents (Elt F) arg9.view.ty) (X_arg10 : BufTy.Contents (Elt F) arg10.view.ty) (X_arg11 : BufTy.Contents (Elt F) arg11.view.ty) (k : Fin k0_t1_loop.trips) : FBlk F where
  al := (shapeCast S64x4 (View.readAt (Elt F) arg9.view (Rect.unit (s := S1x1x896x4) (k0_off2 k) S1x1x64x4.size (k0_off2_inb k)).toLoadRect X_arg9) shapeCasts_S1x1x64x4_S64x4)
  alr := (shapeCast S2x128 (View.readAt (Elt F) arg10.view (Rect.unit (s := S1x1x14x2x128) (k0_off3 k) S1x1x1x2x128.size (k0_off3_inb k)).toLoadRect X_arg10) shapeCasts_S1x1x1x2x128_S2x128)
  be := (shapeCast S64x4 (View.readAt (Elt F) arg11.view (Rect.unit (s := S1x1x896x4) (k0_off2 k) S1x1x64x4.size (k0_off2_inb k)).toLoadRect X_arg11) shapeCasts_S1x1x64x4_S64x4)
  k := ![(shapeCast S64x128 (View.readAt (Elt F) arg6.view (Rect.unit (s := S1x4x896x128) (k0_off4 k) S1x1x64x128.size (k0_off4_inb k)).toLoadRect X_arg6) shapeCasts_S1x1x64x128_S64x128), (shapeCast S64x128 (View.readAt (Elt F) arg6.view (Rect.unit (s := S1x4x896x128) (k0_off5 k) S1x1x64x128.size (k0_off5_inb k)).toLoadRect X_arg6) shapeCasts_S1x1x64x128_S64x128), (shapeCast S64x128 (View.readAt (Elt F) arg6.view (Rect.unit (s := S1x4x896x128) (k0_off6 k) S1x1x64x128.size (k0_off6_inb k)).toLoadRect X_arg6) shapeCasts_S1x1x64x128_S64x128), (shapeCast S64x128 (View.readAt (Elt F) arg6.view (Rect.unit (s := S1x4x896x128) (k0_off7 k) S1x1x64x128.size (k0_off7_inb k)).toLoadRect X_arg6) shapeCasts_S1x1x64x128_S64x128)]
  sk := ![(View.readAt (Elt F) arg3.view (Rect.unit (s := S448) (k0_off1 i k 0#32) S1.size (k0_off1_inb i k 0)).toLoadRect X_arg3 (Shape.Idx.first (Nat.lt_of_lt_of_eq Nat.one_pos numel1_S1.symm))), (View.readAt (Elt F) arg3.view (Rect.unit (s := S448) (k0_off1 i k 1#32) S1.size (k0_off1_inb i k 1)).toLoadRect X_arg3 (Shape.Idx.first (Nat.lt_of_lt_of_eq Nat.one_pos numel1_S1.symm))), (View.readAt (Elt F) arg3.view (Rect.unit (s := S448) (k0_off1 i k 2#32) S1.size (k0_off1_inb i k 2)).toLoadRect X_arg3 (Shape.Idx.first (Nat.lt_of_lt_of_eq Nat.one_pos numel1_S1.symm))), (View.readAt (Elt F) arg3.view (Rect.unit (s := S448) (k0_off1 i k 3#32) S1.size (k0_off1_inb i k 3)).toLoadRect X_arg3 (Shape.Idx.first (Nat.lt_of_lt_of_eq Nat.one_pos numel1_S1.symm)))]

theorem trip1_T (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (X_arg3 : BufTy.Contents (Elt F) arg3.view.ty) (X_arg6 : BufTy.Contents (Elt F) arg6.view.ty) (X_arg7 : BufTy.Contents (Elt F) arg7.view.ty) (X_arg9 : BufTy.Contents (Elt F) arg9.view.ty) (X_arg10 : BufTy.Contents (Elt F) arg10.view.ty) (X_arg11 : BufTy.Contents (Elt F) arg11.view.ty) (k : Fin k0_t1_loop.trips) (f17 : BufTy.Contents (Elt F) arg17.view.ty) (f18 : BufTy.Contents (Elt F) arg18.view.ty) (f19 : BufTy.Contents (Elt F) arg19.view.ty) (f20 : BufTy.Contents (Elt F) arg20.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 X_arg3 X_arg6 X_arg7 X_arg9 X_arg10 X_arg11 k).2.2.1 f17 f18 f19 f20
      = [⟨Rect.unit (k0_off39 k) ![1, 1, 64, 64] (k0_off39_inb k), (fblk i arg3 arg6 arg9 arg10 arg11 X_arg3 X_arg6 X_arg9 X_arg10 X_arg11 k).T 3⟩, ⟨Rect.unit (k0_off31 k) ![1, 1, 64, 64] (k0_off31_inb k), (fblk i arg3 arg6 arg9 arg10 arg11 X_arg3 X_arg6 X_arg9 X_arg10 X_arg11 k).T 2⟩, ⟨Rect.unit (k0_off23 k) ![1, 1, 64, 64] (k0_off23_inb k), (fblk i arg3 arg6 arg9 arg10 arg11 X_arg3 X_arg6 X_arg9 X_arg10 X_arg11 k).T 1⟩, ⟨Rect.unit (k0_off15 k) ![1, 1, 64, 64] (k0_off15_inb k), (fblk i arg3 arg6 arg9 arg10 arg11 X_arg3 X_arg6 X_arg9 X_arg10 X_arg11 k).T 0⟩] := by
  unfold trip_k0_t1
  sl_kernel_rfl

end Cert.KernelIdeal.Head
-- ==== Proof.Value.TripB.lean ====
/- One trip of the backward loop, what it stores in the value gradient and in the state gradient. -/
module

public import proofs.«01_k».proof.Proof.FrameKernelIdeal.Loop
public import proofs.«01_k».proof.Proof.Value.Head

@[expose] public section

set_option maxRecDepth 100000

noncomputable section

namespace Cert.KernelIdeal.Head

open Cert.KernelIdeal Cert.KernelIdeal.Gen Idealize.ShloMosaic Idealize.ShloMosaic.TcCoe Idealize.ShloMosaic.Tactic Idealize.SL.Sem

variable {F : FTy → Type} [FloatOps F]

/-- What a trip of the backward loop loads. -/
def bblk (i : grid0.Coords) (arg2 : Memref sig .tc .smem S448 .f32) (arg3 : Memref sig .tc .smem S448 .f32) (arg4 : Memref sig .tc .smem S448 .f32) (arg5 : Memref sig .tc .vmem S1x4x896x128 .fp8e4m3) (arg6 : Memref sig .tc .vmem S1x4x896x128 .fp8e4m3) (arg8 : Memref sig .tc .vmem S1x4x896x256 .fp8e5m2) (arg9 : Memref sig .tc .vmem S1x1x896x4 .f32) (arg10 : Memref sig .tc .vmem S1x1x14x2x128 .f32) (arg11 : Memref sig .tc .vmem S1x1x896x4 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t2_loop.trips) : Blk F where
  al := (shapeCast S64x4 (View.readAt (Elt F) arg9.view (Rect.unit (s := S1x1x896x4) (k0_off41 k) S1x1x64x4.size (k0_off41_inb k)).toLoadRect X_arg9) shapeCasts_S1x1x64x4_S64x4)
  alr := (shapeCast S2x128 (View.readAt (Elt F) arg10.view (Rect.unit (s := S1x1x14x2x128) (k0_off42 k) S1x1x1x2x128.size (k0_off42_inb k)).toLoadRect X_arg10) shapeCasts_S1x1x1x2x128_S2x128)
  be := (shapeCast S64x4 (View.readAt (Elt F) arg11.view (Rect.unit (s := S1x1x896x4) (k0_off41 k) S1x1x64x4.size (k0_off41_inb k)).toLoadRect X_arg11) shapeCasts_S1x1x64x4_S64x4)
  k := ![(shapeCast S64x128 (View.readAt (Elt F) arg6.view (Rect.unit (s := S1x4x896x128) (k0_off43 k) S1x1x64x128.size (k0_off43_inb k)).toLoadRect X_arg6) shapeCasts_S1x1x64x128_S64x128), (shapeCast S64x128 (View.readAt (Elt F) arg6.view (Rect.unit (s := S1x4x896x128) (k0_off44 k) S1x1x64x128.size (k0_off44_inb k)).toLoadRect X_arg6) shapeCasts_S1x1x64x128_S64x128), (shapeCast S64x128 (View.readAt (Elt F) arg6.view (Rect.unit (s := S1x4x896x128) (k0_off45 k) S1x1x64x128.size (k0_off45_inb k)).toLoadRect X_arg6) shapeCasts_S1x1x64x128_S64x128), (shapeCast S64x128 (View.readAt (Elt F) arg6.view (Rect.unit (s := S1x4x896x128) (k0_off46 k) S1x1x64x128.size (k0_off46_inb k)).toLoadRect X_arg6) shapeCasts_S1x1x64x128_S64x128)]
  sk := ![(View.readAt (Elt F) arg3.view (Rect.unit (s := S448) (k0_off40 i k 0#32) S1.size (k0_off40_inb i k 0)).toLoadRect X_arg3 (Shape.Idx.first (Nat.lt_of_lt_of_eq Nat.one_pos numel1_S1.symm))), (View.readAt (Elt F) arg3.view (Rect.unit (s := S448) (k0_off40 i k 1#32) S1.size (k0_off40_inb i k 1)).toLoadRect X_arg3 (Shape.Idx.first (Nat.lt_of_lt_of_eq Nat.one_pos numel1_S1.symm))), (View.readAt (Elt F) arg3.view (Rect.unit (s := S448) (k0_off40 i k 2#32) S1.size (k0_off40_inb i k 2)).toLoadRect X_arg3 (Shape.Idx.first (Nat.lt_of_lt_of_eq Nat.one_pos numel1_S1.symm))), (View.readAt (Elt F) arg3.view (Rect.unit (s := S448) (k0_off40 i k 3#32) S1.size (k0_off40_inb i k 3)).toLoadRect X_arg3 (Shape.Idx.first (Nat.lt_of_lt_of_eq Nat.one_pos numel1_S1.symm)))]
  q := ![(shapeCast S64x128 (View.readAt (Elt F) arg5.view (Rect.unit (s := S1x4x896x128) (k0_off43 k) S1x1x64x128.size (k0_off43_inb k)).toLoadRect X_arg5) shapeCasts_S1x1x64x128_S64x128), (shapeCast S64x128 (View.readAt (Elt F) arg5.view (Rect.unit (s := S1x4x896x128) (k0_off44 k) S1x1x64x128.size (k0_off44_inb k)).toLoadRect X_arg5) shapeCasts_S1x1x64x128_S64x128), (shapeCast S64x128 (View.readAt (Elt F) arg5.view (Rect.unit (s := S1x4x896x128) (k0_off45 k) S1x1x64x128.size (k0_off45_inb k)).toLoadRect X_arg5) shapeCasts_S1x1x64x128_S64x128), (shapeCast S64x128 (View.readAt (Elt F) arg5.view (Rect.unit (s := S1x4x896x128) (k0_off46 k) S1x1x64x128.size (k0_off46_inb k)).toLoadRect X_arg5) shapeCasts_S1x1x64x128_S64x128)]
  sq := ![(View.readAt (Elt F) arg2.view (Rect.unit (s := S448) (k0_off40 i k 0#32) S1.size (k0_off40_inb i k 0)).toLoadRect X_arg2 (Shape.Idx.first (Nat.lt_of_lt_of_eq Nat.one_pos numel1_S1.symm))), (View.readAt (Elt F) arg2.view (Rect.unit (s := S448) (k0_off40 i k 1#32) S1.size (k0_off40_inb i k 1)).toLoadRect X_arg2 (Shape.Idx.first (Nat.lt_of_lt_of_eq Nat.one_pos numel1_S1.symm))), (View.readAt (Elt F) arg2.view (Rect.unit (s := S448) (k0_off40 i k 2#32) S1.size (k0_off40_inb i k 2)).toLoadRect X_arg2 (Shape.Idx.first (Nat.lt_of_lt_of_eq Nat.one_pos numel1_S1.symm))), (View.readAt (Elt F) arg2.view (Rect.unit (s := S448) (k0_off40 i k 3#32) S1.size (k0_off40_inb i k 3)).toLoadRect X_arg2 (Shape.Idx.first (Nat.lt_of_lt_of_eq Nat.one_pos numel1_S1.symm)))]
  d := ![(shapeCast S64x256 (View.readAt (Elt F) arg8.view (Rect.unit (s := S1x4x896x256) (k0_off47 k) S1x1x64x256.size (k0_off47_inb k)).toLoadRect X_arg8) shapeCasts_S1x1x64x256_S64x256), (shapeCast S64x256 (View.readAt (Elt F) arg8.view (Rect.unit (s := S1x4x896x256) (k0_off55 k) S1x1x64x256.size (k0_off55_inb k)).toLoadRect X_arg8) shapeCasts_S1x1x64x256_S64x256), (shapeCast S64x256 (View.readAt (Elt F) arg8.view (Rect.unit (s := S1x4x896x256) (k0_off63 k) S1x1x64x256.size (k0_off63_inb k)).toLoadRect X_arg8) shapeCasts_S1x1x64x256_S64x256), (shapeCast S64x256 (View.readAt (Elt F) arg8.view (Rect.unit (s := S1x4x896x256) (k0_off71 k) S1x1x64x256.size (k0_off71_inb k)).toLoadRect X_arg8) shapeCasts_S1x1x64x256_S64x256)]
  ds := ![(View.readAt (Elt F) arg4.view (Rect.unit (s := S448) (k0_off40 i k 0#32) S1.size (k0_off40_inb i k 0)).toLoadRect X_arg4 (Shape.Idx.first (Nat.lt_of_lt_of_eq Nat.one_pos numel1_S1.symm))), (View.readAt (Elt F) arg4.view (Rect.unit (s := S448) (k0_off40 i k 1#32) S1.size (k0_off40_inb i k 1)).toLoadRect X_arg4 (Shape.Idx.first (Nat.lt_of_lt_of_eq Nat.one_pos numel1_S1.symm))), (View.readAt (Elt F) arg4.view (Rect.unit (s := S448) (k0_off40 i k 2#32) S1.size (k0_off40_inb i k 2)).toLoadRect X_arg4 (Shape.Idx.first (Nat.lt_of_lt_of_eq Nat.one_pos numel1_S1.symm))), (View.readAt (Elt F) arg4.view (Rect.unit (s := S448) (k0_off40 i k 3#32) S1.size (k0_off40_inb i k 3)).toLoadRect X_arg4 (Shape.Idx.first (Nat.lt_of_lt_of_eq Nat.one_pos numel1_S1.symm)))]

/-- The inverse of a head, transposed, as a trip of the backward loop loads it. -/
def bT (arg19 : Memref sig .tc .vmem S14x4x64x64 .f32) (X_arg19 : BufTy.Contents (Elt F) arg19.view.ty) (k : Fin k0_t2_loop.trips) : Fin 4 → FVec F S64x64 .f32 :=
  ![(shapeCast S64x64 (View.readAt (Elt F) arg19.view (Rect.unit (s := S14x4x64x64) (k0_off54 k) S1x1x64x64.size (k0_off54_inb k)).toLoadRect X_arg19) shapeCasts_S1x1x64x64_S64x64), (shapeCast S64x64 (View.readAt (Elt F) arg19.view (Rect.unit (s := S14x4x64x64) (k0_off62 k) S1x1x64x64.size (k0_off62_inb k)).toLoadRect X_arg19) shapeCasts_S1x1x64x64_S64x64), (shapeCast S64x64 (View.readAt (Elt F) arg19.view (Rect.unit (s := S14x4x64x64) (k0_off70 k) S1x1x64x64.size (k0_off70_inb k)).toLoadRect X_arg19) shapeCasts_S1x1x64x64_S64x64), (shapeCast S64x64 (View.readAt (Elt F) arg19.view (Rect.unit (s := S14x4x64x64) (k0_off78 k) S1x1x64x64.size (k0_off78_inb k)).toLoadRect X_arg19) shapeCasts_S1x1x64x64_S64x64)]

/-- The state gradient of a head as a trip of the backward loop loads it. -/
def bS (arg20 : Memref sig .tc .vmem S4x128x256 .f32) (X_arg20 : BufTy.Contents (Elt F) arg20.view.ty) : Fin 4 → FVec F S128x256 .f32 :=
  ![(shapeCast S128x256 (View.readAt (Elt F) arg20.view (Rect.unit (s := S4x128x256) ![0, 0, 0] S1x128x256.size inb_S4x128x256_S1x128x256_0_0_0).toLoadRect X_arg20) shapeCasts_S1x128x256_S128x256), (shapeCast S128x256 (View.readAt (Elt F) arg20.view (Rect.unit (s := S4x128x256) ![1, 0, 0] S1x128x256.size inb_S4x128x256_S1x128x256_1_0_0).toLoadRect X_arg20) shapeCasts_S1x128x256_S128x256), (shapeCast S128x256 (View.readAt (Elt F) arg20.view (Rect.unit (s := S4x128x256) ![2, 0, 0] S1x128x256.size inb_S4x128x256_S1x128x256_2_0_0).toLoadRect X_arg20) shapeCasts_S1x128x256_S128x256), (shapeCast S128x256 (View.readAt (Elt F) arg20.view (Rect.unit (s := S4x128x256) ![3, 0, 0] S1x128x256.size inb_S4x128x256_S1x128x256_3_0_0).toLoadRect X_arg20) shapeCasts_S1x128x256_S128x256)]

theorem trip2_V (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (k : Fin k0_t2_loop.trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f20 : BufTy.Contents (Elt F) arg20.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 X_arg2 X_arg3 X_arg4 X_arg5 X_arg6 X_arg7 X_arg8 X_arg9 X_arg10 X_arg11 X_arg17 X_arg18 X_arg19 k).2.2.1 f12 f13 f14 f15 f16 f20
      = [⟨Rect.unit (k0_off71 k) ![1, 1, 64, 256] (k0_off71_inb k), outV ((bblk i arg2 arg3 arg4 arg5 arg6 arg8 arg9 arg10 arg11 X_arg2 X_arg3 X_arg4 X_arg5 X_arg6 X_arg8 X_arg9 X_arg10 X_arg11 k).V 3 (bT arg19 X_arg19 k 3) (bS arg20 f20 3))⟩, ⟨Rect.unit (k0_off63 k) ![1, 1, 64, 256] (k0_off63_inb k), outV ((bblk i arg2 arg3 arg4 arg5 arg6 arg8 arg9 arg10 arg11 X_arg2 X_arg3 X_arg4 X_arg5 X_arg6 X_arg8 X_arg9 X_arg10 X_arg11 k).V 2 (bT arg19 X_arg19 k 2) (bS arg20 f20 2))⟩, ⟨Rect.unit (k0_off55 k) ![1, 1, 64, 256] (k0_off55_inb k), outV ((bblk i arg2 arg3 arg4 arg5 arg6 arg8 arg9 arg10 arg11 X_arg2 X_arg3 X_arg4 X_arg5 X_arg6 X_arg8 X_arg9 X_arg10 X_arg11 k).V 1 (bT arg19 X_arg19 k 1) (bS arg20 f20 1))⟩, ⟨Rect.unit (k0_off47 k) ![1, 1, 64, 256] (k0_off47_inb k), outV ((bblk i arg2 arg3 arg4 arg5 arg6 arg8 arg9 arg10 arg11 X_arg2 X_arg3 X_arg4 X_arg5 X_arg6 X_arg8 X_arg9 X_arg10 X_arg11 k).V 0 (bT arg19 X_arg19 k 0) (bS arg20 f20 0))⟩] := by
  unfold trip_k0_t2
  sl_kernel_rfl

theorem trip2_S (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (k : Fin k0_t2_loop.trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f20 : BufTy.Contents (Elt F) arg20.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 X_arg2 X_arg3 X_arg4 X_arg5 X_arg6 X_arg7 X_arg8 X_arg9 X_arg10 X_arg11 X_arg17 X_arg18 X_arg19 k).2.2.2.2.2.1 f12 f13 f14 f15 f16 f20
      = [⟨Rect.unit ![3, 0, 0] ![1, 128, 256] inb_S4x128x256_S1x128x256_3_0_0, outS ((bblk i arg2 arg3 arg4 arg5 arg6 arg8 arg9 arg10 arg11 X_arg2 X_arg3 X_arg4 X_arg5 X_arg6 X_arg8 X_arg9 X_arg10 X_arg11 k).S 3 (bT arg19 X_arg19 k 3) (bS arg20 f20 3))⟩, ⟨Rect.unit ![2, 0, 0] ![1, 128, 256] inb_S4x128x256_S1x128x256_2_0_0, outS ((bblk i arg2 arg3 arg4 arg5 arg6 arg8 arg9 arg10 arg11 X_arg2 X_arg3 X_arg4 X_arg5 X_arg6 X_arg8 X_arg9 X_arg10 X_arg11 k).S 2 (bT arg19 X_arg19 k 2) (bS arg20 f20 2))⟩, ⟨Rect.unit ![1, 0, 0] ![1, 128, 256] inb_S4x128x256_S1x128x256_1_0_0, outS ((bblk i arg2 arg3 arg4 arg5 arg6 arg8 arg9 arg10 arg11 X_arg2 X_arg3 X_arg4 X_arg5 X_arg6 X_arg8 X_arg9 X_arg10 X_arg11 k).S 1 (bT arg19 X_arg19 k 1) (bS arg20 f20 1))⟩, ⟨Rect.unit ![0, 0, 0] ![1, 128, 256] inb_S4x128x256_S1x128x256_0_0_0, outS ((bblk i arg2 arg3 arg4 arg5 arg6 arg8 arg9 arg10 arg11 X_arg2 X_arg3 X_arg4 X_arg5 X_arg6 X_arg8 X_arg9 X_arg10 X_arg11 k).S 0 (bT arg19 X_arg19 k 0) (bS arg20 f20 0))⟩] := by
  unfold trip_k0_t2
  sl_kernel_rfl

end Cert.KernelIdeal.Head
-- ==== Proof.Value.Mask.lean ====
/- The comparisons of row and lane numbers the kernel masks with, decided over the numbers they run over. -/
module

public import proofs.«01_k».proof.Proof.Value.Head

@[expose] public section

namespace Cert.KernelIdeal.Head

open Idealize.ShloMosaic

theorem lt64 (l : Fin 128) : IntOp.cmpi .slt (BitVec.ofNat 32 l.val) 64#32 = BitVec.ofBool (decide (l.val < 64)) := by
  revert l; decide +kernel
theorem ge_rc (r c : Fin 64) : IntOp.cmpi .sge (BitVec.ofNat 32 r.val) (BitVec.ofNat 32 c.val) = BitVec.ofBool (decide (c ≤ r)) := by
  revert r c; decide +kernel
theorem gt_rl (r : Fin 64) (l : Fin 128) : IntOp.cmpi .sgt (BitVec.ofNat 32 r.val) (IntOp.andi (BitVec.ofNat 32 l.val) 63#32) = BitVec.ofBool (decide (l.val % 64 < r.val)) := by
  revert r l; decide +kernel
theorem le_rl (r : Fin 64) (l : Fin 128) : IntOp.cmpi .sle (BitVec.ofNat 32 r.val) (IntOp.andi (BitVec.ofNat 32 l.val) 63#32) = BitVec.ofBool (decide (r.val ≤ l.val % 64)) := by
  revert r l; decide +kernel
theorem up_rc (r c : Fin 128) : IntOp.andi (IntOp.cmpi .sle (BitVec.ofNat 32 r.val) (BitVec.ofNat 32 c.val))
      (IntOp.xori (IntOp.xori (IntOp.cmpi .slt (BitVec.ofNat 32 r.val) 64#32) (IntOp.cmpi .slt (BitVec.ofNat 32 c.val) 64#32)) 1#1)
    = BitVec.ofBool (decide (r ≤ c ∧ (r.val < 64 ↔ c.val < 64))) := by
  revert r c; decide +kernel

theorem blk32 (l : Fin 128) : IntOp.cmpi .eq (IntOp.andi (BitVec.ofNat 32 l.val) 32#32) 0#32 = BitVec.ofBool (decide (l.val % 64 < 32)) := by
  revert l; decide +kernel
theorem eye32 (r : Fin 32) (l : Fin 128) : IntOp.cmpi .eq (BitVec.ofNat 32 r.val) (IntOp.andi (BitVec.ofNat 32 l.val) 31#32) = BitVec.ofBool (decide (r.val = l.val % 32)) := by
  revert r l; decide +kernel
/-- The lane a block's column stands at. -/
theorem lane32 (l : Fin 128) (j : Fin 32) :
    (Scalar.select (IntOp.cmpi .slt (IntOp.addi (IntOp.andi (BitVec.ofNat 32 l.val) 4294967264#32) (BitVec.ofNat 32 j.val)) 0#32)
      (IntOp.addi (IntOp.addi (IntOp.andi (BitVec.ofNat 32 l.val) 4294967264#32) (BitVec.ofNat 32 j.val)) 128#32)
      (IntOp.addi (IntOp.andi (BitVec.ofNat 32 l.val) 4294967264#32) (BitVec.ofNat 32 j.val))).toNat % 128 = l.val / 32 * 32 + j.val := by
  revert l j; decide +kernel

end Cert.KernelIdeal.Head
-- ==== Proof.Value.Real.lean ====
/- The chunk functions at real numbers: what each computes on the extended reals when its operands are real. -/
module

public import proofs.«01_k».proof.Proof.Value.Mask
public import Idealize.ShloMosaic.Lib.Pointwise
public import Mathlib.LinearAlgebra.Matrix.NonsingularInverse

@[expose] public section

noncomputable section

namespace Cert.KernelIdeal.Head

open Cert.KernelIdeal Cert.KernelIdeal.Gen Idealize.ShloMosaic Idealize.SL.Sem
open scoped BigOperators

/-- The array `x` holds the real matrix `X`. -/
def Is {a b : Nat} (x : (⟨2, ![a, b]⟩ : Shape).Idx → EReal) (X : Matrix (Fin a) (Fin b) ℝ) : Prop :=
  ∀ r c, x (ix2 r c) = ((X r c : ℝ) : EReal)

theorem coe_sum {ι : Type*} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

theorem sub_self_coe (x : ℝ) : (x : EReal) - (x : EReal) = 0 := by rw [← EReal.coe_sub, sub_self, EReal.coe_zero]

section Limbs
variable {a b : Nat} {x : FVec Ideal ⟨2, ![a, b]⟩ .f32} {X : Matrix (Fin a) (Fin b) ℝ}

theorem lim0_is (h : Is x X) : Is (lim0 x) X := fun r c => h r c
theorem lim1_is (h : Is x X) : Is (lim1 x) 0 := fun r c => by
  show x (ix2 r c) - x (ix2 r c) = _
  rw [h r c, sub_self_coe]; rfl
theorem lim2_is (h : Is x X) : Is (lim2 x) 0 := fun r c => by
  show x (ix2 r c) - x (ix2 r c) - (x (ix2 r c) - x (ix2 r c)) = _
  rw [h r c, sub_self_coe]; simp
end Limbs

/-- A sum over three stretches of the same length. -/
theorem sum3 {n N : Nat} (hN : N = n + n + n) (F : Fin N → EReal) :
    ∑ x, F x = ∑ k : Fin n, (F ⟨k.val, by omega⟩ + F ⟨k.val + n, by omega⟩ + F ⟨k.val + n + n, by omega⟩) := by
  subst hN
  rw [Fin.sum_univ_add, Fin.sum_univ_add, Finset.sum_add_distrib, Finset.sum_add_distrib]
  congr 1
  · congr 1
    exact Finset.sum_congr rfl fun k _ => congrArg F (Fin.ext (by simp only [Fin.val_castAdd, Fin.val_natAdd]; omega))
  · exact Finset.sum_congr rfl fun k _ => congrArg F (Fin.ext (by simp only [Fin.val_natAdd]; omega))

/-- A sum over six stretches of the same length. -/
theorem sum6 {n N : Nat} (hN : N = n + n + n + (n + n + n)) (F : Fin N → EReal) :
    ∑ x, F x = ∑ k : Fin n, (F ⟨k.val, by omega⟩ + F ⟨k.val + n, by omega⟩ + F ⟨k.val + n + n, by omega⟩
      + (F ⟨k.val + n + n + n, by omega⟩ + F ⟨k.val + n + n + n + n, by omega⟩ + F ⟨k.val + n + n + n + n + n, by omega⟩)) := by
  subst hN
  rw [Fin.sum_univ_add, sum3 rfl, sum3 rfl, ← Finset.sum_add_distrib]
  refine Finset.sum_congr rfl fun k _ => ?_
  congr 1
  congr 1
  · congr 1 <;> exact congrArg F (Fin.ext (by simp only [Fin.val_natAdd]; omega))
  · exact congrArg F (Fin.ext (by simp only [Fin.val_natAdd]; omega))

/-- A matrix product's entry on the extended reals. -/
theorem coe_mul_apply {a b c : Nat} (A : Matrix (Fin a) (Fin b) ℝ) (B : Matrix (Fin b) (Fin c) ℝ) (i : Fin a) (j : Fin c) :
    (((A * B) i j : ℝ) : EReal) = ∑ k, (A i k : EReal) * (B k j : EReal) := by
  simp only [Matrix.mul_apply, ← EReal.coe_mul, coe_sum]

theorem dotPD_is {a : FVec Ideal S64x64 .f32} {b : FVec Ideal S64x256 .bf16} {A : Matrix (Fin 64) (Fin 64) ℝ} {B : Matrix (Fin 64) (Fin 256) ℝ}
    (ha : Is (a := 64) (b := 64) a A) (hb : Is (a := 64) (b := 256) b B) : Is (a := 64) (b := 256) (dotPD a b) (A * B) := by
  intro r c
  pointwise [dotPD]
  rw [coe_mul_apply, sum3 (n := 64) rfl]
  refine Finset.sum_congr rfl fun k _ => ?_
  have h1 := k.isLt
  have h2 : ¬ (k.val + 64 < 64) := by omega
  have h3 : ¬ (k.val + 64 + 64 < 64) := by omega
  simp only [dif_pos h1, dif_neg h2, dif_neg h3, Nat.add_sub_cancel, Fin.eta, lim0_is ha r k, lim1_is ha r k, lim2_is ha r k, hb k c]
  simp

theorem dotKS_is {a : FVec Ideal S64x128 .bf16} {b : FVec Ideal S128x256 .f32} {A : Matrix (Fin 64) (Fin 128) ℝ} {B : Matrix (Fin 128) (Fin 256) ℝ}
    (ha : Is (a := 64) (b := 128) a A) (hb : Is (a := 128) (b := 256) b B) : Is (a := 64) (b := 256) (dotKS a b) (A * B) := by
  intro r c
  pointwise [dotKS]
  rw [coe_mul_apply, sum3 (n := 128) rfl]
  refine Finset.sum_congr rfl fun k _ => ?_
  have h1 := k.isLt
  have h2 : ¬ (k.val + 128 < 128) := by omega
  have h3 : ¬ (k.val + 128 + 128 < 128) := by omega
  simp only [dif_pos h1, dif_neg h2, dif_neg h3, Nat.add_sub_cancel, Fin.eta, lim0_is hb k c, lim1_is hb k c, lim2_is hb k c, ha r k]
  simp

theorem dotXtU_is {a : FVec Ideal S64x128 .bf16} {b : FVec Ideal S64x256 .f32} {A : Matrix (Fin 64) (Fin 128) ℝ} {B : Matrix (Fin 64) (Fin 256) ℝ}
    (ha : Is (a := 64) (b := 128) a A) (hb : Is (a := 64) (b := 256) b B) : Is (a := 128) (b := 256) (dotXtU a b) (A.transpose * B) := by
  intro r c
  pointwise [dotXtU]
  rw [coe_mul_apply, sum3 (n := 64) rfl]
  refine Finset.sum_congr rfl fun k _ => ?_
  have h1 := k.isLt
  have h2 : ¬ (k.val + 64 < 64) := by omega
  have h3 : ¬ (k.val + 64 + 64 < 64) := by omega
  simp only [dif_pos h1, dif_neg h2, dif_neg h3, Nat.add_sub_cancel, Fin.eta, lim0_is hb k c, lim1_is hb k c, lim2_is hb k c, ha k r]
  simp

theorem six32_is {a b : FVec Ideal S32x32 .f32} {A B : Matrix (Fin 32) (Fin 32) ℝ}
    (ha : Is (a := 32) (b := 32) a A) (hb : Is (a := 32) (b := 32) b B) : Is (a := 32) (b := 32) (six32 a b) (A * B) := by
  intro r c
  pointwise [six32]
  rw [coe_mul_apply, sum6 (n := 32) rfl]
  refine Finset.sum_congr rfl fun k _ => ?_
  have h1 := k.isLt
  have h2 : ¬ (k.val + 32 < 32) := by omega
  have h3 : ¬ (k.val + 32 + 32 < 32) := by omega
  have h4 : ¬ (k.val + 32 + 32 + 32 < 32) := by omega
  have h5 : ¬ (k.val + 32 + 32 + 32 + 32 < 32) := by omega
  have h6 : ¬ (k.val + 32 + 32 + 32 + 32 + 32 < 32) := by omega
  simp only [dif_pos h1, dif_neg h2, dif_neg h3, dif_neg h4, dif_neg h5, dif_neg h6, Nat.add_sub_cancel, Fin.eta, lim0_is hb k c, lim1_is hb k c, lim2_is hb k c, lim0_is ha r k, lim1_is ha r k, lim2_is ha r k]
  simp

theorem dotTU_is {a : FVec Ideal S64x64 .f32} {b : FVec Ideal S64x256 .f32} {A : Matrix (Fin 64) (Fin 64) ℝ} {B : Matrix (Fin 64) (Fin 256) ℝ}
    (ha : Is (a := 64) (b := 64) a A) (hb : Is (a := 64) (b := 256) b B) : Is (a := 64) (b := 256) (dotTU a b) (A * B) := by
  intro r c
  pointwise [dotTU]
  rw [coe_mul_apply, sum6 (n := 64) rfl]
  refine Finset.sum_congr rfl fun k _ => ?_
  have h1 := k.isLt
  have h2 : ¬ (k.val + 64 < 64) := by omega
  have h3 : ¬ (k.val + 64 + 64 < 64) := by omega
  have h4 : ¬ (k.val + 64 + 64 + 64 < 64) := by omega
  have h5 : ¬ (k.val + 64 + 64 + 64 + 64 < 64) := by omega
  have h6 : ¬ (k.val + 64 + 64 + 64 + 64 + 64 < 64) := by omega
  simp only [dif_pos h1, dif_neg h2, dif_neg h3, dif_neg h4, dif_neg h5, dif_neg h6, Nat.add_sub_cancel, Fin.eta, lim0_is hb k c, lim1_is hb k c, lim2_is hb k c, lim0_is ha r k, lim1_is ha r k, lim2_is ha r k]
  simp

/-! ### The masks -/

theorem select_ofBool {α : Type} (p : Prop) [Decidable p] (x y : α) : Scalar.select (BitVec.ofBool (decide p)) x y = if p then x else y := by
  by_cases h : p <;> simp [h, Scalar.select, BitVec.ofBool]

/-- Ones on and below the diagonal. -/
def maskL : Matrix (Fin 64) (Fin 64) ℝ := fun r c => if c ≤ r then 1 else 0
/-- Ones on and above the diagonal of two diagonal blocks. -/
def maskU : Matrix (Fin 128) (Fin 128) ℝ := fun r c => if r ≤ c ∧ (r.val < 64 ↔ c.val < 64) then 1 else 0

theorem exp_coe (x : ℝ) : Ideal.exp (x : EReal) = ((Real.exp x : ℝ) : EReal) := rfl
theorem exp_bot : Ideal.exp ⊥ = 0 := rfl

theorem pay519_is : Is (a := 64) (b := 64) (k0_pay519 (F := Ideal)) maskL := by
  intro r c
  pointwise [k0_pay519]
  rw [ge_rc, select_ofBool]; unfold maskL; split_ifs <;> simp

theorem pay524_is : Is (a := 128) (b := 128) (k0_pay524 (F := Ideal)) maskU := by
  intro r c
  pointwise [k0_pay524]
  rw [up_rc, select_ofBool]; unfold maskU; split_ifs <;> simp

/-! ### The gates -/

/-- A chunk's cumulative log decay. -/
def cum {n : Nat} (la : Matrix (Fin 64) (Fin n) ℝ) : Matrix (Fin 64) (Fin n) ℝ := fun r h => ∑ t : Fin 64, if t ≤ r then la t h else 0

theorem gate_is {al : FVec Ideal S64x4 .f32} {la : Matrix (Fin 64) (Fin 4) ℝ} (h : Is (a := 64) (b := 4) (log al : FVec Ideal S64x4 .f32) la) :
    Is (a := 64) (b := 4) (gate al) (cum la) := by
  intro r c
  have e : cum la r c = (maskL * la) r c := by
    simp [cum, maskL, Matrix.mul_apply]
  rw [e, coe_mul_apply]
  pointwise [gate]
  rw [sum3 (n := 64) rfl]
  refine Finset.sum_congr rfl fun k _ => ?_
  have h1 := k.isLt
  have h2 : ¬ (k.val + 64 < 64) := by omega
  have h3 : ¬ (k.val + 64 + 64 < 64) := by omega
  simp only [dif_pos h1, dif_neg h2, dif_neg h3, Nat.add_sub_cancel, Fin.eta, lim0_is h k c, lim1_is h k c, lim2_is h k c, pay519_is r k]
  simp

theorem gateRow_is {al : FVec Ideal S2x128 .f32} {la : Matrix (Fin 2) (Fin 128) ℝ} (h : Is (a := 2) (b := 128) (log al : FVec Ideal S2x128 .f32) la) :
    Is (a := 2) (b := 128) (gateRow al) (la * maskU) := by
  intro r c
  rw [coe_mul_apply]
  pointwise [gateRow]
  rw [sum3 (n := 128) rfl]
  refine Finset.sum_congr rfl fun k _ => ?_
  have h1 := k.isLt
  have h2 : ¬ (k.val + 128 < 128) := by omega
  have h3 : ¬ (k.val + 128 + 128 < 128) := by omega
  simp only [dif_pos h1, dif_neg h2, dif_neg h3, Nat.add_sub_cancel, Fin.eta, lim0_is h r k, lim1_is h r k, lim2_is h r k, pay524_is k c]
  simp

/-- Real numbers a chunk's loads hold. -/
structure RBlk where
  /-- log decay -/
  la : Matrix (Fin 64) (Fin 4) ℝ
  /-- write strength -/
  be : Matrix (Fin 64) (Fin 4) ℝ
  /-- key codes -/
  k : Fin 4 → Matrix (Fin 64) (Fin 128) ℝ
  /-- query codes -/
  q : Fin 4 → Matrix (Fin 64) (Fin 128) ℝ
  /-- output gradient codes -/
  d : Fin 4 → Matrix (Fin 64) (Fin 256) ℝ
  /-- key scales -/
  sk : Fin 4 → ℝ
  /-- query scales -/
  sq : Fin 4 → ℝ
  /-- output gradient scales -/
  ds : Fin 4 → ℝ
  /-- values -/
  v : Fin 4 → Matrix (Fin 64) (Fin 256) ℝ

/-- The head on a lane of a pair. -/
def laneHead (p : Fin 2) (l : Fin 128) : Fin 4 := if l.val < 64 then ha p else hb p
/-- The row a lane stands for. -/
def laneRow (l : Fin 128) : Fin 64 := ⟨l.val % 64, Nat.mod_lt _ (by omega)⟩

/-- The log decays as rows, a pair of heads side by side. -/
def RBlk.lar (R : RBlk) : Matrix (Fin 2) (Fin 128) ℝ := fun p l => R.la (laneRow l) (laneHead p l)

/-- The forward pass's loads hold these numbers. -/
structure FBlk.IsR (B : FBlk Ideal) (R : RBlk) : Prop where
  al : Is (a := 64) (b := 4) (log B.al : FVec Ideal S64x4 .f32) R.la
  alr : Is (a := 2) (b := 128) (log B.alr : FVec Ideal S2x128 .f32) R.lar
  be : Is (a := 64) (b := 4) B.be R.be
  k : ∀ h, Is (a := 64) (b := 128) (B.k h) (R.k h)
  sk : ∀ h, B.sk h = ((R.sk h : ℝ) : EReal)

/-- The backward pass's loads hold these numbers. -/
structure Blk.IsR (B : Blk Ideal) (R : RBlk) : Prop extends FBlk.IsR B.toFBlk R where
  q : ∀ h, Is (a := 64) (b := 128) (B.q h) (R.q h)
  sq : ∀ h, B.sq h = ((R.sq h : ℝ) : EReal)
  d : ∀ h, Is (a := 64) (b := 256) (B.d h) (R.d h)
  ds : ∀ h, B.ds h = ((R.ds h : ℝ) : EReal)

/-- The cumulative log decay along the lanes of a pair is the one along the rows. -/
theorem gateRow_cum {B : FBlk Ideal} {R : RBlk} (H : B.IsR R) (p : Fin 2) (l : Fin 128) :
    gateRow B.alr (ix2 p l) = ((cum R.la (laneRow l) (laneHead p l) : ℝ) : EReal) := by
  rw [gateRow_is H.alr p l]
  congr 1
  rw [Matrix.mul_apply, cum]
  have e : ∀ F : Fin 128 → ℝ, ∑ x, F x = ∑ k : Fin 64, (F ⟨k.val, by omega⟩ + F ⟨64 + k.val, by omega⟩) := fun F => by
    rw [Finset.sum_add_distrib]; exact Fin.sum_univ_add (a := 64) (b := 64) F
  rw [e]
  refine Finset.sum_congr rfl fun t _ => ?_
  have ht := t.isLt
  have hl := l.isLt
  by_cases h64 : l.val < 64
  · have h1 : laneRow l = ⟨l.val, h64⟩ := Fin.ext (Nat.mod_eq_of_lt h64)
    have h2 : laneRow ⟨t.val, by omega⟩ = t := Fin.ext (Nat.mod_eq_of_lt ht)
    simp [RBlk.lar, laneHead, maskU, h64, h1, h2, Fin.le_def]
  · have h1 : laneRow l = ⟨l.val - 64, by omega⟩ := Fin.ext (by simp only [laneRow]; omega)
    have h2 : laneRow ⟨64 + t.val, by omega⟩ = t := Fin.ext (by simp only [laneRow]; omega)
    have h3 : (64 + t.val ≤ l.val) ↔ (t.val ≤ l.val - 64) := by omega
    simp [RBlk.lar, laneHead, maskU, h64, h1, h2, Fin.le_def, h3]

/-! ### The masked products -/

/-- Inner products of rows. -/
def gram (a b : Matrix (Fin 64) (Fin 128) ℝ) : Matrix (Fin 64) (Fin 64) ℝ := a * b.transpose

/-- The solve's strictly lower matrix. -/
def RBlk.A (R : RBlk) (h : Fin 4) : Matrix (Fin 64) (Fin 64) ℝ := fun r l =>
  if l < r then R.be r h * (gram (R.k h) (R.k h) r l * (R.sk h * R.sk h)) * Real.exp (cum R.la r h - cum R.la l h) else 0

/-- The attention matrix, transposed. -/
def RBlk.P (R : RBlk) (h : Fin 4) : Matrix (Fin 64) (Fin 64) ℝ := fun r l =>
  if r ≤ l then gram (R.k h) (R.q h) r l * (R.sq h * R.sk h) * Real.exp (cum R.la l h - cum R.la r h) else 0

theorem packDot_apply {a b : Fin 4 → FVec Ideal S64x128 .fp8e4m3} {a' b' : Fin 4 → Matrix (Fin 64) (Fin 128) ℝ}
    (h1 : ∀ h, Is (a := 64) (b := 128) (a h) (a' h)) (h2 : ∀ h, Is (a := 64) (b := 128) (b h) (b' h)) (p : Fin 2) (r : Fin 64) (l : Fin 128) :
    packDot (a (ha p)) (a (hb p)) (b (ha p)) (b (hb p)) (ix2 r l) = ((gram (a' (laneHead p l)) (b' (laneHead p l)) r (laneRow l) : ℝ) : EReal) := by
  pointwise [packDot, k0_pay522]
  rw [lt64, select_ofBool]
  by_cases h64 : l.val < 64
  · have h3 : laneRow l = ⟨l.val, h64⟩ := Fin.ext (Nat.mod_eq_of_lt h64)
    simp only [h64, if_true, dif_pos, h1 _ _ _, h2 _ _ _, laneHead, h3, gram, coe_mul_apply, Matrix.transpose_apply]
  · have h3 : laneRow l = ⟨l.val - 64, by omega⟩ := Fin.ext (by simp only [laneRow]; omega)
    simp only [h64, if_false, dif_neg, not_false_eq_true, h1 _ _ _, h2 _ _ _, laneHead, h3, gram, coe_mul_apply, Matrix.transpose_apply]

theorem negInf : Ideal.ofBits .f32 4286578688#32 = ⊥ := by
  simp [Ideal.ofBits, Ideal.ieee]

theorem packA_apply {B : FBlk Ideal} {R : RBlk} (H : B.IsR R) (p : Fin 2) (r : Fin 64) (l : Fin 128) :
    B.A p (ix2 r l) = ((R.A (laneHead p l) r (laneRow l) : ℝ) : EReal) := by
  unfold FBlk.A
  pointwise [packA, spread, spreadS, rowB, col, rowI, k0_pay522, k0_pay523]
  rw [packDot_apply H.k H.k, gateRow_cum H, lt64, gt_rl]
  simp only [select_ofBool, gate_is H.al _ _, H.be _ _, H.sk, negInf]
  have e : ∀ f : Fin 4 → EReal, (if l.val < 64 then f (ha p) else f (hb p)) = f (laneHead p l) := fun f => by
    unfold laneHead; split_ifs <;> rfl
  rw [e fun h => ((R.be r h : ℝ) : EReal), e fun h => ((R.sk h : ℝ) : EReal) * ((R.sk h : ℝ) : EReal), e fun h => ((cum R.la r h : ℝ) : EReal)]
  unfold RBlk.A
  by_cases hl : l.val % 64 < r.val
  · have hl' : laneRow l < r := hl
    rw [if_pos hl, if_pos hl', ← EReal.coe_sub]
    simp only [exp_coe, EReal.coe_mul]
  · have hl' : ¬ laneRow l < r := hl
    rw [if_neg hl, if_neg hl']
    simp [exp_bot]

theorem packP_apply {B : Blk Ideal} {R : RBlk} (H : B.IsR R) (p : Fin 2) (r : Fin 64) (l : Fin 128) :
    B.P p (ix2 r l) = ((R.P (laneHead p l) r (laneRow l) : ℝ) : EReal) := by
  unfold Blk.P
  pointwise [packP, spread, spreadS, rowB, col, rowI, k0_pay522, k0_pay523]
  rw [packDot_apply H.k H.q, gateRow_cum H.toIsR, lt64, le_rl]
  simp only [select_ofBool, gate_is H.al _ _, H.be _ _, H.sk, H.sq, negInf]
  have e : ∀ f : Fin 4 → EReal, (if l.val < 64 then f (ha p) else f (hb p)) = f (laneHead p l) := fun f => by
    unfold laneHead; split_ifs <;> rfl
  rw [e fun h => ((R.sq h : ℝ) : EReal) * ((R.sk h : ℝ) : EReal), e fun h => ((cum R.la r h : ℝ) : EReal)]
  unfold RBlk.P
  by_cases hl : r.val ≤ l.val % 64
  · have hl' : r ≤ laneRow l := hl
    rw [if_pos hl, if_pos hl', ← EReal.coe_sub]
    simp only [exp_coe, EReal.coe_mul]
  · have hl' : ¬ r ≤ laneRow l := hl
    rw [if_neg hl, if_neg hl']
    simp [exp_bot]

/-- The scale `1/√128` as a float32, a real number. -/
def c128 : ℝ := (Ideal.ofBits .f32 0x3DB504F3#32).toReal

theorem c128_coe : Ideal.ofBits .f32 0x3DB504F3#32 = ((c128 : ℝ) : EReal) := by
  unfold c128
  have h : ∃ x : ℝ, Ideal.ofBits .f32 0x3DB504F3#32 = (x : EReal) := by
    simp only [Ideal.ofBits, Ideal.ieee]
    norm_num
    exact ⟨_, rfl⟩
  obtain ⟨x, hx⟩ := h
  rw [hx, EReal.toReal_coe]

end Cert.KernelIdeal.Head
-- ==== Proof.Value.Solve.lean ====
/- The solve: forward substitution on the four diagonal blocks, joined, is the inverse of one plus the strictly lower matrix. -/
module

public import proofs.«01_k».proof.Proof.Value.Real

@[expose] public section

noncomputable section

namespace Cert.KernelIdeal.Head

open Cert.KernelIdeal Cert.KernelIdeal.Gen Idealize.ShloMosaic Idealize.SL.Sem
open scoped BigOperators

/-- Forward substitution on a real matrix, `n` steps of it. -/
def elimR (M : Matrix (Fin 32) (Fin 32) ℝ) : ℕ → Matrix (Fin 32) (Fin 32) ℝ
  | 0 => 1
  | n + 1 => fun r l => elimR M n r l - M r ⟨n % 32, Nat.mod_lt _ (by omega)⟩ * elimR M n ⟨n % 32, Nat.mod_lt _ (by omega)⟩ l

theorem elimR_step {M : Matrix (Fin 32) (Fin 32) ℝ} (hM : ∀ r l, r ≤ l → M r l = 0) (n : ℕ) (hn : n < 32) (s l : Fin 32) (hs : s.val ≤ n) :
    elimR M (n + 1) s l = elimR M n s l := by
  have h : M s ⟨n % 32, Nat.mod_lt _ (by omega)⟩ = 0 := hM _ _ (Fin.le_def.2 (le_trans hs (Nat.mod_eq_of_lt hn).ge))
  show elimR M n s l - _ * _ = _
  rw [h, zero_mul, sub_zero]

theorem elimR_inv {M : Matrix (Fin 32) (Fin 32) ℝ} (hM : ∀ r l, r ≤ l → M r l = 0) (n : ℕ) (hn : n ≤ 32) (r l : Fin 32) :
    elimR M n r l = (1 : Matrix (Fin 32) (Fin 32) ℝ) r l - ∑ s : Fin 32, if s.val < n then M r s * elimR M n s l else 0 := by
  induction n generalizing r l with
  | zero => simp [elimR]
  | succ n ih =>
    have hn' : n < 32 := hn
    have e : (⟨n % 32, Nat.mod_lt _ (by omega)⟩ : Fin 32) = ⟨n, hn'⟩ := Fin.ext (Nat.mod_eq_of_lt hn')
    have h1 : elimR M (n + 1) r l = elimR M n r l - M r ⟨n, hn'⟩ * elimR M n ⟨n, hn'⟩ l := by
      show elimR M n r l - M r _ * elimR M n _ l = _
      rw [e]
    rw [h1, ih (by omega) r l, sub_sub]
    congr 1
    have h2 : M r ⟨n, hn'⟩ * elimR M n ⟨n, hn'⟩ l = ∑ s : Fin 32, if s = ⟨n, hn'⟩ then M r s * elimR M n s l else 0 := by
      rw [Finset.sum_ite_eq' Finset.univ]; simp
    rw [h2, ← Finset.sum_add_distrib]
    refine Finset.sum_congr rfl fun s _ => ?_
    by_cases hs : s.val < n
    · have hs2 : s ≠ ⟨n, hn'⟩ := fun h => by rw [h] at hs; exact absurd hs (lt_irrefl _)
      rw [if_pos hs, if_neg hs2, if_pos (by omega), add_zero, elimR_step hM n hn' s l (by omega)]
    · by_cases hs3 : s = ⟨n, hn'⟩
      · subst hs3
        rw [if_neg hs, if_pos rfl, if_pos (Nat.lt_succ_self n), zero_add, elimR_step hM n hn' _ l (le_refl n)]
      · have hs4 : s.val ≠ n := fun h => hs3 (Fin.ext h)
        rw [if_neg hs, if_neg hs3, if_neg (by omega), add_zero]

theorem elimR_solve {M : Matrix (Fin 32) (Fin 32) ℝ} (hM : ∀ r l, r ≤ l → M r l = 0) : (1 + M) * elimR M 31 = 1 := by
  ext r l
  rw [Matrix.add_mul, Matrix.one_mul, Matrix.add_apply, elimR_inv hM 31 (by omega) r l, Matrix.mul_apply]
  have h : (∑ s : Fin 32, if s.val < 31 then M r s * elimR M 31 s l else 0) = ∑ s : Fin 32, M r s * elimR M 31 s l := by
    refine Finset.sum_congr rfl fun s _ => ?_
    by_cases hs : s.val < 31
    · rw [if_pos hs]
    · rw [if_neg hs, hM r s (Fin.le_def.2 (by omega)), zero_mul]
  rw [h, sub_add_cancel]

/-- A lane of block `u` of the pair's head `w`. -/
def lane (w u : Fin 2) (l : Fin 32) : Fin 128 := ⟨64 * w.val + 32 * u.val + l.val, by omega⟩

theorem elim_apply {b : FVec Ideal S32x128 .f32} {M : Matrix (Fin 32) (Fin 32) ℝ} (w u : Fin 2)
    (hb : ∀ r s, b (ix2 r (lane w u s)) = ((M r s : ℝ) : EReal)) (n : ℕ) (hn : n ≤ 32) (r l : Fin 32) :
    elim b n (ix2 r (lane w u l)) = ((elimR M n r l : ℝ) : EReal) := by
  induction n generalizing r l with
  | zero =>
    unfold elim
    pointwise [eyes, laneI]
    rw [eye32, select_ofBool]
    have h : (lane w u l).val % 32 = l.val := by simp only [lane]; omega
    rw [h]
    by_cases hr : r = l
    · subst hr
      rw [if_pos (by simp)]
      simp [elimR]
    · have : r.val ≠ l.val := fun h => hr (Fin.ext h)
      simp [elimR, hr, this]
  | succ n ih =>
    unfold elim
    have hn' : n < 32 := hn
    have hc : colB b n (ix2 r (lane w u l)) = b (ix2 r (lane w u ⟨n, hn'⟩)) := by
      pointwise [colB, laneOf, laneI]
      refine congrArg (fun z => b (ix2 r z)) (Fin.ext ?_)
      refine (lane32 (lane w u l) ⟨n, hn'⟩).trans ?_
      simp only [lane]; omega
    have hx : rowX (elim b n) n (ix2 r (lane w u l)) = elim b n (ix2 ⟨n % 32, Nat.mod_lt _ (by omega)⟩ (lane w u l)) := by
      pointwise [rowX]
    pointwise []
    rw [hc, hx, ih (by omega), ih (by omega), hb, ← EReal.coe_mul, ← EReal.coe_sub]
    have e : (⟨n % 32, Nat.mod_lt _ (by omega)⟩ : Fin 32) = ⟨n, hn'⟩ := Fin.ext (Nat.mod_eq_of_lt hn')
    show _ = ((elimR M n r l - M r _ * elimR M n _ l : ℝ) : EReal)
    rw [e]

/-- A lane of the pair's head `w`. -/
def laneW (w : Fin 2) (l : Fin 64) : Fin 128 := ⟨64 * w.val + l.val, by omega⟩

/-- The lower and the upper half of the 64 rows. -/
def loR (i : Fin 32) : Fin 64 := Fin.castAdd 32 i
def upR (i : Fin 32) : Fin 64 := Fin.natAdd 32 i

/-- The three blocks of a lower triangular matrix. -/
def blk0 (A : Matrix (Fin 64) (Fin 64) ℝ) : Matrix (Fin 32) (Fin 32) ℝ := fun r l => A (loR r) (loR l)
def blk1 (A : Matrix (Fin 64) (Fin 64) ℝ) : Matrix (Fin 32) (Fin 32) ℝ := fun r l => A (upR r) (upR l)
def blkC (A : Matrix (Fin 64) (Fin 64) ℝ) : Matrix (Fin 32) (Fin 32) ℝ := fun r l => A (upR r) (loR l)

/-- Joining the inverses of the diagonal blocks. -/
def joinR (x0 x1 c : Matrix (Fin 32) (Fin 32) ℝ) : Matrix (Fin 64) (Fin 64) ℝ := fun r l =>
  if hr : r.val < 32 then if hl : l.val < 32 then x0 ⟨r, hr⟩ ⟨l, hl⟩ else 0
  else if hl : l.val < 32 then (-(x1 * (c * x0))) ⟨r - 32, by omega⟩ ⟨l, hl⟩ else x1 ⟨r - 32, by omega⟩ ⟨l - 32, by omega⟩

/-- The 64 rows as two halves. -/
def halves : Fin 32 ⊕ Fin 32 ≃ Fin 64 := finSumFinEquiv
theorem halves_inl (i : Fin 32) : halves (.inl i) = loR i := rfl
theorem halves_inr (i : Fin 32) : halves (.inr i) = upR i := rfl
theorem loR_val (i : Fin 32) : (loR i).val = i.val := rfl
theorem upR_val (i : Fin 32) : (upR i).val = 32 + i.val := rfl

theorem joinR_solve {A : Matrix (Fin 64) (Fin 64) ℝ} (hA : ∀ r l, r ≤ l → A r l = 0) {x0 x1 : Matrix (Fin 32) (Fin 32) ℝ}
    (h0 : (1 + blk0 A) * x0 = 1) (h1 : (1 + blk1 A) * x1 = 1) : (1 + A) * joinR x0 x1 (blkC A) = 1 := by
  have hL : (1 + A).submatrix halves halves = Matrix.fromBlocks (1 + blk0 A) 0 (blkC A) (1 + blk1 A) := by
    ext (i | i) (j | j) <;>
      simp only [Matrix.submatrix_apply, halves_inl, halves_inr, Matrix.add_apply, Matrix.one_apply, Matrix.fromBlocks_apply₁₁, Matrix.fromBlocks_apply₁₂,
        Matrix.fromBlocks_apply₂₁, Matrix.fromBlocks_apply₂₂, Fin.ext_iff, loR_val, upR_val, blk0, blk1, blkC]
    · rw [hA _ _ (Fin.le_def.2 (by rw [loR_val, upR_val]; omega)), if_neg (by omega), add_zero]; rfl
    · rw [if_neg (by omega), zero_add]
    · simp only [Nat.add_left_cancel_iff]
  have hR : (joinR x0 x1 (blkC A)).submatrix halves halves = Matrix.fromBlocks x0 0 (-(x1 * (blkC A * x0))) x1 := by
    have hn (i : Fin 32) : ¬ 32 + i.val < 32 := by omega
    ext (i | i) (j | j) <;>
      simp only [Matrix.submatrix_apply, halves_inl, halves_inr, Matrix.fromBlocks_apply₁₁, Matrix.fromBlocks_apply₁₂,
        Matrix.fromBlocks_apply₂₁, Matrix.fromBlocks_apply₂₂, loR_val, upR_val, joinR, hn, dif_neg, not_false_eq_true, Nat.add_sub_cancel_left, Fin.eta]
    · exact (dif_pos i.isLt).trans (dif_pos j.isLt)
    · exact (dif_pos i.isLt).trans (dif_neg (hn j))
    · exact dif_pos j.isLt
  have hp : ((1 + A) * joinR x0 x1 (blkC A)).submatrix halves halves = 1 := by
    rw [← Matrix.submatrix_mul_equiv _ _ _ halves, hL, hR, Matrix.fromBlocks_multiply]
    have hq : (1 + blk1 A) * -(x1 * (blkC A * x0)) = -(blkC A * x0) := by rw [Matrix.mul_neg, ← Matrix.mul_assoc, h1, Matrix.one_mul]
    rw [h0, h1, hq]
    simp
  have := congrArg (fun M => M.submatrix halves.symm halves.symm) hp
  simpa using this

section
variable {a : FVec Ideal S64x128 .f32} {A : Matrix (Fin 64) (Fin 64) ℝ} (w : Fin 2)
  (h : ∀ r l, a (ix2 r (laneW w l)) = ((A r l : ℝ) : EReal))
include h

theorem blocks_lo (r s : Fin 32) : blocks a (ix2 r (lane w 0 s)) = ((blk0 A r s : ℝ) : EReal) := by
  pointwise [blocks, laneI]
  rw [blk32, select_ofBool, if_pos (by simp only [lane]; omega)]
  refine Eq.trans ?_ (h _ _)
  exact congrArg a (congrArg₂ ix2 (Fin.ext rfl) (Fin.ext (by show 64 * w.val + 32 * 0 + s.val = 64 * w.val + s.val; omega)))

theorem blocks_up (r s : Fin 32) : blocks a (ix2 r (lane w 1 s)) = ((blk1 A r s : ℝ) : EReal) := by
  pointwise [blocks, laneI]
  rw [blk32, select_ofBool, if_neg (by simp only [lane]; omega)]
  refine Eq.trans ?_ (h _ _)
  exact congrArg a (congrArg₂ ix2 (Fin.ext rfl) (Fin.ext (by show 64 * w.val + 32 * 1 + s.val = 64 * w.val + (32 + s.val); omega)))

theorem blkA_is : Is (a := 32) (b := 32) (blkA a w) (blkC A) := fun r l => by
  show _ = ((A (upR r) (loR l) : ℝ) : EReal)
  rw [← h]
  pointwise [blkA]
  rfl
end

/-- The joined blocks are the inverse. -/
theorem joinT_is {a : FVec Ideal S64x128 .f32} {A : Matrix (Fin 64) (Fin 64) ℝ} (w : Fin 2)
    (h : ∀ r l, a (ix2 r (laneW w l)) = ((A r l : ℝ) : EReal)) (hA : ∀ r l, r ≤ l → A r l = 0) :
    Is (a := 64) (b := 64) (joinT a (elim (blocks a) 31) w) (1 + A)⁻¹ := by
  have hB0 : ∀ r l, r ≤ l → blk0 A r l = 0 := fun r l hrl => hA _ _ (Fin.le_def.2 (Fin.le_def.1 hrl))
  have hB1 : ∀ r l, r ≤ l → blk1 A r l = 0 := fun r l hrl => hA _ _ (Fin.le_def.2 (Nat.add_le_add_left (Fin.le_def.1 hrl) 32))
  rw [Matrix.inv_eq_right_inv (joinR_solve hA (elimR_solve hB0) (elimR_solve hB1))]
  have x0 : Is (a := 32) (b := 32) (blkX (elim (blocks a) 31) w 0) (elimR (blk0 A) 31) := fun r l => by
    rw [← elim_apply w 0 (blocks_lo w h) 31 (by omega) r l]
    generalize elim (blocks a) 31 = x
    pointwise [blkX]
    rfl
  have x1 : Is (a := 32) (b := 32) (blkX (elim (blocks a) 31) w 1) (elimR (blk1 A) 31) := fun r l => by
    rw [← elim_apply w 1 (blocks_up w h) 31 (by omega) r l]
    generalize elim (blocks a) 31 = x
    pointwise [blkX]
    rfl
  generalize elim (blocks a) 31 = x at x0 x1 ⊢
  have x2 := six32_is x1 (six32_is (blkA_is w h) x0)
  generalize elimR (blk0 A) 31 = y0 at *
  generalize elimR (blk1 A) 31 = y1 at *
  generalize blkC A = c at *
  intro r l
  pointwise [joinT]
  unfold joinR
  by_cases hr : r.val < 32 <;> by_cases hl : l.val < 32 <;> simp only [hr, hl, dif_pos, dif_neg, not_false_eq_true]
  · exact x0 _ _
  · rfl
  · rw [x2 ⟨r.val - 32, by omega⟩ ⟨l.val, hl⟩, zero_sub, ← EReal.coe_neg]
    rfl
  · exact x1 _ _

theorem laneHead_laneW (h : Fin 4) (l : Fin 64) : laneHead (hp h) (laneW (hw h) l) = h := by revert h l; decide

theorem headT_apply {B : FBlk Ideal} {R : RBlk} (H : B.IsR R) (h : Fin 4) (r l : Fin 64) :
    B.T h (ix4 0 0 r l) = (((1 + R.A h)⁻¹ l r : ℝ) : EReal) := by
  unfold FBlk.T
  pointwise [headT]
  refine joinT_is (A := R.A h) (hw h) (fun r l => ?_) (fun r l hrl => ?_) l r
  · rw [packA_apply H]
    have h1 : laneRow (laneW (hw h) l) = l := Fin.ext (by simp only [laneRow, laneW]; omega)
    rw [h1, laneHead_laneW]
  · unfold RBlk.A; rw [if_neg (not_lt.2 hrl)]

end Cert.KernelIdeal.Head
-- ==== Proof.Value.UVS.lean ====
/- The backward pass's head quantities over the reals. -/
module

public import proofs.«01_k».proof.Proof.Value.Solve

@[expose] public section

noncomputable section

namespace Cert.KernelIdeal.Head

open Cert.KernelIdeal Cert.KernelIdeal.Gen Idealize.ShloMosaic Idealize.SL.Sem
open scoped BigOperators

/-- One head's gradient of the corrected values, over the reals. -/
def RBlk.U (R : RBlk) (h : Fin 4) (St : Matrix (Fin 128) (Fin 256) ℝ) : Matrix (Fin 64) (Fin 256) ℝ := fun r c =>
  (R.P h * R.d h) r c * (R.ds h * c128) + Real.exp (cum R.la 63 h - cum R.la r h) * R.sk h * (R.k h * St) r c
/-- One head's value gradient, over the reals. -/
def RBlk.V (R : RBlk) (h : Fin 4) (St : Matrix (Fin 128) (Fin 256) ℝ) : Matrix (Fin 64) (Fin 256) ℝ := fun r c =>
  R.be r h * ((1 + R.A h)⁻¹.transpose * R.U h St) r c
/-- The output gradient with its scale and decay. -/
def RBlk.E (R : RBlk) (h : Fin 4) : Matrix (Fin 64) (Fin 256) ℝ := fun r c => Real.exp (cum R.la r h) * (R.ds h * c128) * R.d h r c
/-- The value gradient with its decay. -/
def RBlk.W (R : RBlk) (h : Fin 4) (St : Matrix (Fin 128) (Fin 256) ℝ) : Matrix (Fin 64) (Fin 256) ℝ := fun r c => Real.exp (cum R.la r h) * R.V h St r c
/-- One head's next state gradient, over the reals. -/
def RBlk.S (R : RBlk) (h : Fin 4) (St : Matrix (Fin 128) (Fin 256) ℝ) : Matrix (Fin 128) (Fin 256) ℝ := fun r c =>
  Real.exp (cum R.la 63 h) * St r c + R.sq h * ((R.q h).transpose * R.E h) r c - R.sk h * ((R.k h).transpose * R.W h St) r c

variable {B : Blk Ideal} {R : RBlk} (H : B.IsR R) (h : Fin 4) {st : FVec Ideal S128x256 .f32} {St : Matrix (Fin 128) (Fin 256) ℝ}
  (hst : Is (a := 128) (b := 256) st St) {tt : FVec Ideal S64x64 .f32} (htt : Is (a := 64) (b := 64) tt (1 + R.A h)⁻¹.transpose)
include H

theorem half_is : Is (a := 64) (b := 64) (half (hw h) (B.P (hp h))) (R.P h) := fun r l => by
  have e : half (hw h) (B.P (hp h)) (ix2 r l) = B.P (hp h) (ix2 r (laneW (hw h) l)) := by
    generalize B.P (hp h) = x
    pointwise [half]
    rfl
  rw [e, packP_apply H]
  have h1 : laneRow (laneW (hw h) l) = l := Fin.ext (by simp only [laneRow, laneW]; omega)
  rw [h1, laneHead_laneW]

include hst
theorem U_is : Is (a := 64) (b := 256) (B.U h st) (R.U h St) := fun r c => by
  unfold Blk.U
  have h1 := dotPD_is (half_is H h) (b := extf .bf16 (B.d h)) (B := R.d h) (H.d h)
  have h2 := dotKS_is (a := extf .bf16 (B.k h)) (A := R.k h) (H.k h) hst
  generalize half (hw h) (B.P (hp h)) = x at *
  pointwise [headU, toEnd, col, sd]
  rw [h1 r c, h2 r c, gate_is H.al r h, gate_is H.al 63 h, H.sk, H.ds, c128_coe, ← EReal.coe_sub, exp_coe]
  simp only [← EReal.coe_mul, ← EReal.coe_add]
  rfl

include htt
theorem V_is : Is (a := 64) (b := 256) (B.V h tt st) (R.V h St) := fun r c => by
  unfold Blk.V
  have h1 := dotTU_is htt (U_is H h hst)
  generalize B.U h st = x at *
  pointwise [headV, col]
  rw [h1 r c, H.be r h, ← EReal.coe_mul]
  rfl

theorem S_is : Is (a := 128) (b := 256) (B.S h tt st) (R.S h St) := fun r c => by
  unfold Blk.S
  have hV := V_is H h hst htt
  generalize B.V h tt st = v at *
  have h1 := dotXtU_is (a := extf .bf16 (B.q h)) (A := R.q h) (H.q h) (b := mulf (broadcastTo S64x256 (mulf (col h (exp (gate B.al))) (broadcast S64x1 (sd (B.ds h)))) broadcasts_S64x1_S64x256) (extf .f32 (extf .bf16 (B.d h) : FVec Ideal S64x256 .bf16)))
    (B := R.E h) (fun r c => by
      pointwise [col, sd]
      rw [gate_is H.al r h, H.ds, c128_coe, H.d h r c, exp_coe]
      simp only [← EReal.coe_mul]
      rfl)
  have h2 := dotXtU_is (a := extf .bf16 (B.k h)) (A := R.k h) (H.k h) (b := mulf (broadcastTo S64x256 (col h (exp (gate B.al))) broadcasts_S64x1_S64x256) v)
    (B := R.W h St) (fun r c => by
      pointwise [col]
      rw [gate_is H.al r h, hV r c, exp_coe]
      simp only [← EReal.coe_mul]
      rfl)
  unfold headS
  generalize dotXtU (extf .bf16 (B.q h)) _ = x1 at *
  generalize dotXtU (extf .bf16 (B.k h)) _ = x2 at *
  pointwise []
  rw [h1 r c, h2 r c, gate_is H.al 63 h, H.sq, H.sk, hst r c, exp_coe]
  simp only [← EReal.coe_mul, ← EReal.coe_add, ← EReal.coe_sub]
  rfl

end Cert.KernelIdeal.Head
-- ==== Proof.Value.Loads.lean ====
/- What the trips load, in terms of the numbers the windows hold. -/
module

public import proofs.«01_k».proof.Proof.Value.TripF
public import proofs.«01_k».proof.Proof.Value.TripB
public import proofs.«01_k».proof.Proof.Value.UVS

@[expose] public section

noncomputable section

namespace Cert.KernelIdeal.Head

open Cert.KernelIdeal Cert.KernelIdeal.Gen Idealize.ShloMosaic Idealize.ShloMosaic.TcCoe Idealize.SL.Sem
open scoped BigOperators

/-- Row `r` of chunk `n`. -/
def row (n : Fin 14) (r : Fin 64) : Fin 896 := ⟨64 * n.val + r.val, by omega⟩

/-- A load of a unit rectangle reads at the offset plus the index. -/
theorem ld_at {s : Shape} {α : Type} (X : s.Idx → α) (off size : Fin s.rank → ℕ) (inb : ∀ a, off a + size a ≤ s.size a)
    (y : (Rect.unit (s := s) off size inb).shape.Idx) (z : s.Idx) (h : ∀ a, off a + (y a).val = (z a).val) : X ((Rect.unit (s := s) off size inb).idx y) = X z :=
  congrArg X (funext fun a => Fin.ext (by show off a + 1 * (y a).val = _; rw [one_mul]; exact h a))

theorem ld_k (m : Memref sig .tc .vmem S1x4x896x128 .fp8e4m3) (f : m.view.ty.Contents (Elt Ideal)) {off : Fin 4 → ℕ} (inb : ∀ a, off a + S1x1x64x128.size a ≤ S1x4x896x128.size a)
    (h : Fin 4) (n : Fin 14) (ho : off = ![0, h.val, 64 * n.val, 0]) (r : Fin 64) (c : Fin 128) :
    (shapeCast S64x128 (View.readAt (Elt Ideal) m.view (Rect.unit (s := S1x4x896x128) off S1x1x64x128.size inb).toLoadRect f) shapeCasts_S1x1x64x128_S64x128 : FVec Ideal S64x128 .fp8e4m3) (ix2 r c)
      = m.view.read (Elt Ideal) f (ix4 0 h (row n r) c) := by
  subst ho
  have e : ∀ g : Vec Ideal S1x1x64x128 .fp8e4m3, (shapeCast S64x128 g shapeCasts_S1x1x64x128_S64x128) (ix2 r c) = g (ix4 0 0 r c) := fun g => by pointwise
  rw [View.readAt_eq_ld, e]
  exact ld_at _ _ _ _ _ _ fun a => by fin_cases a <;> first | rfl | exact Nat.zero_add _

theorem ld_d (m : Memref sig .tc .vmem S1x4x896x256 .fp8e5m2) (f : m.view.ty.Contents (Elt Ideal)) {off : Fin 4 → ℕ} (inb : ∀ a, off a + S1x1x64x256.size a ≤ S1x4x896x256.size a)
    (h : Fin 4) (n : Fin 14) (ho : off = ![0, h.val, 64 * n.val, 0]) (r : Fin 64) (c : Fin 256) :
    (shapeCast S64x256 (View.readAt (Elt Ideal) m.view (Rect.unit (s := S1x4x896x256) off S1x1x64x256.size inb).toLoadRect f) shapeCasts_S1x1x64x256_S64x256 : FVec Ideal S64x256 .fp8e5m2) (ix2 r c)
      = m.view.read (Elt Ideal) f (ix4 0 h (row n r) c) := by
  subst ho
  have e : ∀ g : Vec Ideal S1x1x64x256 .fp8e5m2, (shapeCast S64x256 g shapeCasts_S1x1x64x256_S64x256) (ix2 r c) = g (ix4 0 0 r c) := fun g => by pointwise
  rw [View.readAt_eq_ld, e]
  exact ld_at _ _ _ _ _ _ fun a => by fin_cases a <;> first | rfl | exact Nat.zero_add _

theorem ld_al (m : Memref sig .tc .vmem S1x1x896x4 .f32) (f : m.view.ty.Contents (Elt Ideal)) {off : Fin 4 → ℕ} (inb : ∀ a, off a + S1x1x64x4.size a ≤ S1x1x896x4.size a)
    (n : Fin 14) (ho : off = ![0, 0, 64 * n.val, 0]) (r : Fin 64) (c : Fin 4) :
    (shapeCast S64x4 (View.readAt (Elt Ideal) m.view (Rect.unit (s := S1x1x896x4) off S1x1x64x4.size inb).toLoadRect f) shapeCasts_S1x1x64x4_S64x4 : FVec Ideal S64x4 .f32) (ix2 r c)
      = m.view.read (Elt Ideal) f (ix4 0 0 (row n r) c) := by
  subst ho
  have e : ∀ g : Vec Ideal S1x1x64x4 .f32, (shapeCast S64x4 g shapeCasts_S1x1x64x4_S64x4) (ix2 r c) = g (ix4 0 0 r c) := fun g => by pointwise
  rw [View.readAt_eq_ld, e]
  exact ld_at _ _ _ _ _ _ fun a => by fin_cases a <;> first | rfl | exact Nat.zero_add _

theorem ld_alr (m : Memref sig .tc .vmem S1x1x14x2x128 .f32) (f : m.view.ty.Contents (Elt Ideal)) {off : Fin 5 → ℕ} (inb : ∀ a, off a + S1x1x1x2x128.size a ≤ S1x1x14x2x128.size a)
    (n : Fin 14) (ho : off = ![0, 0, n.val, 0, 0]) (p : Fin 2) (l : Fin 128) :
    (shapeCast S2x128 (View.readAt (Elt Ideal) m.view (Rect.unit (s := S1x1x14x2x128) off S1x1x1x2x128.size inb).toLoadRect f) shapeCasts_S1x1x1x2x128_S2x128 : FVec Ideal S2x128 .f32) (ix2 p l)
      = m.view.read (Elt Ideal) f (ix5 0 0 n p l) := by
  subst ho
  have e : ∀ g : Vec Ideal S1x1x1x2x128 .f32, (shapeCast S2x128 g shapeCasts_S1x1x1x2x128_S2x128) (ix2 p l) = g (ix5 0 0 0 p l) := fun g => by pointwise
  rw [View.readAt_eq_ld, e]
  exact ld_at _ _ _ _ _ _ fun a => by fin_cases a <;> first | rfl | exact Nat.zero_add _

theorem ld_T (m : Memref sig .tc .vmem S14x4x64x64 .f32) (f : m.view.ty.Contents (Elt Ideal)) {off : Fin 4 → ℕ} (inb : ∀ a, off a + S1x1x64x64.size a ≤ S14x4x64x64.size a)
    (h : Fin 4) (n : Fin 14) (ho : off = ![n.val, h.val, 0, 0]) (r : Fin 64) (c : Fin 64) :
    (shapeCast S64x64 (View.readAt (Elt Ideal) m.view (Rect.unit (s := S14x4x64x64) off S1x1x64x64.size inb).toLoadRect f) shapeCasts_S1x1x64x64_S64x64 : FVec Ideal S64x64 .f32) (ix2 r c)
      = m.view.read (Elt Ideal) f (ix4 n h r c) := by
  subst ho
  have e : ∀ g : Vec Ideal S1x1x64x64 .f32, (shapeCast S64x64 g shapeCasts_S1x1x64x64_S64x64) (ix2 r c) = g (ix4 0 0 r c) := fun g => by pointwise
  rw [View.readAt_eq_ld, e]
  exact ld_at _ _ _ _ _ _ fun a => by fin_cases a <;> first | rfl | exact Nat.zero_add _

theorem ld_S (m : Memref sig .tc .vmem S4x128x256 .f32) (f : m.view.ty.Contents (Elt Ideal)) {off : Fin 3 → ℕ} (inb : ∀ a, off a + S1x128x256.size a ≤ S4x128x256.size a)
    (h : Fin 4) (ho : off = ![h.val, 0, 0]) (r : Fin 128) (c : Fin 256) :
    (shapeCast S128x256 (View.readAt (Elt Ideal) m.view (Rect.unit (s := S4x128x256) off S1x128x256.size inb).toLoadRect f) shapeCasts_S1x128x256_S128x256 : FVec Ideal S128x256 .f32) (ix2 r c)
      = m.view.read (Elt Ideal) f (ix3 h r c) := by
  subst ho
  have e : ∀ g : Vec Ideal S1x128x256 .f32, (shapeCast S128x256 g shapeCasts_S1x128x256_S128x256) (ix2 r c) = g (ix3 0 r c) := fun g => by pointwise
  rw [View.readAt_eq_ld, e]
  exact ld_at _ _ _ _ _ _ fun a => by fin_cases a <;> first | rfl | exact Nat.zero_add _

theorem ld_sc (m : Memref sig .tc .smem S448 .f32) (f : m.view.ty.Contents (Elt Ideal)) {off : Fin 1 → ℕ} (inb : ∀ a, off a + S1.size a ≤ S448.size a)
    (n : Fin 448) (ho : off = ![n.val]) (y : S1.Idx) :
    View.readAt (Elt Ideal) m.view (Rect.unit (s := S448) off S1.size inb).toLoadRect f y = m.view.read (Elt Ideal) f (ix1 n) := by
  subst ho
  rw [View.readAt_apply]
  refine congrArg _ (funext fun a => ?_)
  fin_cases a
  refine Fin.ext ?_
  have hy : (y 0).val = 0 := by have := (y 0).isLt; exact Nat.lt_one_iff.1 this
  show n.val + 1 * (y 0).val = n.val
  rw [hy, Nat.mul_zero, Nat.add_zero]

/-- The place of a head's scale. -/
def scIx (i : grid0.Coords) (n : Fin 14) (h : Fin 4) : Fin 448 := ⟨224 * (i 0).val + 16 * n.val + 4 * (i 1).val + h.val, by
  have h0 : (i 0).val < 2 := (i 0).isLt
  have h1 : (i 1).val < 4 := (i 1).isLt
  omega⟩

/-- The windows the forward loop loads hold the chunks' numbers. -/
structure InsF (i : grid0.Coords) (x1 : Vec Ideal S448 .f32) (x4 : Vec Ideal S1x4x896x128 .fp8e4m3) (x7 : Vec Ideal S1x1x896x4 .f32)
    (x8 : Vec Ideal S1x1x14x2x128 .f32) (x9 : Vec Ideal S1x1x896x4 .f32) (R : Fin 14 → RBlk) : Prop where
  al : ∀ n r h, Ideal.log (x7 (ix4 0 0 (row n r) h)) = (((R n).la r h : ℝ) : EReal)
  alr : ∀ n p l, Ideal.log (x8 (ix5 0 0 n p l)) = (((R n).lar p l : ℝ) : EReal)
  be : ∀ n r h, x9 (ix4 0 0 (row n r) h) = (((R n).be r h : ℝ) : EReal)
  k : ∀ n h r c, x4 (ix4 0 h (row n r) c) = (((R n).k h r c : ℝ) : EReal)
  sk : ∀ n h, x1 (ix1 (scIx i n h)) = (((R n).sk h : ℝ) : EReal)

/-- The windows the backward loop loads hold the chunks' numbers. -/
structure InsB (i : grid0.Coords) (x0 x1 x2 : Vec Ideal S448 .f32) (x3 x4 : Vec Ideal S1x4x896x128 .fp8e4m3) (x6 : Vec Ideal S1x4x896x256 .fp8e5m2)
    (x7 : Vec Ideal S1x1x896x4 .f32) (x8 : Vec Ideal S1x1x14x2x128 .f32) (x9 : Vec Ideal S1x1x896x4 .f32) (R : Fin 14 → RBlk) : Prop extends InsF i x1 x4 x7 x8 x9 R where
  q : ∀ n h r c, x3 (ix4 0 h (row n r) c) = (((R n).q h r c : ℝ) : EReal)
  sq : ∀ n h, x0 (ix1 (scIx i n h)) = (((R n).sq h : ℝ) : EReal)
  d : ∀ n h r c, x6 (ix4 0 h (row n r) c) = (((R n).d h r c : ℝ) : EReal)
  ds : ∀ n h, x2 (ix1 (scIx i n h)) = (((R n).ds h : ℝ) : EReal)

theorem trips1 : k0_t1_loop.trips = 14 := by decide +kernel
theorem trips2 : k0_t2_loop.trips = 14 := by decide +kernel

/-- The chunk of a forward trip. -/
def cF (k : Fin k0_t1_loop.trips) : Fin 14 := ⟨k.val, trips1 ▸ k.isLt⟩
/-- The chunk of a backward trip: from the last to the first. -/
def cB (k : Fin k0_t2_loop.trips) : Fin 14 := ⟨13 - k.val, by omega⟩

theorem offB (k : Fin k0_t2_loop.trips) : 832 - 64 * k.val = 64 * (cB k).val := by
  have : k.val < 14 := trips2 ▸ k.isLt
  simp only [cB]; omega

theorem offS (i : grid0.Coords) (k : Fin k0_t2_loop.trips) (h : Fin 4) :
    (![(224 * (i 0).val + 4 * (i 1).val + h.val + 208) - 16 * k.val] : Fin 1 → ℕ) = ![(scIx i (cB k) h).val] := by
  have : k.val < 14 := trips2 ▸ k.isLt
  refine congrArg (fun z => ![z]) ?_
  simp only [cB, scIx]; omega

set_option maxHeartbeats 4000000 in
theorem fblk_is {i : grid0.Coords} {x1 : Vec Ideal S448 .f32} {x4 : Vec Ideal S1x4x896x128 .fp8e4m3} {x7 : Vec Ideal S1x1x896x4 .f32}
    {x8 : Vec Ideal S1x1x14x2x128 .f32} {x9 : Vec Ideal S1x1x896x4 .f32} {R : Fin 14 → RBlk} (H : InsF i x1 x4 x7 x8 x9 R)
    {arg3 : Memref sig .tc .smem S448 .f32} (h3 : arg3.IsWhole) {arg6 : Memref sig .tc .vmem S1x4x896x128 .fp8e4m3} (h6 : arg6.IsWhole)
    {arg9 : Memref sig .tc .vmem S1x1x896x4 .f32} (h9 : arg9.IsWhole) {arg10 : Memref sig .tc .vmem S1x1x14x2x128 .f32} (h10 : arg10.IsWhole)
    {arg11 : Memref sig .tc .vmem S1x1x896x4 .f32} (h11 : arg11.IsWhole) (k : Fin k0_t1_loop.trips) :
    (fblk (F := Ideal) i arg3 arg6 arg9 arg10 arg11 (h3.unread x1) (h6.unread x4) (h9.unread x7) (h10.unread x8) (h11.unread x9) k).IsR (R (cF k)) where
  al r c := (congrArg Ideal.log ((ld_al arg9 _ _ (cF k) (k0_off2_eq k) r c).trans (congrFun (h9.read_unread x7) _))).trans (H.al _ r c)
  alr r c := (congrArg Ideal.log ((ld_alr arg10 _ _ (cF k) (k0_off3_eq k) r c).trans (congrFun (h10.read_unread x8) _))).trans (H.alr _ r c)
  be r c := (ld_al arg11 _ _ (cF k) (k0_off2_eq k) r c).trans ((congrFun (h11.read_unread x9) _).trans (H.be _ r c))
  k h r c := match h with
    | 0 => (ld_k arg6 _ _ 0 (cF k) (k0_off4_eq k) r c).trans ((congrFun (h6.read_unread x4) _).trans (H.k _ 0 r c))
    | 1 => (ld_k arg6 _ _ 1 (cF k) (k0_off5_eq k) r c).trans ((congrFun (h6.read_unread x4) _).trans (H.k _ 1 r c))
    | 2 => (ld_k arg6 _ _ 2 (cF k) (k0_off6_eq k) r c).trans ((congrFun (h6.read_unread x4) _).trans (H.k _ 2 r c))
    | 3 => (ld_k arg6 _ _ 3 (cF k) (k0_off7_eq k) r c).trans ((congrFun (h6.read_unread x4) _).trans (H.k _ 3 r c))
  sk h := match h with
    | 0 => (ld_sc arg3 _ _ (scIx i (cF k) 0) (k0_off1_eq i k 0) _).trans ((congrFun (h3.read_unread x1) _).trans (H.sk _ 0))
    | 1 => (ld_sc arg3 _ _ (scIx i (cF k) 1) (k0_off1_eq i k 1) _).trans ((congrFun (h3.read_unread x1) _).trans (H.sk _ 1))
    | 2 => (ld_sc arg3 _ _ (scIx i (cF k) 2) (k0_off1_eq i k 2) _).trans ((congrFun (h3.read_unread x1) _).trans (H.sk _ 2))
    | 3 => (ld_sc arg3 _ _ (scIx i (cF k) 3) (k0_off1_eq i k 3) _).trans ((congrFun (h3.read_unread x1) _).trans (H.sk _ 3))

section
variable {i : grid0.Coords} (k : Fin k0_t2_loop.trips)

/-- The keys' offset of each head in a backward trip. -/
def kOff (k : Fin k0_t2_loop.trips) : Fin 4 → Fin 4 → ℕ := ![k0_off43 k, k0_off44 k, k0_off45 k, k0_off46 k]
/-- The output gradients' offset of each head in a backward trip. -/
def dOff (k : Fin k0_t2_loop.trips) : Fin 4 → Fin 4 → ℕ := ![k0_off47 k, k0_off55 k, k0_off63 k, k0_off71 k]
/-- The inverses' offset of each head in a backward trip. -/
def tOff (k : Fin k0_t2_loop.trips) : Fin 4 → Fin 4 → ℕ := ![k0_off54 k, k0_off62 k, k0_off70 k, k0_off78 k]

theorem kOff_eq (h : Fin 4) : kOff k h = ![0, h.val, 64 * (cB k).val, 0] := by
  rw [← offB]
  match h with
  | 0 => exact k0_off43_eq k
  | 1 => exact k0_off44_eq k
  | 2 => exact k0_off45_eq k
  | 3 => exact k0_off46_eq k

theorem dOff_eq (h : Fin 4) : dOff k h = ![0, h.val, 64 * (cB k).val, 0] := by
  rw [← offB]
  match h with
  | 0 => exact k0_off47_eq k
  | 1 => exact k0_off55_eq k
  | 2 => exact k0_off63_eq k
  | 3 => exact k0_off71_eq k

theorem tOff_eq (h : Fin 4) : tOff k h = ![(cB k).val, h.val, 0, 0] :=
  match h with
  | 0 => k0_off54_eq k
  | 1 => k0_off62_eq k
  | 2 => k0_off70_eq k
  | 3 => k0_off78_eq k

theorem offA : k0_off41 k = ![0, 0, 64 * (cB k).val, 0] := by rw [← offB]; exact k0_off41_eq k
end

set_option maxHeartbeats 4000000 in
theorem bblk_is {i : grid0.Coords} {x0 x1 x2 : Vec Ideal S448 .f32} {x3 x4 : Vec Ideal S1x4x896x128 .fp8e4m3} {x6 : Vec Ideal S1x4x896x256 .fp8e5m2}
    {x7 : Vec Ideal S1x1x896x4 .f32} {x8 : Vec Ideal S1x1x14x2x128 .f32} {x9 : Vec Ideal S1x1x896x4 .f32} {R : Fin 14 → RBlk}
    (H : InsB i x0 x1 x2 x3 x4 x6 x7 x8 x9 R)
    {arg2 : Memref sig .tc .smem S448 .f32} (h2 : arg2.IsWhole) {arg3 : Memref sig .tc .smem S448 .f32} (h3 : arg3.IsWhole)
    {arg4 : Memref sig .tc .smem S448 .f32} (h4 : arg4.IsWhole) {arg5 : Memref sig .tc .vmem S1x4x896x128 .fp8e4m3} (h5 : arg5.IsWhole)
    {arg6 : Memref sig .tc .vmem S1x4x896x128 .fp8e4m3} (h6 : arg6.IsWhole) {arg8 : Memref sig .tc .vmem S1x4x896x256 .fp8e5m2} (h8 : arg8.IsWhole)
    {arg9 : Memref sig .tc .vmem S1x1x896x4 .f32} (h9 : arg9.IsWhole) {arg10 : Memref sig .tc .vmem S1x1x14x2x128 .f32} (h10 : arg10.IsWhole)
    {arg11 : Memref sig .tc .vmem S1x1x896x4 .f32} (h11 : arg11.IsWhole) (k : Fin k0_t2_loop.trips) :
    (bblk (F := Ideal) i arg2 arg3 arg4 arg5 arg6 arg8 arg9 arg10 arg11 (h2.unread x0) (h3.unread x1) (h4.unread x2) (h5.unread x3) (h6.unread x4)
      (h8.unread x6) (h9.unread x7) (h10.unread x8) (h11.unread x9) k).IsR (R (cB k)) where
  al r c := (congrArg Ideal.log ((ld_al arg9 _ _ (cB k) (offA k) r c).trans (congrFun (h9.read_unread x7) _))).trans (H.al _ r c)
  alr r c := (congrArg Ideal.log ((ld_alr arg10 _ _ (cB k) (k0_off42_eq k) r c).trans (congrFun (h10.read_unread x8) _))).trans (H.alr _ r c)
  be r c := (ld_al arg11 _ _ (cB k) (offA k) r c).trans ((congrFun (h11.read_unread x9) _).trans (H.be _ r c))
  k h r c := match h with
    | 0 => (ld_k arg6 _ _ 0 (cB k) (kOff_eq k 0) r c).trans ((congrFun (h6.read_unread x4) _).trans (H.k _ 0 r c))
    | 1 => (ld_k arg6 _ _ 1 (cB k) (kOff_eq k 1) r c).trans ((congrFun (h6.read_unread x4) _).trans (H.k _ 1 r c))
    | 2 => (ld_k arg6 _ _ 2 (cB k) (kOff_eq k 2) r c).trans ((congrFun (h6.read_unread x4) _).trans (H.k _ 2 r c))
    | 3 => (ld_k arg6 _ _ 3 (cB k) (kOff_eq k 3) r c).trans ((congrFun (h6.read_unread x4) _).trans (H.k _ 3 r c))
  sk h := match h with
    | 0 => (ld_sc arg3 _ _ (scIx i (cB k) 0) ((k0_off40_eq i k 0).trans (offS i k 0)) _).trans ((congrFun (h3.read_unread x1) _).trans (H.sk _ 0))
    | 1 => (ld_sc arg3 _ _ (scIx i (cB k) 1) ((k0_off40_eq i k 1).trans (offS i k 1)) _).trans ((congrFun (h3.read_unread x1) _).trans (H.sk _ 1))
    | 2 => (ld_sc arg3 _ _ (scIx i (cB k) 2) ((k0_off40_eq i k 2).trans (offS i k 2)) _).trans ((congrFun (h3.read_unread x1) _).trans (H.sk _ 2))
    | 3 => (ld_sc arg3 _ _ (scIx i (cB k) 3) ((k0_off40_eq i k 3).trans (offS i k 3)) _).trans ((congrFun (h3.read_unread x1) _).trans (H.sk _ 3))
  q h r c := match h with
    | 0 => (ld_k arg5 _ _ 0 (cB k) (kOff_eq k 0) r c).trans ((congrFun (h5.read_unread x3) _).trans (H.q _ 0 r c))
    | 1 => (ld_k arg5 _ _ 1 (cB k) (kOff_eq k 1) r c).trans ((congrFun (h5.read_unread x3) _).trans (H.q _ 1 r c))
    | 2 => (ld_k arg5 _ _ 2 (cB k) (kOff_eq k 2) r c).trans ((congrFun (h5.read_unread x3) _).trans (H.q _ 2 r c))
    | 3 => (ld_k arg5 _ _ 3 (cB k) (kOff_eq k 3) r c).trans ((congrFun (h5.read_unread x3) _).trans (H.q _ 3 r c))
  sq h := match h with
    | 0 => (ld_sc arg2 _ _ (scIx i (cB k) 0) ((k0_off40_eq i k 0).trans (offS i k 0)) _).trans ((congrFun (h2.read_unread x0) _).trans (H.sq _ 0))
    | 1 => (ld_sc arg2 _ _ (scIx i (cB k) 1) ((k0_off40_eq i k 1).trans (offS i k 1)) _).trans ((congrFun (h2.read_unread x0) _).trans (H.sq _ 1))
    | 2 => (ld_sc arg2 _ _ (scIx i (cB k) 2) ((k0_off40_eq i k 2).trans (offS i k 2)) _).trans ((congrFun (h2.read_unread x0) _).trans (H.sq _ 2))
    | 3 => (ld_sc arg2 _ _ (scIx i (cB k) 3) ((k0_off40_eq i k 3).trans (offS i k 3)) _).trans ((congrFun (h2.read_unread x0) _).trans (H.sq _ 3))
  d h r c := match h with
    | 0 => (ld_d arg8 _ _ 0 (cB k) (dOff_eq k 0) r c).trans ((congrFun (h8.read_unread x6) _).trans (H.d _ 0 r c))
    | 1 => (ld_d arg8 _ _ 1 (cB k) (dOff_eq k 1) r c).trans ((congrFun (h8.read_unread x6) _).trans (H.d _ 1 r c))
    | 2 => (ld_d arg8 _ _ 2 (cB k) (dOff_eq k 2) r c).trans ((congrFun (h8.read_unread x6) _).trans (H.d _ 2 r c))
    | 3 => (ld_d arg8 _ _ 3 (cB k) (dOff_eq k 3) r c).trans ((congrFun (h8.read_unread x6) _).trans (H.d _ 3 r c))
  ds h := match h with
    | 0 => (ld_sc arg4 _ _ (scIx i (cB k) 0) ((k0_off40_eq i k 0).trans (offS i k 0)) _).trans ((congrFun (h4.read_unread x2) _).trans (H.ds _ 0))
    | 1 => (ld_sc arg4 _ _ (scIx i (cB k) 1) ((k0_off40_eq i k 1).trans (offS i k 1)) _).trans ((congrFun (h4.read_unread x2) _).trans (H.ds _ 1))
    | 2 => (ld_sc arg4 _ _ (scIx i (cB k) 2) ((k0_off40_eq i k 2).trans (offS i k 2)) _).trans ((congrFun (h4.read_unread x2) _).trans (H.ds _ 2))
    | 3 => (ld_sc arg4 _ _ (scIx i (cB k) 3) ((k0_off40_eq i k 3).trans (offS i k 3)) _).trans ((congrFun (h4.read_unread x2) _).trans (H.ds _ 3))

theorem bT_is {arg19 : Memref sig .tc .vmem S14x4x64x64 .f32} (f : arg19.view.ty.Contents (Elt Ideal)) (k : Fin k0_t2_loop.trips) (h : Fin 4) (r c : Fin 64) :
    bT (F := Ideal) arg19 f k h (ix2 r c) = arg19.view.read (Elt Ideal) f (ix4 (cB k) h r c) := match h with
  | 0 => ld_T arg19 f _ 0 (cB k) (tOff_eq k 0) r c
  | 1 => ld_T arg19 f _ 1 (cB k) (tOff_eq k 1) r c
  | 2 => ld_T arg19 f _ 2 (cB k) (tOff_eq k 2) r c
  | 3 => ld_T arg19 f _ 3 (cB k) (tOff_eq k 3) r c

theorem bS_is {arg20 : Memref sig .tc .vmem S4x128x256 .f32} (f : arg20.view.ty.Contents (Elt Ideal)) (h : Fin 4) (r : Fin 128) (c : Fin 256) :
    bS (F := Ideal) arg20 f h (ix2 r c) = arg20.view.read (Elt Ideal) f (ix3 h r c) := match h with
  | 0 => ld_S arg20 f _ 0 rfl r c
  | 1 => ld_S arg20 f _ 1 rfl r c
  | 2 => ld_S arg20 f _ 2 rfl r c
  | 3 => ld_S arg20 f _ 3 rfl r c

end Cert.KernelIdeal.Head
-- ==== Proof.Value.Filled.lean ====
/- Lists of stores that all agree with one function: what a view reads where they cover it. -/
module

public import proofs.«01_k».proof.Proof.Value.Loads
public import Idealize.ShloMosaic.Lib.CellWrites

@[expose] public section

noncomputable section

namespace Cert.KernelIdeal.Head

open Cert.KernelIdeal Cert.KernelIdeal.Gen Idealize.ShloMosaic Idealize.ShloMosaic.TcCoe Idealize.SL.Sem

section
variable {sig : RefSig} {κ : Kind} {sp : Space} {s : Shape} {e : EltTy} {Val : EltTy → Type}

/-- Every store of `L` writes `E`'s values, and `L` covers `D`. -/
def Filled (L : List (View.Piece Val s e)) (E : s.Idx → Val e) (D : s.Idx → Prop) : Prop :=
  (∀ p ∈ L, ∀ x, p.2 x = E (p.1.emb x)) ∧ ∀ y, D y → ∃ p ∈ L, y ∈ p.1.set

theorem Filled.nil (E : s.Idx → Val e) (D : s.Idx → Prop) (h : ∀ y, ¬ D y) : Filled ([] : List (View.Piece Val s e)) E D :=
  ⟨fun _ hp => absurd hp List.not_mem_nil, fun y hy => absurd hy (h y)⟩

theorem Filled.cons {p : View.Piece Val s e} {L : List (View.Piece Val s e)} {E : s.Idx → Val e} {D D' : s.Idx → Prop}
    (hp : ∀ x, p.2 x = E (p.1.emb x)) (hL : Filled L E D) (hD : ∀ y, D' y → y ∈ p.1.set ∨ D y) : Filled (p :: L) E D' :=
  ⟨fun q hq => (List.mem_cons.1 hq).elim (fun h => h ▸ hp) (hL.1 q), fun y hy =>
    (hD y hy).elim (fun h => ⟨p, List.mem_cons_self, h⟩) fun h => (hL.2 y h).imp fun _ h => ⟨List.mem_cons_of_mem _ h.1, h.2⟩⟩

theorem Filled.append {L L' : List (View.Piece Val s e)} {E : s.Idx → Val e} {D D' D'' : s.Idx → Prop}
    (hL : Filled L E D) (hL' : Filled L' E D') (hD : ∀ y, D'' y → D y ∨ D' y) : Filled (L ++ L') E D'' :=
  ⟨fun q hq => (List.mem_append.1 hq).elim (hL.1 q) (hL'.1 q), fun y hy => (hD y hy).elim
    (fun h => (hL.2 y h).imp fun _ h => ⟨List.mem_append_left _ h.1, h.2⟩) fun h => (hL'.2 y h).imp fun _ h => ⟨List.mem_append_right _ h.1, h.2⟩⟩

theorem Filled.read (v : View sig κ sp s e) (f : v.ty.Contents Val) {E : s.Idx → Val e} {D : s.Idx → Prop} {y : s.Idx} :
    ∀ {L : List (View.Piece Val s e)}, Filled L E D → D y → v.read Val (v.writes Val f L) y = E y := by
  intro L h hy
  have key : ∀ L : List (View.Piece Val s e), (∀ p ∈ L, ∀ x, p.2 x = E (p.1.emb x)) → (∃ p ∈ L, y ∈ p.1.set) →
      v.read Val (v.writes Val f L) y = E y := by
    intro L
    induction L with
    | nil => exact fun _ h => by obtain ⟨_, hm, _⟩ := h; exact absurd hm List.not_mem_nil
    | cons p L ih =>
      intro hP h
      by_cases hy : y ∈ p.1.set
      · obtain ⟨x, rfl⟩ : ∃ x, p.1.emb x = y := p.1.exists_idx_of_mem hy
        rw [View.read_writes_cons_emb]
        exact hP p List.mem_cons_self x
      · have hy' : y ∉ Finset.univ.map p.1.emb := by rwa [Rect.map_emb_univ]
        rw [View.writes_cons, View.read_slice_write_of_not_mem p.1 _ _ _ hy']
        refine ih (fun q hq => hP q (List.mem_cons_of_mem _ hq)) ?_
        obtain ⟨q, hq, hyq⟩ := h
        rcases List.mem_cons.mp hq with rfl | hq'
        · exact absurd hyq hy
        · exact ⟨q, hq', hyq⟩
  exact key L h.1 (h.2 y hy)
end

/-- A store of one head's inverse. -/
theorem pieceT {w : Vec Ideal S1x1x64x64 .f32} {E : Vec Ideal S14x4x64x64 .f32} {off : Fin 4 → ℕ} (inb : ∀ a, off a + S1x1x64x64.size a ≤ S14x4x64x64.size a)
    {n : Fin 14} {h : Fin 4} (ho : off = ![n.val, h.val, 0, 0]) (hw : ∀ r l, w (ix4 0 0 r l) = E (ix4 n h r l)) (x : S1x1x64x64.Idx) :
    w x = E ((Rect.unit (s := S14x4x64x64) off S1x1x64x64.size inb).emb x) := by
  subst ho
  obtain ⟨r, l, rfl⟩ : ∃ (r : Fin 64) (l : Fin 64), x = ix4 0 0 r l := ⟨x 2, x 3, funext fun a => by fin_cases a <;> first | rfl | exact Subsingleton.elim (α := Fin 1) _ _⟩
  refine (hw r l).trans ?_
  refine (ld_at E _ _ inb _ _ fun a => ?_).symm
  fin_cases a <;> first | rfl | exact Nat.zero_add _

theorem memT {off : Fin 4 → ℕ} (inb : ∀ a, off a + S1x1x64x64.size a ≤ S14x4x64x64.size a) {n : Fin 14} {h : Fin 4} (ho : off = ![n.val, h.val, 0, 0])
    (y : S14x4x64x64.Idx) (h0 : y 0 = n) (h1 : y 1 = h) : y ∈ (Rect.unit (s := S14x4x64x64) off S1x1x64x64.size inb).set := by
  subst ho; subst h0; subst h1
  refine Rect.mem_set_unit.2 fun a => ?_
  fin_cases a
  · exact ⟨le_refl _, Nat.lt_succ_self _⟩
  · exact ⟨le_refl _, Nat.lt_succ_self _⟩
  · exact ⟨Nat.zero_le _, (y 2).isLt⟩
  · exact ⟨Nat.zero_le _, (y 3).isLt⟩

/-- A store of one head's state gradient. -/
theorem pieceS {w : Vec Ideal S1x128x256 .f32} {E : Vec Ideal S4x128x256 .f32} {off : Fin 3 → ℕ} (inb : ∀ a, off a + S1x128x256.size a ≤ S4x128x256.size a)
    {h : Fin 4} (ho : off = ![h.val, 0, 0]) (hw : ∀ r l, w (ix3 0 r l) = E (ix3 h r l)) (x : S1x128x256.Idx) :
    w x = E ((Rect.unit (s := S4x128x256) off S1x128x256.size inb).emb x) := by
  subst ho
  obtain ⟨r, l, rfl⟩ : ∃ (r : Fin 128) (l : Fin 256), x = ix3 0 r l := ⟨x 1, x 2, funext fun a => by fin_cases a <;> first | rfl | exact Subsingleton.elim (α := Fin 1) _ _⟩
  refine (hw r l).trans ?_
  refine (ld_at E _ _ inb _ _ fun a => ?_).symm
  fin_cases a <;> first | rfl | exact Nat.zero_add _

theorem memS {off : Fin 3 → ℕ} (inb : ∀ a, off a + S1x128x256.size a ≤ S4x128x256.size a) {h : Fin 4} (ho : off = ![h.val, 0, 0])
    (y : S4x128x256.Idx) (h0 : y 0 = h) : y ∈ (Rect.unit (s := S4x128x256) off S1x128x256.size inb).set := by
  subst ho; subst h0
  refine Rect.mem_set_unit.2 fun a => ?_
  fin_cases a
  · exact ⟨le_refl _, Nat.lt_succ_self _⟩
  · exact ⟨Nat.zero_le _, (y 1).isLt⟩
  · exact ⟨Nat.zero_le _, (y 2).isLt⟩

/-- A store of one head's value gradient. -/
theorem pieceV {w : Vec Ideal S1x1x64x256 .bf16} {E : Vec Ideal S1x4x896x256 .bf16} {off : Fin 4 → ℕ} (inb : ∀ a, off a + S1x1x64x256.size a ≤ S1x4x896x256.size a)
    {n : Fin 14} {h : Fin 4} (ho : off = ![0, h.val, 64 * n.val, 0]) (hw : ∀ r l, w (ix4 0 0 r l) = E (ix4 0 h (row n r) l)) (x : S1x1x64x256.Idx) :
    w x = E ((Rect.unit (s := S1x4x896x256) off S1x1x64x256.size inb).emb x) := by
  subst ho
  obtain ⟨r, l, rfl⟩ : ∃ (r : Fin 64) (l : Fin 256), x = ix4 0 0 r l := ⟨x 2, x 3, funext fun a => by fin_cases a <;> first | rfl | exact Subsingleton.elim (α := Fin 1) _ _⟩
  refine (hw r l).trans ?_
  refine (ld_at E _ _ inb _ _ fun a => ?_).symm
  fin_cases a <;> first | rfl | exact Nat.zero_add _

theorem memV {off : Fin 4 → ℕ} (inb : ∀ a, off a + S1x1x64x256.size a ≤ S1x4x896x256.size a) {n : Fin 14} {h : Fin 4} (ho : off = ![0, h.val, 64 * n.val, 0])
    (y : S1x4x896x256.Idx) (h1 : y 1 = h) (h2 : (y 2).val / 64 = n.val) : y ∈ (Rect.unit (s := S1x4x896x256) off S1x1x64x256.size inb).set := by
  subst ho; subst h1
  refine Rect.mem_set_unit.2 fun a => ?_
  fin_cases a
  · exact ⟨Nat.zero_le _, (y 0).isLt⟩
  · exact ⟨le_refl _, Nat.lt_succ_self _⟩
  · show 64 * n.val ≤ (y 2).val ∧ (y 2).val < 64 * n.val + 64
    omega
  · exact ⟨Nat.zero_le _, (y 3).isLt⟩

theorem consT {w : Vec Ideal S1x1x64x64 .f32} {E : Vec Ideal S14x4x64x64 .f32} {off : Fin 4 → ℕ} {inb : ∀ a, off a + S1x1x64x64.size a ≤ S14x4x64x64.size a}
    {L : List (View.Piece (Elt Ideal) S14x4x64x64 .f32)} {n : Fin 14} (h : Fin 4)
    (ho : off = ![n.val, h.val, 0, 0]) (hw : ∀ r l, w (ix4 0 0 r l) = E (ix4 n h r l)) (hL : Filled L E fun y => y 0 = n ∧ (y 1).val < h.val) :
    Filled (⟨Rect.unit (s := S14x4x64x64) off S1x1x64x64.size inb, w⟩ :: L) E fun y => y 0 = n ∧ (y 1).val < h.val + 1 :=
  Filled.cons (pieceT inb ho hw) hL fun y hy => (Nat.lt_succ_iff_lt_or_eq.1 hy.2).symm.imp (fun e => memT inb ho y hy.1 (Fin.ext e)) fun e => ⟨hy.1, e⟩

theorem consS {w : Vec Ideal S1x128x256 .f32} {E : Vec Ideal S4x128x256 .f32} {off : Fin 3 → ℕ} {inb : ∀ a, off a + S1x128x256.size a ≤ S4x128x256.size a}
    {L : List (View.Piece (Elt Ideal) S4x128x256 .f32)} (h : Fin 4)
    (ho : off = ![h.val, 0, 0]) (hw : ∀ r l, w (ix3 0 r l) = E (ix3 h r l)) (hL : Filled L E fun y => (y 0).val < h.val) :
    Filled (⟨Rect.unit (s := S4x128x256) off S1x128x256.size inb, w⟩ :: L) E fun y => (y 0).val < h.val + 1 :=
  Filled.cons (pieceS inb ho hw) hL fun y hy => (Nat.lt_succ_iff_lt_or_eq.1 hy).symm.imp (fun e => memS inb ho y (Fin.ext e)) id

theorem consV {w : Vec Ideal S1x1x64x256 .bf16} {E : Vec Ideal S1x4x896x256 .bf16} {off : Fin 4 → ℕ} {inb : ∀ a, off a + S1x1x64x256.size a ≤ S1x4x896x256.size a}
    {L : List (View.Piece (Elt Ideal) S1x4x896x256 .bf16)} {n : Fin 14} (h : Fin 4)
    (ho : off = ![0, h.val, 64 * n.val, 0]) (hw : ∀ r l, w (ix4 0 0 r l) = E (ix4 0 h (row n r) l)) (hL : Filled L E fun y => (y 2).val / 64 = n.val ∧ (y 1).val < h.val) :
    Filled (⟨Rect.unit (s := S1x4x896x256) off S1x1x64x256.size inb, w⟩ :: L) E fun y => (y 2).val / 64 = n.val ∧ (y 1).val < h.val + 1 :=
  Filled.cons (pieceV inb ho hw) hL fun y hy => (Nat.lt_succ_iff_lt_or_eq.1 hy.2).symm.imp (fun e => memV inb ho y (Fin.ext e) hy.1) fun e => ⟨hy.1, e⟩

end Cert.KernelIdeal.Head
-- ==== Proof.Value.HeadQ.lean ====
/- The kernel's query gradient and the forward pass's state, written as functions of what a trip loads. -/
module

public import proofs.«01_k».proof.Proof.Value.Head

@[expose] public section

set_option maxRecDepth 100000

noncomputable section

namespace Cert.KernelIdeal.Head

open Cert.KernelIdeal Cert.KernelIdeal.Gen Idealize.ShloMosaic Idealize.ShloMosaic.TcCoe Idealize.SL.Sem

variable {F : FTy → Type} [FloatOps F]

/-- The right-hand side of a head's solve: values less what the state predicts, times the write strength. -/
def headX (g be : FVec F S64x4 .f32) (h : Fin 4) (k : FVec F S64x128 .fp8e4m3) (v : FVec F S64x256 .bf16) (sk : F .f32)
    (st : FVec F S128x256 .f32) : FVec F S64x256 .f32 :=
  mulf (broadcastTo S64x256 (col h be) broadcasts_S64x1_S64x256)
    (subf (extf .f32 v) (mulf (broadcastTo S64x256 (col h (exp g)) broadcasts_S64x1_S64x256)
      (mulf (dotKS (extf .bf16 k) st) (broadcast S64x256 sk))))

/-- One head's next state. -/
def headFS (g : FVec F S64x4 .f32) (h : Fin 4) (k : FVec F S64x128 .fp8e4m3) (sk : F .f32) (u : FVec F S64x256 .f32)
    (st : FVec F S128x256 .f32) : FVec F S128x256 .f32 :=
  addf (mulf (broadcastTo S128x256 (extractStridedSlice S1x1 ![63, h.val] (exp g) (by revert h; decide)) broadcasts_S1x1_S128x256) st)
    (mulf (broadcast S128x256 sk) (dotXtU (extf .bf16 k) (mulf (broadcastTo S64x256 (col h (toEnd g)) broadcasts_S64x1_S64x256) u)))

/-- A limb of a head's state as stored. -/
def outSL (x : FVec F S128x256 .bf16) : FVec F S1x1x1x128x256 .bf16 := shapeCast S1x1x1x128x256 x shapeCasts_S128x256_S1x1x1x128x256
/-- A limb of a head's corrected values as stored. -/
def outUL (x : FVec F S64x256 .bf16) : FVec F S1x1x1x64x256 .bf16 := shapeCast S1x1x1x64x256 x shapeCasts_S64x256_S1x1x1x64x256

/-- The head's corrected values. -/
def FBlk.FU (B : FBlk F) (v : Fin 4 → FVec F S64x256 .bf16) (h : Fin 4) (st : FVec F S128x256 .f32) : FVec F S64x256 .f32 :=
  dotTU (joinT (B.A (hp h)) (elim (blocks (B.A (hp h))) 31) (hw h)) (headX (gate B.al) B.be h (B.k h) (v h) (B.sk h) st)

/-- The head's next state. -/
def FBlk.FS (B : FBlk F) (v : Fin 4 → FVec F S64x256 .bf16) (h : Fin 4) (st : FVec F S128x256 .f32) : FVec F S128x256 .f32 :=
  headFS (gate B.al) h (B.k h) (B.sk h) (B.FU v h st) st

/-- The output gradients by the corrected values, three products of limbs. -/
def dotDU (d u0 u1 u2 : FVec F S64x256 .bf16) : FVec F S64x64 .f32 :=
  matmul dot_S64x768_S64x768_S64x64_1_1_0_0_n_n none
    (concatenate S64x768 1 [⟨S64x256, d⟩, ⟨S64x256, d⟩, ⟨S64x256, d⟩] concatenates_S64x256_S64x256_S64x256_S64x768_d1)
    (concatenate S64x768 1 [⟨S64x256, u0⟩, ⟨S64x256, u1⟩, ⟨S64x256, u2⟩] concatenates_S64x256_S64x256_S64x256_S64x768_d1)
    (constant S64x64 .f32 0x00000000#32)

/-- The output gradients by the state, three products of limbs. -/
def dotDS (d : FVec F S64x256 .bf16) (s0 s1 s2 : FVec F S128x256 .bf16) : FVec F S64x128 .f32 :=
  matmul dot_S64x768_S128x768_S64x128_1_1_0_0_n_n none
    (concatenate S64x768 1 [⟨S64x256, d⟩, ⟨S64x256, d⟩, ⟨S64x256, d⟩] concatenates_S64x256_S64x256_S64x256_S64x768_d1)
    (concatenate S128x768 1 [⟨S128x256, s0⟩, ⟨S128x256, s1⟩, ⟨S128x256, s2⟩] concatenates_S128x256_S128x256_S128x256_S128x768_d1)
    (constant S64x128 .f32 0x00000000#32)

/-- A 64 by 64 matrix by the keys, three products of limbs. -/
def dotWK (w : FVec F S64x64 .f32) (k : FVec F S64x128 .bf16) : FVec F S64x128 .f32 :=
  matmul dot_S64x192_S192x128_S64x128_1_0_0_1_n_n none
    (concatenate S64x192 1 [⟨S64x64, lim0 w⟩, ⟨S64x64, lim1 w⟩, ⟨S64x64, lim2 w⟩] concatenates_S64x64_S64x64_S64x64_S64x192_d1)
    (concatenate S192x128 0 [⟨S64x128, k⟩, ⟨S64x128, k⟩, ⟨S64x128, k⟩] concatenates_S64x128_S64x128_S64x128_S192x128_d0)
    (constant S64x128 .f32 0x00000000#32)

/-- The decays between rows, two heads side by side. -/
def packD (g : FVec F S64x4 .f32) (gr : FVec F S2x128 .f32) (p : Fin 2) (h0 h1 : Fin 4) : FVec F S64x128 .f32 :=
  exp (select (cmpi .sge rowI k0_pay523) (subf (spread (col h0 g) (col h1 g)) (rowB p gr))
    (broadcast S64x128 (Scalar.ofBits .f32 0xFF800000#32)))

/-- The pair's decays between rows. -/
def Blk.D (B : Blk F) (p : Fin 2) : FVec F S64x128 .f32 := packD (gate B.al) (gateRow B.alr) p (ha p) (hb p)

/-- One head's gradient of the attention weights. -/
def Blk.DQ (B : Blk F) (h : Fin 4) (u : Fin 3 → FVec F S64x256 .bf16) : FVec F S64x64 .f32 :=
  mulf (mulf (dotDU (extf .bf16 (B.d h)) (u 0) (u 1) (u 2)) (broadcast S64x64 (sd (B.ds h)))) (half (hw h) (B.D (hp h)))

/-- One head's query gradient. -/
def Blk.Q (B : Blk F) (h : Fin 4) (s : Fin 3 → FVec F S128x256 .bf16) (u : Fin 3 → FVec F S64x256 .bf16) : FVec F S64x128 .f32 :=
  addf (mulf (broadcastTo S64x128 (col h (exp (gate B.al))) broadcasts_S64x1_S64x128)
      (mulf (dotDS (extf .bf16 (B.d h)) (s 0) (s 1) (s 2)) (broadcast S64x128 (sd (B.ds h)))))
    (mulf (broadcast S64x128 (B.sk h)) (dotWK (B.DQ h u) (extf .bf16 (B.k h))))

/-- The query gradient as stored. -/
def outQ (x : FVec F S64x128 .f32) : FVec F S1x1x64x128 .bf16 :=
  shapeCast S1x1x64x128 (truncf .bf16 x : FVec F S64x128 .bf16) shapeCasts_S64x128_S1x1x64x128

end Cert.KernelIdeal.Head
-- ==== Proof.Value.TripFQ.lean ====
/- One trip of the forward loop: what it stores of the states and of the corrected values. -/
module

public import proofs.«01_k».proof.Proof.Value.TripF
public import proofs.«01_k».proof.Proof.Value.TripB
public import proofs.«01_k».proof.Proof.Value.HeadQ

@[expose] public section

set_option maxRecDepth 100000

noncomputable section

namespace Cert.KernelIdeal.Head

open Cert.KernelIdeal Cert.KernelIdeal.Gen Idealize.ShloMosaic Idealize.ShloMosaic.TcCoe Idealize.ShloMosaic.Tactic Idealize.SL.Sem

variable {F : FTy → Type} [FloatOps F]

/-- The values as a trip of the forward loop loads them. -/
def fV (arg7 : Memref sig .tc .vmem S1x4x896x256 .bf16) (X_arg7 : BufTy.Contents (Elt F) arg7.view.ty) (k : Fin k0_t1_loop.trips) : Fin 4 → FVec F S64x256 .bf16 :=
  ![(shapeCast S64x256 (View.readAt (Elt F) arg7.view (Rect.unit (s := S1x4x896x256) (k0_off11 k) S1x1x64x256.size (k0_off11_inb k)).toLoadRect X_arg7) shapeCasts_S1x1x64x256_S64x256), (shapeCast S64x256 (View.readAt (Elt F) arg7.view (Rect.unit (s := S1x4x896x256) (k0_off19 k) S1x1x64x256.size (k0_off19_inb k)).toLoadRect X_arg7) shapeCasts_S1x1x64x256_S64x256), (shapeCast S64x256 (View.readAt (Elt F) arg7.view (Rect.unit (s := S1x4x896x256) (k0_off27 k) S1x1x64x256.size (k0_off27_inb k)).toLoadRect X_arg7) shapeCasts_S1x1x64x256_S64x256), (shapeCast S64x256 (View.readAt (Elt F) arg7.view (Rect.unit (s := S1x4x896x256) (k0_off35 k) S1x1x64x256.size (k0_off35_inb k)).toLoadRect X_arg7) shapeCasts_S1x1x64x256_S64x256)]

/-- The states' limbs a trip stores. -/
theorem trip1_SL (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (X_arg3 : BufTy.Contents (Elt F) arg3.view.ty) (X_arg6 : BufTy.Contents (Elt F) arg6.view.ty) (X_arg7 : BufTy.Contents (Elt F) arg7.view.ty) (X_arg9 : BufTy.Contents (Elt F) arg9.view.ty) (X_arg10 : BufTy.Contents (Elt F) arg10.view.ty) (X_arg11 : BufTy.Contents (Elt F) arg11.view.ty) (k : Fin k0_t1_loop.trips) (f17 : BufTy.Contents (Elt F) arg17.view.ty) (f18 : BufTy.Contents (Elt F) arg18.view.ty) (f19 : BufTy.Contents (Elt F) arg19.view.ty) (f20 : BufTy.Contents (Elt F) arg20.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 X_arg3 X_arg6 X_arg7 X_arg9 X_arg10 X_arg11 k).1 f17 f18 f19 f20
      = [⟨Rect.unit (k0_off34 k) ![1, 1, 1, 128, 256] (k0_off34_inb k), outSL (lim2 (bS arg20 f20 3))⟩, ⟨Rect.unit (k0_off33 k) ![1, 1, 1, 128, 256] (k0_off33_inb k), outSL (lim1 (bS arg20 f20 3))⟩, ⟨Rect.unit (k0_off32 k) ![1, 1, 1, 128, 256] (k0_off32_inb k), outSL (lim0 (bS arg20 f20 3))⟩, ⟨Rect.unit (k0_off26 k) ![1, 1, 1, 128, 256] (k0_off26_inb k), outSL (lim2 (bS arg20 f20 2))⟩, ⟨Rect.unit (k0_off25 k) ![1, 1, 1, 128, 256] (k0_off25_inb k), outSL (lim1 (bS arg20 f20 2))⟩, ⟨Rect.unit (k0_off24 k) ![1, 1, 1, 128, 256] (k0_off24_inb k), outSL (lim0 (bS arg20 f20 2))⟩, ⟨Rect.unit (k0_off18 k) ![1, 1, 1, 128, 256] (k0_off18_inb k), outSL (lim2 (bS arg20 f20 1))⟩, ⟨Rect.unit (k0_off17 k) ![1, 1, 1, 128, 256] (k0_off17_inb k), outSL (lim1 (bS arg20 f20 1))⟩, ⟨Rect.unit (k0_off16 k) ![1, 1, 1, 128, 256] (k0_off16_inb k), outSL (lim0 (bS arg20 f20 1))⟩, ⟨Rect.unit (k0_off10 k) ![1, 1, 1, 128, 256] (k0_off10_inb k), outSL (lim2 (bS arg20 f20 0))⟩, ⟨Rect.unit (k0_off9 k) ![1, 1, 1, 128, 256] (k0_off9_inb k), outSL (lim1 (bS arg20 f20 0))⟩, ⟨Rect.unit (k0_off8 k) ![1, 1, 1, 128, 256] (k0_off8_inb k), outSL (lim0 (bS arg20 f20 0))⟩] := by
  unfold trip_k0_t1
  sl_kernel_rfl

/-- The corrected values' limbs a trip stores. -/
theorem trip1_UL (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (X_arg3 : BufTy.Contents (Elt F) arg3.view.ty) (X_arg6 : BufTy.Contents (Elt F) arg6.view.ty) (X_arg7 : BufTy.Contents (Elt F) arg7.view.ty) (X_arg9 : BufTy.Contents (Elt F) arg9.view.ty) (X_arg10 : BufTy.Contents (Elt F) arg10.view.ty) (X_arg11 : BufTy.Contents (Elt F) arg11.view.ty) (k : Fin k0_t1_loop.trips) (f17 : BufTy.Contents (Elt F) arg17.view.ty) (f18 : BufTy.Contents (Elt F) arg18.view.ty) (f19 : BufTy.Contents (Elt F) arg19.view.ty) (f20 : BufTy.Contents (Elt F) arg20.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 X_arg3 X_arg6 X_arg7 X_arg9 X_arg10 X_arg11 k).2.1 f17 f18 f19 f20
      = [⟨Rect.unit (k0_off38 k) ![1, 1, 1, 64, 256] (k0_off38_inb k), outUL (lim2 ((fblk i arg3 arg6 arg9 arg10 arg11 X_arg3 X_arg6 X_arg9 X_arg10 X_arg11 k).FU (fV arg7 X_arg7 k) 3 (bS arg20 f20 3)))⟩, ⟨Rect.unit (k0_off37 k) ![1, 1, 1, 64, 256] (k0_off37_inb k), outUL (lim1 ((fblk i arg3 arg6 arg9 arg10 arg11 X_arg3 X_arg6 X_arg9 X_arg10 X_arg11 k).FU (fV arg7 X_arg7 k) 3 (bS arg20 f20 3)))⟩, ⟨Rect.unit (k0_off36 k) ![1, 1, 1, 64, 256] (k0_off36_inb k), outUL (lim0 ((fblk i arg3 arg6 arg9 arg10 arg11 X_arg3 X_arg6 X_arg9 X_arg10 X_arg11 k).FU (fV arg7 X_arg7 k) 3 (bS arg20 f20 3)))⟩, ⟨Rect.unit (k0_off30 k) ![1, 1, 1, 64, 256] (k0_off30_inb k), outUL (lim2 ((fblk i arg3 arg6 arg9 arg10 arg11 X_arg3 X_arg6 X_arg9 X_arg10 X_arg11 k).FU (fV arg7 X_arg7 k) 2 (bS arg20 f20 2)))⟩, ⟨Rect.unit (k0_off29 k) ![1, 1, 1, 64, 256] (k0_off29_inb k), outUL (lim1 ((fblk i arg3 arg6 arg9 arg10 arg11 X_arg3 X_arg6 X_arg9 X_arg10 X_arg11 k).FU (fV arg7 X_arg7 k) 2 (bS arg20 f20 2)))⟩, ⟨Rect.unit (k0_off28 k) ![1, 1, 1, 64, 256] (k0_off28_inb k), outUL (lim0 ((fblk i arg3 arg6 arg9 arg10 arg11 X_arg3 X_arg6 X_arg9 X_arg10 X_arg11 k).FU (fV arg7 X_arg7 k) 2 (bS arg20 f20 2)))⟩, ⟨Rect.unit (k0_off22 k) ![1, 1, 1, 64, 256] (k0_off22_inb k), outUL (lim2 ((fblk i arg3 arg6 arg9 arg10 arg11 X_arg3 X_arg6 X_arg9 X_arg10 X_arg11 k).FU (fV arg7 X_arg7 k) 1 (bS arg20 f20 1)))⟩, ⟨Rect.unit (k0_off21 k) ![1, 1, 1, 64, 256] (k0_off21_inb k), outUL (lim1 ((fblk i arg3 arg6 arg9 arg10 arg11 X_arg3 X_arg6 X_arg9 X_arg10 X_arg11 k).FU (fV arg7 X_arg7 k) 1 (bS arg20 f20 1)))⟩, ⟨Rect.unit (k0_off20 k) ![1, 1, 1, 64, 256] (k0_off20_inb k), outUL (lim0 ((fblk i arg3 arg6 arg9 arg10 arg11 X_arg3 X_arg6 X_arg9 X_arg10 X_arg11 k).FU (fV arg7 X_arg7 k) 1 (bS arg20 f20 1)))⟩, ⟨Rect.unit (k0_off14 k) ![1, 1, 1, 64, 256] (k0_off14_inb k), outUL (lim2 ((fblk i arg3 arg6 arg9 arg10 arg11 X_arg3 X_arg6 X_arg9 X_arg10 X_arg11 k).FU (fV arg7 X_arg7 k) 0 (bS arg20 f20 0)))⟩, ⟨Rect.unit (k0_off13 k) ![1, 1, 1, 64, 256] (k0_off13_inb k), outUL (lim1 ((fblk i arg3 arg6 arg9 arg10 arg11 X_arg3 X_arg6 X_arg9 X_arg10 X_arg11 k).FU (fV arg7 X_arg7 k) 0 (bS arg20 f20 0)))⟩, ⟨Rect.unit (k0_off12 k) ![1, 1, 1, 64, 256] (k0_off12_inb k), outUL (lim0 ((fblk i arg3 arg6 arg9 arg10 arg11 X_arg3 X_arg6 X_arg9 X_arg10 X_arg11 k).FU (fV arg7 X_arg7 k) 0 (bS arg20 f20 0)))⟩] := by
  unfold trip_k0_t1
  sl_kernel_rfl

/-- The next states a trip stores. -/
theorem trip1_FS (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (X_arg3 : BufTy.Contents (Elt F) arg3.view.ty) (X_arg6 : BufTy.Contents (Elt F) arg6.view.ty) (X_arg7 : BufTy.Contents (Elt F) arg7.view.ty) (X_arg9 : BufTy.Contents (Elt F) arg9.view.ty) (X_arg10 : BufTy.Contents (Elt F) arg10.view.ty) (X_arg11 : BufTy.Contents (Elt F) arg11.view.ty) (k : Fin k0_t1_loop.trips) (f17 : BufTy.Contents (Elt F) arg17.view.ty) (f18 : BufTy.Contents (Elt F) arg18.view.ty) (f19 : BufTy.Contents (Elt F) arg19.view.ty) (f20 : BufTy.Contents (Elt F) arg20.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 X_arg3 X_arg6 X_arg7 X_arg9 X_arg10 X_arg11 k).2.2.2.1 f17 f18 f19 f20
      = [⟨Rect.unit ![3, 0, 0] ![1, 128, 256] inb_S4x128x256_S1x128x256_3_0_0, outS ((fblk i arg3 arg6 arg9 arg10 arg11 X_arg3 X_arg6 X_arg9 X_arg10 X_arg11 k).FS (fV arg7 X_arg7 k) 3 (bS arg20 f20 3))⟩, ⟨Rect.unit ![2, 0, 0] ![1, 128, 256] inb_S4x128x256_S1x128x256_2_0_0, outS ((fblk i arg3 arg6 arg9 arg10 arg11 X_arg3 X_arg6 X_arg9 X_arg10 X_arg11 k).FS (fV arg7 X_arg7 k) 2 (bS arg20 f20 2))⟩, ⟨Rect.unit ![1, 0, 0] ![1, 128, 256] inb_S4x128x256_S1x128x256_1_0_0, outS ((fblk i arg3 arg6 arg9 arg10 arg11 X_arg3 X_arg6 X_arg9 X_arg10 X_arg11 k).FS (fV arg7 X_arg7 k) 1 (bS arg20 f20 1))⟩, ⟨Rect.unit ![0, 0, 0] ![1, 128, 256] inb_S4x128x256_S1x128x256_0_0_0, outS ((fblk i arg3 arg6 arg9 arg10 arg11 X_arg3 X_arg6 X_arg9 X_arg10 X_arg11 k).FS (fV arg7 X_arg7 k) 0 (bS arg20 f20 0))⟩] := by
  unfold trip_k0_t1
  sl_kernel_rfl

end Cert.KernelIdeal.Head
-- ==== Proof.Value.TripBQ.lean ====
/- One trip of the backward loop: what it stores of the query gradient. -/
module

public import proofs.«01_k».proof.Proof.Value.TripB
public import proofs.«01_k».proof.Proof.Value.HeadQ

@[expose] public section

set_option maxRecDepth 100000

noncomputable section

namespace Cert.KernelIdeal.Head

open Cert.KernelIdeal Cert.KernelIdeal.Gen Idealize.ShloMosaic Idealize.ShloMosaic.TcCoe Idealize.ShloMosaic.Tactic Idealize.SL.Sem

variable {F : FTy → Type} [FloatOps F]

/-- The limbs of a head's state as a trip of the backward loop loads them. -/
def bSL (arg17 : Memref sig .tc .vmem S14x4x3x128x256 .bf16) (X_arg17 : BufTy.Contents (Elt F) arg17.view.ty) (k : Fin k0_t2_loop.trips) : Fin 4 → Fin 3 → FVec F S128x256 .bf16 :=
  ![![(shapeCast S128x256 (View.readAt (Elt F) arg17.view (Rect.unit (s := S14x4x3x128x256) (k0_off48 k) S1x1x1x128x256.size (k0_off48_inb k)).toLoadRect X_arg17) shapeCasts_S1x1x1x128x256_S128x256), (shapeCast S128x256 (View.readAt (Elt F) arg17.view (Rect.unit (s := S14x4x3x128x256) (k0_off49 k) S1x1x1x128x256.size (k0_off49_inb k)).toLoadRect X_arg17) shapeCasts_S1x1x1x128x256_S128x256), (shapeCast S128x256 (View.readAt (Elt F) arg17.view (Rect.unit (s := S14x4x3x128x256) (k0_off50 k) S1x1x1x128x256.size (k0_off50_inb k)).toLoadRect X_arg17) shapeCasts_S1x1x1x128x256_S128x256)], ![(shapeCast S128x256 (View.readAt (Elt F) arg17.view (Rect.unit (s := S14x4x3x128x256) (k0_off56 k) S1x1x1x128x256.size (k0_off56_inb k)).toLoadRect X_arg17) shapeCasts_S1x1x1x128x256_S128x256), (shapeCast S128x256 (View.readAt (Elt F) arg17.view (Rect.unit (s := S14x4x3x128x256) (k0_off57 k) S1x1x1x128x256.size (k0_off57_inb k)).toLoadRect X_arg17) shapeCasts_S1x1x1x128x256_S128x256), (shapeCast S128x256 (View.readAt (Elt F) arg17.view (Rect.unit (s := S14x4x3x128x256) (k0_off58 k) S1x1x1x128x256.size (k0_off58_inb k)).toLoadRect X_arg17) shapeCasts_S1x1x1x128x256_S128x256)], ![(shapeCast S128x256 (View.readAt (Elt F) arg17.view (Rect.unit (s := S14x4x3x128x256) (k0_off64 k) S1x1x1x128x256.size (k0_off64_inb k)).toLoadRect X_arg17) shapeCasts_S1x1x1x128x256_S128x256), (shapeCast S128x256 (View.readAt (Elt F) arg17.view (Rect.unit (s := S14x4x3x128x256) (k0_off65 k) S1x1x1x128x256.size (k0_off65_inb k)).toLoadRect X_arg17) shapeCasts_S1x1x1x128x256_S128x256), (shapeCast S128x256 (View.readAt (Elt F) arg17.view (Rect.unit (s := S14x4x3x128x256) (k0_off66 k) S1x1x1x128x256.size (k0_off66_inb k)).toLoadRect X_arg17) shapeCasts_S1x1x1x128x256_S128x256)], ![(shapeCast S128x256 (View.readAt (Elt F) arg17.view (Rect.unit (s := S14x4x3x128x256) (k0_off72 k) S1x1x1x128x256.size (k0_off72_inb k)).toLoadRect X_arg17) shapeCasts_S1x1x1x128x256_S128x256), (shapeCast S128x256 (View.readAt (Elt F) arg17.view (Rect.unit (s := S14x4x3x128x256) (k0_off73 k) S1x1x1x128x256.size (k0_off73_inb k)).toLoadRect X_arg17) shapeCasts_S1x1x1x128x256_S128x256), (shapeCast S128x256 (View.readAt (Elt F) arg17.view (Rect.unit (s := S14x4x3x128x256) (k0_off74 k) S1x1x1x128x256.size (k0_off74_inb k)).toLoadRect X_arg17) shapeCasts_S1x1x1x128x256_S128x256)]]

/-- The limbs of a head's corrected values as a trip of the backward loop loads them. -/
def bUL (arg18 : Memref sig .tc .vmem S14x4x3x64x256 .bf16) (X_arg18 : BufTy.Contents (Elt F) arg18.view.ty) (k : Fin k0_t2_loop.trips) : Fin 4 → Fin 3 → FVec F S64x256 .bf16 :=
  ![![(shapeCast S64x256 (View.readAt (Elt F) arg18.view (Rect.unit (s := S14x4x3x64x256) (k0_off51 k) S1x1x1x64x256.size (k0_off51_inb k)).toLoadRect X_arg18) shapeCasts_S1x1x1x64x256_S64x256), (shapeCast S64x256 (View.readAt (Elt F) arg18.view (Rect.unit (s := S14x4x3x64x256) (k0_off52 k) S1x1x1x64x256.size (k0_off52_inb k)).toLoadRect X_arg18) shapeCasts_S1x1x1x64x256_S64x256), (shapeCast S64x256 (View.readAt (Elt F) arg18.view (Rect.unit (s := S14x4x3x64x256) (k0_off53 k) S1x1x1x64x256.size (k0_off53_inb k)).toLoadRect X_arg18) shapeCasts_S1x1x1x64x256_S64x256)], ![(shapeCast S64x256 (View.readAt (Elt F) arg18.view (Rect.unit (s := S14x4x3x64x256) (k0_off59 k) S1x1x1x64x256.size (k0_off59_inb k)).toLoadRect X_arg18) shapeCasts_S1x1x1x64x256_S64x256), (shapeCast S64x256 (View.readAt (Elt F) arg18.view (Rect.unit (s := S14x4x3x64x256) (k0_off60 k) S1x1x1x64x256.size (k0_off60_inb k)).toLoadRect X_arg18) shapeCasts_S1x1x1x64x256_S64x256), (shapeCast S64x256 (View.readAt (Elt F) arg18.view (Rect.unit (s := S14x4x3x64x256) (k0_off61 k) S1x1x1x64x256.size (k0_off61_inb k)).toLoadRect X_arg18) shapeCasts_S1x1x1x64x256_S64x256)], ![(shapeCast S64x256 (View.readAt (Elt F) arg18.view (Rect.unit (s := S14x4x3x64x256) (k0_off67 k) S1x1x1x64x256.size (k0_off67_inb k)).toLoadRect X_arg18) shapeCasts_S1x1x1x64x256_S64x256), (shapeCast S64x256 (View.readAt (Elt F) arg18.view (Rect.unit (s := S14x4x3x64x256) (k0_off68 k) S1x1x1x64x256.size (k0_off68_inb k)).toLoadRect X_arg18) shapeCasts_S1x1x1x64x256_S64x256), (shapeCast S64x256 (View.readAt (Elt F) arg18.view (Rect.unit (s := S14x4x3x64x256) (k0_off69 k) S1x1x1x64x256.size (k0_off69_inb k)).toLoadRect X_arg18) shapeCasts_S1x1x1x64x256_S64x256)], ![(shapeCast S64x256 (View.readAt (Elt F) arg18.view (Rect.unit (s := S14x4x3x64x256) (k0_off75 k) S1x1x1x64x256.size (k0_off75_inb k)).toLoadRect X_arg18) shapeCasts_S1x1x1x64x256_S64x256), (shapeCast S64x256 (View.readAt (Elt F) arg18.view (Rect.unit (s := S14x4x3x64x256) (k0_off76 k) S1x1x1x64x256.size (k0_off76_inb k)).toLoadRect X_arg18) shapeCasts_S1x1x1x64x256_S64x256), (shapeCast S64x256 (View.readAt (Elt F) arg18.view (Rect.unit (s := S14x4x3x64x256) (k0_off77 k) S1x1x1x64x256.size (k0_off77_inb k)).toLoadRect X_arg18) shapeCasts_S1x1x1x64x256_S64x256)]]

/-- The query gradients a trip stores. -/
theorem trip2_Q (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (k : Fin k0_t2_loop.trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f20 : BufTy.Contents (Elt F) arg20.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 X_arg2 X_arg3 X_arg4 X_arg5 X_arg6 X_arg7 X_arg8 X_arg9 X_arg10 X_arg11 X_arg17 X_arg18 X_arg19 k).1 f12 f13 f14 f15 f16 f20
      = [⟨Rect.unit (k0_off46 k) ![1, 1, 64, 128] (k0_off46_inb k), outQ ((bblk i arg2 arg3 arg4 arg5 arg6 arg8 arg9 arg10 arg11 X_arg2 X_arg3 X_arg4 X_arg5 X_arg6 X_arg8 X_arg9 X_arg10 X_arg11 k).Q 3 (bSL arg17 X_arg17 k 3) (bUL arg18 X_arg18 k 3))⟩, ⟨Rect.unit (k0_off45 k) ![1, 1, 64, 128] (k0_off45_inb k), outQ ((bblk i arg2 arg3 arg4 arg5 arg6 arg8 arg9 arg10 arg11 X_arg2 X_arg3 X_arg4 X_arg5 X_arg6 X_arg8 X_arg9 X_arg10 X_arg11 k).Q 2 (bSL arg17 X_arg17 k 2) (bUL arg18 X_arg18 k 2))⟩, ⟨Rect.unit (k0_off44 k) ![1, 1, 64, 128] (k0_off44_inb k), outQ ((bblk i arg2 arg3 arg4 arg5 arg6 arg8 arg9 arg10 arg11 X_arg2 X_arg3 X_arg4 X_arg5 X_arg6 X_arg8 X_arg9 X_arg10 X_arg11 k).Q 1 (bSL arg17 X_arg17 k 1) (bUL arg18 X_arg18 k 1))⟩, ⟨Rect.unit (k0_off43 k) ![1, 1, 64, 128] (k0_off43_inb k), outQ ((bblk i arg2 arg3 arg4 arg5 arg6 arg8 arg9 arg10 arg11 X_arg2 X_arg3 X_arg4 X_arg5 X_arg6 X_arg8 X_arg9 X_arg10 X_arg11 k).Q 0 (bSL arg17 X_arg17 k 0) (bUL arg18 X_arg18 k 0))⟩] := by
  unfold trip_k0_t2
  sl_kernel_rfl

end Cert.KernelIdeal.Head
-- ==== Proof.Value.FwdReal.lean ====
/- One head's corrected values, next state and query gradient: what the kernel's forms hold, over the reals. -/
module

public import proofs.«01_k».proof.Proof.Value.UVS
public import proofs.«01_k».proof.Proof.Value.HeadQ

@[expose] public section

set_option maxRecDepth 100000

noncomputable section

namespace Cert.KernelIdeal.Head

open Cert.KernelIdeal Cert.KernelIdeal.Gen Idealize.ShloMosaic Idealize.SL.Sem
open scoped BigOperators

/-- The right-hand side of a head's solve, over the reals. -/
def RBlk.X (R : RBlk) (h : Fin 4) (St : Matrix (Fin 128) (Fin 256) ℝ) : Matrix (Fin 64) (Fin 256) ℝ := fun r c =>
  R.be r h * (R.v h r c - Real.exp (cum R.la r h) * ((R.k h * St) r c * R.sk h))
/-- One head's corrected values, over the reals. -/
def RBlk.FU (R : RBlk) (h : Fin 4) (St : Matrix (Fin 128) (Fin 256) ℝ) : Matrix (Fin 64) (Fin 256) ℝ := (1 + R.A h)⁻¹ * R.X h St
/-- The corrected values decayed to the chunk's end. -/
def RBlk.Y (R : RBlk) (h : Fin 4) (St : Matrix (Fin 128) (Fin 256) ℝ) : Matrix (Fin 64) (Fin 256) ℝ := fun r c =>
  Real.exp (cum R.la 63 h - cum R.la r h) * R.FU h St r c
/-- One head's next state, over the reals. -/
def RBlk.FS (R : RBlk) (h : Fin 4) (St : Matrix (Fin 128) (Fin 256) ℝ) : Matrix (Fin 128) (Fin 256) ℝ := fun r c =>
  Real.exp (cum R.la 63 h) * St r c + R.sk h * ((R.k h).transpose * R.Y h St) r c
/-- One head's gradient of the attention weights, over the reals. -/
def RBlk.DQ (R : RBlk) (h : Fin 4) (St : Matrix (Fin 128) (Fin 256) ℝ) : Matrix (Fin 64) (Fin 64) ℝ := fun r l =>
  (R.d h * (R.FU h St).transpose) r l * (R.ds h * c128) * (if l ≤ r then Real.exp (cum R.la r h - cum R.la l h) else 0)
/-- One head's query gradient, over the reals. -/
def RBlk.Q (R : RBlk) (h : Fin 4) (St : Matrix (Fin 128) (Fin 256) ℝ) : Matrix (Fin 64) (Fin 128) ℝ := fun r c =>
  Real.exp (cum R.la r h) * ((R.d h * St.transpose) r c * (R.ds h * c128)) + R.sk h * (R.DQ h St * R.k h) r c

theorem dotDU_is {d u0 u1 u2 : FVec Ideal S64x256 .bf16} {D U : Matrix (Fin 64) (Fin 256) ℝ} (hd : Is (a := 64) (b := 256) d D)
    (h0 : Is (a := 64) (b := 256) u0 U) (h1 : ∀ r c, u1 (ix2 r c) = 0) (h2 : ∀ r c, u2 (ix2 r c) = 0) :
    Is (a := 64) (b := 64) (dotDU d u0 u1 u2) (D * U.transpose) := by
  intro r c
  pointwise [dotDU]
  rw [coe_mul_apply, sum3 (n := 256) rfl]
  refine Finset.sum_congr rfl fun k _ => ?_
  have e1 := k.isLt
  have e2 : ¬ (k.val + 256 < 256) := by omega
  have e3 : ¬ (k.val + 256 + 256 < 256) := by omega
  simp only [dif_pos e1, dif_neg e2, dif_neg e3, Nat.add_sub_cancel, Fin.eta, h0 c k, h1 c k, h2 c k, hd r k, Matrix.transpose_apply]
  simp

theorem dotDS_is {d : FVec Ideal S64x256 .bf16} {s0 s1 s2 : FVec Ideal S128x256 .bf16} {D : Matrix (Fin 64) (Fin 256) ℝ} {S : Matrix (Fin 128) (Fin 256) ℝ}
    (hd : Is (a := 64) (b := 256) d D)
    (h0 : Is (a := 128) (b := 256) s0 S) (h1 : ∀ r c, s1 (ix2 r c) = 0) (h2 : ∀ r c, s2 (ix2 r c) = 0) :
    Is (a := 64) (b := 128) (dotDS d s0 s1 s2) (D * S.transpose) := by
  intro r c
  pointwise [dotDS]
  rw [coe_mul_apply, sum3 (n := 256) rfl]
  refine Finset.sum_congr rfl fun k _ => ?_
  have e1 := k.isLt
  have e2 : ¬ (k.val + 256 < 256) := by omega
  have e3 : ¬ (k.val + 256 + 256 < 256) := by omega
  simp only [dif_pos e1, dif_neg e2, dif_neg e3, Nat.add_sub_cancel, Fin.eta, h0 c k, h1 c k, h2 c k, hd r k, Matrix.transpose_apply]
  simp

theorem dotWK_is {a : FVec Ideal S64x64 .f32} {b : FVec Ideal S64x128 .bf16} {A : Matrix (Fin 64) (Fin 64) ℝ} {B : Matrix (Fin 64) (Fin 128) ℝ}
    (ha : Is (a := 64) (b := 64) a A) (hb : Is (a := 64) (b := 128) b B) : Is (a := 64) (b := 128) (dotWK a b) (A * B) := by
  intro r c
  pointwise [dotWK]
  rw [coe_mul_apply, sum3 (n := 64) rfl]
  refine Finset.sum_congr rfl fun k _ => ?_
  have h1 := k.isLt
  have h2 : ¬ (k.val + 64 < 64) := by omega
  have h3 : ¬ (k.val + 64 + 64 < 64) := by omega
  simp only [dif_pos h1, dif_neg h2, dif_neg h3, Nat.add_sub_cancel, Fin.eta, lim0_is ha r k, lim1_is ha r k, lim2_is ha r k, hb k c]
  simp

theorem ge_rl (r : Fin 64) (l : Fin 128) : IntOp.cmpi .sge (BitVec.ofNat 32 r.val) (IntOp.andi (BitVec.ofNat 32 l.val) 63#32) = BitVec.ofBool (decide (l.val % 64 ≤ r.val)) := by
  revert r l; decide +kernel

theorem fullT_is {B : FBlk Ideal} {R : RBlk} (H : B.IsR R) (h : Fin 4) :
    Is (a := 64) (b := 64) (joinT (B.A (hp h)) (elim (blocks (B.A (hp h))) 31) (hw h)) (1 + R.A h)⁻¹ := by
  refine joinT_is (A := R.A h) (hw h) (fun r l => ?_) (fun r l hrl => ?_)
  · rw [packA_apply H]
    have h1 : laneRow (laneW (hw h) l) = l := Fin.ext (by simp only [laneRow, laneW]; omega)
    rw [h1, laneHead_laneW]
  · unfold RBlk.A; rw [if_neg (not_lt.2 hrl)]

section
variable {B : FBlk Ideal} {R : RBlk} (H : B.IsR R) {v : Fin 4 → FVec Ideal S64x256 .bf16} (hv : ∀ h, Is (a := 64) (b := 256) (v h) (R.v h))
  (h : Fin 4) {st : FVec Ideal S128x256 .f32} {St : Matrix (Fin 128) (Fin 256) ℝ} (hst : Is (a := 128) (b := 256) st St)
include H hv hst

theorem X_is : Is (a := 64) (b := 256) (headX (gate B.al) B.be h (B.k h) (v h) (B.sk h) st) (R.X h St) := fun r c => by
  have h2 := dotKS_is (a := extf .bf16 (B.k h)) (A := R.k h) (H.k h) hst
  have h3 := hv h r c
  pointwise [headX, col]
  rw [h2 r c, h3, gate_is H.al r h, H.be r h, H.sk, exp_coe]
  simp only [← EReal.coe_mul, ← EReal.coe_sub]
  rfl

theorem FU_is : Is (a := 64) (b := 256) (B.FU v h st) (R.FU h St) :=
  dotTU_is (fullT_is H h) (X_is H hv h hst)

theorem FS_is : Is (a := 128) (b := 256) (B.FS v h st) (R.FS h St) := fun r c => by
  unfold FBlk.FS
  have hU := FU_is H hv h hst
  generalize B.FU v h st = u at *
  have h2 := dotXtU_is (a := extf .bf16 (B.k h)) (A := R.k h) (H.k h) (b := mulf (broadcastTo S64x256 (col h (toEnd (gate B.al))) broadcasts_S64x1_S64x256) u)
    (B := R.Y h St) (fun r c => by
      pointwise [col, toEnd]
      rw [gate_is H.al r h, gate_is H.al 63 h, hU r c, ← EReal.coe_sub, exp_coe]
      simp only [← EReal.coe_mul]
      rfl)
  unfold headFS
  generalize dotXtU (extf .bf16 (B.k h)) _ = x2 at *
  pointwise []
  rw [h2 r c, gate_is H.al 63 h, H.sk, hst r c, exp_coe]
  simp only [← EReal.coe_mul, ← EReal.coe_add]
  rfl
end

section
variable {B : Blk Ideal} {R : RBlk} (H : B.IsR R)
include H

theorem packD_apply (p : Fin 2) (r : Fin 64) (l : Fin 128) : B.D p (ix2 r l)
    = ((if laneRow l ≤ r then Real.exp (cum R.la r (laneHead p l) - cum R.la (laneRow l) (laneHead p l)) else 0 : ℝ) : EReal) := by
  unfold Blk.D
  pointwise [packD, spread, rowB, col, rowI, k0_pay522, k0_pay523]
  rw [gateRow_cum H.toIsR, lt64, ge_rl]
  simp only [select_ofBool, gate_is H.al _ _, negInf]
  have e : ∀ f : Fin 4 → EReal, (if l.val < 64 then f (ha p) else f (hb p)) = f (laneHead p l) := fun f => by
    unfold laneHead; split_ifs <;> rfl
  rw [e fun h => ((cum R.la r h : ℝ) : EReal)]
  by_cases hl : l.val % 64 ≤ r.val
  · have hl' : laneRow l ≤ r := hl
    rw [if_pos hl, if_pos hl', ← EReal.coe_sub, exp_coe]
  · have hl' : ¬ laneRow l ≤ r := hl
    rw [if_neg hl, if_neg hl']
    simp [exp_bot]

theorem halfD_is (h : Fin 4) (r l : Fin 64) : half (hw h) (B.D (hp h)) (ix2 r l)
    = ((if l ≤ r then Real.exp (cum R.la r h - cum R.la l h) else 0 : ℝ) : EReal) := by
  have e : half (hw h) (B.D (hp h)) (ix2 r l) = B.D (hp h) (ix2 r (laneW (hw h) l)) := by
    generalize B.D (hp h) = x
    pointwise [half]
    rfl
  rw [e, packD_apply H]
  have h1 : laneRow (laneW (hw h) l) = l := Fin.ext (by simp only [laneRow, laneW]; omega)
  rw [h1, laneHead_laneW]

variable (h : Fin 4) {St : Matrix (Fin 128) (Fin 256) ℝ} {s : Fin 3 → FVec Ideal S128x256 .bf16} {u : Fin 3 → FVec Ideal S64x256 .bf16}
  (hs0 : Is (a := 128) (b := 256) (s 0) St) (hs1 : ∀ r c, s 1 (ix2 r c) = 0) (hs2 : ∀ r c, s 2 (ix2 r c) = 0)
  (hu0 : Is (a := 64) (b := 256) (u 0) (R.FU h St)) (hu1 : ∀ r c, u 1 (ix2 r c) = 0) (hu2 : ∀ r c, u 2 (ix2 r c) = 0)
include hu0 hu1 hu2

theorem DQ_is : Is (a := 64) (b := 64) (B.DQ h u) (R.DQ h St) := fun r c => by
  unfold Blk.DQ
  have h1 := dotDU_is (d := extf .bf16 (B.d h)) (D := R.d h) (H.d h) hu0 hu1 hu2
  have h2 := halfD_is H h r c
  generalize half (hw h) (B.D (hp h)) = x at *
  pointwise [sd]
  rw [h1 r c, h2, H.ds, c128_coe]
  simp only [← EReal.coe_mul]
  rfl

include hs0 hs1 hs2
theorem Q_is : Is (a := 64) (b := 128) (B.Q h s u) (R.Q h St) := fun r c => by
  unfold Blk.Q
  have h1 := dotDS_is (d := extf .bf16 (B.d h)) (D := R.d h) (H.d h) hs0 hs1 hs2
  have h2 := dotWK_is (b := extf .bf16 (B.k h)) (B := R.k h) (DQ_is H h hu0 hu1 hu2) (H.k h)
  generalize B.DQ h u = x at *
  pointwise [col, sd]
  rw [h1 r c, h2 r c, gate_is H.al r h, H.ds, H.sk, c128_coe, exp_coe]
  simp only [← EReal.coe_mul, ← EReal.coe_add]
  rfl
end

end Cert.KernelIdeal.Head
-- ==== Proof.Value.FilledQ.lean ====
/- What the loads of the values, the states and the corrected values hold, and the stores of the states, the corrected values and the query gradients. -/
module

public import proofs.«01_k».proof.Proof.Value.Filled
public import proofs.«01_k».proof.Proof.Value.TripFQ
public import proofs.«01_k».proof.Proof.Value.TripBQ
public import proofs.«01_k».proof.Proof.Value.FwdReal

@[expose] public section

set_option maxRecDepth 100000

noncomputable section

namespace Cert.KernelIdeal.Head

open Cert.KernelIdeal Cert.KernelIdeal.Gen Idealize.ShloMosaic Idealize.ShloMosaic.TcCoe Idealize.SL.Sem

theorem ld_v (m : Memref sig .tc .vmem S1x4x896x256 .bf16) (f : m.view.ty.Contents (Elt Ideal)) {off : Fin 4 → ℕ} (inb : ∀ a, off a + S1x1x64x256.size a ≤ S1x4x896x256.size a)
    (h : Fin 4) (n : Fin 14) (ho : off = ![0, h.val, 64 * n.val, 0]) (r : Fin 64) (c : Fin 256) :
    (shapeCast S64x256 (View.readAt (Elt Ideal) m.view (Rect.unit (s := S1x4x896x256) off S1x1x64x256.size inb).toLoadRect f) shapeCasts_S1x1x64x256_S64x256 : FVec Ideal S64x256 .bf16) (ix2 r c)
      = m.view.read (Elt Ideal) f (ix4 0 h (row n r) c) := by
  subst ho
  have e : ∀ g : Vec Ideal S1x1x64x256 .bf16, (shapeCast S64x256 g shapeCasts_S1x1x64x256_S64x256) (ix2 r c) = g (ix4 0 0 r c) := fun g => by pointwise
  rw [View.readAt_eq_ld, e]
  exact ld_at _ _ _ _ _ _ fun a => by fin_cases a <;> first | rfl | exact Nat.zero_add _

theorem ld_SL (m : Memref sig .tc .vmem S14x4x3x128x256 .bf16) (f : m.view.ty.Contents (Elt Ideal)) {off : Fin 5 → ℕ} (inb : ∀ a, off a + S1x1x1x128x256.size a ≤ S14x4x3x128x256.size a)
    (n : Fin 14) (h : Fin 4) (j : Fin 3) (ho : off = ![n.val, h.val, j.val, 0, 0]) (r : Fin 128) (c : Fin 256) :
    (shapeCast S128x256 (View.readAt (Elt Ideal) m.view (Rect.unit (s := S14x4x3x128x256) off S1x1x1x128x256.size inb).toLoadRect f) shapeCasts_S1x1x1x128x256_S128x256 : FVec Ideal S128x256 .bf16) (ix2 r c)
      = m.view.read (Elt Ideal) f (ix5 n h j r c) := by
  subst ho
  have e : ∀ g : Vec Ideal S1x1x1x128x256 .bf16, (shapeCast S128x256 g shapeCasts_S1x1x1x128x256_S128x256) (ix2 r c) = g (ix5 0 0 0 r c) := fun g => by pointwise
  rw [View.readAt_eq_ld, e]
  exact ld_at _ _ _ _ _ _ fun a => by fin_cases a <;> first | rfl | exact Nat.zero_add _

theorem ld_UL (m : Memref sig .tc .vmem S14x4x3x64x256 .bf16) (f : m.view.ty.Contents (Elt Ideal)) {off : Fin 5 → ℕ} (inb : ∀ a, off a + S1x1x1x64x256.size a ≤ S14x4x3x64x256.size a)
    (n : Fin 14) (h : Fin 4) (j : Fin 3) (ho : off = ![n.val, h.val, j.val, 0, 0]) (r : Fin 64) (c : Fin 256) :
    (shapeCast S64x256 (View.readAt (Elt Ideal) m.view (Rect.unit (s := S14x4x3x64x256) off S1x1x1x64x256.size inb).toLoadRect f) shapeCasts_S1x1x1x64x256_S64x256 : FVec Ideal S64x256 .bf16) (ix2 r c)
      = m.view.read (Elt Ideal) f (ix5 n h j r c) := by
  subst ho
  have e : ∀ g : Vec Ideal S1x1x1x64x256 .bf16, (shapeCast S64x256 g shapeCasts_S1x1x1x64x256_S64x256) (ix2 r c) = g (ix5 0 0 0 r c) := fun g => by pointwise
  rw [View.readAt_eq_ld, e]
  exact ld_at _ _ _ _ _ _ fun a => by fin_cases a <;> first | rfl | exact Nat.zero_add _

/-- The values loaded are the chunk's. -/
theorem fV_is {x5 : Vec Ideal S1x4x896x256 .bf16} {R : Fin 14 → RBlk} (hv : ∀ n h r c, x5 (ix4 0 h (row n r) c) = (((R n).v h r c : ℝ) : EReal))
    {arg7 : Memref sig .tc .vmem S1x4x896x256 .bf16} (h7 : arg7.IsWhole) (k : Fin k0_t1_loop.trips) (h : Fin 4) :
    Is (a := 64) (b := 256) (fV (F := Ideal) arg7 (h7.unread x5) k h) ((R (cF k)).v h) := fun r c => match h with
  | 0 => (ld_v arg7 _ _ 0 (cF k) (k0_off11_eq k) r c).trans ((congrFun (h7.read_unread x5) _).trans (hv _ 0 r c))
  | 1 => (ld_v arg7 _ _ 1 (cF k) (k0_off19_eq k) r c).trans ((congrFun (h7.read_unread x5) _).trans (hv _ 1 r c))
  | 2 => (ld_v arg7 _ _ 2 (cF k) (k0_off27_eq k) r c).trans ((congrFun (h7.read_unread x5) _).trans (hv _ 2 r c))
  | 3 => (ld_v arg7 _ _ 3 (cF k) (k0_off35_eq k) r c).trans ((congrFun (h7.read_unread x5) _).trans (hv _ 3 r c))

theorem bSL_0 {arg17 : Memref sig .tc .vmem S14x4x3x128x256 .bf16} (f : arg17.view.ty.Contents (Elt Ideal)) (k : Fin k0_t2_loop.trips) (j : Fin 3) (r : Fin 128) (c : Fin 256) :
    bSL (F := Ideal) arg17 f k 0 j (ix2 r c) = arg17.view.read (Elt Ideal) f (ix5 (cB k) 0 j r c) := match j with
  | 0 => ld_SL arg17 f _ (cB k) 0 0 (k0_off48_eq k) r c
  | 1 => ld_SL arg17 f _ (cB k) 0 1 (k0_off49_eq k) r c
  | 2 => ld_SL arg17 f _ (cB k) 0 2 (k0_off50_eq k) r c

theorem bSL_1 {arg17 : Memref sig .tc .vmem S14x4x3x128x256 .bf16} (f : arg17.view.ty.Contents (Elt Ideal)) (k : Fin k0_t2_loop.trips) (j : Fin 3) (r : Fin 128) (c : Fin 256) :
    bSL (F := Ideal) arg17 f k 1 j (ix2 r c) = arg17.view.read (Elt Ideal) f (ix5 (cB k) 1 j r c) := match j with
  | 0 => ld_SL arg17 f _ (cB k) 1 0 (k0_off56_eq k) r c
  | 1 => ld_SL arg17 f _ (cB k) 1 1 (k0_off57_eq k) r c
  | 2 => ld_SL arg17 f _ (cB k) 1 2 (k0_off58_eq k) r c

theorem bSL_2 {arg17 : Memref sig .tc .vmem S14x4x3x128x256 .bf16} (f : arg17.view.ty.Contents (Elt Ideal)) (k : Fin k0_t2_loop.trips) (j : Fin 3) (r : Fin 128) (c : Fin 256) :
    bSL (F := Ideal) arg17 f k 2 j (ix2 r c) = arg17.view.read (Elt Ideal) f (ix5 (cB k) 2 j r c) := match j with
  | 0 => ld_SL arg17 f _ (cB k) 2 0 (k0_off64_eq k) r c
  | 1 => ld_SL arg17 f _ (cB k) 2 1 (k0_off65_eq k) r c
  | 2 => ld_SL arg17 f _ (cB k) 2 2 (k0_off66_eq k) r c

theorem bSL_3 {arg17 : Memref sig .tc .vmem S14x4x3x128x256 .bf16} (f : arg17.view.ty.Contents (Elt Ideal)) (k : Fin k0_t2_loop.trips) (j : Fin 3) (r : Fin 128) (c : Fin 256) :
    bSL (F := Ideal) arg17 f k 3 j (ix2 r c) = arg17.view.read (Elt Ideal) f (ix5 (cB k) 3 j r c) := match j with
  | 0 => ld_SL arg17 f _ (cB k) 3 0 (k0_off72_eq k) r c
  | 1 => ld_SL arg17 f _ (cB k) 3 1 (k0_off73_eq k) r c
  | 2 => ld_SL arg17 f _ (cB k) 3 2 (k0_off74_eq k) r c

theorem bSL_is {arg17 : Memref sig .tc .vmem S14x4x3x128x256 .bf16} (f : arg17.view.ty.Contents (Elt Ideal)) (k : Fin k0_t2_loop.trips) (h : Fin 4) (j : Fin 3) (r : Fin 128) (c : Fin 256) :
    bSL (F := Ideal) arg17 f k h j (ix2 r c) = arg17.view.read (Elt Ideal) f (ix5 (cB k) h j r c) := match h with
  | 0 => bSL_0 f k j r c
  | 1 => bSL_1 f k j r c
  | 2 => bSL_2 f k j r c
  | 3 => bSL_3 f k j r c

theorem bUL_0 {arg18 : Memref sig .tc .vmem S14x4x3x64x256 .bf16} (f : arg18.view.ty.Contents (Elt Ideal)) (k : Fin k0_t2_loop.trips) (j : Fin 3) (r : Fin 64) (c : Fin 256) :
    bUL (F := Ideal) arg18 f k 0 j (ix2 r c) = arg18.view.read (Elt Ideal) f (ix5 (cB k) 0 j r c) := match j with
  | 0 => ld_UL arg18 f _ (cB k) 0 0 (k0_off51_eq k) r c
  | 1 => ld_UL arg18 f _ (cB k) 0 1 (k0_off52_eq k) r c
  | 2 => ld_UL arg18 f _ (cB k) 0 2 (k0_off53_eq k) r c

theorem bUL_1 {arg18 : Memref sig .tc .vmem S14x4x3x64x256 .bf16} (f : arg18.view.ty.Contents (Elt Ideal)) (k : Fin k0_t2_loop.trips) (j : Fin 3) (r : Fin 64) (c : Fin 256) :
    bUL (F := Ideal) arg18 f k 1 j (ix2 r c) = arg18.view.read (Elt Ideal) f (ix5 (cB k) 1 j r c) := match j with
  | 0 => ld_UL arg18 f _ (cB k) 1 0 (k0_off59_eq k) r c
  | 1 => ld_UL arg18 f _ (cB k) 1 1 (k0_off60_eq k) r c
  | 2 => ld_UL arg18 f _ (cB k) 1 2 (k0_off61_eq k) r c

theorem bUL_2 {arg18 : Memref sig .tc .vmem S14x4x3x64x256 .bf16} (f : arg18.view.ty.Contents (Elt Ideal)) (k : Fin k0_t2_loop.trips) (j : Fin 3) (r : Fin 64) (c : Fin 256) :
    bUL (F := Ideal) arg18 f k 2 j (ix2 r c) = arg18.view.read (Elt Ideal) f (ix5 (cB k) 2 j r c) := match j with
  | 0 => ld_UL arg18 f _ (cB k) 2 0 (k0_off67_eq k) r c
  | 1 => ld_UL arg18 f _ (cB k) 2 1 (k0_off68_eq k) r c
  | 2 => ld_UL arg18 f _ (cB k) 2 2 (k0_off69_eq k) r c

theorem bUL_3 {arg18 : Memref sig .tc .vmem S14x4x3x64x256 .bf16} (f : arg18.view.ty.Contents (Elt Ideal)) (k : Fin k0_t2_loop.trips) (j : Fin 3) (r : Fin 64) (c : Fin 256) :
    bUL (F := Ideal) arg18 f k 3 j (ix2 r c) = arg18.view.read (Elt Ideal) f (ix5 (cB k) 3 j r c) := match j with
  | 0 => ld_UL arg18 f _ (cB k) 3 0 (k0_off75_eq k) r c
  | 1 => ld_UL arg18 f _ (cB k) 3 1 (k0_off76_eq k) r c
  | 2 => ld_UL arg18 f _ (cB k) 3 2 (k0_off77_eq k) r c

theorem bUL_is {arg18 : Memref sig .tc .vmem S14x4x3x64x256 .bf16} (f : arg18.view.ty.Contents (Elt Ideal)) (k : Fin k0_t2_loop.trips) (h : Fin 4) (j : Fin 3) (r : Fin 64) (c : Fin 256) :
    bUL (F := Ideal) arg18 f k h j (ix2 r c) = arg18.view.read (Elt Ideal) f (ix5 (cB k) h j r c) := match h with
  | 0 => bUL_0 f k j r c
  | 1 => bUL_1 f k j r c
  | 2 => bUL_2 f k j r c
  | 3 => bUL_3 f k j r c

/-- A store of a limb of one head's state. -/
theorem pieceSL {w : Vec Ideal S1x1x1x128x256 .bf16} {E : Vec Ideal S14x4x3x128x256 .bf16} {off : Fin 5 → ℕ} (inb : ∀ a, off a + S1x1x1x128x256.size a ≤ S14x4x3x128x256.size a)
    {n : Fin 14} {h : Fin 4} {j : Fin 3} (ho : off = ![n.val, h.val, j.val, 0, 0]) (hw : ∀ r l, w (ix5 0 0 0 r l) = E (ix5 n h j r l)) (x : S1x1x1x128x256.Idx) :
    w x = E ((Rect.unit (s := S14x4x3x128x256) off S1x1x1x128x256.size inb).emb x) := by
  subst ho
  obtain ⟨r, l, rfl⟩ : ∃ (r : Fin 128) (l : Fin 256), x = ix5 0 0 0 r l := ⟨x 3, x 4, funext fun a => by fin_cases a <;> first | rfl | exact Subsingleton.elim (α := Fin 1) _ _⟩
  refine (hw r l).trans ?_
  refine (ld_at E _ _ inb _ _ fun a => ?_).symm
  fin_cases a <;> first | rfl | exact Nat.zero_add _

theorem memSL {off : Fin 5 → ℕ} (inb : ∀ a, off a + S1x1x1x128x256.size a ≤ S14x4x3x128x256.size a) {n : Fin 14} {h : Fin 4} {j : Fin 3} (ho : off = ![n.val, h.val, j.val, 0, 0])
    (y : S14x4x3x128x256.Idx) (h0 : y 0 = n) (h1 : y 1 = h) (h2 : y 2 = j) : y ∈ (Rect.unit (s := S14x4x3x128x256) off S1x1x1x128x256.size inb).set := by
  subst ho; subst h0; subst h1; subst h2
  refine Rect.mem_set_unit.2 fun a => ?_
  fin_cases a
  · exact ⟨le_refl _, Nat.lt_succ_self _⟩
  · exact ⟨le_refl _, Nat.lt_succ_self _⟩
  · exact ⟨le_refl _, Nat.lt_succ_self _⟩
  · exact ⟨Nat.zero_le _, (y 3).isLt⟩
  · exact ⟨Nat.zero_le _, (y 4).isLt⟩

theorem consSL {w : Vec Ideal S1x1x1x128x256 .bf16} {E : Vec Ideal S14x4x3x128x256 .bf16} {off : Fin 5 → ℕ} {inb : ∀ a, off a + S1x1x1x128x256.size a ≤ S14x4x3x128x256.size a}
    {L : List (View.Piece (Elt Ideal) S14x4x3x128x256 .bf16)} {n : Fin 14} (h : Fin 4) (j : Fin 3)
    (ho : off = ![n.val, h.val, j.val, 0, 0]) (hw : ∀ r l, w (ix5 0 0 0 r l) = E (ix5 n h j r l)) (hL : Filled L E fun y => y 0 = n ∧ 3 * (y 1).val + (y 2).val < 3 * h.val + j.val) :
    Filled (⟨Rect.unit (s := S14x4x3x128x256) off S1x1x1x128x256.size inb, w⟩ :: L) E fun y => y 0 = n ∧ 3 * (y 1).val + (y 2).val < 3 * h.val + j.val + 1 :=
  Filled.cons (pieceSL inb ho hw) hL fun y hy => (Nat.lt_succ_iff_lt_or_eq.1 hy.2).symm.imp (fun e => by
    have h2 : (y 2).val < 3 := (y 2).isLt
    have h3 := j.isLt
    exact memSL inb ho y hy.1 (Fin.ext (by omega)) (Fin.ext (by omega))) fun e => ⟨hy.1, e⟩

/-- A store of a limb of one head's corrected values. -/
theorem pieceUL {w : Vec Ideal S1x1x1x64x256 .bf16} {E : Vec Ideal S14x4x3x64x256 .bf16} {off : Fin 5 → ℕ} (inb : ∀ a, off a + S1x1x1x64x256.size a ≤ S14x4x3x64x256.size a)
    {n : Fin 14} {h : Fin 4} {j : Fin 3} (ho : off = ![n.val, h.val, j.val, 0, 0]) (hw : ∀ r l, w (ix5 0 0 0 r l) = E (ix5 n h j r l)) (x : S1x1x1x64x256.Idx) :
    w x = E ((Rect.unit (s := S14x4x3x64x256) off S1x1x1x64x256.size inb).emb x) := by
  subst ho
  obtain ⟨r, l, rfl⟩ : ∃ (r : Fin 64) (l : Fin 256), x = ix5 0 0 0 r l := ⟨x 3, x 4, funext fun a => by fin_cases a <;> first | rfl | exact Subsingleton.elim (α := Fin 1) _ _⟩
  refine (hw r l).trans ?_
  refine (ld_at E _ _ inb _ _ fun a => ?_).symm
  fin_cases a <;> first | rfl | exact Nat.zero_add _

theorem memUL {off : Fin 5 → ℕ} (inb : ∀ a, off a + S1x1x1x64x256.size a ≤ S14x4x3x64x256.size a) {n : Fin 14} {h : Fin 4} {j : Fin 3} (ho : off = ![n.val, h.val, j.val, 0, 0])
    (y : S14x4x3x64x256.Idx) (h0 : y 0 = n) (h1 : y 1 = h) (h2 : y 2 = j) : y ∈ (Rect.unit (s := S14x4x3x64x256) off S1x1x1x64x256.size inb).set := by
  subst ho; subst h0; subst h1; subst h2
  refine Rect.mem_set_unit.2 fun a => ?_
  fin_cases a
  · exact ⟨le_refl _, Nat.lt_succ_self _⟩
  · exact ⟨le_refl _, Nat.lt_succ_self _⟩
  · exact ⟨le_refl _, Nat.lt_succ_self _⟩
  · exact ⟨Nat.zero_le _, (y 3).isLt⟩
  · exact ⟨Nat.zero_le _, (y 4).isLt⟩

theorem consUL {w : Vec Ideal S1x1x1x64x256 .bf16} {E : Vec Ideal S14x4x3x64x256 .bf16} {off : Fin 5 → ℕ} {inb : ∀ a, off a + S1x1x1x64x256.size a ≤ S14x4x3x64x256.size a}
    {L : List (View.Piece (Elt Ideal) S14x4x3x64x256 .bf16)} {n : Fin 14} (h : Fin 4) (j : Fin 3)
    (ho : off = ![n.val, h.val, j.val, 0, 0]) (hw : ∀ r l, w (ix5 0 0 0 r l) = E (ix5 n h j r l)) (hL : Filled L E fun y => y 0 = n ∧ 3 * (y 1).val + (y 2).val < 3 * h.val + j.val) :
    Filled (⟨Rect.unit (s := S14x4x3x64x256) off S1x1x1x64x256.size inb, w⟩ :: L) E fun y => y 0 = n ∧ 3 * (y 1).val + (y 2).val < 3 * h.val + j.val + 1 :=
  Filled.cons (pieceUL inb ho hw) hL fun y hy => (Nat.lt_succ_iff_lt_or_eq.1 hy.2).symm.imp (fun e => by
    have h2 : (y 2).val < 3 := (y 2).isLt
    have h3 := j.isLt
    exact memUL inb ho y hy.1 (Fin.ext (by omega)) (Fin.ext (by omega))) fun e => ⟨hy.1, e⟩

/-- A store of one head's query gradient. -/
theorem pieceQ {w : Vec Ideal S1x1x64x128 .bf16} {E : Vec Ideal S1x4x896x128 .bf16} {off : Fin 4 → ℕ} (inb : ∀ a, off a + S1x1x64x128.size a ≤ S1x4x896x128.size a)
    {n : Fin 14} {h : Fin 4} (ho : off = ![0, h.val, 64 * n.val, 0]) (hw : ∀ r l, w (ix4 0 0 r l) = E (ix4 0 h (row n r) l)) (x : S1x1x64x128.Idx) :
    w x = E ((Rect.unit (s := S1x4x896x128) off S1x1x64x128.size inb).emb x) := by
  subst ho
  obtain ⟨r, l, rfl⟩ : ∃ (r : Fin 64) (l : Fin 128), x = ix4 0 0 r l := ⟨x 2, x 3, funext fun a => by fin_cases a <;> first | rfl | exact Subsingleton.elim (α := Fin 1) _ _⟩
  refine (hw r l).trans ?_
  refine (ld_at E _ _ inb _ _ fun a => ?_).symm
  fin_cases a <;> first | rfl | exact Nat.zero_add _

theorem memQ {off : Fin 4 → ℕ} (inb : ∀ a, off a + S1x1x64x128.size a ≤ S1x4x896x128.size a) {n : Fin 14} {h : Fin 4} (ho : off = ![0, h.val, 64 * n.val, 0])
    (y : S1x4x896x128.Idx) (h1 : y 1 = h) (h2 : (y 2).val / 64 = n.val) : y ∈ (Rect.unit (s := S1x4x896x128) off S1x1x64x128.size inb).set := by
  subst ho; subst h1
  refine Rect.mem_set_unit.2 fun a => ?_
  fin_cases a
  · exact ⟨Nat.zero_le _, (y 0).isLt⟩
  · exact ⟨le_refl _, Nat.lt_succ_self _⟩
  · show 64 * n.val ≤ (y 2).val ∧ (y 2).val < 64 * n.val + 64
    omega
  · exact ⟨Nat.zero_le _, (y 3).isLt⟩

theorem consQ {w : Vec Ideal S1x1x64x128 .bf16} {E : Vec Ideal S1x4x896x128 .bf16} {off : Fin 4 → ℕ} {inb : ∀ a, off a + S1x1x64x128.size a ≤ S1x4x896x128.size a}
    {L : List (View.Piece (Elt Ideal) S1x4x896x128 .bf16)} {n : Fin 14} (h : Fin 4)
    (ho : off = ![0, h.val, 64 * n.val, 0]) (hw : ∀ r l, w (ix4 0 0 r l) = E (ix4 0 h (row n r) l)) (hL : Filled L E fun y => (y 2).val / 64 = n.val ∧ (y 1).val < h.val) :
    Filled (⟨Rect.unit (s := S1x4x896x128) off S1x1x64x128.size inb, w⟩ :: L) E fun y => (y 2).val / 64 = n.val ∧ (y 1).val < h.val + 1 :=
  Filled.cons (pieceQ inb ho hw) hL fun y hy => (Nat.lt_succ_iff_lt_or_eq.1 hy.2).symm.imp (fun e => memQ inb ho y (Fin.ext e) hy.1) fun e => ⟨hy.1, e⟩

end Cert.KernelIdeal.Head
-- ==== Proof.Value.LoopFQ.lean ====
/- The forward loop: after it the buffers of the states and of the corrected values hold every chunk's and head's. -/
module

public import proofs.«01_k».proof.Proof.Value.FilledQ

@[expose] public section

set_option maxRecDepth 100000

noncomputable section

namespace Cert.KernelIdeal.Head

open Cert.KernelIdeal Cert.KernelIdeal.Gen Idealize.ShloMosaic Idealize.ShloMosaic.TcCoe Idealize.SL.Sem

/-- A head's state after `k` chunks. -/
def stF (R : Fin 14 → RBlk) (h : Fin 4) : ℕ → Matrix (Fin 128) (Fin 256) ℝ
  | 0 => 0
  | k + 1 => (R ⟨k % 14, Nat.mod_lt _ (by omega)⟩).FS h (stF R h k)

/-- Every chunk's and head's state, as limbs: the whole number in the first. -/
def ESL (R : Fin 14 → RBlk) : Vec Ideal S14x4x3x128x256 .bf16 := fun y =>
  if (y 2).val = 0 then ((stF R (y 1) (y 0).val (y 3) (y 4) : ℝ) : EReal) else 0
/-- Every chunk's and head's corrected values, as limbs. -/
def EUL (R : Fin 14 → RBlk) : Vec Ideal S14x4x3x64x256 .bf16 := fun y =>
  if (y 2).val = 0 then (((R (y 0)).FU (y 1) (stF R (y 1) (y 0).val) (y 3) (y 4) : ℝ) : EReal) else 0
/-- A head's state everywhere. -/
def EFS (R : Fin 14 → RBlk) (n : ℕ) : Vec Ideal S4x128x256 .f32 := fun y => ((stF R (y 0) n (y 1) (y 2) : ℝ) : EReal)

theorem outSL_apply (v : FVec Ideal S128x256 .bf16) (r : Fin 128) (l : Fin 256) : outSL v (ix5 0 0 0 r l) = v (ix2 r l) := by pointwise [outSL]
theorem outUL_apply (v : FVec Ideal S64x256 .bf16) (r : Fin 64) (l : Fin 256) : outUL v (ix5 0 0 0 r l) = v (ix2 r l) := by pointwise [outUL]
theorem outFS_apply (v : FVec Ideal S128x256 .f32) (r : Fin 128) (l : Fin 256) : outS v (ix3 0 r l) = v (ix2 r l) := by pointwise [outS]

variable (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32)
variable {x5 : Vec Ideal S1x4x896x256 .bf16} {x1 : Vec Ideal S448 .f32} {x4 : Vec Ideal S1x4x896x128 .fp8e4m3} {x7 : Vec Ideal S1x1x896x4 .f32}
  {x8 : Vec Ideal S1x1x14x2x128 .f32} {x9 : Vec Ideal S1x1x896x4 .f32} {R : Fin 14 → RBlk} (H : InsF i x1 x4 x7 x8 x9 R)
  (hv : ∀ n h r c, x5 (ix4 0 h (row n r) c) = (((R n).v h r c : ℝ) : EReal)) (f17 : arg17.view.ty.Contents (Elt Ideal)) (f18 : arg18.view.ty.Contents (Elt Ideal))
  (f19 : arg19.view.ty.Contents (Elt Ideal)) (f20 : arg20.view.ty.Contents (Elt Ideal))
  (h0 : ∀ h r c, arg20.view.read (Elt Ideal) f20 (ix3 h r c) = 0)
include H hv h0

theorem loopFQ (n : ℕ) (hn : n ≤ 14) :
    (∀ h r j, arg20.view.read (Elt Ideal) (arg20.view.writes (Elt Ideal) f20 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).2.2.2) (ix3 h r j) = ((stF R h n r j : ℝ) : EReal))
    ∧ Filled (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).1 (ESL R) (fun y => (y 0).val < n)
    ∧ Filled (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).2.1 (EUL R) (fun y => (y 0).val < n) := by
  induction n with
  | zero => exact ⟨fun h r j => (h0 h r j).trans EReal.coe_zero.symm, Filled.nil _ _ fun y => Nat.not_lt_zero _, Filled.nil _ _ fun y => Nat.not_lt_zero _⟩
  | succ n ih =>
    obtain ⟨ihS, ihL, ihU⟩ := ih (by omega)
    have hk : n < k0_t1_loop.trips := trips1 ▸ hn
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 ⟨n, hk⟩
    have B := fblk_is H harg3 harg6 harg9 harg10 harg11 ⟨n, hk⟩
    have hV := fV_is hv harg7 ⟨n, hk⟩
    have hS : ∀ h, Is (a := 128) (b := 256) (bS (F := Ideal) arg20 (arg20.view.writes (Elt Ideal) f20 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).2.2.2) h) (stF R h n) :=
      fun h r j => (bS_is _ h r j).trans (ihS h r j)
    have hU := fun h => FU_is B hV h (hS h)
    have hF := fun h => FS_is B hV h (hS h)
    have ec : (R ⟨n % 14, Nat.mod_lt _ (by omega)⟩) = R (cF ⟨n, hk⟩) := congrArg R (Fin.ext (Nat.mod_eq_of_lt (by omega)))
    refine ⟨fun h r j => ?_, ?_, ?_⟩
    · have e1 := congrArg (fun z => z.2.2.2) e
      refine (congrArg (fun L => arg20.view.read (Elt Ideal) (arg20.view.writes (Elt Ideal) f20 L) (ix3 h r j)) e1).trans ?_
      refine (congrArg (fun f => arg20.view.read (Elt Ideal) f (ix3 h r j)) (View.writes_append _ _ _ _)).trans ?_
      refine Filled.read (E := EFS R (n + 1)) (D := fun y => (y 0).val < 4) arg20.view _ ?_ h.isLt
      refine Eq.mpr (congrArg (fun L => Filled L (EFS R (n + 1)) _) (trip1_FS _ _ _ _ _ _ _ _ _ _ _ _ _ _ _ _ _ _ _ _ _ _ _ _ _ _ _ _ _ _ _ _ _ _ _ _ _ _ _ _ _ _ _ _ _ _ _ _ _ _ _ _ _ _ _)) ?_
      have hw : ∀ (h : Fin 4) (r : Fin 128) (l : Fin 256), outS ((fblk (F := Ideal) i arg3 arg6 arg9 arg10 arg11 (harg3.unread x1) (harg6.unread x4) (harg9.unread x7) (harg10.unread x8) (harg11.unread x9) ⟨n, hk⟩).FS (fV (F := Ideal) arg7 (harg7.unread x5) ⟨n, hk⟩) h (bS (F := Ideal) arg20 (arg20.view.writes (Elt Ideal) f20 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).2.2.2) h)) (ix3 0 r l) = EFS R (n + 1) (ix3 h r l) := fun h r l =>
        ((outFS_apply _ r l).trans (hF h r l)).trans (congrArg (fun X : RBlk => ((X.FS h (stF R h n) r l : ℝ) : EReal)) ec.symm)
      exact consS 3 rfl (hw 3) (consS 2 rfl (hw 2) (consS 1 rfl (hw 1) (consS 0 rfl (hw 0) (Filled.nil _ _ fun y hy => Nat.not_lt_zero _ hy))))
    · have e1 := congrArg (fun z => z.1) e
      refine Eq.mpr (congrArg (fun L => Filled L (ESL R) _) e1) ?_
      refine Filled.append (D := fun y => y 0 = cF ⟨n, hk⟩ ∧ 3 * (y 1).val + (y 2).val < 12) (D' := fun y => (y 0).val < n) ?_ ihL (fun y hy => ?_)
      · refine Eq.mpr (congrArg (fun L => Filled L (ESL R) _) (trip1_SL _ _ _ _ _ _ _ _ _ _ _ _ _ _ _ _ _ _ _ _ _ _ _ _ _ _ _ _ _ _ _ _ _ _ _ _ _ _ _ _ _ _ _ _ _ _ _ _ _ _ _ _ _ _ _)) ?_
        have hw0 : ∀ (h : Fin 4) (r : Fin 128) (l : Fin 256), outSL (lim0 (bS (F := Ideal) arg20 (arg20.view.writes (Elt Ideal) f20 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).2.2.2) h)) (ix5 0 0 0 r l) = ESL R (ix5 (cF ⟨n, hk⟩) h 0 r l) := fun h r l => (outSL_apply _ r l).trans (lim0_is (hS h) r l)
        have hw1 : ∀ (h : Fin 4) (r : Fin 128) (l : Fin 256), outSL (lim1 (bS (F := Ideal) arg20 (arg20.view.writes (Elt Ideal) f20 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).2.2.2) h)) (ix5 0 0 0 r l) = ESL R (ix5 (cF ⟨n, hk⟩) h 1 r l) := fun h r l => (outSL_apply _ r l).trans (lim1_is (hS h) r l)
        have hw2 : ∀ (h : Fin 4) (r : Fin 128) (l : Fin 256), outSL (lim2 (bS (F := Ideal) arg20 (arg20.view.writes (Elt Ideal) f20 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).2.2.2) h)) (ix5 0 0 0 r l) = ESL R (ix5 (cF ⟨n, hk⟩) h 2 r l) := fun h r l => (outSL_apply _ r l).trans (lim2_is (hS h) r l)
        exact (consSL 3 2 (k0_off34_eq _) (hw2 3) (consSL 3 1 (k0_off33_eq _) (hw1 3) (consSL 3 0 (k0_off32_eq _) (hw0 3) (consSL 2 2 (k0_off26_eq _) (hw2 2) (consSL 2 1 (k0_off25_eq _) (hw1 2) (consSL 2 0 (k0_off24_eq _) (hw0 2) (consSL 1 2 (k0_off18_eq _) (hw2 1) (consSL 1 1 (k0_off17_eq _) (hw1 1) (consSL 1 0 (k0_off16_eq _) (hw0 1) (consSL 0 2 (k0_off10_eq _) (hw2 0) (consSL 0 1 (k0_off9_eq _) (hw1 0) (consSL 0 0 (k0_off8_eq _) (hw0 0) (Filled.nil _ _ fun y hy => Nat.not_lt_zero _ hy.2)))))))))))))
      · rcases Nat.lt_succ_iff_lt_or_eq.1 hy with h | h
        · exact Or.inr h
        · have h1 : (y 1).val < 4 := (y 1).isLt
          have h2 : (y 2).val < 3 := (y 2).isLt
          exact Or.inl ⟨Fin.ext h, by omega⟩
    · have e1 := congrArg (fun z => z.2.1) e
      refine Eq.mpr (congrArg (fun L => Filled L (EUL R) _) e1) ?_
      refine Filled.append (D := fun y => y 0 = cF ⟨n, hk⟩ ∧ 3 * (y 1).val + (y 2).val < 12) (D' := fun y => (y 0).val < n) ?_ ihU (fun y hy => ?_)
      · refine Eq.mpr (congrArg (fun L => Filled L (EUL R) _) (trip1_UL _ _ _ _ _ _ _ _ _ _ _ _ _ _ _ _ _ _ _ _ _ _ _ _ _ _ _ _ _ _ _ _ _ _ _ _ _ _ _ _ _ _ _ _ _ _ _ _ _ _ _ _ _ _ _)) ?_
        have hw0 : ∀ (h : Fin 4) (r : Fin 64) (l : Fin 256), outUL (lim0 ((fblk (F := Ideal) i arg3 arg6 arg9 arg10 arg11 (harg3.unread x1) (harg6.unread x4) (harg9.unread x7) (harg10.unread x8) (harg11.unread x9) ⟨n, hk⟩).FU (fV (F := Ideal) arg7 (harg7.unread x5) ⟨n, hk⟩) h (bS (F := Ideal) arg20 (arg20.view.writes (Elt Ideal) f20 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).2.2.2) h))) (ix5 0 0 0 r l) = EUL R (ix5 (cF ⟨n, hk⟩) h 0 r l) := fun h r l => (outUL_apply _ r l).trans (lim0_is (hU h) r l)
        have hw1 : ∀ (h : Fin 4) (r : Fin 64) (l : Fin 256), outUL (lim1 ((fblk (F := Ideal) i arg3 arg6 arg9 arg10 arg11 (harg3.unread x1) (harg6.unread x4) (harg9.unread x7) (harg10.unread x8) (harg11.unread x9) ⟨n, hk⟩).FU (fV (F := Ideal) arg7 (harg7.unread x5) ⟨n, hk⟩) h (bS (F := Ideal) arg20 (arg20.view.writes (Elt Ideal) f20 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).2.2.2) h))) (ix5 0 0 0 r l) = EUL R (ix5 (cF ⟨n, hk⟩) h 1 r l) := fun h r l => (outUL_apply _ r l).trans (lim1_is (hU h) r l)
        have hw2 : ∀ (h : Fin 4) (r : Fin 64) (l : Fin 256), outUL (lim2 ((fblk (F := Ideal) i arg3 arg6 arg9 arg10 arg11 (harg3.unread x1) (harg6.unread x4) (harg9.unread x7) (harg10.unread x8) (harg11.unread x9) ⟨n, hk⟩).FU (fV (F := Ideal) arg7 (harg7.unread x5) ⟨n, hk⟩) h (bS (F := Ideal) arg20 (arg20.view.writes (Elt Ideal) f20 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) (harg7.unread x5) (harg9.unread x7) (harg10.unread x8) (harg11.unread x9) f17 f18 f19 f20 n).2.2.2) h))) (ix5 0 0 0 r l) = EUL R (ix5 (cF ⟨n, hk⟩) h 2 r l) := fun h r l => (outUL_apply _ r l).trans (lim2_is (hU h) r l)
        exact (consUL 3 2 (k0_off38_eq _) (hw2 3) (consUL 3 1 (k0_off37_eq _) (hw1 3) (consUL 3 0 (k0_off36_eq _) (hw0 3) (consUL 2 2 (k0_off30_eq _) (hw2 2) (consUL 2 1 (k0_off29_eq _) (hw1 2) (consUL 2 0 (k0_off28_eq _) (hw0 2) (consUL 1 2 (k0_off22_eq _) (hw2 1) (consUL 1 1 (k0_off21_eq _) (hw1 1) (consUL 1 0 (k0_off20_eq _) (hw0 1) (consUL 0 2 (k0_off14_eq _) (hw2 0) (consUL 0 1 (k0_off13_eq _) (hw1 0) (consUL 0 0 (k0_off12_eq _) (hw0 0) (Filled.nil _ _ fun y hy => Nat.not_lt_zero _ hy.2)))))))))))))
      · rcases Nat.lt_succ_iff_lt_or_eq.1 hy with h | h
        · exact Or.inr h
        · have h1 : (y 1).val < 4 := (y 1).isLt
          have h2 : (y 2).val < 3 := (y 2).isLt
          exact Or.inl ⟨Fin.ext h, by omega⟩

end Cert.KernelIdeal.Head
-- ==== Proof.Value.LoopB.lean ====
/- The backward loop: the state gradient before each trip, and the value gradient of every chunk and head. -/
module

public import proofs.«01_k».proof.Proof.Value.Filled

@[expose] public section

set_option maxRecDepth 100000

noncomputable section

namespace Cert.KernelIdeal.Head

open Cert.KernelIdeal Cert.KernelIdeal.Gen Idealize.ShloMosaic Idealize.ShloMosaic.TcCoe Idealize.SL.Sem

/-- The state gradient of a head after `k` trips of the backward loop. -/
def stR (R : Fin 14 → RBlk) (h : Fin 4) : ℕ → Matrix (Fin 128) (Fin 256) ℝ
  | 0 => 0
  | k + 1 => (R ⟨13 - k, by omega⟩).S h (stR R h k)

/-- Every chunk's and head's value gradient. -/
def EV (R : Fin 14 → RBlk) : Vec Ideal S1x4x896x256 .bf16 := fun y =>
  (((R ⟨(y 2).val / 64, by have : (y 2).val < 896 := (y 2).isLt; omega⟩).V (y 1) (stR R (y 1) (13 - (y 2).val / 64)) ⟨(y 2).val % 64, Nat.mod_lt _ (by omega)⟩ (y 3) : ℝ) : EReal)

theorem EV_row (R : Fin 14 → RBlk) (n : Fin 14) (h : Fin 4) (r : Fin 64) (c : Fin 256) :
    EV R (ix4 0 h (row n r) c) = (((R n).V h (stR R h (13 - n.val)) r c : ℝ) : EReal) := by
  have e1 : (row n r).val / 64 = n.val := by simp only [row]; omega
  have e2 : (row n r).val % 64 = r.val := by simp only [row]; omega
  show (((R ⟨(row n r).val / 64, _⟩).V h (stR R h (13 - (row n r).val / 64)) ⟨(row n r).val % 64, _⟩ c : ℝ) : EReal) = _
  simp only [e1, e2]

/-- A head's state gradient everywhere. -/
def ES (R : Fin 14 → RBlk) (n : ℕ) : Vec Ideal S4x128x256 .f32 := fun y => ((stR R (y 0) n (y 1) (y 2) : ℝ) : EReal)

theorem outV_apply (v : FVec Ideal S64x256 .f32) (r : Fin 64) (l : Fin 256) : outV v (ix4 0 0 r l) = v (ix2 r l) := by pointwise [outV]
theorem outS_apply (v : FVec Ideal S128x256 .f32) (r : Fin 128) (l : Fin 256) : outS v (ix3 0 r l) = v (ix2 r l) := by pointwise [outS]

variable (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32)
variable {x0 x1 x2 : Vec Ideal S448 .f32} {x3 x4 : Vec Ideal S1x4x896x128 .fp8e4m3} {x6 : Vec Ideal S1x4x896x256 .fp8e5m2} {x7 : Vec Ideal S1x1x896x4 .f32}
  {x8 : Vec Ideal S1x1x14x2x128 .f32} {x9 : Vec Ideal S1x1x896x4 .f32} {R : Fin 14 → RBlk} (H : InsB i x0 x1 x2 x3 x4 x6 x7 x8 x9 R)
  (X_arg7 : arg7.view.ty.Contents (Elt Ideal)) (X_arg17 : arg17.view.ty.Contents (Elt Ideal)) (X_arg18 : arg18.view.ty.Contents (Elt Ideal))
  (X_arg19 : arg19.view.ty.Contents (Elt Ideal)) (hT : ∀ n h r c, arg19.view.read (Elt Ideal) X_arg19 (ix4 n h r c) = (((1 + (R n).A h)⁻¹ c r : ℝ) : EReal))
  (f12 : arg12.view.ty.Contents (Elt Ideal)) (f13 : arg13.view.ty.Contents (Elt Ideal)) (f14 : arg14.view.ty.Contents (Elt Ideal))
  (f15 : arg15.view.ty.Contents (Elt Ideal)) (f16 : arg16.view.ty.Contents (Elt Ideal)) (f20 : arg20.view.ty.Contents (Elt Ideal))
  (h0 : ∀ h r c, arg20.view.read (Elt Ideal) f20 (ix3 h r c) = 0)
include H hT h0

theorem loopB (n : ℕ) (hn : n ≤ 14) :
    (∀ h r j, arg20.view.read (Elt Ideal) (arg20.view.writes (Elt Ideal) f20 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 n).2.2.2.2.2) (ix3 h r j) = ((stR R h n r j : ℝ) : EReal))
    ∧ Filled (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 n).2.2.1 (EV R) (fun y => 14 - n ≤ (y 2).val / 64) := by
  induction n with
  | zero =>
    refine ⟨fun h r j => (h0 h r j).trans (EReal.coe_zero).symm, Filled.nil _ _ fun y hy => ?_⟩
    have : (y 2).val < 896 := (y 2).isLt
    omega
  | succ n ih =>
    obtain ⟨ihS, ihV⟩ := ih (by omega)
    have hk : n < k0_t2_loop.trips := trips2 ▸ hn
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 ⟨n, hk⟩
    have B := bblk_is H harg2 harg3 harg4 harg5 harg6 harg8 harg9 harg10 harg11 ⟨n, hk⟩
    have hS : ∀ h, Is (a := 128) (b := 256) (bS (F := Ideal) arg20 (arg20.view.writes (Elt Ideal) f20 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 n).2.2.2.2.2) h) (stR R h n) :=
      fun h r j => (bS_is _ h r j).trans (ihS h r j)
    have hTT : ∀ h, Is (a := 64) (b := 64) (bT (F := Ideal) arg19 X_arg19 ⟨n, hk⟩ h) (1 + (R (cB ⟨n, hk⟩)).A h)⁻¹.transpose :=
      fun h r j => (bT_is _ _ h r j).trans (hT _ h r j)
    constructor
    · intro h r j
      have e1 := congrArg (fun z => z.2.2.2.2.2) e
      refine (congrArg (fun L => arg20.view.read (Elt Ideal) (arg20.view.writes (Elt Ideal) f20 L) (ix3 h r j)) e1).trans ?_
      refine (congrArg (fun f => arg20.view.read (Elt Ideal) f (ix3 h r j)) (View.writes_append _ _ _ _)).trans ?_
      have hF := fun h => S_is B h (hS h) (hTT h)
      refine Filled.read (E := ES R (n + 1)) (D := fun y => (y 0).val < 4) arg20.view _ ?_ h.isLt
      refine Eq.mpr (congrArg (fun L => Filled L (ES R (n + 1)) _) (trip2_S _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) ?_
      have hw : ∀ (h : Fin 4) (r : Fin 128) (l : Fin 256), outS ((bblk (F := Ideal) i arg2 arg3 arg4 arg5 arg6 arg8 arg9 arg10 arg11 (harg2.unread x0) (harg3.unread x1) (harg4.unread x2) (harg5.unread x3) (harg6.unread x4) (harg8.unread x6) (harg9.unread x7) (harg10.unread x8) (harg11.unread x9) ⟨n, hk⟩).S h (bT (F := Ideal) arg19 X_arg19 ⟨n, hk⟩ h) (bS (F := Ideal) arg20 (arg20.view.writes (Elt Ideal) f20 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 n).2.2.2.2.2) h)) (ix3 0 r l) = ES R (n + 1) (ix3 h r l) := fun h r l => (outS_apply _ r l).trans (hF h r l)
      exact consS 3 rfl (hw 3) (consS 2 rfl (hw 2) (consS 1 rfl (hw 1) (consS 0 rfl (hw 0) (Filled.nil _ _ fun y hy => Nat.not_lt_zero _ hy))))
    · have e1 := congrArg (fun z => z.2.2.1) e
      refine Eq.mpr (congrArg (fun L => Filled L (EV R) _) e1) ?_
      refine Filled.append (D := fun y => (y 2).val / 64 = (cB ⟨n, hk⟩).val ∧ (y 1).val < 4) (D' := fun y => 14 - n ≤ (y 2).val / 64) ?_ ihV (fun y hy => ?_)
      · have hF := fun h => V_is B h (hS h) (hTT h)
        have hn' : 13 - (cB ⟨n, hk⟩).val = n := by simp only [cB]; omega
        have hV : ∀ (h : Fin 4) (r : Fin 64) (l : Fin 256), EV R (ix4 0 h (row (cB ⟨n, hk⟩) r) l) = (((R (cB ⟨n, hk⟩)).V h (stR R h n) r l : ℝ) : EReal) := fun h r l => by
          rw [EV_row, hn']
        refine Eq.mpr (congrArg (fun L => Filled L (EV R) _) (trip2_V _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) ?_
        have hw : ∀ (h : Fin 4) (r : Fin 64) (l : Fin 256), outV ((bblk (F := Ideal) i arg2 arg3 arg4 arg5 arg6 arg8 arg9 arg10 arg11 (harg2.unread x0) (harg3.unread x1) (harg4.unread x2) (harg5.unread x3) (harg6.unread x4) (harg8.unread x6) (harg9.unread x7) (harg10.unread x8) (harg11.unread x9) ⟨n, hk⟩).V h (bT (F := Ideal) arg19 X_arg19 ⟨n, hk⟩ h) (bS (F := Ideal) arg20 (arg20.view.writes (Elt Ideal) f20 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 n).2.2.2.2.2) h)) (ix4 0 0 r l) = EV R (ix4 0 h (row (cB ⟨n, hk⟩) r) l) := fun h r l => ((outV_apply _ r l).trans (hF h r l)).trans (hV h r l).symm
        exact consV 3 (dOff_eq ⟨n, hk⟩ 3) (hw 3) (consV 2 (dOff_eq ⟨n, hk⟩ 2) (hw 2) (consV 1 (dOff_eq ⟨n, hk⟩ 1) (hw 1) (consV 0 (dOff_eq ⟨n, hk⟩ 0) (hw 0)
          (Filled.nil _ _ fun y hy => Nat.not_lt_zero _ hy.2))))
      · by_cases h : 14 - n ≤ (y 2).val / 64
        · exact Or.inr h
        · exact Or.inl ⟨by simp only [cB]; omega, (y 1).isLt⟩

end Cert.KernelIdeal.Head
-- ==== Proof.Value.LoopBQ.lean ====
/- The backward loop: after it the query gradient's window holds every chunk's and head's. -/
module

public import proofs.«01_k».proof.Proof.Value.LoopFQ
public import proofs.«01_k».proof.Proof.Value.LoopB

@[expose] public section

set_option maxRecDepth 100000

noncomputable section

namespace Cert.KernelIdeal.Head

open Cert.KernelIdeal Cert.KernelIdeal.Gen Idealize.ShloMosaic Idealize.ShloMosaic.TcCoe Idealize.SL.Sem

/-- Every chunk's and head's query gradient. -/
def EQ (R : Fin 14 → RBlk) : Vec Ideal S1x4x896x128 .bf16 := fun y =>
  (((R ⟨(y 2).val / 64, by have : (y 2).val < 896 := (y 2).isLt; omega⟩).Q (y 1) (stF R (y 1) ((y 2).val / 64)) ⟨(y 2).val % 64, Nat.mod_lt _ (by omega)⟩ (y 3) : ℝ) : EReal)

theorem EQ_row (R : Fin 14 → RBlk) (n : Fin 14) (h : Fin 4) (r : Fin 64) (c : Fin 128) :
    EQ R (ix4 0 h (row n r) c) = (((R n).Q h (stF R h n.val) r c : ℝ) : EReal) := by
  have e1 : (row n r).val / 64 = n.val := by simp only [row]; omega
  have e2 : (row n r).val % 64 = r.val := by simp only [row]; omega
  show (((R ⟨(row n r).val / 64, _⟩).Q h (stF R h ((row n r).val / 64)) ⟨(row n r).val % 64, _⟩ c : ℝ) : EReal) = _
  simp only [e1, e2]

theorem outQ_apply (v : FVec Ideal S64x128 .f32) (r : Fin 64) (l : Fin 128) : outQ v (ix4 0 0 r l) = v (ix2 r l) := by pointwise [outQ]

variable (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32)
variable {x0 x1 x2 : Vec Ideal S448 .f32} {x3 x4 : Vec Ideal S1x4x896x128 .fp8e4m3} {x6 : Vec Ideal S1x4x896x256 .fp8e5m2} {x7 : Vec Ideal S1x1x896x4 .f32}
  {x8 : Vec Ideal S1x1x14x2x128 .f32} {x9 : Vec Ideal S1x1x896x4 .f32} {R : Fin 14 → RBlk} (H : InsB i x0 x1 x2 x3 x4 x6 x7 x8 x9 R)
  (X_arg7 : arg7.view.ty.Contents (Elt Ideal)) (X_arg17 : arg17.view.ty.Contents (Elt Ideal)) (X_arg18 : arg18.view.ty.Contents (Elt Ideal))
  (X_arg19 : arg19.view.ty.Contents (Elt Ideal)) (hT : ∀ n h r c, arg19.view.read (Elt Ideal) X_arg19 (ix4 n h r c) = (((1 + (R n).A h)⁻¹ c r : ℝ) : EReal))
  (f12 : arg12.view.ty.Contents (Elt Ideal)) (f13 : arg13.view.ty.Contents (Elt Ideal)) (f14 : arg14.view.ty.Contents (Elt Ideal))
  (f15 : arg15.view.ty.Contents (Elt Ideal)) (f16 : arg16.view.ty.Contents (Elt Ideal)) (f20 : arg20.view.ty.Contents (Elt Ideal))
  (h0 : ∀ h r c, arg20.view.read (Elt Ideal) f20 (ix3 h r c) = 0)
  (hSL : ∀ y, arg17.view.read (Elt Ideal) X_arg17 y = ESL R y) (hUL : ∀ y, arg18.view.read (Elt Ideal) X_arg18 y = EUL R y)
include H hSL hUL

theorem loopBQ (n : ℕ) (hn : n ≤ 14) :
    Filled (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 n).1 (EQ R) (fun y => 14 - n ≤ (y 2).val / 64) := by
  induction n with
  | zero =>
    refine Filled.nil _ _ fun y hy => ?_
    have : (y 2).val < 896 := (y 2).isLt
    omega
  | succ n ih =>
    have hk : n < k0_t2_loop.trips := trips2 ▸ hn
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 ⟨n, hk⟩
    have B := bblk_is H harg2 harg3 harg4 harg5 harg6 harg8 harg9 harg10 harg11 ⟨n, hk⟩
    have e1 := congrArg (fun z => z.1) e
    refine Eq.mpr (congrArg (fun L => Filled L (EQ R) _) e1) ?_
    refine Filled.append (D := fun y => (y 2).val / 64 = (cB ⟨n, hk⟩).val ∧ (y 1).val < 4) (D' := fun y => 14 - n ≤ (y 2).val / 64) ?_ (ih (by omega)) (fun y hy => ?_)
    · refine Eq.mpr (congrArg (fun L => Filled L (EQ R) _) (trip2_Q _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) ?_
      have hw : ∀ (h : Fin 4) (r : Fin 64) (l : Fin 128), outQ ((bblk (F := Ideal) i arg2 arg3 arg4 arg5 arg6 arg8 arg9 arg10 arg11 (harg2.unread x0) (harg3.unread x1) (harg4.unread x2) (harg5.unread x3) (harg6.unread x4) (harg8.unread x6) (harg9.unread x7) (harg10.unread x8) (harg11.unread x9) ⟨n, hk⟩).Q h (bSL (F := Ideal) arg17 X_arg17 ⟨n, hk⟩ h) (bUL (F := Ideal) arg18 X_arg18 ⟨n, hk⟩ h)) (ix4 0 0 r l) = EQ R (ix4 0 h (row (cB ⟨n, hk⟩) r) l) := fun h r l =>
        ((outQ_apply _ r l).trans (Q_is B h (St := stF R h (cB ⟨n, hk⟩).val) (fun r c => (bSL_is _ _ h 0 r c).trans (hSL _)) (fun r c => (bSL_is _ _ h 1 r c).trans (hSL _)) (fun r c => (bSL_is _ _ h 2 r c).trans (hSL _))
          (fun r c => (bUL_is _ _ h 0 r c).trans (hUL _)) (fun r c => (bUL_is _ _ h 1 r c).trans (hUL _)) (fun r c => (bUL_is _ _ h 2 r c).trans (hUL _)) r l)).trans (EQ_row R _ h r l).symm
      exact consQ 3 (kOff_eq ⟨n, hk⟩ 3) (hw 3) (consQ 2 (kOff_eq ⟨n, hk⟩ 2) (hw 2) (consQ 1 (kOff_eq ⟨n, hk⟩ 1) (hw 1) (consQ 0 (kOff_eq ⟨n, hk⟩ 0) (hw 0)
          (Filled.nil _ _ fun y hy => Nat.not_lt_zero _ hy.2))))
    · by_cases h : 14 - n ≤ (y 2).val / 64
      · exact Or.inr h
      · exact Or.inl ⟨by simp only [cB]; omega, (y 1).isLt⟩

end Cert.KernelIdeal.Head
-- ==== Proof.Value.HeadK.lean ====
/- The kernel's key gradient, written as a function of what a trip loads. -/
module

public import proofs.«01_k».proof.Proof.Value.HeadQ

@[expose] public section

set_option maxRecDepth 100000

noncomputable section

namespace Cert.KernelIdeal.Head

open Cert.KernelIdeal Cert.KernelIdeal.Gen Idealize.ShloMosaic Idealize.ShloMosaic.TcCoe Idealize.SL.Sem

variable {F : FTy → Type} [FloatOps F]

/-- A 64 by 256 matrix by the corrected values transposed, six products of limbs. -/
def dotXU (x : FVec F S64x256 .f32) (u0 u1 u2 : FVec F S64x256 .bf16) : FVec F S64x64 .f32 :=
  matmul dot_S64x1536_S64x1536_S64x64_1_1_0_0_n_n none
    (concatenate S64x1536 1 [⟨S64x256, lim0 x⟩, ⟨S64x256, lim0 x⟩, ⟨S64x256, lim1 x⟩, ⟨S64x256, lim0 x⟩, ⟨S64x256, lim1 x⟩, ⟨S64x256, lim2 x⟩] concatenates_S64x256_S64x256_S64x256_S64x256_S64x256_S64x256_S64x1536_d1)
    (concatenate S64x1536 1 [⟨S64x256, u0⟩, ⟨S64x256, u1⟩, ⟨S64x256, u0⟩, ⟨S64x256, u2⟩, ⟨S64x256, u1⟩, ⟨S64x256, u0⟩] concatenates_S64x256_S64x256_S64x256_S64x256_S64x256_S64x256_S64x1536_d1)
    (constant S64x64 .f32 0x00000000#32)

/-- A 64 by 256 matrix by a state transposed, six products of limbs. -/
def dotXS (x : FVec F S64x256 .f32) (s0 s1 s2 : FVec F S128x256 .bf16) : FVec F S64x128 .f32 :=
  matmul dot_S64x1536_S128x1536_S64x128_1_1_0_0_n_n none
    (concatenate S64x1536 1 [⟨S64x256, lim0 x⟩, ⟨S64x256, lim0 x⟩, ⟨S64x256, lim1 x⟩, ⟨S64x256, lim0 x⟩, ⟨S64x256, lim1 x⟩, ⟨S64x256, lim2 x⟩] concatenates_S64x256_S64x256_S64x256_S64x256_S64x256_S64x256_S64x1536_d1)
    (concatenate S128x1536 1 [⟨S128x256, s0⟩, ⟨S128x256, s1⟩, ⟨S128x256, s0⟩, ⟨S128x256, s2⟩, ⟨S128x256, s1⟩, ⟨S128x256, s0⟩] concatenates_S128x256_S128x256_S128x256_S128x256_S128x256_S128x256_S128x1536_d1)
    (constant S64x128 .f32 0x00000000#32)

/-- One 64 by 64 matrix by the queries plus another by the keys, three products of limbs each. -/
def dotQK (a b : FVec F S64x64 .f32) (q k : FVec F S64x128 .bf16) : FVec F S64x128 .f32 :=
  matmul dot_S64x384_S384x128_S64x128_1_0_0_1_n_n none
    (concatenate S64x384 1 [⟨S64x64, lim0 a⟩, ⟨S64x64, lim1 a⟩, ⟨S64x64, lim2 a⟩, ⟨S64x64, lim0 b⟩, ⟨S64x64, lim1 b⟩, ⟨S64x64, lim2 b⟩] concatenates_S64x64_S64x64_S64x64_S64x64_S64x64_S64x64_S64x384_d1)
    (concatenate S384x128 0 [⟨S64x128, q⟩, ⟨S64x128, q⟩, ⟨S64x128, q⟩, ⟨S64x128, k⟩, ⟨S64x128, k⟩, ⟨S64x128, k⟩] concatenates_S64x128_S64x128_S64x128_S64x128_S64x128_S64x128_S384x128_d0)
    (constant S64x128 .f32 0x00000000#32)

/-- The values a head's solve hands back before the write strength. -/
def Blk.X (B : Blk F) (h : Fin 4) (tt : FVec F S64x64 .f32) (st : FVec F S128x256 .f32) : FVec F S64x256 .f32 :=
  dotTU tt (B.U h st)

/-- One head's gradient of the products of keys. -/
def Blk.DK (B : Blk F) (h : Fin 4) (v1 v2 : IVec S64x64 32) (x : FVec F S64x256 .f32) (u : Fin 3 → FVec F S64x256 .bf16) :
    FVec F S64x64 .f32 :=
  select (cmpi .sgt v1 v2)
    (mulf (mulf (broadcastTo S64x64 (col h B.be) broadcasts_S64x1_S64x64)
        (subf (broadcast S64x64 (Scalar.ofBits .f32 0x00000000#32)) (dotXU x (u 0) (u 1) (u 2))))
      (half (hw h) (B.D (hp h))))
    (broadcast S64x64 (Scalar.ofBits .f32 0x00000000#32))

/-- The corrected values, put together of their limbs. -/
def sumU (u : Fin 3 → FVec F S64x256 .bf16) : FVec F S64x256 .f32 :=
  addf (addf (extf .f32 (u 0)) (extf .f32 (u 1))) (extf .f32 (u 2))

/-- A 64 by 64 matrix transposed. -/
def tr64 (x : FVec F S64x64 .f32) : FVec F S64x64 .f32 := transpose S64x64 [1, 0] x transposes_S64x64_p1_0_S64x64

/-- One head's key gradient. -/
def Blk.K (B : Blk F) (h : Fin 4) (v1 v2 : IVec S64x64 32) (tt : FVec F S64x64 .f32) (s : Fin 3 → FVec F S128x256 .bf16)
    (u : Fin 3 → FVec F S64x256 .bf16) (st : FVec F S128x256 .f32) : FVec F S64x128 .f32 :=
  addf
    (subf
      (dotXS (mulf (broadcastTo S64x256 (col h (toEnd (gate B.al))) broadcasts_S64x1_S64x256) (sumU u)) (lim0 st) (lim1 st) (lim2 st))
      (mulf (broadcastTo S64x128 (col h B.be) broadcasts_S64x1_S64x128)
        (mulf (broadcastTo S64x128 (col h (exp (gate B.al))) broadcasts_S64x1_S64x128)
          (dotXS (B.X h tt st) (s 0) (s 1) (s 2)))))
    (dotQK (mulf (tr64 (B.DQ h u)) (broadcast S64x64 (B.sq h)))
      (mulf (addf (B.DK h v1 v2 (B.X h tt st) u) (tr64 (B.DK h v1 v2 (B.X h tt st) u))) (broadcast S64x64 (B.sk h)))
      (extf .bf16 (B.q h)) (extf .bf16 (B.k h)))

end Cert.KernelIdeal.Head
-- ==== Proof.Value.TripBK.lean ====
/- One trip of the backward loop: what it stores of the key gradient. -/
module

public import proofs.«01_k».proof.Proof.Value.TripB
public import proofs.«01_k».proof.Proof.Value.TripBQ
public import proofs.«01_k».proof.Proof.Value.HeadK

@[expose] public section

set_option maxRecDepth 100000

noncomputable section

namespace Cert.KernelIdeal.Head

open Cert.KernelIdeal Cert.KernelIdeal.Gen Idealize.ShloMosaic Idealize.ShloMosaic.TcCoe Idealize.ShloMosaic.Tactic Idealize.SL.Sem

variable {F : FTy → Type} [FloatOps F]

/-- The key gradients a trip stores. -/
theorem trip2_K (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (k : Fin k0_t2_loop.trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f20 : BufTy.Contents (Elt F) arg20.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 X_arg2 X_arg3 X_arg4 X_arg5 X_arg6 X_arg7 X_arg8 X_arg9 X_arg10 X_arg11 X_arg17 X_arg18 X_arg19 k).2.1 f12 f13 f14 f15 f16 f20
      = [⟨Rect.unit (k0_off46 k) ![1, 1, 64, 128] (k0_off46_inb k), outQ ((bblk i arg2 arg3 arg4 arg5 arg6 arg8 arg9 arg10 arg11 X_arg2 X_arg3 X_arg4 X_arg5 X_arg6 X_arg8 X_arg9 X_arg10 X_arg11 k).K 3 v1 v2 (bT arg19 X_arg19 k 3) (bSL arg17 X_arg17 k 3) (bUL arg18 X_arg18 k 3) (bS arg20 f20 3))⟩, ⟨Rect.unit (k0_off45 k) ![1, 1, 64, 128] (k0_off45_inb k), outQ ((bblk i arg2 arg3 arg4 arg5 arg6 arg8 arg9 arg10 arg11 X_arg2 X_arg3 X_arg4 X_arg5 X_arg6 X_arg8 X_arg9 X_arg10 X_arg11 k).K 2 v1 v2 (bT arg19 X_arg19 k 2) (bSL arg17 X_arg17 k 2) (bUL arg18 X_arg18 k 2) (bS arg20 f20 2))⟩, ⟨Rect.unit (k0_off44 k) ![1, 1, 64, 128] (k0_off44_inb k), outQ ((bblk i arg2 arg3 arg4 arg5 arg6 arg8 arg9 arg10 arg11 X_arg2 X_arg3 X_arg4 X_arg5 X_arg6 X_arg8 X_arg9 X_arg10 X_arg11 k).K 1 v1 v2 (bT arg19 X_arg19 k 1) (bSL arg17 X_arg17 k 1) (bUL arg18 X_arg18 k 1) (bS arg20 f20 1))⟩, ⟨Rect.unit (k0_off43 k) ![1, 1, 64, 128] (k0_off43_inb k), outQ ((bblk i arg2 arg3 arg4 arg5 arg6 arg8 arg9 arg10 arg11 X_arg2 X_arg3 X_arg4 X_arg5 X_arg6 X_arg8 X_arg9 X_arg10 X_arg11 k).K 0 v1 v2 (bT arg19 X_arg19 k 0) (bSL arg17 X_arg17 k 0) (bUL arg18 X_arg18 k 0) (bS arg20 f20 0))⟩] := by
  unfold trip_k0_t2
  sl_kernel_rfl

end Cert.KernelIdeal.Head
-- ==== Proof.Value.RealK.lean ====
/- One head's key gradient: what the kernel's form holds, over the reals. -/
module

public import proofs.«01_k».proof.Proof.Value.FwdReal
public import proofs.«01_k».proof.Proof.Value.HeadK

@[expose] public section

set_option maxRecDepth 100000

noncomputable section

namespace Cert.KernelIdeal.Head

open Cert.KernelIdeal Cert.KernelIdeal.Gen Idealize.ShloMosaic Idealize.SL.Sem
open scoped BigOperators

/-- What one head's solve hands back before the write strength, over the reals. -/
def RBlk.G (R : RBlk) (h : Fin 4) (D : Matrix (Fin 128) (Fin 256) ℝ) : Matrix (Fin 64) (Fin 256) ℝ :=
  (1 + R.A h)⁻¹.transpose * R.U h D
/-- One head's gradient of the products of keys, over the reals. -/
def RBlk.DK (R : RBlk) (h : Fin 4) (St D : Matrix (Fin 128) (Fin 256) ℝ) : Matrix (Fin 64) (Fin 64) ℝ := fun r l =>
  if l < r then R.be r h * (0 - (R.G h D * (R.FU h St).transpose) r l) * Real.exp (cum R.la r h - cum R.la l h) else 0
/-- One head's key gradient, over the reals. -/
def RBlk.K (R : RBlk) (h : Fin 4) (St D : Matrix (Fin 128) (Fin 256) ℝ) : Matrix (Fin 64) (Fin 128) ℝ := fun r c =>
  (R.Y h St * D.transpose) r c - R.be r h * (Real.exp (cum R.la r h) * (R.G h D * St.transpose) r c)
    + ((Matrix.of fun r l => R.DQ h St l r * R.sq h : Matrix (Fin 64) (Fin 64) ℝ) * R.q h
      + (Matrix.of fun r l => (R.DK h St D r l + R.DK h St D l r) * R.sk h : Matrix (Fin 64) (Fin 64) ℝ) * R.k h) r c

theorem dotXU_is {x : FVec Ideal S64x256 .f32} {u0 u1 u2 : FVec Ideal S64x256 .bf16} {X U : Matrix (Fin 64) (Fin 256) ℝ} (hx : Is (a := 64) (b := 256) x X)
    (h0 : Is (a := 64) (b := 256) u0 U) (h1 : ∀ r c, u1 (ix2 r c) = 0) (h2 : ∀ r c, u2 (ix2 r c) = 0) :
    Is (a := 64) (b := 64) (dotXU x u0 u1 u2) (X * U.transpose) := by
  intro r c
  pointwise [dotXU]
  rw [coe_mul_apply, sum6 (n := 256) rfl]
  refine Finset.sum_congr rfl fun k _ => ?_
  have e1 := k.isLt
  have e2 : ¬ (k.val + 256 < 256) := by omega
  have e3 : ¬ (k.val + 256 + 256 < 256) := by omega
  have e4 : ¬ (k.val + 256 + 256 + 256 < 256) := by omega
  have e5 : ¬ (k.val + 256 + 256 + 256 + 256 < 256) := by omega
  have e6 : ¬ (k.val + 256 + 256 + 256 + 256 + 256 < 256) := by omega
  simp only [dif_pos e1, dif_neg e2, dif_neg e3, dif_neg e4, dif_neg e5, dif_neg e6, Nat.add_sub_cancel, Fin.eta, h0 c k, h1 c k, h2 c k,
    lim0_is hx r k, lim1_is hx r k, lim2_is hx r k, Matrix.transpose_apply]
  simp

theorem dotXS_is {x : FVec Ideal S64x256 .f32} {s0 s1 s2 : FVec Ideal S128x256 .bf16} {X : Matrix (Fin 64) (Fin 256) ℝ} {S : Matrix (Fin 128) (Fin 256) ℝ}
    (hx : Is (a := 64) (b := 256) x X)
    (h0 : Is (a := 128) (b := 256) s0 S) (h1 : ∀ r c, s1 (ix2 r c) = 0) (h2 : ∀ r c, s2 (ix2 r c) = 0) :
    Is (a := 64) (b := 128) (dotXS x s0 s1 s2) (X * S.transpose) := by
  intro r c
  pointwise [dotXS]
  rw [coe_mul_apply, sum6 (n := 256) rfl]
  refine Finset.sum_congr rfl fun k _ => ?_
  have e1 := k.isLt
  have e2 : ¬ (k.val + 256 < 256) := by omega
  have e3 : ¬ (k.val + 256 + 256 < 256) := by omega
  have e4 : ¬ (k.val + 256 + 256 + 256 < 256) := by omega
  have e5 : ¬ (k.val + 256 + 256 + 256 + 256 < 256) := by omega
  have e6 : ¬ (k.val + 256 + 256 + 256 + 256 + 256 < 256) := by omega
  simp only [dif_pos e1, dif_neg e2, dif_neg e3, dif_neg e4, dif_neg e5, dif_neg e6, Nat.add_sub_cancel, Fin.eta, h0 c k, h1 c k, h2 c k,
    lim0_is hx r k, lim1_is hx r k, lim2_is hx r k, Matrix.transpose_apply]
  simp

theorem dotQK_is {a b : FVec Ideal S64x64 .f32} {q k : FVec Ideal S64x128 .bf16} {A B : Matrix (Fin 64) (Fin 64) ℝ} {Q K : Matrix (Fin 64) (Fin 128) ℝ}
    (ha : Is (a := 64) (b := 64) a A) (hb : Is (a := 64) (b := 64) b B) (hq : Is (a := 64) (b := 128) q Q) (hk : Is (a := 64) (b := 128) k K) :
    Is (a := 64) (b := 128) (dotQK a b q k) (A * Q + B * K) := by
  intro r c
  pointwise [dotQK]
  rw [Matrix.add_apply, EReal.coe_add, coe_mul_apply, coe_mul_apply, ← Finset.sum_add_distrib, sum6 (n := 64) rfl]
  refine Finset.sum_congr rfl fun j _ => ?_
  have h1 := j.isLt
  have h2 : ¬ (j.val + 64 < 64) := by omega
  have h3 : ¬ (j.val + 64 + 64 < 64) := by omega
  have h4 : ¬ (j.val + 64 + 64 + 64 < 64) := by omega
  have h5 : ¬ (j.val + 64 + 64 + 64 + 64 < 64) := by omega
  have h6 : ¬ (j.val + 64 + 64 + 64 + 64 + 64 < 64) := by omega
  simp only [dif_pos h1, dif_neg h2, dif_neg h3, dif_neg h4, dif_neg h5, dif_neg h6, Nat.add_sub_cancel, Fin.eta, hq j c, hk j c,
    lim0_is ha r j, lim1_is ha r j, lim2_is ha r j, lim0_is hb r j, lim1_is hb r j, lim2_is hb r j]
  simp

section
variable {B : Blk Ideal} {R : RBlk} (H : B.IsR R) (h : Fin 4) {v1 v2 : IVec S64x64 32}
  (hm : ∀ r c : Fin 64, cmpi .sgt v1 v2 (ix2 r c) = BitVec.ofBool (decide (c < r)))
  {st : FVec Ideal S128x256 .f32} {D : Matrix (Fin 128) (Fin 256) ℝ}
  (hst : Is (a := 128) (b := 256) st D) {tt : FVec Ideal S64x64 .f32} (htt : Is (a := 64) (b := 64) tt (1 + R.A h)⁻¹.transpose)
  {St : Matrix (Fin 128) (Fin 256) ℝ} {s : Fin 3 → FVec Ideal S128x256 .bf16} {u : Fin 3 → FVec Ideal S64x256 .bf16}
  (hs0 : Is (a := 128) (b := 256) (s 0) St) (hs1 : ∀ r c, s 1 (ix2 r c) = 0) (hs2 : ∀ r c, s 2 (ix2 r c) = 0)
  (hu0 : Is (a := 64) (b := 256) (u 0) (R.FU h St)) (hu1 : ∀ r c, u 1 (ix2 r c) = 0) (hu2 : ∀ r c, u 2 (ix2 r c) = 0)
include H hst htt

theorem G_is : Is (a := 64) (b := 256) (B.X h tt st) (R.G h D) := dotTU_is htt (U_is H h hst)

include hm hu0 hu1 hu2
theorem DK_is : Is (a := 64) (b := 64) (B.DK h v1 v2 (B.X h tt st) u) (R.DK h St D) := fun r c => by
  have h1 := dotXU_is (G_is H h hst htt) hu0 hu1 hu2 r c
  have h2 := halfD_is H h r c
  have h3 := hm r c
  unfold Blk.DK
  generalize half (hw h) (B.D (hp h)) = x at *
  generalize dotXU (B.X h tt st) (u 0) (u 1) (u 2) = y at *
  generalize cmpi .sgt v1 v2 = m at *
  pointwise [col]
  rw [h1, h2, h3, select_ofBool, H.be r h]
  unfold RBlk.DK
  by_cases hl : c < r
  · rw [if_pos hl, if_pos hl, if_pos hl.le, ← EReal.coe_zero]
    simp only [← EReal.coe_mul, ← EReal.coe_sub]
  · rw [if_neg hl, if_neg hl, EReal.coe_zero]

include hs0 hs1 hs2
theorem K_is : Is (a := 64) (b := 128) (B.K h v1 v2 tt s u st) (R.K h St D) := fun r c => by
  have hX := G_is H h hst htt
  have hDK := DK_is H h hm hst htt hu0 hu1 hu2
  have hDQ := DQ_is H h hu0 hu1 hu2
  have hY : Is (a := 64) (b := 256) (mulf (broadcastTo S64x256 (col h (toEnd (gate B.al))) broadcasts_S64x1_S64x256) (sumU u)) (R.Y h St) := fun r c => by
    pointwise [col, toEnd, sumU]
    rw [gate_is H.al r h, gate_is H.al 63 h, hu0 r c, hu1 r c, hu2 r c, ← EReal.coe_sub, exp_coe, add_zero, add_zero]
    simp only [← EReal.coe_mul]
    rfl
  unfold Blk.K
  generalize B.X h tt st = x at *
  generalize B.DK h v1 v2 x u = dk at *
  generalize B.DQ h u = dq at *
  generalize mulf (broadcastTo S64x256 (col h (toEnd (gate B.al))) broadcasts_S64x1_S64x256) (sumU u) = y at *
  have h1 := dotXS_is hY (lim0_is hst) (fun r c => (lim1_is hst r c).trans EReal.coe_zero) (fun r c => (lim2_is hst r c).trans EReal.coe_zero) r c
  have h2 := dotXS_is hX hs0 hs1 hs2 r c
  have h3 := dotQK_is (a := mulf (tr64 dq) (broadcast S64x64 (B.sq h))) (b := mulf (addf dk (tr64 dk)) (broadcast S64x64 (B.sk h)))
    (q := extf .bf16 (B.q h)) (k := extf .bf16 (B.k h)) (Q := R.q h) (K := R.k h)
    (A := Matrix.of fun r l => R.DQ h St l r * R.sq h) (B := Matrix.of fun r l => (R.DK h St D r l + R.DK h St D l r) * R.sk h)
    (fun r c => by
      show _ = ((R.DQ h St c r * R.sq h : ℝ) : EReal)
      pointwise [tr64]
      rw [hDQ c r, H.sq, ← EReal.coe_mul])
    (fun r c => by
      show _ = (((R.DK h St D r c + R.DK h St D c r) * R.sk h : ℝ) : EReal)
      pointwise [tr64]
      rw [hDK r c, hDK c r, H.sk, ← EReal.coe_add, ← EReal.coe_mul])
    (H.q h) (H.k h) r c
  generalize dotXS y (lim0 st) (lim1 st) (lim2 st) = z1 at *
  generalize dotXS x (s 0) (s 1) (s 2) = z2 at *
  generalize dotQK (mulf (tr64 dq) (broadcast S64x64 (B.sq h))) (mulf (addf dk (tr64 dk)) (broadcast S64x64 (B.sk h))) (extf .bf16 (B.q h)) (extf .bf16 (B.k h)) = z3 at *
  pointwise [col]
  rw [h1, h2, h3, gate_is H.al r h, H.be r h, exp_coe]
  simp only [← EReal.coe_mul, ← EReal.coe_add, ← EReal.coe_sub]
  rfl
end

end Cert.KernelIdeal.Head
-- ==== Proof.Value.LoopBK.lean ====
/- The backward loop: after it the key gradient's window holds every chunk's and head's. -/
module

public import proofs.«01_k».proof.Proof.Value.LoopBQ
public import proofs.«01_k».proof.Proof.Value.TripBK
public import proofs.«01_k».proof.Proof.Value.RealK

@[expose] public section

set_option maxRecDepth 100000

noncomputable section

namespace Cert.KernelIdeal.Head

open Cert.KernelIdeal Cert.KernelIdeal.Gen Idealize.ShloMosaic Idealize.ShloMosaic.TcCoe Idealize.SL.Sem

/-- Every chunk's and head's key gradient. -/
def EK (R : Fin 14 → RBlk) : Vec Ideal S1x4x896x128 .bf16 := fun y =>
  (((R ⟨(y 2).val / 64, by have : (y 2).val < 896 := (y 2).isLt; omega⟩).K (y 1) (stF R (y 1) ((y 2).val / 64)) (stR R (y 1) (13 - (y 2).val / 64)) ⟨(y 2).val % 64, Nat.mod_lt _ (by omega)⟩ (y 3) : ℝ) : EReal)

theorem EK_row (R : Fin 14 → RBlk) (n : Fin 14) (h : Fin 4) (r : Fin 64) (c : Fin 128) :
    EK R (ix4 0 h (row n r) c) = (((R n).K h (stF R h n.val) (stR R h (13 - n.val)) r c : ℝ) : EReal) := by
  have e1 : (row n r).val / 64 = n.val := by simp only [row]; omega
  have e2 : (row n r).val % 64 = r.val := by simp only [row]; omega
  show (((R ⟨(row n r).val / 64, _⟩).K h (stF R h ((row n r).val / 64)) (stR R h (13 - (row n r).val / 64)) ⟨(row n r).val % 64, _⟩ c : ℝ) : EReal) = _
  simp only [e1, e2]

variable (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32)
variable {x0 x1 x2 : Vec Ideal S448 .f32} {x3 x4 : Vec Ideal S1x4x896x128 .fp8e4m3} {x6 : Vec Ideal S1x4x896x256 .fp8e5m2} {x7 : Vec Ideal S1x1x896x4 .f32}
  {x8 : Vec Ideal S1x1x14x2x128 .f32} {x9 : Vec Ideal S1x1x896x4 .f32} {R : Fin 14 → RBlk} (H : InsB i x0 x1 x2 x3 x4 x6 x7 x8 x9 R)
  (X_arg7 : arg7.view.ty.Contents (Elt Ideal)) (X_arg17 : arg17.view.ty.Contents (Elt Ideal)) (X_arg18 : arg18.view.ty.Contents (Elt Ideal))
  (X_arg19 : arg19.view.ty.Contents (Elt Ideal)) (hT : ∀ n h r c, arg19.view.read (Elt Ideal) X_arg19 (ix4 n h r c) = (((1 + (R n).A h)⁻¹ c r : ℝ) : EReal))
  (f12 : arg12.view.ty.Contents (Elt Ideal)) (f13 : arg13.view.ty.Contents (Elt Ideal)) (f14 : arg14.view.ty.Contents (Elt Ideal))
  (f15 : arg15.view.ty.Contents (Elt Ideal)) (f16 : arg16.view.ty.Contents (Elt Ideal)) (f20 : arg20.view.ty.Contents (Elt Ideal))
  (h0 : ∀ h r c, arg20.view.read (Elt Ideal) f20 (ix3 h r c) = 0)
  (hSL : ∀ y, arg17.view.read (Elt Ideal) X_arg17 y = ESL R y) (hUL : ∀ y, arg18.view.read (Elt Ideal) X_arg18 y = EUL R y)
  (hm : ∀ r c : Fin 64, cmpi .sgt v1 v2 (ix2 r c) = BitVec.ofBool (decide (c < r)))
include H hT h0 hSL hUL hm

theorem loopBK (n : ℕ) (hn : n ≤ 14) :
    Filled (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 n).2.1 (EK R) (fun y => 14 - n ≤ (y 2).val / 64) := by
  induction n with
  | zero =>
    refine Filled.nil _ _ fun y hy => ?_
    have : (y 2).val < 896 := (y 2).isLt
    omega
  | succ n ih =>
    have hk : n < k0_t2_loop.trips := trips2 ▸ hn
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 ⟨n, hk⟩
    have B := bblk_is H harg2 harg3 harg4 harg5 harg6 harg8 harg9 harg10 harg11 ⟨n, hk⟩
    have hS : ∀ h, Is (a := 128) (b := 256) (bS (F := Ideal) arg20 (arg20.view.writes (Elt Ideal) f20 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 n).2.2.2.2.2) h) (stR R h n) :=
      fun h r j => (bS_is _ h r j).trans ((loopB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 H X_arg7 X_arg17 X_arg18 X_arg19 hT f12 f13 f14 f15 f16 f20 h0 n (by omega)).1 h r j)
    have hTT : ∀ h, Is (a := 64) (b := 64) (bT (F := Ideal) arg19 X_arg19 ⟨n, hk⟩ h) (1 + (R (cB ⟨n, hk⟩)).A h)⁻¹.transpose :=
      fun h r j => (bT_is _ _ h r j).trans (hT _ h r j)
    have hn' : 13 - (cB ⟨n, hk⟩).val = n := by simp only [cB]; omega
    have e1 := congrArg (fun z => z.2.1) e
    refine Eq.mpr (congrArg (fun L => Filled L (EK R) _) e1) ?_
    refine Filled.append (D := fun y => (y 2).val / 64 = (cB ⟨n, hk⟩).val ∧ (y 1).val < 4) (D' := fun y => 14 - n ≤ (y 2).val / 64) ?_ (ih (by omega)) (fun y hy => ?_)
    · refine Eq.mpr (congrArg (fun L => Filled L (EK R) _) (trip2_K _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) ?_
      have hw : ∀ (h : Fin 4) (r : Fin 64) (l : Fin 128), outQ ((bblk (F := Ideal) i arg2 arg3 arg4 arg5 arg6 arg8 arg9 arg10 arg11 (harg2.unread x0) (harg3.unread x1) (harg4.unread x2) (harg5.unread x3) (harg6.unread x4) (harg8.unread x6) (harg9.unread x7) (harg10.unread x8) (harg11.unread x9) ⟨n, hk⟩).K h v1 v2 (bT (F := Ideal) arg19 X_arg19 ⟨n, hk⟩ h) (bSL (F := Ideal) arg17 X_arg17 ⟨n, hk⟩ h) (bUL (F := Ideal) arg18 X_arg18 ⟨n, hk⟩ h) (bS (F := Ideal) arg20 (arg20.view.writes (Elt Ideal) f20 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) X_arg7 (harg8.unread x6) (harg9.unread x7) (harg10.unread x8) (harg11.unread x9) X_arg17 X_arg18 X_arg19 f12 f13 f14 f15 f16 f20 n).2.2.2.2.2) h)) (ix4 0 0 r l) = EK R (ix4 0 h (row (cB ⟨n, hk⟩) r) l) := fun h r l =>
        ((outQ_apply _ r l).trans (K_is B h hm (hS h) (hTT h) (St := stF R h (cB ⟨n, hk⟩).val) (fun r c => (bSL_is _ _ h 0 r c).trans (hSL _)) (fun r c => (bSL_is _ _ h 1 r c).trans (hSL _)) (fun r c => (bSL_is _ _ h 2 r c).trans (hSL _))
          (fun r c => (bUL_is _ _ h 0 r c).trans (hUL _)) (fun r c => (bUL_is _ _ h 1 r c).trans (hUL _)) (fun r c => (bUL_is _ _ h 2 r c).trans (hUL _)) r l)).trans ((EK_row R _ h r l).trans (by rw [hn'])).symm
      exact consQ 3 (kOff_eq ⟨n, hk⟩ 3) (hw 3) (consQ 2 (kOff_eq ⟨n, hk⟩ 2) (hw 2) (consQ 1 (kOff_eq ⟨n, hk⟩ 1) (hw 1) (consQ 0 (kOff_eq ⟨n, hk⟩ 0) (hw 0)
          (Filled.nil _ _ fun y hy => Nat.not_lt_zero _ hy.2))))
    · by_cases h : 14 - n ≤ (y 2).val / 64
      · exact Or.inr h
      · exact Or.inl ⟨by simp only [cB]; omega, (y 1).isLt⟩

end Cert.KernelIdeal.Head
-- ==== Proof.Value.HeadB.lean ====
/- The kernel's gradient of the write strengths, written as a function of what a trip loads. -/
module

public import proofs.«01_k».proof.Proof.Value.HeadK

@[expose] public section

set_option maxRecDepth 100000

noncomputable section

namespace Cert.KernelIdeal.Head

open Cert.KernelIdeal Cert.KernelIdeal.Gen Idealize.ShloMosaic Idealize.ShloMosaic.TcCoe Idealize.SL.Sem

variable {F : FTy → Type} [FloatOps F]

/-- The sums of the rows of a 64 by 256 matrix, as a column. -/
def sumV (x : FVec F S64x256 .f32) : FVec F S64x1 .f32 :=
  shapeCast S64x1 (multiReduction .add [1] S64 x 0x00000000#32 reduces_S64x256_S64 (.inl rfl) rfl : FVec F S64 .f32) shapeCasts_S64_S64x1
/-- The sums of the rows of a 64 by 128 matrix, as a column. -/
def sumK (x : FVec F S64x128 .f32) : FVec F S64x1 .f32 :=
  shapeCast S64x1 (multiReduction .add [1] S64 x 0x00000000#32 reduces_S64x128_S64 (.inl rfl) rfl : FVec F S64 .f32) shapeCasts_S64_S64x1
/-- The sums of the rows of a 64 by 64 matrix, as a column. -/
def sumT (x : FVec F S64x64 .f32) : FVec F S64x1 .f32 :=
  shapeCast S64x1 (multiReduction .add [1] S64 x 0x00000000#32 reduces_S64x64_S64 (.inl rfl) rfl : FVec F S64 .f32) shapeCasts_S64_S64x1

/-- The decayed products of a pair of heads' keys, strictly below the diagonal. -/
def Blk.C (B : Blk F) (p : Fin 2) : FVec F S64x128 .f32 :=
  select (cmpi .sgt rowI k0_pay523)
    (mulf (mulf (packDot (B.k (ha p)) (B.k (hb p)) (B.k (ha p)) (B.k (hb p)))
      (spreadS (Scalar.mulf (B.sk (ha p)) (B.sk (ha p))) (Scalar.mulf (B.sk (hb p)) (B.sk (hb p))))) (B.D p))
    (broadcast S64x128 (Scalar.ofBits .f32 0x00000000#32))

/-- One head's gradient of the write strengths: what the values, the keys' reads of the state and the products of keys give, in that order. -/
def Blk.DB (B : Blk F) (h : Fin 4) (v : FVec F S64x256 .bf16) (x : FVec F S64x256 .f32) (s : Fin 3 → FVec F S128x256 .bf16)
    (u : Fin 3 → FVec F S64x256 .bf16) : FVec F S64x1 .f32 :=
  addf
    (addf (sumV (mulf x (extf .f32 v)))
      (mulf (broadcast S64x1 (Scalar.subf (Scalar.ofBits .f32 0x00000000#32) (B.sk h)))
        (sumK (mulf (extf .f32 (extf .bf16 (B.k h) : FVec F S64x128 .bf16))
          (mulf (broadcastTo S64x128 (col h (exp (gate B.al))) broadcasts_S64x1_S64x128) (dotXS x (s 0) (s 1) (s 2)))))))
    (sumT (mulf (subf (broadcast S64x64 (Scalar.ofBits .f32 0x00000000#32)) (dotXU x (u 0) (u 1) (u 2))) (half (hw h) (B.C (hp h)))))

/-- The four heads' columns side by side, as the kernel stores them. -/
def outB (y : Fin 4 → FVec F S64x1 .f32) : FVec F S1x1x64x4 .f32 :=
  shapeCast S1x1x64x4 (concatenate S64x4 1 [⟨S64x1, y 0⟩, ⟨S64x1, y 1⟩, ⟨S64x1, y 2⟩, ⟨S64x1, y 3⟩] concatenates_S64x1_S64x1_S64x1_S64x1_S64x4_d1)
    shapeCasts_S64x4_S1x1x64x4

end Cert.KernelIdeal.Head
-- ==== Proof.Value.TripBB.lean ====
/- One trip of the backward loop: what it stores of the gradient of the write strengths. -/
module

public import proofs.«01_k».proof.Proof.Value.TripB
public import proofs.«01_k».proof.Proof.Value.TripBQ
public import proofs.«01_k».proof.Proof.Value.HeadB

@[expose] public section

set_option maxRecDepth 100000

noncomputable section

namespace Cert.KernelIdeal.Head

open Cert.KernelIdeal Cert.KernelIdeal.Gen Idealize.ShloMosaic Idealize.ShloMosaic.TcCoe Idealize.ShloMosaic.Tactic Idealize.SL.Sem

variable {F : FTy → Type} [FloatOps F]

/-- The values of a head as a trip of the backward loop loads them. -/
def bV (arg7 : Memref sig .tc .vmem S1x4x896x256 .bf16) (X_arg7 : BufTy.Contents (Elt F) arg7.view.ty) (k : Fin k0_t2_loop.trips) : Fin 4 → FVec F S64x256 .bf16 :=
  ![(shapeCast S64x256 (View.readAt (Elt F) arg7.view (Rect.unit (s := S1x4x896x256) (k0_off47 k) S1x1x64x256.size (k0_off47_inb k)).toLoadRect X_arg7) shapeCasts_S1x1x64x256_S64x256), (shapeCast S64x256 (View.readAt (Elt F) arg7.view (Rect.unit (s := S1x4x896x256) (k0_off55 k) S1x1x64x256.size (k0_off55_inb k)).toLoadRect X_arg7) shapeCasts_S1x1x64x256_S64x256), (shapeCast S64x256 (View.readAt (Elt F) arg7.view (Rect.unit (s := S1x4x896x256) (k0_off63 k) S1x1x64x256.size (k0_off63_inb k)).toLoadRect X_arg7) shapeCasts_S1x1x64x256_S64x256), (shapeCast S64x256 (View.readAt (Elt F) arg7.view (Rect.unit (s := S1x4x896x256) (k0_off71 k) S1x1x64x256.size (k0_off71_inb k)).toLoadRect X_arg7) shapeCasts_S1x1x64x256_S64x256)]

/-- The gradients of the write strengths a trip stores. -/
theorem trip2_B (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg17 : BufTy.Contents (Elt F) arg17.view.ty) (X_arg18 : BufTy.Contents (Elt F) arg18.view.ty) (X_arg19 : BufTy.Contents (Elt F) arg19.view.ty) (k : Fin k0_t2_loop.trips) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f20 : BufTy.Contents (Elt F) arg20.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 X_arg2 X_arg3 X_arg4 X_arg5 X_arg6 X_arg7 X_arg8 X_arg9 X_arg10 X_arg11 X_arg17 X_arg18 X_arg19 k).2.2.2.2.1 f12 f13 f14 f15 f16 f20
      = [⟨Rect.unit (k0_off41 k) ![1, 1, 64, 4] (k0_off41_inb k), outB fun h => (bblk i arg2 arg3 arg4 arg5 arg6 arg8 arg9 arg10 arg11 X_arg2 X_arg3 X_arg4 X_arg5 X_arg6 X_arg8 X_arg9 X_arg10 X_arg11 k).DB h (bV arg7 X_arg7 k h) ((bblk i arg2 arg3 arg4 arg5 arg6 arg8 arg9 arg10 arg11 X_arg2 X_arg3 X_arg4 X_arg5 X_arg6 X_arg8 X_arg9 X_arg10 X_arg11 k).X h (bT arg19 X_arg19 k h) (bS arg20 f20 h)) (bSL arg17 X_arg17 k h) (bUL arg18 X_arg18 k h)⟩] := by
  unfold trip_k0_t2
  sl_kernel_rfl

end Cert.KernelIdeal.Head
-- ==== Proof.Value.RealB.lean ====
/- One head's gradient of the write strengths: what the kernel's form holds, over the reals. -/
module

public import proofs.«01_k».proof.Proof.Value.RealK
public import proofs.«01_k».proof.Proof.Value.HeadB

@[expose] public section

set_option maxRecDepth 100000

noncomputable section

namespace Cert.KernelIdeal.Head

open Cert.KernelIdeal Cert.KernelIdeal.Gen Idealize.ShloMosaic Idealize.SL.Sem
open scoped BigOperators

/-- One head's decayed products of keys strictly below the diagonal, over the reals. -/
def RBlk.C (R : RBlk) (h : Fin 4) : Matrix (Fin 64) (Fin 64) ℝ := fun r l =>
  if l < r then gram (R.k h) (R.k h) r l * (R.sk h * R.sk h) * Real.exp (cum R.la r h - cum R.la l h) else 0
/-- One head's gradient of the write strengths, over the reals. -/
def RBlk.DB (R : RBlk) (h : Fin 4) (St D : Matrix (Fin 128) (Fin 256) ℝ) (r : Fin 64) : ℝ :=
  (∑ c, R.G h D r c * R.v h r c)
    + (0 - R.sk h) * (∑ c, R.k h r c * (Real.exp (cum R.la r h) * (R.G h D * St.transpose) r c))
    + ∑ l, (0 - (R.G h D * (R.FU h St).transpose) r l) * R.C h r l

theorem sumV_is {x : FVec Ideal S64x256 .f32} {X : Matrix (Fin 64) (Fin 256) ℝ} (hx : Is (a := 64) (b := 256) x X) (r : Fin 64) :
    sumV x (ix2 r 0) = ((∑ c, X r c : ℝ) : EReal) := by
  rw [← coe_sum]
  pointwise [sumV]
  exact Finset.sum_congr rfl fun c _ => hx r c

theorem sumK_is {x : FVec Ideal S64x128 .f32} {X : Matrix (Fin 64) (Fin 128) ℝ} (hx : Is (a := 64) (b := 128) x X) (r : Fin 64) :
    sumK x (ix2 r 0) = ((∑ c, X r c : ℝ) : EReal) := by
  rw [← coe_sum]
  pointwise [sumK]
  exact Finset.sum_congr rfl fun c _ => hx r c

theorem sumT_is {x : FVec Ideal S64x64 .f32} {X : Matrix (Fin 64) (Fin 64) ℝ} (hx : Is (a := 64) (b := 64) x X) (r : Fin 64) :
    sumT x (ix2 r 0) = ((∑ c, X r c : ℝ) : EReal) := by
  rw [← coe_sum]
  pointwise [sumT]
  exact Finset.sum_congr rfl fun c _ => hx r c

section
variable {B : Blk Ideal} {R : RBlk} (H : B.IsR R)
include H

theorem packC_apply (p : Fin 2) (r : Fin 64) (l : Fin 128) : B.C p (ix2 r l) = ((R.C (laneHead p l) r (laneRow l) : ℝ) : EReal) := by
  unfold Blk.C
  have h1 := packD_apply H p r l
  have h2 := packDot_apply (a := B.k) (b := B.k) H.k H.k p r l
  generalize B.D p = d at *
  generalize packDot (B.k (ha p)) (B.k (hb p)) (B.k (ha p)) (B.k (hb p)) = g at *
  pointwise [spreadS, rowI, k0_pay522, k0_pay523]
  rw [h1, h2, lt64, gt_rl]
  simp only [select_ofBool, H.sk]
  have e : ∀ f : Fin 4 → EReal, (if l.val < 64 then f (ha p) else f (hb p)) = f (laneHead p l) := fun f => by
    unfold laneHead; split_ifs <;> rfl
  rw [e fun h => ((R.sk h : ℝ) : EReal) * ((R.sk h : ℝ) : EReal)]
  unfold RBlk.C
  by_cases hl : l.val % 64 < r.val
  · have hl' : laneRow l < r := hl
    rw [if_pos hl, if_pos hl', if_pos hl'.le]
    simp only [EReal.coe_mul]
  · have hl' : ¬ laneRow l < r := hl
    rw [if_neg hl, if_neg hl', EReal.coe_zero]

theorem halfC_is (h : Fin 4) : Is (a := 64) (b := 64) (half (hw h) (B.C (hp h))) (R.C h) := fun r l => by
  have e : half (hw h) (B.C (hp h)) (ix2 r l) = B.C (hp h) (ix2 r (laneW (hw h) l)) := by
    generalize B.C (hp h) = x
    pointwise [half]
    rfl
  rw [e, packC_apply H]
  have h1 : laneRow (laneW (hw h) l) = l := Fin.ext (by simp only [laneRow, laneW]; omega)
  rw [h1, laneHead_laneW]

variable (h : Fin 4) {st : FVec Ideal S128x256 .f32} {D : Matrix (Fin 128) (Fin 256) ℝ}
  (hst : Is (a := 128) (b := 256) st D) {tt : FVec Ideal S64x64 .f32} (htt : Is (a := 64) (b := 64) tt (1 + R.A h)⁻¹.transpose)
  {St : Matrix (Fin 128) (Fin 256) ℝ} {s : Fin 3 → FVec Ideal S128x256 .bf16} {u : Fin 3 → FVec Ideal S64x256 .bf16}
  (hs0 : Is (a := 128) (b := 256) (s 0) St) (hs1 : ∀ r c, s 1 (ix2 r c) = 0) (hs2 : ∀ r c, s 2 (ix2 r c) = 0)
  (hu0 : Is (a := 64) (b := 256) (u 0) (R.FU h St)) (hu1 : ∀ r c, u 1 (ix2 r c) = 0) (hu2 : ∀ r c, u 2 (ix2 r c) = 0)
  {v : FVec Ideal S64x256 .bf16} (hv : Is (a := 64) (b := 256) v (R.v h))
include hst htt hs0 hs1 hs2 hu0 hu1 hu2 hv

theorem DB_is (r : Fin 64) : B.DB h v (B.X h tt st) s u (ix2 r 0) = ((R.DB h St D r : ℝ) : EReal) := by
  have hX := G_is H h hst htt
  unfold Blk.DB
  generalize B.X h tt st = x at *
  have h1 := sumV_is (x := mulf x (extf .f32 v)) (X := Matrix.of fun r c => R.G h D r c * R.v h r c) (fun r c => by
    show _ = ((R.G h D r c * R.v h r c : ℝ) : EReal)
    pointwise
    rw [hX r c, hv r c, ← EReal.coe_mul]) r
  have h2' := dotXS_is hX hs0 hs1 hs2
  generalize dotXS x (s 0) (s 1) (s 2) = z at *
  have h2 := sumK_is (x := mulf (extf .f32 (extf .bf16 (B.k h) : FVec Ideal S64x128 .bf16)) (mulf (broadcastTo S64x128 (col h (exp (gate B.al))) broadcasts_S64x1_S64x128) z))
    (X := Matrix.of fun r c => R.k h r c * (Real.exp (cum R.la r h) * (R.G h D * St.transpose) r c)) (fun r c => by
    show _ = ((R.k h r c * (Real.exp (cum R.la r h) * (R.G h D * St.transpose) r c) : ℝ) : EReal)
    pointwise [col]
    rw [H.k h r c, h2' r c, gate_is H.al r h, exp_coe]
    simp only [← EReal.coe_mul]) r
  have h3' := dotXU_is hX hu0 hu1 hu2
  generalize dotXU x (u 0) (u 1) (u 2) = w at *
  have h4 := halfC_is H h
  generalize half (hw h) (B.C (hp h)) = y at *
  have h3 := sumT_is (x := mulf (subf (broadcast S64x64 (Scalar.ofBits .f32 0x00000000#32)) w) y)
    (X := Matrix.of fun r l => (0 - (R.G h D * (R.FU h St).transpose) r l) * R.C h r l) (fun r l => by
    show _ = (((0 - (R.G h D * (R.FU h St).transpose) r l) * R.C h r l : ℝ) : EReal)
    pointwise
    rw [h3' r l, h4 r l, ← EReal.coe_zero]
    simp only [← EReal.coe_mul, ← EReal.coe_sub]) r
  generalize sumV (mulf x (extf .f32 v)) = a1 at *
  generalize sumK (mulf (extf .f32 (extf .bf16 (B.k h) : FVec Ideal S64x128 .bf16)) (mulf (broadcastTo S64x128 (col h (exp (gate B.al))) broadcasts_S64x1_S64x128) z)) = a2 at *
  generalize sumT (mulf (subf (broadcast S64x64 (Scalar.ofBits .f32 0x00000000#32)) w) y) = a3 at *
  pointwise
  rw [h1, h2, h3, H.sk, ← EReal.coe_zero]
  simp only [← EReal.coe_mul, ← EReal.coe_add, ← EReal.coe_sub]
  rfl
end

/-- A store of the four columns holds each column. -/
theorem outB_apply (y : Fin 4 → FVec Ideal S64x1 .f32) (r : Fin 64) (h : Fin 4) : outB y (ix4 0 0 r h) = y h (ix2 r 0) := by
  have e0 : ∀ x0 x1 x2 x3 : FVec Ideal S64x1 .f32, outB ![x0, x1, x2, x3] (ix4 0 0 r h) = (![x0, x1, x2, x3] h) (ix2 r 0) := fun x0 x1 x2 x3 => by
    match h with
    | 0 => pointwise [outB]
    | 1 => pointwise [outB]
    | 2 => pointwise [outB]
    | 3 => pointwise [outB]
  have ey : y = ![y 0, y 1, y 2, y 3] := by funext j; fin_cases j <;> rfl
  rw [ey]; exact e0 _ _ _ _

end Cert.KernelIdeal.Head
-- ==== Proof.Value.LoopBB.lean ====
/- The backward loop: after it the window of the gradient of the write strengths holds every chunk's and head's. -/
module

public import proofs.«01_k».proof.Proof.Value.LoopBQ
public import proofs.«01_k».proof.Proof.Value.TripBB
public import proofs.«01_k».proof.Proof.Value.RealB

@[expose] public section

set_option maxRecDepth 100000

noncomputable section

namespace Cert.KernelIdeal.Head

open Cert.KernelIdeal Cert.KernelIdeal.Gen Idealize.ShloMosaic Idealize.ShloMosaic.TcCoe Idealize.SL.Sem

/-- Every chunk's and head's gradient of the write strengths. -/
def EB (R : Fin 14 → RBlk) : Vec Ideal S1x1x896x4 .f32 := fun y =>
  (((R ⟨(y 2).val / 64, by have : (y 2).val < 896 := (y 2).isLt; omega⟩).DB (y 3) (stF R (y 3) ((y 2).val / 64)) (stR R (y 3) (13 - (y 2).val / 64)) ⟨(y 2).val % 64, Nat.mod_lt _ (by omega)⟩ : ℝ) : EReal)

theorem EB_row (R : Fin 14 → RBlk) (n : Fin 14) (r : Fin 64) (h : Fin 4) :
    EB R (ix4 0 0 (row n r) h) = (((R n).DB h (stF R h n.val) (stR R h (13 - n.val)) r : ℝ) : EReal) := by
  have e1 : (row n r).val / 64 = n.val := by simp only [row]; omega
  have e2 : (row n r).val % 64 = r.val := by simp only [row]; omega
  show (((R ⟨(row n r).val / 64, _⟩).DB h (stF R h ((row n r).val / 64)) (stR R h (13 - (row n r).val / 64)) ⟨(row n r).val % 64, _⟩ : ℝ) : EReal) = _
  simp only [e1, e2]

/-- A store of a chunk's gradients of the write strengths. -/
theorem pieceB {w : Vec Ideal S1x1x64x4 .f32} {E : Vec Ideal S1x1x896x4 .f32} {off : Fin 4 → ℕ} (inb : ∀ a, off a + S1x1x64x4.size a ≤ S1x1x896x4.size a)
    {n : Fin 14} (ho : off = ![0, 0, 64 * n.val, 0]) (hw : ∀ r h, w (ix4 0 0 r h) = E (ix4 0 0 (row n r) h)) (x : S1x1x64x4.Idx) :
    w x = E ((Rect.unit (s := S1x1x896x4) off S1x1x64x4.size inb).emb x) := by
  subst ho
  obtain ⟨r, l, rfl⟩ : ∃ (r : Fin 64) (l : Fin 4), x = ix4 0 0 r l := ⟨x 2, x 3, funext fun a => by fin_cases a <;> first | rfl | exact Subsingleton.elim (α := Fin 1) _ _⟩
  refine (hw r l).trans ?_
  refine (ld_at E _ _ inb _ _ fun a => ?_).symm
  fin_cases a <;> first | rfl | exact Nat.zero_add _

theorem memB {off : Fin 4 → ℕ} (inb : ∀ a, off a + S1x1x64x4.size a ≤ S1x1x896x4.size a) {n : Fin 14} (ho : off = ![0, 0, 64 * n.val, 0])
    (y : S1x1x896x4.Idx) (h2 : (y 2).val / 64 = n.val) : y ∈ (Rect.unit (s := S1x1x896x4) off S1x1x64x4.size inb).set := by
  subst ho
  refine Rect.mem_set_unit.2 fun a => ?_
  fin_cases a
  · exact ⟨Nat.zero_le _, (y 0).isLt⟩
  · exact ⟨Nat.zero_le _, (y 1).isLt⟩
  · show 64 * n.val ≤ (y 2).val ∧ (y 2).val < 64 * n.val + 64
    omega
  · exact ⟨Nat.zero_le _, (y 3).isLt⟩

/-- The values loaded are the chunk's. -/
theorem bV_is {x5 : Vec Ideal S1x4x896x256 .bf16} {R : Fin 14 → RBlk} (hv : ∀ n h r c, x5 (ix4 0 h (row n r) c) = (((R n).v h r c : ℝ) : EReal))
    {arg7 : Memref sig .tc .vmem S1x4x896x256 .bf16} (h7 : arg7.IsWhole) (k : Fin k0_t2_loop.trips) (h : Fin 4) :
    Is (a := 64) (b := 256) (bV (F := Ideal) arg7 (h7.unread x5) k h) ((R (cB k)).v h) := fun r c => match h with
  | 0 => (ld_v arg7 _ _ 0 (cB k) (dOff_eq k 0) r c).trans ((congrFun (h7.read_unread x5) _).trans (hv _ 0 r c))
  | 1 => (ld_v arg7 _ _ 1 (cB k) (dOff_eq k 1) r c).trans ((congrFun (h7.read_unread x5) _).trans (hv _ 1 r c))
  | 2 => (ld_v arg7 _ _ 2 (cB k) (dOff_eq k 2) r c).trans ((congrFun (h7.read_unread x5) _).trans (hv _ 2 r c))
  | 3 => (ld_v arg7 _ _ 3 (cB k) (dOff_eq k 3) r c).trans ((congrFun (h7.read_unread x5) _).trans (hv _ 3 r c))

variable (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32) (v1 : IVec S64x64 32) (v2 : IVec S64x64 32)
variable {x0 x1 x2 : Vec Ideal S448 .f32} {x3 x4 : Vec Ideal S1x4x896x128 .fp8e4m3} {x6 : Vec Ideal S1x4x896x256 .fp8e5m2} {x7 : Vec Ideal S1x1x896x4 .f32}
  {x8 : Vec Ideal S1x1x14x2x128 .f32} {x9 : Vec Ideal S1x1x896x4 .f32} {R : Fin 14 → RBlk} (H : InsB i x0 x1 x2 x3 x4 x6 x7 x8 x9 R)
  {x5 : Vec Ideal S1x4x896x256 .bf16} (hv : ∀ n h r c, x5 (ix4 0 h (row n r) c) = (((R n).v h r c : ℝ) : EReal)) (X_arg17 : arg17.view.ty.Contents (Elt Ideal)) (X_arg18 : arg18.view.ty.Contents (Elt Ideal))
  (X_arg19 : arg19.view.ty.Contents (Elt Ideal)) (hT : ∀ n h r c, arg19.view.read (Elt Ideal) X_arg19 (ix4 n h r c) = (((1 + (R n).A h)⁻¹ c r : ℝ) : EReal))
  (f12 : arg12.view.ty.Contents (Elt Ideal)) (f13 : arg13.view.ty.Contents (Elt Ideal)) (f14 : arg14.view.ty.Contents (Elt Ideal))
  (f15 : arg15.view.ty.Contents (Elt Ideal)) (f16 : arg16.view.ty.Contents (Elt Ideal)) (f20 : arg20.view.ty.Contents (Elt Ideal))
  (h0 : ∀ h r c, arg20.view.read (Elt Ideal) f20 (ix3 h r c) = 0)
  (hSL : ∀ y, arg17.view.read (Elt Ideal) X_arg17 y = ESL R y) (hUL : ∀ y, arg18.view.read (Elt Ideal) X_arg18 y = EUL R y)
  (hm : ∀ r c : Fin 64, cmpi .sgt v1 v2 (ix2 r c) = BitVec.ofBool (decide (c < r)))
include H hv hT h0 hSL hUL hm

theorem loopBB (n : ℕ) (hn : n ≤ 14) :
    Filled (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) (harg7.unread x5) (harg8.unread x6) (harg9.unread x7) (harg10.unread x8) (harg11.unread x9) X_arg17 X_arg18 X_arg19 f12 f13 f14 f15 f16 f20 n).2.2.2.2.1 (EB R) (fun y => 14 - n ≤ (y 2).val / 64) := by
  induction n with
  | zero =>
    refine Filled.nil _ _ fun y hy => ?_
    have : (y 2).val < 896 := (y 2).isLt
    omega
  | succ n ih =>
    have hk : n < k0_t2_loop.trips := trips2 ▸ hn
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) (harg7.unread x5) (harg8.unread x6) (harg9.unread x7) (harg10.unread x8) (harg11.unread x9) X_arg17 X_arg18 X_arg19 f12 f13 f14 f15 f16 f20 ⟨n, hk⟩
    have B := bblk_is H harg2 harg3 harg4 harg5 harg6 harg8 harg9 harg10 harg11 ⟨n, hk⟩
    have hS : ∀ h, Is (a := 128) (b := 256) (bS (F := Ideal) arg20 (arg20.view.writes (Elt Ideal) f20 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) (harg7.unread x5) (harg8.unread x6) (harg9.unread x7) (harg10.unread x8) (harg11.unread x9) X_arg17 X_arg18 X_arg19 f12 f13 f14 f15 f16 f20 n).2.2.2.2.2) h) (stR R h n) :=
      fun h r j => (bS_is _ h r j).trans ((loopB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 H (harg7.unread x5) X_arg17 X_arg18 X_arg19 hT f12 f13 f14 f15 f16 f20 h0 n (by omega)).1 h r j)
    have hTT : ∀ h, Is (a := 64) (b := 64) (bT (F := Ideal) arg19 X_arg19 ⟨n, hk⟩ h) (1 + (R (cB ⟨n, hk⟩)).A h)⁻¹.transpose :=
      fun h r j => (bT_is _ _ h r j).trans (hT _ h r j)
    have hn' : 13 - (cB ⟨n, hk⟩).val = n := by simp only [cB]; omega
    have e1 := congrArg (fun z => z.2.2.2.2.1) e
    refine Eq.mpr (congrArg (fun L => Filled L (EB R) _) e1) ?_
    refine Filled.append (D := fun y => (y 2).val / 64 = (cB ⟨n, hk⟩).val) (D' := fun y => 14 - n ≤ (y 2).val / 64) ?_ (ih (by omega)) (fun y hy => ?_)
    · refine Eq.mpr (congrArg (fun L => Filled L (EB R) _) (trip2_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) ?_
      have hw : ∀ (r : Fin 64) (h : Fin 4), outB (fun h => (bblk (F := Ideal) i arg2 arg3 arg4 arg5 arg6 arg8 arg9 arg10 arg11 (harg2.unread x0) (harg3.unread x1) (harg4.unread x2) (harg5.unread x3) (harg6.unread x4) (harg8.unread x6) (harg9.unread x7) (harg10.unread x8) (harg11.unread x9) ⟨n, hk⟩).DB h (bV (F := Ideal) arg7 (harg7.unread x5) ⟨n, hk⟩ h) ((bblk (F := Ideal) i arg2 arg3 arg4 arg5 arg6 arg8 arg9 arg10 arg11 (harg2.unread x0) (harg3.unread x1) (harg4.unread x2) (harg5.unread x3) (harg6.unread x4) (harg8.unread x6) (harg9.unread x7) (harg10.unread x8) (harg11.unread x9) ⟨n, hk⟩).X h (bT (F := Ideal) arg19 X_arg19 ⟨n, hk⟩ h) (bS (F := Ideal) arg20 (arg20.view.writes (Elt Ideal) f20 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 v1 v2 k0_pay519 k0_pay520 k0_pay521 (iota .tc S64x128 32 [0] iota_S64x128_d0_w32) k0_pay522 k0_pay523 k0_pay524 (harg2.unread x0) (harg3.unread x1) (harg4.unread x2) (harg5.unread x3) (harg6.unread x4) (harg7.unread x5) (harg8.unread x6) (harg9.unread x7) (harg10.unread x8) (harg11.unread x9) X_arg17 X_arg18 X_arg19 f12 f13 f14 f15 f16 f20 n).2.2.2.2.2) h)) (bSL (F := Ideal) arg17 X_arg17 ⟨n, hk⟩ h) (bUL (F := Ideal) arg18 X_arg18 ⟨n, hk⟩ h)) (ix4 0 0 r h) = EB R (ix4 0 0 (row (cB ⟨n, hk⟩) r) h) := fun r h =>
        ((outB_apply _ r h).trans (DB_is B h (hS h) (hTT h) (St := stF R h (cB ⟨n, hk⟩).val) (fun r c => (bSL_is _ _ h 0 r c).trans (hSL _)) (fun r c => (bSL_is _ _ h 1 r c).trans (hSL _)) (fun r c => (bSL_is _ _ h 2 r c).trans (hSL _))
          (fun r c => (bUL_is _ _ h 0 r c).trans (hUL _)) (fun r c => (bUL_is _ _ h 1 r c).trans (hUL _)) (fun r c => (bUL_is _ _ h 2 r c).trans (hUL _)) (bV_is hv harg7 ⟨n, hk⟩ h) r)).trans ((EB_row R _ r h).trans (by rw [hn'])).symm
      exact Filled.cons (D := fun _ => False) (pieceB (k0_off41_inb ⟨n, hk⟩) (offA ⟨n, hk⟩) hw) (Filled.nil _ _ fun y hy => hy) fun y hy => Or.inl (memB (k0_off41_inb ⟨n, hk⟩) (offA ⟨n, hk⟩) y hy)
    · by_cases h : 14 - n ≤ (y 2).val / 64
      · exact Or.inr h
      · exact Or.inl (by simp only [cB]; omega)

end Cert.KernelIdeal.Head
-- ==== Proof.Value.Spec.lean ====
/- The arguments as real numbers, and the gradients of the queries, the keys, the values and the write strengths they specify. -/
module

public import proofs.«01_k».proof.Proof.Value.LoopBK
public import proofs.«01_k».proof.Proof.Value.LoopBB

@[expose] public section

noncomputable section

namespace Cert.KernelIdeal.Head

open Cert.KernelIdeal Cert.KernelIdeal.Gen Idealize.ShloMosaic Idealize.ShloMosaic.TcCoe Idealize.SL.Sem

/-- Head `h` of group `g`. -/
def hd (g h : Fin 4) : Fin 16 := ⟨4 * g.val + h.val, by omega⟩

/-- The arguments as real numbers: codes, scales, values, log decays and write strengths. -/
structure RArgs where
  q : Fin 2 → Fin 896 → Fin 16 → Fin 128 → ℝ
  sq : Fin 2 → Fin 14 → Fin 16 → ℝ
  k : Fin 2 → Fin 896 → Fin 16 → Fin 128 → ℝ
  sk : Fin 2 → Fin 14 → Fin 16 → ℝ
  v : Fin 2 → Fin 896 → Fin 16 → Fin 256 → ℝ
  la : Fin 2 → Fin 896 → Fin 16 → ℝ
  be : Fin 2 → Fin 896 → Fin 16 → ℝ
  d : Fin 2 → Fin 896 → Fin 16 → Fin 256 → ℝ
  sd : Fin 2 → Fin 14 → Fin 16 → ℝ

/-- The numbers of chunk `n` of batch `b`, heads of group `g`. -/
def RArgs.blk (A : RArgs) (b : Fin 2) (g : Fin 4) (n : Fin 14) : RBlk where
  la r h := A.la b (row n r) (hd g h)
  be r h := A.be b (row n r) (hd g h)
  k h r c := A.k b (row n r) (hd g h) c
  q h r c := A.q b (row n r) (hd g h) c
  d h r c := A.d b (row n r) (hd g h) c
  sk h := A.sk b n (hd g h)
  sq h := A.sq b n (hd g h)
  ds h := A.sd b n (hd g h)
  v h r c := A.v b (row n r) (hd g h) c

/-- The argument arrays hold the numbers `A`. -/
structure IsArgs (a0 : IVec S2x896x16x128 8) (a1 : Vec Ideal S2x14x16 .f32) (a2 : IVec S2x896x16x128 8) (a3 : Vec Ideal S2x14x16 .f32)
    (a4 : Vec Ideal S2x896x16x256 .bf16) (a5 a6 : Vec Ideal S2x896x16 .f32) (a7 : IVec S2x896x16x256 8) (a8 : Vec Ideal S2x14x16 .f32) (A : RArgs) : Prop where
  q : ∀ b p h c, (bitcastToFloat .fp8e4m3 a0 : FVec Ideal S2x896x16x128 .fp8e4m3) (ix4 b p h c) = ((A.q b p h c : ℝ) : EReal)
  sq : ∀ b n h, a1 (ix3 b n h) = ((A.sq b n h : ℝ) : EReal)
  k : ∀ b p h c, (bitcastToFloat .fp8e4m3 a2 : FVec Ideal S2x896x16x128 .fp8e4m3) (ix4 b p h c) = ((A.k b p h c : ℝ) : EReal)
  sk : ∀ b n h, a3 (ix3 b n h) = ((A.sk b n h : ℝ) : EReal)
  v : ∀ b p h c, a4 (ix4 b p h c) = ((A.v b p h c : ℝ) : EReal)
  la : ∀ b p h, Ideal.log (a5 (ix3 b p h)) = ((A.la b p h : ℝ) : EReal)
  be : ∀ b p h, a6 (ix3 b p h) = ((A.be b p h : ℝ) : EReal)
  d : ∀ b p h c, (bitcastToFloat .fp8e5m2 a7 : FVec Ideal S2x896x16x256 .fp8e5m2) (ix4 b p h c) = ((A.d b p h c : ℝ) : EReal)
  sd : ∀ b n h, a8 (ix3 b n h) = ((A.sd b n h : ℝ) : EReal)

/-- The value gradient. -/
def DvSpec (A : RArgs) : Vec Ideal S2x16x896x256 .bf16 := fun y =>
  EV (A.blk (y 0) ⟨(y 1).val / 4, by have : (y 1).val < 16 := (y 1).isLt; omega⟩) (ix4 0 ⟨(y 1).val % 4, by omega⟩ (y 2) (y 3))

theorem DvSpec_row (A : RArgs) (b : Fin 2) (g h : Fin 4) (n : Fin 14) (r : Fin 64) (c : Fin 256) :
    DvSpec A (ix4 b (hd g h) (row n r) c) = (((A.blk b g n).V h (stR (A.blk b g) h (13 - n.val)) r c : ℝ) : EReal) := by
  have e1 : (hd g h).val / 4 = g.val := by simp only [hd]; omega
  have e2 : (hd g h).val % 4 = h.val := by simp only [hd]; omega
  refine Eq.trans ?_ (EV_row (A.blk b g) n h r c)
  show EV (A.blk b ⟨(hd g h).val / 4, _⟩) (ix4 0 ⟨(hd g h).val % 4, _⟩ (row n r) c) = _
  rw [show (⟨(hd g h).val / 4, by rw [e1]; exact g.isLt⟩ : Fin 4) = g from Fin.ext e1, show (⟨(hd g h).val % 4, by rw [e2]; exact h.isLt⟩ : Fin 4) = h from Fin.ext e2]

/-- The query gradient. -/
def DqSpec (A : RArgs) : Vec Ideal S2x16x896x128 .bf16 := fun y =>
  EQ (A.blk (y 0) ⟨(y 1).val / 4, by have : (y 1).val < 16 := (y 1).isLt; omega⟩) (ix4 0 ⟨(y 1).val % 4, by omega⟩ (y 2) (y 3))

theorem DqSpec_row (A : RArgs) (b : Fin 2) (g h : Fin 4) (n : Fin 14) (r : Fin 64) (c : Fin 128) :
    DqSpec A (ix4 b (hd g h) (row n r) c) = (((A.blk b g n).Q h (stF (A.blk b g) h n.val) r c : ℝ) : EReal) := by
  have e1 : (hd g h).val / 4 = g.val := by simp only [hd]; omega
  have e2 : (hd g h).val % 4 = h.val := by simp only [hd]; omega
  refine Eq.trans ?_ (EQ_row (A.blk b g) n h r c)
  show EQ (A.blk b ⟨(hd g h).val / 4, _⟩) (ix4 0 ⟨(hd g h).val % 4, _⟩ (row n r) c) = _
  rw [show (⟨(hd g h).val / 4, by rw [e1]; exact g.isLt⟩ : Fin 4) = g from Fin.ext e1, show (⟨(hd g h).val % 4, by rw [e2]; exact h.isLt⟩ : Fin 4) = h from Fin.ext e2]

/-- The key gradient. -/
def DkSpec (A : RArgs) : Vec Ideal S2x16x896x128 .bf16 := fun y =>
  EK (A.blk (y 0) ⟨(y 1).val / 4, by have : (y 1).val < 16 := (y 1).isLt; omega⟩) (ix4 0 ⟨(y 1).val % 4, by omega⟩ (y 2) (y 3))

theorem DkSpec_row (A : RArgs) (b : Fin 2) (g h : Fin 4) (n : Fin 14) (r : Fin 64) (c : Fin 128) :
    DkSpec A (ix4 b (hd g h) (row n r) c) = (((A.blk b g n).K h (stF (A.blk b g) h n.val) (stR (A.blk b g) h (13 - n.val)) r c : ℝ) : EReal) := by
  have e1 : (hd g h).val / 4 = g.val := by simp only [hd]; omega
  have e2 : (hd g h).val % 4 = h.val := by simp only [hd]; omega
  refine Eq.trans ?_ (EK_row (A.blk b g) n h r c)
  show EK (A.blk b ⟨(hd g h).val / 4, _⟩) (ix4 0 ⟨(hd g h).val % 4, _⟩ (row n r) c) = _
  rw [show (⟨(hd g h).val / 4, by rw [e1]; exact g.isLt⟩ : Fin 4) = g from Fin.ext e1, show (⟨(hd g h).val % 4, by rw [e2]; exact h.isLt⟩ : Fin 4) = h from Fin.ext e2]

/-- The gradient of the write strengths, by groups of heads. -/
def DbSpec (A : RArgs) : Vec Ideal S2x4x896x4 .f32 := fun y => EB (A.blk (y 0) (y 1)) (ix4 0 0 (y 2) (y 3))

theorem DbSpec_row (A : RArgs) (b : Fin 2) (g h : Fin 4) (n : Fin 14) (r : Fin 64) :
    DbSpec A (ix4 b g (row n r) h) = (((A.blk b g n).DB h (stF (A.blk b g) h n.val) (stR (A.blk b g) h (13 - n.val)) r : ℝ) : EReal) :=
  EB_row (A.blk b g) n r h

end Cert.KernelIdeal.Head
-- ==== Proof.Value.Pre.lean ====
/- The precondition gives the arguments as real numbers. -/
module

public import proofs.«01_k».proof.Proof.Value.Spec
public import proofs.«01_k».proof.Proof.Gen.Pre_finite
public import proofs.«01_k».proof.Pre_finite
public import Idealize.ShloMosaic.Lib.Pipeline.ValueKit.Point

@[expose] public section

noncomputable section

namespace Cert.Pre_finite.Val

open Idealize.ShloMosaic Idealize.ShloMosaic.Tactic
open Cert.KernelIdeal.Head (RArgs IsArgs)

theorem e4m3_code : ∀ w : BitVec 8, IntOp.cmpi CmpIPredicate.slt (IntOp.andi (w.setWidth 32) 127#32) 127#32 = 1#1 →
    ¬ ((w.extractLsb' 3 4).toNat = 15 ∧ (w.extractLsb' 0 3).toNat = 7) := by decide +kernel

theorem e5m2_code : ∀ w : BitVec 8, IntOp.cmpi CmpIPredicate.slt (IntOp.andi (w.setWidth 32) 127#32) 124#32 = 1#1 →
    ¬ (w.extractLsb' 2 5).toNat = 31 := by decide +kernel

/-- A code that is not the NaN is a real number. -/
theorem e4m3_real (w : BitVec 8) (h : IntOp.cmpi CmpIPredicate.slt (IntOp.andi (w.setWidth 32) 127#32) 127#32 = 1#1) :
    ∃ r : ℝ, Ideal.ofBits .fp8e4m3 w = (r : EReal) := by
  have h' := e4m3_code w h
  show ∃ r : ℝ, Ideal.e4m3fn w = (r : EReal)
  unfold Ideal.e4m3fn
  dsimp only
  rw [if_neg h']
  split <;> exact ⟨_, rfl⟩

/-- A code that is neither an infinity nor a NaN is a real number. -/
theorem e5m2_real (w : BitVec 8) (h : IntOp.cmpi CmpIPredicate.slt (IntOp.andi (w.setWidth 32) 127#32) 124#32 = 1#1) :
    ∃ r : ℝ, Ideal.ofBits .fp8e5m2 w = (r : EReal) := by
  have h' := e5m2_code w h
  show ∃ r : ℝ, Ideal.ieee 5 2 w = (r : EReal)
  unfold Ideal.ieee
  dsimp only
  rw [if_neg (show ¬ (w.extractLsb' 2 5).toNat = 2 ^ 5 - 1 from h')]
  split <;> exact ⟨_, rfl⟩

/-- A number below infinity in absolute value is real. -/
theorem abs_real (x : EReal) (h : Ideal.cmp .olt (max x (-x)) (Ideal.ofBits .f32 0x7F800000#32) = 1#1) : ∃ r : ℝ, x = (r : EReal) := by
  have e : Ideal.ofBits .f32 0x7F800000#32 = ⊤ := by
    show Ideal.ieee 8 23 (0x7F800000#32) = ⊤
    unfold Ideal.ieee
    dsimp only
    rw [if_pos (by decide), if_pos (by decide), if_neg (by decide)]
  have h1 := (Ideal.cmp_olt_eq_one _ _).1 h
  rw [e] at h1
  induction x with
  | bot => simp at h1
  | top => simp at h1
  | coe r => exact ⟨r, rfl⟩

/-- The same of a number in half the bits. -/
theorem abs_real_bf16 (x : EReal) (h : Ideal.cmp .olt (max x (-x)) (Ideal.ofBits .bf16 0x7F80#16) = 1#1) : ∃ r : ℝ, x = (r : EReal) := by
  have e : Ideal.ofBits .bf16 0x7F80#16 = ⊤ := by
    show Ideal.ieee 8 7 (0x7F80#16) = ⊤
    unfold Ideal.ieee
    dsimp only
    rw [if_pos (by decide), if_pos (by decide), if_neg (by decide)]
  have h1 := (Ideal.cmp_olt_eq_one _ _).1 h
  rw [e] at h1
  induction x with
  | bot => simp at h1
  | top => simp at h1
  | coe r => exact ⟨r, rfl⟩

/-- The logarithm of a positive real is real. -/
theorem log_real (x : EReal) (h : Ideal.cmp .olt (max x (-x)) (Ideal.ofBits .f32 0x7F800000#32) = 1#1)
    (h0 : Ideal.cmp .ogt x (Ideal.ofBits .f32 0x00000000#32) = 1#1) : ∃ r : ℝ, Ideal.log x = (r : EReal) := by
  obtain ⟨r, rfl⟩ := abs_real x h
  have h1 := (Ideal.cmp_ogt_eq_one _ _).1 h0
  rw [Ideal.ofBits_zero_f32] at h1
  have h2 : 0 < r := by exact_mod_cast h1
  refine ⟨Real.log r, ?_⟩
  exact if_neg (not_le.2 h2)

/-- Arrays that meet the precondition hold real numbers. -/
theorem isArgs [Cert.Pre_finite.Facts] (a0 : IVec S2x896x16x128 8) (a1 : FVec Ideal S2x14x16 .f32) (a2 : IVec S2x896x16x128 8) (a3 : FVec Ideal S2x14x16 .f32)
    (a4 : FVec Ideal S2x896x16x256 .bf16) (a5 a6 : FVec Ideal S2x896x16 .f32) (a7 : IVec S2x896x16x256 8) (a8 : FVec Ideal S2x14x16 .f32)
    (h : (Cert.Pre_finite.fn (F := Ideal) a0 a1 a2 a3 a4 a5 a6 a7 a8).1 = (fun _ => 1#1)
    ∧ (Cert.Pre_finite.fn (F := Ideal) a0 a1 a2 a3 a4 a5 a6 a7 a8).2.1 = (fun _ => 1#1)
    ∧ (Cert.Pre_finite.fn (F := Ideal) a0 a1 a2 a3 a4 a5 a6 a7 a8).2.2.1 = (fun _ => 1#1)
    ∧ (Cert.Pre_finite.fn (F := Ideal) a0 a1 a2 a3 a4 a5 a6 a7 a8).2.2.2.1 = (fun _ => 1#1)
    ∧ (Cert.Pre_finite.fn (F := Ideal) a0 a1 a2 a3 a4 a5 a6 a7 a8).2.2.2.2.1 = (fun _ => 1#1)
    ∧ (Cert.Pre_finite.fn (F := Ideal) a0 a1 a2 a3 a4 a5 a6 a7 a8).2.2.2.2.2.1 = (fun _ => 1#1)
    ∧ (Cert.Pre_finite.fn (F := Ideal) a0 a1 a2 a3 a4 a5 a6 a7 a8).2.2.2.2.2.2.1 = (fun _ => 1#1)
    ∧ (Cert.Pre_finite.fn (F := Ideal) a0 a1 a2 a3 a4 a5 a6 a7 a8).2.2.2.2.2.2.2.1 = (fun _ => 1#1)
    ∧ (Cert.Pre_finite.fn (F := Ideal) a0 a1 a2 a3 a4 a5 a6 a7 a8).2.2.2.2.2.2.2.2.1 = (fun _ => 1#1)
    ∧ (Cert.Pre_finite.fn (F := Ideal) a0 a1 a2 a3 a4 a5 a6 a7 a8).2.2.2.2.2.2.2.2.2 = (fun _ => 1#1)) : ∃ A : RArgs, IsArgs a0 a1 a2 a3 a4 a5 a6 a7 a8 A := by
  obtain ⟨h0, h1, h2, h3, h4, h5, h5', h6, h7, h8⟩ := h
  have q : ∀ b p h c, ∃ r : ℝ, (bitcastToFloat .fp8e4m3 a0 : FVec Ideal S2x896x16x128 .fp8e4m3) (ix4 b p h c) = (r : EReal) := fun b p h c =>
    e4m3_real _ (congrFun h0 (ix4 b p h c))
  have sq : ∀ b n h, ∃ r : ℝ, a1 (ix3 b n h) = (r : EReal) := fun b n h => abs_real _ (congrFun h1 (ix3 b n h))
  have k : ∀ b p h c, ∃ r : ℝ, (bitcastToFloat .fp8e4m3 a2 : FVec Ideal S2x896x16x128 .fp8e4m3) (ix4 b p h c) = (r : EReal) := fun b p h c =>
    e4m3_real _ (congrFun h2 (ix4 b p h c))
  have sk : ∀ b n h, ∃ r : ℝ, a3 (ix3 b n h) = (r : EReal) := fun b n h => abs_real _ (congrFun h3 (ix3 b n h))
  have v : ∀ b p h c, ∃ r : ℝ, a4 (ix4 b p h c) = (r : EReal) := fun b p h c => abs_real_bf16 _ (congrFun h4 (ix4 b p h c))
  have la : ∀ b p h, ∃ r : ℝ, Ideal.log (a5 (ix3 b p h)) = (r : EReal) := fun b p h => log_real _ (congrFun h5 (ix3 b p h)) (congrFun h5' (ix3 b p h))
  have be : ∀ b p h, ∃ r : ℝ, a6 (ix3 b p h) = (r : EReal) := fun b p h => abs_real _ (congrFun h6 (ix3 b p h))
  have d : ∀ b p h c, ∃ r : ℝ, (bitcastToFloat .fp8e5m2 a7 : FVec Ideal S2x896x16x256 .fp8e5m2) (ix4 b p h c) = (r : EReal) := fun b p h c =>
    e5m2_real _ (congrFun h7 (ix4 b p h c))
  have sd : ∀ b n h, ∃ r : ℝ, a8 (ix3 b n h) = (r : EReal) := fun b n h => abs_real _ (congrFun h8 (ix3 b n h))
  choose q hq using q
  choose sq hsq using sq
  choose k hk using k
  choose sk hsk using sk
  choose v hv using v
  choose la hla using la
  choose be hbe using be
  choose d hd using d
  choose sd hsd using sd
  exact ⟨⟨q, sq, k, sk, v, la, be, d, sd⟩, ⟨hq, hsq, hk, hsk, hv, hla, hbe, hd, hsd⟩⟩

end Cert.Pre_finite.Val
-- ==== Proof.Value.Run.lean ====
/- The run of `KernelIdeal`'s whole kernel body: its triple, the pieces each output buffer ends with being what the run finds. -/
module

public import proofs.«01_k».proof.Proof.FrameKernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def valueRun (c : Dev nD) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole)
    (x0 : Vec F S448 .f32) (x1 : Vec F S448 .f32) (x2 : Vec F S448 .f32) (x3 : Vec F S1x4x896x128 .fp8e4m3) (x4 : Vec F S1x4x896x128 .fp8e4m3) (x5 : Vec F S1x4x896x256 .bf16) (x6 : Vec F S1x4x896x256 .fp8e5m2) (x7 : Vec F S1x1x896x4 .f32) (x8 : Vec F S1x1x14x2x128 .f32) (x9 : Vec F S1x1x896x4 .f32) :
    Σ' (L10 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → List (View.Piece (Elt F) S1x4x896x128 .bf16)), Σ' (L11 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → List (View.Piece (Elt F) S1x4x896x128 .bf16)), Σ' (L12 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → List (View.Piece (Elt F) S1x4x896x256 .bf16)), { L14 : BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → List (View.Piece (Elt F) S1x1x896x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f10 f11 f12 f13 f14 f17 f18 f19, (arg12.view.loc (c : Thread nD τ) ↦[arg12.view.set]{fullShare} arg12.view.writes (Elt F) f10 (L10 f10 f11 f12 f13 f14 f17 f18 f19)) ∗ (arg13.view.loc (c : Thread nD τ) ↦[arg13.view.set]{fullShare} arg13.view.writes (Elt F) f11 (L11 f10 f11 f12 f13 f14 f17 f18 f19)) ∗ (arg14.view.loc (c : Thread nD τ) ↦[arg14.view.set]{fullShare} arg14.view.writes (Elt F) f12 (L12 f10 f11 f12 f13 f14 f17 f18 f19)) ∗ (arg16.view.loc (c : Thread nD τ) ↦[arg16.view.set]{fullShare} arg16.view.writes (Elt F) f14 (L14 f10 f11 f12 f13 f14 f17 f18 f19))) ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_gdn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_gdn_bwd_eq_skeleton]; unfold cc0_gdn_bwd_skel
    simp only [k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10 H11 H12 H14]
    · iexists f10, f11, f12, f13, f14, fs0, fs1, fs2
      isplitl [H10]; · iexact H10
      isplitl [H11]; · iexact H11
      isplitl [H12]; · iexact H12
      iexact H14
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Value.LoopF.lean ====
/- The forward loop: after it the buffer of the inverses holds every chunk's and head's inverse, transposed. -/
module

public import proofs.«01_k».proof.Proof.Value.Filled

@[expose] public section

set_option maxRecDepth 100000

noncomputable section

namespace Cert.KernelIdeal.Head

open Cert.KernelIdeal Cert.KernelIdeal.Gen Idealize.ShloMosaic Idealize.ShloMosaic.TcCoe Idealize.SL.Sem

/-- Every chunk's and head's inverse, transposed. -/
def ET (R : Fin 14 → RBlk) : Vec Ideal S14x4x64x64 .f32 := fun y => (((1 + (R (y 0)).A (y 1))⁻¹ (y 3) (y 2) : ℝ) : EReal)

variable (𝒱 : Variants) (c : Dev nD) (bd : Option 𝒱.V) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole) (arg0 : BitVec 32) (v0 : BitVec 32)
variable {x1 : Vec Ideal S448 .f32} {x4 : Vec Ideal S1x4x896x128 .fp8e4m3} {x7 : Vec Ideal S1x1x896x4 .f32}
  {x8 : Vec Ideal S1x1x14x2x128 .f32} {x9 : Vec Ideal S1x1x896x4 .f32} {R : Fin 14 → RBlk} (H : InsF i x1 x4 x7 x8 x9 R)
  (X_arg7 : arg7.view.ty.Contents (Elt Ideal)) (f17 : arg17.view.ty.Contents (Elt Ideal)) (f18 : arg18.view.ty.Contents (Elt Ideal))
  (f19 : arg19.view.ty.Contents (Elt Ideal)) (f20 : arg20.view.ty.Contents (Elt Ideal))
include H

theorem loopF (n : ℕ) (hn : n ≤ 14) :
    Filled (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) X_arg7 (harg9.unread x7) (harg10.unread x8) (harg11.unread x9) f17 f18 f19 f20 n).2.2.1 (ET R) (fun y => (y 0).val < n) := by
  induction n with
  | zero => exact Filled.nil _ _ fun y => Nat.not_lt_zero _
  | succ n ih =>
    have hk : n < k0_t1_loop.trips := trips1 ▸ hn
    have e := congrArg (fun z => z.2.2.1) (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 v0 k0_pay519 (iota .tc S64x128 32 [0] iota_S64x128_d0_w32) k0_pay522 k0_pay523 k0_pay524 (harg3.unread x1) (harg6.unread x4) X_arg7 (harg9.unread x7) (harg10.unread x8) (harg11.unread x9) f17 f18 f19 f20 ⟨n, hk⟩)
    refine Eq.mpr (congrArg (fun L => Filled L (ET R) _) e) ?_
    refine Filled.append (D := fun y => y 0 = cF ⟨n, hk⟩ ∧ (y 1).val < 4) (D' := fun y => (y 0).val < n) ?_ (ih (by omega)) (fun y hy => ?_)
    · refine Eq.mpr (congrArg (fun L => Filled L (ET R) _) (trip1_T _ _ _ _ _ _ _ _ _ _ _ _ _ _ _ _ _ _ _ _ _ _ _ _ _ _ _ _ _ _ _ _ _ _ _ _ _ _ _ _ _ _ _ _ _ _ _ _ _ _ _ _ _ _ _)) ?_
      have B := fblk_is H harg3 harg6 harg9 harg10 harg11 ⟨n, hk⟩
      exact consT 3 (k0_off39_eq _) (headT_apply B 3) (consT 2 (k0_off31_eq _) (headT_apply B 2) (consT 1 (k0_off23_eq _) (headT_apply B 1)
        (consT 0 (k0_off15_eq _) (headT_apply B 0) (Filled.nil _ _ fun y hy => Nat.not_lt_zero _ hy.2))))
    · rcases Nat.lt_succ_iff_lt_or_eq.1 hy with h | h
      · exact Or.inr h
      · exact Or.inl ⟨Fin.ext h, (y 1).isLt⟩

end Cert.KernelIdeal.Head
-- ==== Proof.Value.Block.lean ====
/- What the body leaves in the windows of the query and value gradients. -/
module

public import proofs.«01_k».proof.Proof.Value.Run
public import proofs.«01_k».proof.Proof.Value.LoopF
public import proofs.«01_k».proof.Proof.Value.LoopBQ

@[expose] public section

set_option maxRecDepth 100000

noncomputable section

namespace Cert.KernelIdeal.Head

open Cert.KernelIdeal Cert.KernelIdeal.Gen Idealize.ShloMosaic Idealize.ShloMosaic.TcCoe Idealize.ShloMosaic.Tactic Idealize.SL.Sem

/-- What a store over the whole state leaves. -/
theorem read_wholeS (v : Memref sig .tc .vmem S4x128x256 .f32) (f : v.view.ty.Contents (Elt Ideal)) (w : Vec Ideal S4x128x256 .f32)
    (inb : ∀ a, (![0, 0, 0] : Fin 3 → ℕ) a + S4x128x256.size a ≤ S4x128x256.size a) (L : List (View.Piece (Elt Ideal) S4x128x256 .f32)) (y : S4x128x256.Idx) :
    v.view.read (Elt Ideal) (v.view.writes (Elt Ideal) f (⟨Rect.unit (s := S4x128x256) ![0, 0, 0] S4x128x256.size inb, w⟩ :: L)) y = w y := by
  refine (ld_at (v.view.read (Elt Ideal) (v.view.writes (Elt Ideal) f (⟨Rect.unit (s := S4x128x256) ![0, 0, 0] S4x128x256.size inb, w⟩ :: L))) _ _ inb y y fun a => ?_).symm.trans ?_
  · fin_cases a <;> exact Nat.zero_add _
  · exact View.read_writes_cons_emb ..

theorem pay3_zero (y : S4x128x256.Idx) : (k0_pay3 : FVec Ideal S4x128x256 .f32) y = 0 := by
  simp only [k0_pay3]
  rw [shapeCast_self]
  exact Ideal.ofBits_zero .f32

/-- The value gradient's window ends at the spec's rows. -/
theorem valueRun_V (c : Dev nD) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole)
    (x0 : Vec Ideal S448 .f32) (x1 : Vec Ideal S448 .f32) (x2 : Vec Ideal S448 .f32) (x3 : Vec Ideal S1x4x896x128 .fp8e4m3) (x4 : Vec Ideal S1x4x896x128 .fp8e4m3) (x5 : Vec Ideal S1x4x896x256 .bf16) (x6 : Vec Ideal S1x4x896x256 .fp8e5m2) (x7 : Vec Ideal S1x1x896x4 .f32) (x8 : Vec Ideal S1x1x14x2x128 .f32) (x9 : Vec Ideal S1x1x896x4 .f32)
      {R : Fin 14 → RBlk} (H : InsB i x0 x1 x2 x3 x4 x6 x7 x8 x9 R)
    (f10 : arg12.view.ty.Contents (Elt Ideal)) (f11 : arg13.view.ty.Contents (Elt Ideal)) (f12 : arg14.view.ty.Contents (Elt Ideal)) (f13 : arg15.view.ty.Contents (Elt Ideal)) (f14 : arg16.view.ty.Contents (Elt Ideal)) (f17 : arg17.view.ty.Contents (Elt Ideal)) (f18 : arg18.view.ty.Contents (Elt Ideal)) (f19 : arg19.view.ty.Contents (Elt Ideal)) :
    arg14.view.read (Elt Ideal) (arg14.view.writes (Elt Ideal) f12 ((valueRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.1 f10 f11 f12 f13 f14 f17 f18 f19)) = EV R := by
  unfold valueRun
  dsimp only
  have hb := @loopB Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) valueRun.sl.v1 valueRun.sl.v2
    x0 x1 x2 x3 x4 x6 x7 x8 x9 R H (harg7.unread x5)
    (arg17.view.writes (Elt Ideal) f17 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).1)
    (arg18.view.writes (Elt Ideal) f18 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.1)
    (arg19.view.writes (Elt Ideal) f19 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.2.1) ?_ f10 f11 f12 f13 f14
    (arg20.view.writes (Elt Ideal) arg20.view.junk (⟨Rect.unit (s := S4x128x256) ![0, 0, 0] S4x128x256.size inb_S4x128x256_S4x128x256_0_0_0, k0_pay3 (F := Ideal)⟩ :: ((pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.2.2 ++ valueRun.sl.HS3_1))) ?_ (Scf.trips (0#32) (Scalar.addi 0#32 14#32) 1#32) (by decide +kernel)
  · funext y
    exact Filled.read _ _ hb.2 (by rw [show Scf.trips (0#32) (Scalar.addi 0#32 14#32) 1#32 = 14 by decide +kernel]; exact Nat.zero_le _)
  · intro n h r l
    have hf := loopF Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) H.toInsF (harg7.unread x5) f17 f18 f19
      (arg20.view.writes (Elt Ideal) arg20.view.junk valueRun.sl.HS3_1) (Scf.trips (0#32) (Scalar.addi 0#32 14#32) 1#32) (by decide +kernel)
    exact Filled.read arg19.view f19 (y := ix4 n h r l) hf (by rw [show Scf.trips (0#32) (Scalar.addi 0#32 14#32) 1#32 = 14 by decide +kernel]; exact n.isLt)
  · intro h r l
    exact (read_wholeS _ _ _ _ _ _).trans (pay3_zero _)

/-- The query gradient's window ends at the spec's rows. -/
theorem valueRun_Q (c : Dev nD) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole)
    (x0 : Vec Ideal S448 .f32) (x1 : Vec Ideal S448 .f32) (x2 : Vec Ideal S448 .f32) (x3 : Vec Ideal S1x4x896x128 .fp8e4m3) (x4 : Vec Ideal S1x4x896x128 .fp8e4m3) (x5 : Vec Ideal S1x4x896x256 .bf16) (x6 : Vec Ideal S1x4x896x256 .fp8e5m2) (x7 : Vec Ideal S1x1x896x4 .f32) (x8 : Vec Ideal S1x1x14x2x128 .f32) (x9 : Vec Ideal S1x1x896x4 .f32)
      {R : Fin 14 → RBlk} (H : InsB i x0 x1 x2 x3 x4 x6 x7 x8 x9 R)
      (hv : ∀ n h r c, x5 (ix4 0 h (row n r) c) = (((R n).v h r c : ℝ) : EReal))
    (f10 : arg12.view.ty.Contents (Elt Ideal)) (f11 : arg13.view.ty.Contents (Elt Ideal)) (f12 : arg14.view.ty.Contents (Elt Ideal)) (f13 : arg15.view.ty.Contents (Elt Ideal)) (f14 : arg16.view.ty.Contents (Elt Ideal)) (f17 : arg17.view.ty.Contents (Elt Ideal)) (f18 : arg18.view.ty.Contents (Elt Ideal)) (f19 : arg19.view.ty.Contents (Elt Ideal)) :
    arg12.view.read (Elt Ideal) (arg12.view.writes (Elt Ideal) f10 ((valueRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).1 f10 f11 f12 f13 f14 f17 f18 f19)) = EQ R := by
  unfold valueRun
  dsimp only
  have hf := loopFQ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) H.toInsF hv f17 f18 f19
      (arg20.view.writes (Elt Ideal) arg20.view.junk valueRun.sl.HS3_1) (fun h r c => (read_wholeS _ _ _ _ _ _).trans (pay3_zero _)) (Scf.trips (0#32) (Scalar.addi 0#32 14#32) 1#32) (by decide +kernel)
  have hb := @loopBQ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) valueRun.sl.v1 valueRun.sl.v2
    x0 x1 x2 x3 x4 x6 x7 x8 x9 R H (harg7.unread x5)
    (arg17.view.writes (Elt Ideal) f17 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).1)
    (arg18.view.writes (Elt Ideal) f18 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.1)
    (arg19.view.writes (Elt Ideal) f19 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.2.1) f10 f11 f12 f13 f14
    (arg20.view.writes (Elt Ideal) arg20.view.junk (⟨Rect.unit (s := S4x128x256) ![0, 0, 0] S4x128x256.size inb_S4x128x256_S4x128x256_0_0_0, k0_pay3 (F := Ideal)⟩ :: ((pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.2.2 ++ valueRun.sl.HS3_1))) (fun y => ?_) (fun y => ?_) (Scf.trips (0#32) (Scalar.addi 0#32 14#32) 1#32) (by decide +kernel)
  · funext y
    exact Filled.read _ _ hb (by rw [show Scf.trips (0#32) (Scalar.addi 0#32 14#32) 1#32 = 14 by decide +kernel]; exact Nat.zero_le _)
  · exact Filled.read arg17.view f17 hf.2.1 (by rw [show Scf.trips (0#32) (Scalar.addi 0#32 14#32) 1#32 = 14 by decide +kernel]; exact (y 0).isLt)
  · exact Filled.read arg18.view f18 hf.2.2 (by rw [show Scf.trips (0#32) (Scalar.addi 0#32 14#32) 1#32 = 14 by decide +kernel]; exact (y 0).isLt)

end Cert.KernelIdeal.Head
-- ==== Proof.Value.BlockK.lean ====
/- What the body leaves in the window of the key gradient. -/
module

public import proofs.«01_k».proof.Proof.Value.Block
public import proofs.«01_k».proof.Proof.Value.LoopBK

@[expose] public section

set_option maxRecDepth 100000

noncomputable section

namespace Cert.KernelIdeal.Head

open Cert.KernelIdeal Cert.KernelIdeal.Gen Idealize.ShloMosaic Idealize.ShloMosaic.TcCoe Idealize.ShloMosaic.Tactic Idealize.SL.Sem

theorem sgt_lanes : ∀ r s : Fin 64, IntOp.cmpi .sgt (BitVec.ofNat 32 r.val) (BitVec.ofNat 32 s.val) = BitVec.ofBool (decide (s < r)) := by
  decide +kernel

/-- The mask the body builds picks the entries strictly below the diagonal. -/
theorem run_mask (r s : Fin 64) : cmpi .sgt (valueRun.sl.v1 : IVec S64x64 32) (valueRun.sl.v2 : IVec S64x64 32) (ix2 r s) = BitVec.ofBool (decide (s < r)) := by
  unfold valueRun.sl.v1 valueRun.sl.v2
  pointwise
  exact sgt_lanes r s

/-- The key gradient's window ends at the spec's rows. -/
theorem valueRun_K (c : Dev nD) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole)
    (x0 : Vec Ideal S448 .f32) (x1 : Vec Ideal S448 .f32) (x2 : Vec Ideal S448 .f32) (x3 : Vec Ideal S1x4x896x128 .fp8e4m3) (x4 : Vec Ideal S1x4x896x128 .fp8e4m3) (x5 : Vec Ideal S1x4x896x256 .bf16) (x6 : Vec Ideal S1x4x896x256 .fp8e5m2) (x7 : Vec Ideal S1x1x896x4 .f32) (x8 : Vec Ideal S1x1x14x2x128 .f32) (x9 : Vec Ideal S1x1x896x4 .f32)
      {R : Fin 14 → RBlk} (H : InsB i x0 x1 x2 x3 x4 x6 x7 x8 x9 R)
      (hv : ∀ n h r c, x5 (ix4 0 h (row n r) c) = (((R n).v h r c : ℝ) : EReal))
    (f10 : arg12.view.ty.Contents (Elt Ideal)) (f11 : arg13.view.ty.Contents (Elt Ideal)) (f12 : arg14.view.ty.Contents (Elt Ideal)) (f13 : arg15.view.ty.Contents (Elt Ideal)) (f14 : arg16.view.ty.Contents (Elt Ideal)) (f17 : arg17.view.ty.Contents (Elt Ideal)) (f18 : arg18.view.ty.Contents (Elt Ideal)) (f19 : arg19.view.ty.Contents (Elt Ideal)) :
    arg13.view.read (Elt Ideal) (arg13.view.writes (Elt Ideal) f11 ((valueRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.1 f10 f11 f12 f13 f14 f17 f18 f19)) = EK R := by
  unfold valueRun
  dsimp only
  have hf := loopFQ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) H.toInsF hv f17 f18 f19
      (arg20.view.writes (Elt Ideal) arg20.view.junk valueRun.sl.HS3_1) (fun h r c => (read_wholeS _ _ _ _ _ _).trans (pay3_zero _)) (Scf.trips (0#32) (Scalar.addi 0#32 14#32) 1#32) (by decide +kernel)
  have hb := @loopBK Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) valueRun.sl.v1 valueRun.sl.v2
    x0 x1 x2 x3 x4 x6 x7 x8 x9 R H (harg7.unread x5)
    (arg17.view.writes (Elt Ideal) f17 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).1)
    (arg18.view.writes (Elt Ideal) f18 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.1)
    (arg19.view.writes (Elt Ideal) f19 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.2.1) ?_ f10 f11 f12 f13 f14
    (arg20.view.writes (Elt Ideal) arg20.view.junk (⟨Rect.unit (s := S4x128x256) ![0, 0, 0] S4x128x256.size inb_S4x128x256_S4x128x256_0_0_0, k0_pay3 (F := Ideal)⟩ :: ((pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.2.2 ++ valueRun.sl.HS3_1))) ?_ (fun y => ?_) (fun y => ?_) run_mask (Scf.trips (0#32) (Scalar.addi 0#32 14#32) 1#32) (by decide +kernel)
  · funext y
    exact Filled.read _ _ hb (by rw [show Scf.trips (0#32) (Scalar.addi 0#32 14#32) 1#32 = 14 by decide +kernel]; exact Nat.zero_le _)
  · intro n h r l
    have hf := loopF Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) H.toInsF (harg7.unread x5) f17 f18 f19
      (arg20.view.writes (Elt Ideal) arg20.view.junk valueRun.sl.HS3_1) (Scf.trips (0#32) (Scalar.addi 0#32 14#32) 1#32) (by decide +kernel)
    exact Filled.read arg19.view f19 (y := ix4 n h r l) hf (by rw [show Scf.trips (0#32) (Scalar.addi 0#32 14#32) 1#32 = 14 by decide +kernel]; exact n.isLt)
  · intro h r l
    exact (read_wholeS _ _ _ _ _ _).trans (pay3_zero _)
  · exact Filled.read arg17.view f17 hf.2.1 (by rw [show Scf.trips (0#32) (Scalar.addi 0#32 14#32) 1#32 = 14 by decide +kernel]; exact (y 0).isLt)
  · exact Filled.read arg18.view f18 hf.2.2 (by rw [show Scf.trips (0#32) (Scalar.addi 0#32 14#32) 1#32 = 14 by decide +kernel]; exact (y 0).isLt)

end Cert.KernelIdeal.Head
-- ==== Proof.Value.BlockB.lean ====
/- What the body leaves in the window of the gradient of the write strengths. -/
module

public import proofs.«01_k».proof.Proof.Value.BlockK
public import proofs.«01_k».proof.Proof.Value.LoopBB

@[expose] public section

set_option maxRecDepth 100000

noncomputable section

namespace Cert.KernelIdeal.Head

open Cert.KernelIdeal Cert.KernelIdeal.Gen Idealize.ShloMosaic Idealize.ShloMosaic.TcCoe Idealize.ShloMosaic.Tactic Idealize.SL.Sem

/-- The window of the gradient of the write strengths ends at the spec's rows. -/
theorem valueRun_B (c : Dev nD) (i : grid0.Coords) (arg2 : Memref sig .tc .smem S448 .f32) (harg2 : arg2.IsWhole) (arg3 : Memref sig .tc .smem S448 .f32) (harg3 : arg3.IsWhole) (arg4 : Memref sig .tc .smem S448 .f32) (harg4 : arg4.IsWhole) (arg5 : Memref sig .tc .vmem S1x4x896x128 .fp8e4m3) (harg5 : arg5.IsWhole) (arg6 : Memref sig .tc .vmem S1x4x896x128 .fp8e4m3) (harg6 : arg6.IsWhole) (arg7 : Memref sig .tc .vmem S1x4x896x256 .bf16) (harg7 : arg7.IsWhole) (arg8 : Memref sig .tc .vmem S1x4x896x256 .fp8e5m2) (harg8 : arg8.IsWhole) (arg9 : Memref sig .tc .vmem S1x1x896x4 .f32) (harg9 : arg9.IsWhole) (arg10 : Memref sig .tc .vmem S1x1x14x2x128 .f32) (harg10 : arg10.IsWhole) (arg11 : Memref sig .tc .vmem S1x1x896x4 .f32) (harg11 : arg11.IsWhole) (arg12 : Memref sig .tc .vmem S1x4x896x128 .bf16) (harg12 : arg12.IsWhole) (arg13 : Memref sig .tc .vmem S1x4x896x128 .bf16) (harg13 : arg13.IsWhole) (arg14 : Memref sig .tc .vmem S1x4x896x256 .bf16) (harg14 : arg14.IsWhole) (arg15 : Memref sig .tc .vmem S1x1x896x4 .f32) (harg15 : arg15.IsWhole) (arg16 : Memref sig .tc .vmem S1x1x896x4 .f32) (harg16 : arg16.IsWhole) (arg17 : Memref sig .tc .vmem S14x4x3x128x256 .bf16) (harg17 : arg17.IsWhole) (arg18 : Memref sig .tc .vmem S14x4x3x64x256 .bf16) (harg18 : arg18.IsWhole) (arg19 : Memref sig .tc .vmem S14x4x64x64 .f32) (harg19 : arg19.IsWhole) (arg20 : Memref sig .tc .vmem S4x128x256 .f32) (harg20 : arg20.IsWhole)
    (x0 : Vec Ideal S448 .f32) (x1 : Vec Ideal S448 .f32) (x2 : Vec Ideal S448 .f32) (x3 : Vec Ideal S1x4x896x128 .fp8e4m3) (x4 : Vec Ideal S1x4x896x128 .fp8e4m3) (x5 : Vec Ideal S1x4x896x256 .bf16) (x6 : Vec Ideal S1x4x896x256 .fp8e5m2) (x7 : Vec Ideal S1x1x896x4 .f32) (x8 : Vec Ideal S1x1x14x2x128 .f32) (x9 : Vec Ideal S1x1x896x4 .f32)
      {R : Fin 14 → RBlk} (H : InsB i x0 x1 x2 x3 x4 x6 x7 x8 x9 R)
      (hv : ∀ n h r c, x5 (ix4 0 h (row n r) c) = (((R n).v h r c : ℝ) : EReal))
    (f10 : arg12.view.ty.Contents (Elt Ideal)) (f11 : arg13.view.ty.Contents (Elt Ideal)) (f12 : arg14.view.ty.Contents (Elt Ideal)) (f13 : arg15.view.ty.Contents (Elt Ideal)) (f14 : arg16.view.ty.Contents (Elt Ideal)) (f17 : arg17.view.ty.Contents (Elt Ideal)) (f18 : arg18.view.ty.Contents (Elt Ideal)) (f19 : arg19.view.ty.Contents (Elt Ideal)) :
    arg16.view.read (Elt Ideal) (arg16.view.writes (Elt Ideal) f14 ((valueRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9).2.2.2.1 f10 f11 f12 f13 f14 f17 f18 f19)) = EB R := by
  unfold valueRun
  dsimp only
  have hf := loopFQ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) H.toInsF hv f17 f18 f19
      (arg20.view.writes (Elt Ideal) arg20.view.junk valueRun.sl.HS3_1) (fun h r c => (read_wholeS _ _ _ _ _ _).trans (pay3_zero _)) (Scf.trips (0#32) (Scalar.addi 0#32 14#32) 1#32) (by decide +kernel)
  have hb := @loopBB Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) valueRun.sl.v1 valueRun.sl.v2
    x0 x1 x2 x3 x4 x6 x7 x8 x9 R H x5 hv
    (arg17.view.writes (Elt Ideal) f17 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).1)
    (arg18.view.writes (Elt Ideal) f18 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.1)
    (arg19.view.writes (Elt Ideal) f19 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.2.1) ?_ f10 f11 f12 f13 f14
    (arg20.view.writes (Elt Ideal) arg20.view.junk (⟨Rect.unit (s := S4x128x256) ![0, 0, 0] S4x128x256.size inb_S4x128x256_S4x128x256_0_0_0, k0_pay3 (F := Ideal)⟩ :: ((pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) k0_pay519 valueRun.sl.v18 k0_pay522 k0_pay523 k0_pay524 (harg3.unread x1) (harg6.unread x4) (harg7.unread x5) (harg9.unread x7) (harg10.unread x8) (harg11.unread x9) f17 f18 f19 (arg20.view.writes (Elt Ideal) arg20.view.junk valueRun.sl.HS3_1) (Scf.trips (0#32) (Scalar.addi 0#32 14#32) 1#32)).2.2.2 ++ valueRun.sl.HS3_1))) ?_ (fun y => ?_) (fun y => ?_) run_mask (Scf.trips (0#32) (Scalar.addi 0#32 14#32) 1#32) (by decide +kernel)
  · funext y
    exact Filled.read _ _ hb (by rw [show Scf.trips (0#32) (Scalar.addi 0#32 14#32) 1#32 = 14 by decide +kernel]; exact Nat.zero_le _)
  · intro n h r l
    have hf := loopF Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 ↑(i 0)) (valueRun.sl.v0 i) H.toInsF (harg7.unread x5) f17 f18 f19
      (arg20.view.writes (Elt Ideal) arg20.view.junk valueRun.sl.HS3_1) (Scf.trips (0#32) (Scalar.addi 0#32 14#32) 1#32) (by decide +kernel)
    exact Filled.read arg19.view f19 (y := ix4 n h r l) hf (by rw [show Scf.trips (0#32) (Scalar.addi 0#32 14#32) 1#32 = 14 by decide +kernel]; exact n.isLt)
  · intro h r l
    exact (read_wholeS _ _ _ _ _ _).trans (pay3_zero _)
  · exact Filled.read arg17.view f17 hf.2.1 (by rw [show Scf.trips (0#32) (Scalar.addi 0#32 14#32) 1#32 = 14 by decide +kernel]; exact (y 0).isLt)
  · exact Filled.read arg18.view f18 hf.2.2 (by rw [show Scf.trips (0#32) (Scalar.addi 0#32 14#32) 1#32 = 14 by decide +kernel]; exact (y 0).isLt)

end Cert.KernelIdeal.Head
-- ==== Proof.Value.Frame.lean ====
/- The run of `KernelIdeal` over the extended reals, naming what the windows of the gradients of the queries, the keys, the values and the write strengths hold point by point. -/
module

public import proofs.«01_k».proof.Proof.FrameKernelIdeal.Frame
public import proofs.«01_k».proof.Proof.Value.BlockB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The window of the decays' gradient: nothing is claimed of what the kernel leaves in it. -/
def forgets0 : Fin 15 → Bool := fun w => w.val == 13

-- the chunks' numbers at each point
variable (R : Dev nD → Fin cfg0.N → Fin 14 → RBlk)

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => EQ (R c t)
    | ⟨11, _⟩ => EK (R c t)
    | ⟨12, _⟩ => EV (R c t)
    | ⟨13, h⟩ => Pipeline.Dat.unnamed (cfg := cfg0) ⟨13, h⟩ t
    | ⟨14, _⟩ => EB (R c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m R 0 c).A w = V m c (Pipeline.arrRef spec0 w) := by
  dsimp only [dats]

/-- What the body leaves, window by window (the proof data's `match` reduced by `dsimp`). -/
theorem after0_0 (c : Dev nD) (t : Fin cfg0.N) : (dats m R 0 c).after 0 t = iblk m c 0 t := by dsimp only [dats]
theorem after0_1 (c : Dev nD) (t : Fin cfg0.N) : (dats m R 0 c).after 1 t = iblk m c 1 t := by dsimp only [dats]
theorem after0_2 (c : Dev nD) (t : Fin cfg0.N) : (dats m R 0 c).after 2 t = iblk m c 2 t := by dsimp only [dats]
theorem after0_3 (c : Dev nD) (t : Fin cfg0.N) : (dats m R 0 c).after 3 t = iblk m c 3 t := by dsimp only [dats]
theorem after0_4 (c : Dev nD) (t : Fin cfg0.N) : (dats m R 0 c).after 4 t = iblk m c 4 t := by dsimp only [dats]
theorem after0_5 (c : Dev nD) (t : Fin cfg0.N) : (dats m R 0 c).after 5 t = iblk m c 5 t := by dsimp only [dats]
theorem after0_6 (c : Dev nD) (t : Fin cfg0.N) : (dats m R 0 c).after 6 t = iblk m c 6 t := by dsimp only [dats]
theorem after0_7 (c : Dev nD) (t : Fin cfg0.N) : (dats m R 0 c).after 7 t = iblk m c 7 t := by dsimp only [dats]
theorem after0_8 (c : Dev nD) (t : Fin cfg0.N) : (dats m R 0 c).after 8 t = iblk m c 8 t := by dsimp only [dats]
theorem after0_9 (c : Dev nD) (t : Fin cfg0.N) : (dats m R 0 c).after 9 t = iblk m c 9 t := by dsimp only [dats]

theorem after0_10 (c : Dev nD) (t : Fin cfg0.N) : (dats m R 0 c).after 10 t = EQ (R c t) := by dsimp only [dats]
theorem after0_11 (c : Dev nD) (t : Fin cfg0.N) : (dats m R 0 c).after 11 t = EK (R c t) := by dsimp only [dats]
theorem after0_12 (c : Dev nD) (t : Fin cfg0.N) : (dats m R 0 c).after 12 t = EV (R c t) := by dsimp only [dats]
theorem after0_14 (c : Dev nD) (t : Fin cfg0.N) : (dats m R 0 c).after 14 t = EB (R c t) := by dsimp only [dats]

/-- Each input's current staging buffer holds its block at every point, fetched there or not (`beforeK_W_of`). -/
theorem before0_0 (c : Dev nD) (t : Fin cfg0.N) (d) : (dats m R 0 c).before 0 t d = iblk m c 0 t :=
  before0_0_of m (dats m R 0 c) (A_eq m R c 0) (after0_0 m R c) t d
theorem before0_1 (c : Dev nD) (t : Fin cfg0.N) (d) : (dats m R 0 c).before 1 t d = iblk m c 1 t :=
  before0_1_of m (dats m R 0 c) (A_eq m R c 1) (after0_1 m R c) t d
theorem before0_2 (c : Dev nD) (t : Fin cfg0.N) (d) : (dats m R 0 c).before 2 t d = iblk m c 2 t :=
  before0_2_of m (dats m R 0 c) (A_eq m R c 2) (after0_2 m R c) t d
theorem before0_3 (c : Dev nD) (t : Fin cfg0.N) (d) : (dats m R 0 c).before 3 t d = iblk m c 3 t :=
  before0_3_of m (dats m R 0 c) (A_eq m R c 3) (after0_3 m R c) t d
theorem before0_4 (c : Dev nD) (t : Fin cfg0.N) (d) : (dats m R 0 c).before 4 t d = iblk m c 4 t :=
  before0_4_of m (dats m R 0 c) (A_eq m R c 4) (after0_4 m R c) t d
theorem before0_5 (c : Dev nD) (t : Fin cfg0.N) (d) : (dats m R 0 c).before 5 t d = iblk m c 5 t :=
  before0_5_of m (dats m R 0 c) (A_eq m R c 5) (after0_5 m R c) t d
theorem before0_6 (c : Dev nD) (t : Fin cfg0.N) (d) : (dats m R 0 c).before 6 t d = iblk m c 6 t :=
  before0_6_of m (dats m R 0 c) (A_eq m R c 6) (after0_6 m R c) t d
theorem before0_7 (c : Dev nD) (t : Fin cfg0.N) (d) : (dats m R 0 c).before 7 t d = iblk m c 7 t :=
  before0_7_of m (dats m R 0 c) (A_eq m R c 7) (after0_7 m R c) t d
theorem before0_8 (c : Dev nD) (t : Fin cfg0.N) (d) : (dats m R 0 c).before 8 t d = iblk m c 8 t :=
  before0_8_of m (dats m R 0 c) (A_eq m R c 8) (after0_8 m R c) t d
theorem before0_9 (c : Dev nD) (t : Fin cfg0.N) (d) : (dats m R 0 c).before 9 t d = iblk m c 9 t :=
  before0_9_of m (dats m R 0 c) (A_eq m R c 9) (after0_9 m R c) t d

/-! ## The body obligation, at a generic point -/

/-- What the body is called with at point `t` (Lib/Pipeline.lean `BodyObligation`'s precondition, the windows one by one), -/
def bodyPre (c : Dev nD) (t : Fin cfg0.N) : sProp 𝕄 :=
  iprop((dats m R 0 c).Φ t.castSucc ∗ (dats m R 0 c).owesAt () t.castSucc
    ∗ (∃ d, owns (c : Thread nD τ) (ms0_0 t) fullShare ((dats m R 0 c).before 0 t d))
    ∗ (∃ d, owns (c : Thread nD τ) (ms0_1 t) fullShare ((dats m R 0 c).before 1 t d))
    ∗ (∃ d, owns (c : Thread nD τ) (ms0_2 t) fullShare ((dats m R 0 c).before 2 t d))
    ∗ (∃ d, owns (c : Thread nD τ) (ms0_3 t) fullShare ((dats m R 0 c).before 3 t d))
    ∗ (∃ d, owns (c : Thread nD τ) (ms0_4 t) fullShare ((dats m R 0 c).before 4 t d))
    ∗ (∃ d, owns (c : Thread nD τ) (ms0_5 t) fullShare ((dats m R 0 c).before 5 t d))
    ∗ (∃ d, owns (c : Thread nD τ) (ms0_6 t) fullShare ((dats m R 0 c).before 6 t d))
    ∗ (∃ d, owns (c : Thread nD τ) (ms0_7 t) fullShare ((dats m R 0 c).before 7 t d))
    ∗ (∃ d, owns (c : Thread nD τ) (ms0_8 t) fullShare ((dats m R 0 c).before 8 t d))
    ∗ (∃ d, owns (c : Thread nD τ) (ms0_9 t) fullShare ((dats m R 0 c).before 9 t d))
    ∗ (∃ d, owns (c : Thread nD τ) (ms0_10 t) fullShare ((dats m R 0 c).before 10 t d))
    ∗ (∃ d, owns (c : Thread nD τ) (ms0_11 t) fullShare ((dats m R 0 c).before 11 t d))
    ∗ (∃ d, owns (c : Thread nD τ) (ms0_12 t) fullShare ((dats m R 0 c).before 12 t d))
    ∗ (∃ d, owns (c : Thread nD τ) (ms0_13 t) fullShare d)
    ∗ (∃ d, owns (c : Thread nD τ) (ms0_14 t) fullShare ((dats m R 0 c).before 14 t d)))

/-- and what it returns. -/
def bodyPost (c : Dev nD) (t : Fin cfg0.N) : sProp 𝕄 :=
  iprop((dats m R 0 c).Φ t.succ ∗ (dats m R 0 c).owesAt () t.succ
    ∗ owns (c : Thread nD τ) (ms0_0 t) fullShare ((dats m R 0 c).after 0 t)
    ∗ owns (c : Thread nD τ) (ms0_1 t) fullShare ((dats m R 0 c).after 1 t)
    ∗ owns (c : Thread nD τ) (ms0_2 t) fullShare ((dats m R 0 c).after 2 t)
    ∗ owns (c : Thread nD τ) (ms0_3 t) fullShare ((dats m R 0 c).after 3 t)
    ∗ owns (c : Thread nD τ) (ms0_4 t) fullShare ((dats m R 0 c).after 4 t)
    ∗ owns (c : Thread nD τ) (ms0_5 t) fullShare ((dats m R 0 c).after 5 t)
    ∗ owns (c : Thread nD τ) (ms0_6 t) fullShare ((dats m R 0 c).after 6 t)
    ∗ owns (c : Thread nD τ) (ms0_7 t) fullShare ((dats m R 0 c).after 7 t)
    ∗ owns (c : Thread nD τ) (ms0_8 t) fullShare ((dats m R 0 c).after 8 t)
    ∗ owns (c : Thread nD τ) (ms0_9 t) fullShare ((dats m R 0 c).after 9 t)
    ∗ owns (c : Thread nD τ) (ms0_10 t) fullShare ((dats m R 0 c).after 10 t)
    ∗ owns (c : Thread nD τ) (ms0_11 t) fullShare ((dats m R 0 c).after 11 t)
    ∗ owns (c : Thread nD τ) (ms0_12 t) fullShare ((dats m R 0 c).after 12 t)
    ∗ (∃ d, owns (c : Thread nD τ) (ms0_13 t) fullShare d)
    ∗ owns (c : Thread nD τ) (ms0_14 t) fullShare ((dats m R 0 c).after 14 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hR : ∀ c t, InsB (grid0.coords t) (iblk m c 0 t) (iblk m c 1 t) (iblk m c 2 t) (iblk m c 3 t) (iblk m c 4 t) (iblk m c 6 t) (iblk m c 7 t) (iblk m c 8 t) (iblk m c 9 t) (R c t)) (hX : ∀ c t n h r j, (iblk m c 5 t : Vec Ideal S1x4x896x256 .bf16) (ix4 0 h (row n r) j) = (((R c t n).v h r j : ℝ) : EReal)) (c : Dev nD) (t : Fin cfg0.N) :
    bodyPre m R c t ⊢ wp frame (wpE (defs₀ (F := Ideal)) Variants.none c none) Set.univ (bodyAt0 t) (fun _ => bodyPost m R c t) := by
  unfold bodyPre bodyPost bodyAt0
  simp only [before0_0, before0_1, before0_2, before0_3, before0_4, before0_5, before0_6, before0_7, before0_8, before0_9]
  rw [show (dats m R 0 c).Φ t.succ = (dats m R 0 c).Φ t.castSucc from rfl,
    show (dats m R 0 c).owesAt () t.succ = (dats m R 0 c).owesAt () t.castSucc from rfl,
    after0_0, after0_1, after0_2, after0_3, after0_4, after0_5, after0_6, after0_7, after0_8, after0_9, after0_10, after0_11, after0_12, after0_14]
  rw [show (dats m R 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((valueRun (F := Ideal) c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iintro ⟨H0, H1, H2, H3, H4, H5, H6, H7, H8, H9, ⟨%e10, %e11, %e12, %e13, %e14, %e17, %e18, %e19, H10, H11, H12, H14⟩, H13, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; · iexact H10
    ipureintro; exact valueRun_Q c (grid0.coords t) _ _ _ _ _ _ _ _ _ _ _ _ _ _ _ _ _ _ _ _ _ _ _ _ _ _ _ _ _ _ _ _ _ _ _ _ _ _ _ _ _ _ _ _ _ _ _ _ (hR c t) (hX c t) _ _ _ _ _ _ _ _
  isplitl [H11]
  · unfold owns; iexists _; isplitr; swap; · iexact H11
    ipureintro; exact valueRun_K c (grid0.coords t) _ _ _ _ _ _ _ _ _ _ _ _ _ _ _ _ _ _ _ _ _ _ _ _ _ _ _ _ _ _ _ _ _ _ _ _ _ _ _ _ _ _ _ _ _ _ _ _ (hR c t) (hX c t) _ _ _ _ _ _ _ _
  isplitl [H12]
  · unfold owns; iexists _; isplitr; swap; · iexact H12
    ipureintro; exact valueRun_V c (grid0.coords t) _ _ _ _ _ _ _ _ _ _ _ _ _ _ _ _ _ _ _ _ _ _ _ _ _ _ _ _ _ _ _ _ _ _ _ _ _ _ _ _ _ _ _ _ _ _ _ _ (hR c t) _ _ _ _ _ _ _ _
  isplitl [H13]; · iexact H13
  unfold owns; iexists _; isplitr; swap; · iexact H14
  ipureintro; exact valueRun_B c (grid0.coords t) _ _ _ _ _ _ _ _ _ _ _ _ _ _ _ _ _ _ _ _ _ _ _ _ _ _ _ _ _ _ _ _ _ _ _ _ _ _ _ _ _ _ _ _ _ _ _ _ (hR c t) (hX c t) _ _ _ _ _ _ _ _

/-- The library's body obligation, at every point: the body's triple restated (Lib/Pipeline/FrameBody.lean `triple_restated`). -/
theorem body_obligation (hR : ∀ c t, InsB (grid0.coords t) (iblk m c 0 t) (iblk m c 1 t) (iblk m c 2 t) (iblk m c 3 t) (iblk m c 4 t) (iblk m c 6 t) (iblk m c 7 t) (iblk m c 8 t) (iblk m c 9 t) (R c t)) (hX : ∀ c t n h r j, (iblk m c 5 t : Vec Ideal S1x4x896x256 .bf16) (ix4 0 h (row n r) j) = (((R c t n).v h r j : ℝ) : EReal)) (c : Dev nD) : BodyObligation (dats m R 0 c) (defs₀ (F := Ideal)) Variants.none () Set.univ forgets0 := fun t => by
  rw [bigSep_W0, bigSep_W0, defs₀_row]
  exact triple_restated (sound_body m R hR hX c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hR : ∀ c t, InsB (grid0.coords t) (iblk m c 0 t) (iblk m c 1 t) (iblk m c 2 t) (iblk m c 3 t) (iblk m c 4 t) (iblk m c 6 t) (iblk m c 7 t) (iblk m c 8 t) (iblk m c 9 t) (R c t)) (hX : ∀ c t n h r j, (iblk m c 5 t : Vec Ideal S1x4x896x256 .bf16) (ix4 0 h (row n r) j) = (((R c t n).v h r j : ℝ) : EReal)) : θ_run defs (onTc (τ := τ) (main (F := Ideal))) (s₀ m ρ) (fun r => (Pipeline.RDat.FramePost (cfgs 0) (fun c => (dats m R 0 c).toRForget forgets0) (V m)) r ∧ r.2.sem = fun _ => 0) :=
  Pipeline.θ_run_frame_forget (Q' := _) cfgs (dats m R) (0 : Fin 1) launch0 defs₀ Variants.none forgets0 m ρ main
    (hbody := fun c => (body_obligation m R hR hX c).loose) (hshare := fun c => (dats m R 0 c).share_full fun _ => rfl)
    (howed := fun _ _ => rfl) (V := V m) (hmain := hmain m Variants.none) (hA := A_eq m R) (hΦ := fun _ _ => rfl)

/-- At the compiled mesh, for any values, from any memory with zero counters: every weakly fair execution of @main on the
    TensorCores terminates, and every final state has every INPUT array of the pipeline unchanged, nothing stated of the
    FORGOTTEN output (window 13) (Lib/Pipeline/Frame.lean `RDat.FramePost` over the proof data with those windows
    forgotten, Dat.lean `Dat.toRForget`), and every other unscoped buffer at its region-entry contents. -/
theorem run_main (hR : ∀ c t, InsB (grid0.coords t) (iblk m c 0 t) (iblk m c 1 t) (iblk m c 2 t) (iblk m c 3 t) (iblk m c 4 t) (iblk m c 6 t) (iblk m c 7 t) (iblk m c 8 t) (iblk m c 9 t) (R c t)) (hX : ∀ c t n h r j, (iblk m c 5 t : Vec Ideal S1x4x896x256 .bf16) (ix4 0 h (row n r) j) = (((R c t n).v h r j : ℝ) : EReal)) : θ_run defs (onTc (τ := τ) (main (F := Ideal))) (s₀ m ρ) (Pipeline.RDat.FramePost (cfgs 0) (fun c => (dats m R 0 c).toRForget forgets0) (V m)) :=
  (θ_run defs _ _).mono (fun _ h => h.1) (run_main_quiescent m ρ R hR hX)

/-- The arrays of the gradients of the queries, the keys, the values and the write strengths end at the blocks' write-backs. -/
theorem run_grads (hR : ∀ c t, InsB (grid0.coords t) (iblk m c 0 t) (iblk m c 1 t) (iblk m c 2 t) (iblk m c 3 t) (iblk m c 4 t) (iblk m c 6 t) (iblk m c 7 t) (iblk m c 8 t) (iblk m c 9 t) (R c t)) (hX : ∀ c t n h r j, (iblk m c 5 t : Vec Ideal S1x4x896x256 .bf16) (ix4 0 h (row n r) j) = (((R c t n).v h r j : ℝ) : EReal)) :
    θ_run defs (onTc (τ := τ) (main (F := Ideal))) (s₀ m ρ) (fun r => ∀ c : Dev nD,
      r.2.mem ((c.tc : Thread nD τ).loc main_v17_0) = (dats m R 0 c).arrAt 10 cfg0.N
      ∧ r.2.mem ((c.tc : Thread nD τ).loc main_v17_1) = (dats m R 0 c).arrAt 11 cfg0.N
      ∧ r.2.mem ((c.tc : Thread nD τ).loc main_v17_2) = (dats m R 0 c).arrAt 12 cfg0.N
      ∧ r.2.mem ((c.tc : Thread nD τ).loc main_v17_4) = (dats m R 0 c).arrAt 14 cfg0.N) :=
  (θ_run defs _ _).mono (fun _ h c => ⟨((dats m R 0 c).toRForget_arrAt_iff (fgt := forgets0) (w := 10) rfl _ _).1 ((h c).1 10), ((dats m R 0 c).toRForget_arrAt_iff (fgt := forgets0) (w := 11) rfl _ _).1 ((h c).1 11), ((dats m R 0 c).toRForget_arrAt_iff (fgt := forgets0) (w := 12) rfl _ _).1 ((h c).1 12), ((dats m R 0 c).toRForget_arrAt_iff (fgt := forgets0) (w := 14) rfl _ _).1 ((h c).1 14)⟩) (run_main m ρ R hR hX)

end Cert.KernelIdeal.Val

end
-- ==== Proof.Value.Host.lean ====
/- The kernel's windows hold the arguments' numbers, and the run's query, key and value gradients. -/
module

public import proofs.«01_k».proof.Proof.Value.Spec
public import proofs.«01_k».proof.Proof.Value.Frame
public import Idealize.ShloMosaic.Lib.Pipeline.ValueKit.Point

@[expose] public section

noncomputable section

namespace Cert.KernelIdeal.Val

open Cert.KernelIdeal Cert.KernelIdeal.Gen Cert.KernelIdeal.Head Idealize.ShloMosaic Idealize.ShloMosaic.TcCoe Idealize.ShloMosaic.Tactic Idealize.SL.Sem

variable (m : (ℓ : Loc nD τ sig) → Buf (Elt Ideal) ℓ) (ρ : Dev nD → PrngReg)

abbrev HArgs (c : Dev nD) (A : RArgs) : Prop :=
  IsArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) A

theorem idx : ∀ t : Fin cfg0.N, win0_0.index t = ![0] ∧ win0_1.index t = ![0] ∧ win0_2.index t = ![0]
    ∧ win0_3.index t = ![(grid0.coords t 0).val, (grid0.coords t 1).val, 0, 0] ∧ win0_4.index t = ![(grid0.coords t 0).val, (grid0.coords t 1).val, 0, 0]
    ∧ win0_5.index t = ![(grid0.coords t 0).val, (grid0.coords t 1).val, 0, 0]
    ∧ win0_6.index t = ![(grid0.coords t 0).val, (grid0.coords t 1).val, 0, 0] ∧ win0_7.index t = ![(grid0.coords t 0).val, (grid0.coords t 1).val, 0, 0]
    ∧ win0_8.index t = ![(grid0.coords t 0).val, (grid0.coords t 1).val, 0, 0, 0] ∧ win0_9.index t = ![(grid0.coords t 0).val, (grid0.coords t 1).val, 0, 0]
    ∧ win0_10.index t = ![(grid0.coords t 0).val, (grid0.coords t 1).val, 0, 0]
    ∧ win0_11.index t = ![(grid0.coords t 0).val, (grid0.coords t 1).val, 0, 0]
    ∧ win0_12.index t = ![(grid0.coords t 0).val, (grid0.coords t 1).val, 0, 0]
    ∧ win0_14.index t = ![(grid0.coords t 0).val, (grid0.coords t 1).val, 0, 0] :=
  (by decide +kernel : ∀ t : Fin grid0.N, _)

variable (c : Dev nD) (t : Fin cfg0.N)

theorem rd3 (h : Fin 4) (p : Fin 896) (j : Fin 128) : iblk m c 3 t (ix4 0 h p j)
    = (bitcastToFloat .fp8e4m3 (m ((c.tc : Thread nD τ).loc main_arg0)) : FVec Ideal S2x896x16x128 .fp8e4m3) (ix4 (grid0.coords t 0) p (hd (grid0.coords t 1) h) j) := by
  blk_simp [iblk]
  entry_read
  pointwise
  refine congrArg _ (congrArg _ ?_)
  blk_ext [idx t, hd]

theorem rd0 (n : Fin 14) (h : Fin 4) : iblk m c 0 t (ix1 (scIx (grid0.coords t) n h))
    = m ((c.tc : Thread nD τ).loc main_arg1) (ix3 (grid0.coords t 0) n (hd (grid0.coords t 1) h)) := by
  blk_simp [iblk]
  entry_read
  pointwise
  refine congrArg _ ?_
  have h0 : (grid0.coords t 0).val < 2 := (grid0.coords t 0).isLt
  have h1 : (grid0.coords t 1).val < 4 := (grid0.coords t 1).isLt
  blk_ext [idx t, hd, scIx]

theorem rd7 (h : Fin 4) (p : Fin 896) : iblk m c 7 t (ix4 0 0 p h)
    = m ((c.tc : Thread nD τ).loc main_arg5) (ix3 (grid0.coords t 0) p (hd (grid0.coords t 1) h)) := by
  blk_simp [iblk]
  entry_read
  pointwise
  refine congrArg _ ?_
  blk_ext [idx t, hd]

theorem laneHead_val (p : Fin 2) (l : Fin 128) : (laneHead p l).val = 2 * p.val + l.val / 64 := by
  revert p l; decide +kernel

theorem rd8 (n : Fin 14) (p : Fin 2) (l : Fin 128) : iblk m c 8 t (ix5 0 0 n p l)
    = m ((c.tc : Thread nD τ).loc main_arg5) (ix3 (grid0.coords t 0) (row n (laneRow l)) (hd (grid0.coords t 1) (laneHead p l))) := by
  blk_simp [iblk]
  entry_read
  pointwise
  refine congrArg _ ?_
  blk_ext [idx t, hd, row, laneRow, laneHead_val]

theorem rd4 (h : Fin 4) (p : Fin 896) (j : Fin 128) : iblk m c 4 t (ix4 0 h p j)
    = (bitcastToFloat .fp8e4m3 (m ((c.tc : Thread nD τ).loc main_arg2)) : FVec Ideal S2x896x16x128 .fp8e4m3) (ix4 (grid0.coords t 0) p (hd (grid0.coords t 1) h) j) := by
  blk_simp [iblk]
  entry_read
  pointwise
  refine congrArg _ (congrArg _ ?_)
  blk_ext [idx t, hd]

theorem rd6 (h : Fin 4) (p : Fin 896) (j : Fin 256) : iblk m c 6 t (ix4 0 h p j)
    = (bitcastToFloat .fp8e5m2 (m ((c.tc : Thread nD τ).loc main_arg7)) : FVec Ideal S2x896x16x256 .fp8e5m2) (ix4 (grid0.coords t 0) p (hd (grid0.coords t 1) h) j) := by
  blk_simp [iblk]
  entry_read
  pointwise
  refine congrArg _ (congrArg _ ?_)
  blk_ext [idx t, hd]

theorem rd5 (h : Fin 4) (p : Fin 896) (j : Fin 256) : iblk m c 5 t (ix4 0 h p j)
    = (m ((c.tc : Thread nD τ).loc main_arg4) : Vec Ideal S2x896x16x256 .bf16) (ix4 (grid0.coords t 0) p (hd (grid0.coords t 1) h) j) := by
  blk_simp [iblk]
  entry_read
  pointwise
  refine congrArg _ ?_
  blk_ext [idx t, hd]

theorem rd1 (n : Fin 14) (h : Fin 4) : iblk m c 1 t (ix1 (scIx (grid0.coords t) n h))
    = m ((c.tc : Thread nD τ).loc main_arg3) (ix3 (grid0.coords t 0) n (hd (grid0.coords t 1) h)) := by
  blk_simp [iblk]
  entry_read
  pointwise
  refine congrArg _ ?_
  have h0 : (grid0.coords t 0).val < 2 := (grid0.coords t 0).isLt
  have h1 : (grid0.coords t 1).val < 4 := (grid0.coords t 1).isLt
  blk_ext [idx t, hd, scIx]

theorem rd2 (n : Fin 14) (h : Fin 4) : iblk m c 2 t (ix1 (scIx (grid0.coords t) n h))
    = m ((c.tc : Thread nD τ).loc main_arg8) (ix3 (grid0.coords t 0) n (hd (grid0.coords t 1) h)) := by
  blk_simp [iblk]
  entry_read
  pointwise
  refine congrArg _ ?_
  have h0 : (grid0.coords t 0).val < 2 := (grid0.coords t 0).isLt
  have h1 : (grid0.coords t 1).val < 4 := (grid0.coords t 1).isLt
  blk_ext [idx t, hd, scIx]

theorem rd9 (h : Fin 4) (p : Fin 896) : iblk m c 9 t (ix4 0 0 p h)
    = m ((c.tc : Thread nD τ).loc main_arg6) (ix3 (grid0.coords t 0) p (hd (grid0.coords t 1) h)) := by
  blk_simp [iblk]
  entry_read
  pointwise
  refine congrArg _ ?_
  blk_ext [idx t, hd]

/-- The windows hold the numbers of the point's batch and group of heads. -/
theorem insB {A : RArgs} (H : HArgs m c A) : InsB (grid0.coords t) (iblk m c 0 t) (iblk m c 1 t) (iblk m c 2 t) (iblk m c 3 t) (iblk m c 4 t) (iblk m c 6 t)
    (iblk m c 7 t) (iblk m c 8 t) (iblk m c 9 t) (A.blk (grid0.coords t 0) (grid0.coords t 1)) where
  al n r h := (congrArg Ideal.log (rd7 m c t h (row n r))).trans (H.la _ _ _)
  alr n p l := (congrArg Ideal.log (rd8 m c t n p l)).trans (H.la _ _ _)
  be n r h := (rd9 m c t h (row n r)).trans (H.be _ _ _)
  k n h r j := (rd4 m c t h (row n r) j).trans (H.k _ _ _ _)
  sk n h := (rd1 m c t n h).trans (H.sk _ _ _)
  q n h r j := (rd3 m c t h (row n r) j).trans (H.q _ _ _ _)
  sq n h := (rd0 m c t n h).trans (H.sq _ _ _)
  d n h r j := (rd6 m c t h (row n r) j).trans (H.d _ _ _ _)
  ds n h := (rd2 m c t n h).trans (H.sd _ _ _)

/-- The values' window holds the values. -/
theorem insV {A : RArgs} (H : HArgs m c A) (n : Fin 14) (h : Fin 4) (r : Fin 64) (j : Fin 256) : (iblk m c 5 t : Vec Ideal S1x4x896x256 .bf16) (ix4 0 h (row n r) j)
    = (((A.blk (grid0.coords t 0) (grid0.coords t 1) n).v h r j : ℝ) : EReal) := (rd5 m c t h (row n r) j).trans (H.v _ _ _ _)

theorem spec_blk (A : RArgs) (b : Fin 2) (g : Fin 4) (y : S1x4x896x256.Idx) (z : S2x16x896x256.Idx) (h0 : (z 0).val = b.val) (h1 : (z 1).val = 4 * g.val + (y 1).val)
    (h2 : (z 2).val = (y 2).val) (h3 : (z 3).val = (y 3).val) : EV (A.blk b g) y = DvSpec A z := by
  have ey : y 2 = row ⟨(y 2).val / 64, by have : (y 2).val < 896 := (y 2).isLt; omega⟩ ⟨(y 2).val % 64, by omega⟩ := Fin.ext (by simp only [row]; omega)
  have e1 : y = ix4 0 (y 1) (row ⟨(y 2).val / 64, by have : (y 2).val < 896 := (y 2).isLt; omega⟩ ⟨(y 2).val % 64, by omega⟩) (y 3) := by
    rw [← ey]
    funext a; fin_cases a <;> first | rfl | exact Subsingleton.elim (α := Fin 1) _ _
  have e2 : z = ix4 b (hd g (y 1)) (row ⟨(y 2).val / 64, by have : (y 2).val < 896 := (y 2).isLt; omega⟩ ⟨(y 2).val % 64, by omega⟩) (y 3) := by
    rw [← ey]
    funext a; fin_cases a
    · exact Fin.ext h0
    · exact Fin.ext h1
    · exact Fin.ext h2
    · exact Fin.ext h3
  exact (congrArg (EV _) e1).trans ((EV_row _ _ _ _ _).trans ((DvSpec_row A b g (y 1) _ _ (y 3)).symm.trans (congrArg (DvSpec A) e2).symm))

/-- The value gradient's array after the last point. -/
theorem final_dv (A : Dev nD → RArgs) :
    (dats m (fun c t => (A c).blk (grid0.coords t 0) (grid0.coords t 1)) 0 c).arrAt 12 cfg0.N = DvSpec (A c) := by
  refine Pipeline.Dat.arrAt_eq_of_covers _ 12 _ (by decide +kernel) fun t hf y => ?_
  blk_simp
  rw [after0_12]
  have h0 : (y 0).val < 1 := (y 0).isLt
  refine spec_blk (A c) _ _ y _ ?_ ?_ ?_ ?_
  · blk_simp [idx t]
  · blk_simp [idx t]; omega
  · blk_simp [idx t]
  · blk_simp [idx t]

theorem spec_blkQ (A : RArgs) (b : Fin 2) (g : Fin 4) (y : S1x4x896x128.Idx) (z : S2x16x896x128.Idx) (h0 : (z 0).val = b.val) (h1 : (z 1).val = 4 * g.val + (y 1).val)
    (h2 : (z 2).val = (y 2).val) (h3 : (z 3).val = (y 3).val) : EQ (A.blk b g) y = DqSpec A z := by
  have ey : y 2 = row ⟨(y 2).val / 64, by have : (y 2).val < 896 := (y 2).isLt; omega⟩ ⟨(y 2).val % 64, by omega⟩ := Fin.ext (by simp only [row]; omega)
  have e1 : y = ix4 0 (y 1) (row ⟨(y 2).val / 64, by have : (y 2).val < 896 := (y 2).isLt; omega⟩ ⟨(y 2).val % 64, by omega⟩) (y 3) := by
    rw [← ey]
    funext a; fin_cases a <;> first | rfl | exact Subsingleton.elim (α := Fin 1) _ _
  have e2 : z = ix4 b (hd g (y 1)) (row ⟨(y 2).val / 64, by have : (y 2).val < 896 := (y 2).isLt; omega⟩ ⟨(y 2).val % 64, by omega⟩) (y 3) := by
    rw [← ey]
    funext a; fin_cases a
    · exact Fin.ext h0
    · exact Fin.ext h1
    · exact Fin.ext h2
    · exact Fin.ext h3
  exact (congrArg (EQ _) e1).trans ((EQ_row _ _ _ _ _).trans ((DqSpec_row A b g (y 1) _ _ (y 3)).symm.trans (congrArg (DqSpec A) e2).symm))

/-- The query gradient's array after the last point. -/
theorem final_dq (A : Dev nD → RArgs) :
    (dats m (fun c t => (A c).blk (grid0.coords t 0) (grid0.coords t 1)) 0 c).arrAt 10 cfg0.N = DqSpec (A c) := by
  refine Pipeline.Dat.arrAt_eq_of_covers _ 10 _ (by decide +kernel) fun t hf y => ?_
  blk_simp
  rw [after0_10]
  have h0 : (y 0).val < 1 := (y 0).isLt
  refine spec_blkQ (A c) _ _ y _ ?_ ?_ ?_ ?_
  · blk_simp [idx t]
  · blk_simp [idx t]; omega
  · blk_simp [idx t]
  · blk_simp [idx t]

theorem spec_blkK (A : RArgs) (b : Fin 2) (g : Fin 4) (y : S1x4x896x128.Idx) (z : S2x16x896x128.Idx) (h0 : (z 0).val = b.val) (h1 : (z 1).val = 4 * g.val + (y 1).val)
    (h2 : (z 2).val = (y 2).val) (h3 : (z 3).val = (y 3).val) : EK (A.blk b g) y = DkSpec A z := by
  have ey : y 2 = row ⟨(y 2).val / 64, by have : (y 2).val < 896 := (y 2).isLt; omega⟩ ⟨(y 2).val % 64, by omega⟩ := Fin.ext (by simp only [row]; omega)
  have e1 : y = ix4 0 (y 1) (row ⟨(y 2).val / 64, by have : (y 2).val < 896 := (y 2).isLt; omega⟩ ⟨(y 2).val % 64, by omega⟩) (y 3) := by
    rw [← ey]
    funext a; fin_cases a <;> first | rfl | exact Subsingleton.elim (α := Fin 1) _ _
  have e2 : z = ix4 b (hd g (y 1)) (row ⟨(y 2).val / 64, by have : (y 2).val < 896 := (y 2).isLt; omega⟩ ⟨(y 2).val % 64, by omega⟩) (y 3) := by
    rw [← ey]
    funext a; fin_cases a
    · exact Fin.ext h0
    · exact Fin.ext h1
    · exact Fin.ext h2
    · exact Fin.ext h3
  exact (congrArg (EK _) e1).trans ((EK_row _ _ _ _ _).trans ((DkSpec_row A b g (y 1) _ _ (y 3)).symm.trans (congrArg (DkSpec A) e2).symm))

/-- The key gradient's array after the last point. -/
theorem final_dk (A : Dev nD → RArgs) :
    (dats m (fun c t => (A c).blk (grid0.coords t 0) (grid0.coords t 1)) 0 c).arrAt 11 cfg0.N = DkSpec (A c) := by
  refine Pipeline.Dat.arrAt_eq_of_covers _ 11 _ (by decide +kernel) fun t hf y => ?_
  blk_simp
  rw [after0_11]
  have h0 : (y 0).val < 1 := (y 0).isLt
  refine spec_blkK (A c) _ _ y _ ?_ ?_ ?_ ?_
  · blk_simp [idx t]
  · blk_simp [idx t]; omega
  · blk_simp [idx t]
  · blk_simp [idx t]

theorem spec_blkB (A : RArgs) (b : Fin 2) (g : Fin 4) (y : S1x1x896x4.Idx) (z : S2x4x896x4.Idx) (h0 : (z 0).val = b.val) (h1 : (z 1).val = g.val)
    (h2 : (z 2).val = (y 2).val) (h3 : (z 3).val = (y 3).val) : EB (A.blk b g) y = DbSpec A z := by
  have e1 : y = ix4 0 0 (y 2) (y 3) := by
    funext a; fin_cases a <;> first | rfl | exact Subsingleton.elim (α := Fin 1) _ _
  have e2 : z = ix4 b g (y 2) (y 3) := by
    funext a; fin_cases a
    · exact Fin.ext h0
    · exact Fin.ext h1
    · exact Fin.ext h2
    · exact Fin.ext h3
  exact (congrArg (EB _) e1).trans (congrArg (DbSpec A) e2).symm

/-- The array of the gradient of the write strengths after the last point. -/
theorem final_db (A : Dev nD → RArgs) :
    (dats m (fun c t => (A c).blk (grid0.coords t 0) (grid0.coords t 1)) 0 c).arrAt 14 cfg0.N = DbSpec (A c) := by
  refine Pipeline.Dat.arrAt_eq_of_covers _ 14 _ (by decide +kernel) fun t hf y => ?_
  blk_simp
  rw [after0_14]
  have h0 : (y 0).val < 1 := (y 0).isLt
  have h1 : (y 1).val < 1 := (y 1).isLt
  refine spec_blkB (A c) _ _ y _ ?_ ?_ ?_ ?_
  · blk_simp [idx t]
  · blk_simp [idx t]
  · blk_simp [idx t]
  · blk_simp [idx t]

/-- The kernel ends with the gradients of the queries, the keys, the values and the write strengths. -/
theorem run_spec {A : Dev nD → RArgs} (H : ∀ c, HArgs m c (A c)) :
    θ_run defs (onTc (τ := τ) (main (F := Ideal))) (s₀ m ρ) (fun r => ∀ c : Dev nD,
      r.2.mem ((c.tc : Thread nD τ).loc main_v17_0) = DqSpec (A c) ∧ r.2.mem ((c.tc : Thread nD τ).loc main_v17_1) = DkSpec (A c) ∧ r.2.mem ((c.tc : Thread nD τ).loc main_v17_2) = DvSpec (A c)
      ∧ r.2.mem ((c.tc : Thread nD τ).loc main_v17_4) = DbSpec (A c)) :=
  (θ_run defs _ _).mono (fun _ h c => ⟨(h c).1.trans (final_dq m c A), (h c).2.1.trans (final_dk m c A), (h c).2.2.1.trans (final_dv m c A), (h c).2.2.2.trans (final_db m c A)⟩) (run_grads m ρ _ (fun c t => insB m c t (H c)) fun c t => insV m c t (H c))

end Cert.KernelIdeal.Val
-- ==== Proof.Value.RefCum.lean ====
/- The reference's cumulative sum along a chunk, read at an index. -/
module

public import proofs.«01_k».proof.Proof.Gen.ReferenceIdeal
public import Idealize.ShloMosaic.Lib.Pipeline.ValueKit.Point

@[expose] public section

noncomputable section

namespace Cert.ReferenceIdeal.Val

open Cert.ReferenceIdeal Cert.ReferenceIdeal.Gen Idealize.ShloMosaic Idealize.ShloMosaic.TcCoe Idealize.SL.Sem

theorem foldl_sum {ι : Type} (G : ι → EReal) (l : List ι) (v : EReal) : l.foldl (fun r n => r + G n) v = v + (l.map G).sum := by
  induction l generalizing v with
  | nil => simp
  | cons a l ih => rw [List.foldl_cons, ih, List.map_cons, List.sum_cons, add_assoc]

/-- The window's positions are the numbers below 64. -/
def winEquiv : Fin 64 ≃ (⟨4, ![1, 1, 1, 64]⟩ : Shape).Idx where
  toFun k := ix4 (n0 := 1) (n1 := 1) (n2 := 1) (n3 := 64) 0 0 0 k
  invFun i := i 3
  left_inv _ := rfl
  right_inv i := funext fun a => by
    fin_cases a <;> first | rfl | exact Subsingleton.elim (α := Fin 1) _ _

theorem shift_sum (f : Fin 64 → EReal) (r : Fin 64) :
    (∑ k : Fin 64, if h : 63 ≤ r.val + k.val then f ⟨r.val + k.val - 63, by omega⟩ else 0) = ∑ t : Fin 64, if t ≤ r then f t else 0 := by
  rw [← Equiv.sum_comp (Fin.revPerm) (fun k : Fin 64 => if h : 63 ≤ r.val + k.val then f ⟨r.val + k.val - 63, by omega⟩ else 0),
    Finset.sum_congr rfl (g := fun t : Fin 64 => if h : t.val ≤ r.val then f ⟨r.val - t.val, by omega⟩ else 0)]
  · rw [← Finset.sum_subset (Finset.subset_univ (Finset.univ.filter (· ≤ r))), ← Finset.sum_filter]
    · refine Finset.sum_bij' (fun t _ => (⟨r.val - t.val, by omega⟩ : Fin 64)) (fun t _ => (⟨r.val - t.val, by omega⟩ : Fin 64)) ?_ ?_ ?_ ?_ ?_
      · intro t _; simp only [Finset.mem_filter, Finset.mem_univ, true_and, Fin.le_def]; omega
      · intro t _; simp only [Finset.mem_filter, Finset.mem_univ, true_and, Fin.le_def]; omega
      · intro t ht; simp only [Finset.mem_filter, Finset.mem_univ, true_and, Fin.le_def] at ht; exact Fin.ext (by show r.val - (r.val - t.val) = t.val; omega)
      · intro t ht; simp only [Finset.mem_filter, Finset.mem_univ, true_and, Fin.le_def] at ht; exact Fin.ext (by show r.val - (r.val - t.val) = t.val; omega)
      · intro t ht; simp only [Finset.mem_filter, Finset.mem_univ, true_and, Fin.le_def] at ht; rw [dif_pos ht]
    · intro t _ ht; simp only [Finset.mem_filter, Finset.mem_univ, true_and, Fin.le_def] at ht; rw [dif_neg ht]
  · intro t _
    have e : (Fin.revPerm t : Fin 64).val = 63 - t.val := by rw [Fin.revPerm_apply, Fin.val_rev]; omega
    by_cases h : t.val ≤ r.val
    · rw [dif_pos h, dif_pos (by rw [e]; omega)]
      exact congrArg f (Fin.ext (by show r.val + _ - 63 = r.val - t.val; rw [e]; omega))
    · rw [dif_neg h, dif_neg (by rw [e]; omega)]

/-- The sum over a window reaching back to the chunk's first row is the sum of the rows up to this one. -/
theorem cumsum_apply (x : FVec Ideal S14x2x16x64 .f32) (init : FVec Ideal S_ .f32) (h0 : init ix0 = 0)
    (hw : S14x2x16x64.ReduceWindows ![1, 1, 1, 64] ![1, 1, 1, 1] ![0, 0, 0, 63] ![0, 0, 0, 0] S14x2x16x64) (hu : 0 < S_.numel)
    (n : Fin 14) (b : Fin 2) (h : Fin 16) (r : Fin 64) :
    Host.reduceWindowAdd ![1, 1, 1, 64] ![1, 1, 1, 1] ![0, 0, 0, 63] ![0, 0, 0, 0] x init hw hu (ix4 n b h r)
      = ∑ t : Fin 64, if t ≤ r then x (ix4 n b h t) else 0 := by
  have hv : init (Shape.Idx.first hu) = 0 := (congrArg init (Subsingleton.elim _ _)).trans h0
  show Host.reduceWindow (s := S14x2x16x64) (· + ·) ![1, 1, 1, 64] ![1, 1, 1, 1] ![0, 0, 0, 63] ![0, 0, 0, 0] x (fun _ : (⟨0, ![]⟩ : Shape).Idx => init (Shape.Idx.first hu)) hw (by decide) (ix4 n b h r) = _
  unfold Host.reduceWindow
  dsimp only
  rw [foldl_sum, hv, zero_add, ← Fin.sum_univ_def]
  rw [← shift_sum (fun t => x (ix4 n b h t)) r]
  refine Eq.trans ?_ (Equiv.sum_comp winEquiv.symm _)
  refine Eq.trans ?_ (Equiv.sum_comp (Shape.rowMajor (⟨4, ![1, 1, 1, 64]⟩ : Shape)).symm _)
  refine Finset.sum_congr rfl fun q _ => ?_
  have h0 : ((Shape.rowMajor (⟨4, ![1, 1, 1, 64]⟩ : Shape)).symm q 0).val < 1 := Fin.isLt _
  have h1 : ((Shape.rowMajor (⟨4, ![1, 1, 1, 64]⟩ : Shape)).symm q 1).val < 1 := Fin.isLt _
  have h2 : ((Shape.rowMajor (⟨4, ![1, 1, 1, 64]⟩ : Shape)).symm q 2).val < 1 := Fin.isLt _
  have h3 : ((Shape.rowMajor (⟨4, ![1, 1, 1, 64]⟩ : Shape)).symm q 3).val < 64 := Fin.isLt _
  have e : (winEquiv.symm ((Shape.rowMajor (⟨4, ![1, 1, 1, 64]⟩ : Shape)).symm q)).val = ((Shape.rowMajor (⟨4, ![1, 1, 1, 64]⟩ : Shape)).symm q 3).val := rfl
  have hn := n.isLt
  have hb := b.isLt
  have hh := h.isLt
  by_cases hk : 63 ≤ r.val + (winEquiv.symm ((Shape.rowMajor (⟨4, ![1, 1, 1, 64]⟩ : Shape)).symm q)).val
  · rw [dif_pos hk]
    refine (dif_pos ?_).trans (congrArg x (funext fun a => Fin.ext ?_))
    · intro a
      match a with
      | 0 => exact ⟨Nat.zero_le _, by show n.val * 1 + ((Shape.rowMajor (⟨4, ![1, 1, 1, 64]⟩ : Shape)).symm q 0).val - 0 < 14; omega⟩
      | 1 => exact ⟨Nat.zero_le _, by show b.val * 1 + ((Shape.rowMajor (⟨4, ![1, 1, 1, 64]⟩ : Shape)).symm q 1).val - 0 < 2; omega⟩
      | 2 => exact ⟨Nat.zero_le _, by show h.val * 1 + ((Shape.rowMajor (⟨4, ![1, 1, 1, 64]⟩ : Shape)).symm q 2).val - 0 < 16; omega⟩
      | 3 => exact ⟨by show 63 ≤ r.val * 1 + ((Shape.rowMajor (⟨4, ![1, 1, 1, 64]⟩ : Shape)).symm q 3).val; omega, by show r.val * 1 + ((Shape.rowMajor (⟨4, ![1, 1, 1, 64]⟩ : Shape)).symm q 3).val - 63 < 64; omega⟩
    · match a with
      | 0 => show n.val * 1 + ((Shape.rowMajor (⟨4, ![1, 1, 1, 64]⟩ : Shape)).symm q 0).val - 0 = n.val; omega
      | 1 => show b.val * 1 + ((Shape.rowMajor (⟨4, ![1, 1, 1, 64]⟩ : Shape)).symm q 1).val - 0 = b.val; omega
      | 2 => show h.val * 1 + ((Shape.rowMajor (⟨4, ![1, 1, 1, 64]⟩ : Shape)).symm q 2).val - 0 = h.val; omega
      | 3 => show r.val * 1 + ((Shape.rowMajor (⟨4, ![1, 1, 1, 64]⟩ : Shape)).symm q 3).val - 63 = r.val + (winEquiv.symm ((Shape.rowMajor (⟨4, ![1, 1, 1, 64]⟩ : Shape)).symm q)).val - 63; omega
  · rw [dif_neg hk]
    refine dif_neg ?_
    intro hin
    have h4 : 63 ≤ r.val * 1 + ((Shape.rowMajor (⟨4, ![1, 1, 1, 64]⟩ : Shape)).symm q 3).val := (hin 3).1
    omega

end Cert.ReferenceIdeal.Val
-- ==== Proof.Value.RefIn.lean ====
/- The reference's arrays before its chunk loop, as real numbers: the scaled inputs and the gates. -/
module

public import proofs.«01_k».proof.Proof.Value.Spec
public import proofs.«01_k».proof.Proof.Value.RefCum
public import proofs.«01_k».proof.Proof.Gen.ReferenceIdeal.Run
public import Idealize.ShloMosaic.Lib.Pipeline.ValueKit.Point

@[expose] public section

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.Tactic
open Cert.KernelIdeal.Head (RArgs RBlk hd row cum c128 c128_coe exp_coe exp_bot coe_sum)

/-- The buffers hold the numbers `A` before the reference's later operations. -/
structure In (V0 : Valuation τ sig (Elt Ideal)) (A : RArgs) : Prop where
  q : ∀ b p h c, (V0 (Proc.devRef .tc main_v3_0) : Vec Ideal S2x896x16x128 .f32) (ix4 b p h c) = ((A.q b p h c : ℝ) : EReal)
  sq : ∀ b n h, (V0 (Proc.devRef .tc main_arg1) : Vec Ideal S2x14x16 .f32) (ix3 b n h) = ((A.sq b n h : ℝ) : EReal)
  k : ∀ b p h c, (V0 (Proc.devRef .tc main_v3_1) : Vec Ideal S2x896x16x128 .f32) (ix4 b p h c) = ((A.k b p h c : ℝ) : EReal)
  sk : ∀ b n h, (V0 (Proc.devRef .tc main_arg3) : Vec Ideal S2x14x16 .f32) (ix3 b n h) = ((A.sk b n h : ℝ) : EReal)
  v : ∀ b p h c, (V0 (Proc.devRef .tc main_arg4) : Vec Ideal S2x896x16x256 .bf16) (ix4 b p h c) = ((A.v b p h c : ℝ) : EReal)
  la : ∀ b p h, Ideal.log ((V0 (Proc.devRef .tc main_arg5) : Vec Ideal S2x896x16 .f32) (ix3 b p h)) = ((A.la b p h : ℝ) : EReal)
  be : ∀ b p h, (V0 (Proc.devRef .tc main_arg6) : Vec Ideal S2x896x16 .f32) (ix3 b p h) = ((A.be b p h : ℝ) : EReal)
  d : ∀ b p h c, (V0 (Proc.devRef .tc main_v3_2) : Vec Ideal S2x896x16x256 .f32) (ix4 b p h c) = ((A.d b p h c : ℝ) : EReal)
  sd : ∀ b n h, (V0 (Proc.devRef .tc main_arg8) : Vec Ideal S2x14x16 .f32) (ix3 b n h) = ((A.sd b n h : ℝ) : EReal)

/-- A product of two reals is real. -/
theorem mul_is {a b : EReal} {x y : ℝ} (ha : a = (x : EReal)) (hb : b = (y : EReal)) : a * b = ((x * y : ℝ) : EReal) := by
  rw [ha, hb, EReal.coe_mul]
/-- A sum of two reals is real. -/
theorem add_is {a b : EReal} {x y : ℝ} (ha : a = (x : EReal)) (hb : b = (y : EReal)) : a + b = ((x + y : ℝ) : EReal) := by
  rw [ha, hb, EReal.coe_add]
/-- A difference of two reals is real. -/
theorem sub_is {a b : EReal} {x y : ℝ} (ha : a = (x : EReal)) (hb : b = (y : EReal)) : a - b = ((x - y : ℝ) : EReal) := by
  rw [ha, hb, EReal.coe_sub]
/-- An inner product of reals is real. -/
theorem sum_is {N : Nat} {f g : Fin N → EReal} {F G : Fin N → ℝ} (hf : ∀ x, f x = (F x : EReal)) (hg : ∀ x, g x = (G x : EReal)) :
    ∑ x, f x * g x = ((∑ x, F x * G x : ℝ) : EReal) := by
  rw [← coe_sum]; exact Finset.sum_congr rfl fun x _ => mul_is (hf x) (hg x)

/-- A row of a chunk, as the reshape writes it. -/
theorem row_eq (n : Fin 14) (r : Fin 64) (h : n.val * 64 + r.val < 896) : (⟨n.val * 64 + r.val, h⟩ : Fin 896) = row n r :=
  Fin.ext (by show n.val * 64 + r.val = 64 * n.val + r.val; omega)

/-- The reference's causal comparison. -/
theorem sge_eq : ∀ r s : Fin 64, IntOp.cmpi CmpIPredicate.sge (BitVec.ofNat 32 r.val) (BitVec.ofNat 32 s.val) = BitVec.ofBool (decide (s ≤ r)) := by
  decide +kernel
/-- The reference's strict comparison. -/
theorem sgt_eq : ∀ r s : Fin 64, IntOp.cmpi CmpIPredicate.sgt (BitVec.ofNat 32 r.val) (BitVec.ofNat 32 s.val) = BitVec.ofBool (decide (s < r)) := by
  decide +kernel

variable {V0 : Valuation τ sig (Elt Ideal)} {A : RArgs} (H : In V0 A) (n : Fin 14) (b : Fin 2) (g h : Fin 4)

include H

/-- The scaled queries. -/
theorem v13_is (r : Fin 64) (c : Fin 128) : (res_main_v13 V0 : Vec Ideal S14x2x16x64x128 .f32) (ix5 n b (hd g h) r c)
    = (((A.blk b g n).q h r c * (A.blk b g n).sq h : ℝ) : EReal) := by
  unfold res_main_v13
  pointwise
  rw [row_eq]
  exact mul_is (H.q b _ _ c) (H.sq b n _)

/-- The scaled keys. -/
theorem v17_is (r : Fin 64) (c : Fin 128) : (res_main_v17 V0 : Vec Ideal S14x2x16x64x128 .f32) (ix5 n b (hd g h) r c)
    = (((A.blk b g n).k h r c * (A.blk b g n).sk h : ℝ) : EReal) := by
  unfold res_main_v17
  pointwise
  rw [row_eq]
  exact mul_is (H.k b _ _ c) (H.sk b n _)

/-- The scaled output gradients. -/
theorem v23_is (r : Fin 64) (c : Fin 256) : (res_main_v23 V0 : Vec Ideal S14x2x16x64x256 .f32) (ix5 n b (hd g h) r c)
    = (((A.blk b g n).d h r c * (A.blk b g n).ds h * c128 : ℝ) : EReal) := by
  unfold res_main_v23
  pointwise
  rw [row_eq]
  exact mul_is (mul_is (H.d b _ _ c) (H.sd b n _)) c128_coe

/-- The write strengths. -/
theorem v27_is (r : Fin 64) : (res_main_v27 V0 : Vec Ideal S14x2x16x64 .f32) (ix4 n b (hd g h) r)
    = (((A.blk b g n).be r h : ℝ) : EReal) := by
  unfold res_main_v27
  pointwise
  rw [row_eq]
  exact H.be b _ _

/-- The cumulative log decays. -/
theorem v29_is (r : Fin 64) : (res_main_v29 V0 : Vec Ideal S14x2x16x64 .f32) (ix4 n b (hd g h) r)
    = ((cum (A.blk b g n).la r h : ℝ) : EReal) := by
  unfold res_main_v29
  refine (cumsum_apply _ _ (by pointwise) _ _ n b (hd g h) r).trans ?_
  rw [cum, ← coe_sum]
  refine Finset.sum_congr rfl fun t _ => ?_
  split
  · pointwise
    rw [row_eq]
    exact H.la b _ _
  · rfl

/-- Their exponentials. -/
theorem v30_is (r : Fin 64) : (res_main_v30 V0 : Vec Ideal S14x2x16x64 .f32) (ix4 n b (hd g h) r)
    = ((Real.exp (cum (A.blk b g n).la r h) : ℝ) : EReal) := by
  unfold res_main_v30
  pointwise
  exact (congrArg Ideal.exp (v29_is H n b g h r)).trans (exp_coe _)

/-- A chunk's whole decay. -/
theorem v32_is : (res_main_v32 V0 : Vec Ideal S14x2x16 .f32) (ix3 n b (hd g h))
    = ((Real.exp (cum (A.blk b g n).la 63 h) : ℝ) : EReal) := by
  unfold res_main_v32
  pointwise
  exact v30_is H n b g h 63

/-- The decays between rows. -/
theorem v54_is (r s : Fin 64) : (res_main_v54 V0 : Vec Ideal S14x2x16x64x64 .f32) (ix5 n b (hd g h) r s)
    = ((if s ≤ r then Real.exp (cum (A.blk b g n).la r h - cum (A.blk b g n).la s h) else 0 : ℝ) : EReal) := by
  unfold res_main_v54 res_main_v37
  pointwise
  rw [sge_eq, Cert.KernelIdeal.Head.select_ofBool]
  split
  · exact (congrArg Ideal.exp (sub_is (v29_is H n b g h r) (v29_is H n b g h s))).trans (exp_coe _)
  · exact (congrArg Ideal.exp Cert.KernelIdeal.Head.negInf).trans exp_bot

/-- The attention weights. -/
theorem v57_is (r s : Fin 64) : (res_main_v57 V0 : Vec Ideal S14x2x16x64x64 .f32) (ix5 n b (hd g h) r s)
    = (((A.blk b g n).P h s r : ℝ) : EReal) := by
  unfold res_main_v57
  pointwise
  refine (mul_is (sum_is (fun x => v13_is H n b g h r x) (fun x => v17_is H n b g h s x)) (v54_is H n b g h r s)).trans (congrArg _ ?_)
  unfold RBlk.P Cert.KernelIdeal.Head.gram
  rw [Matrix.mul_apply]
  split
  · simp only [Finset.sum_mul]
    refine Finset.sum_congr rfl fun x _ => ?_
    rw [Matrix.transpose_apply]; ring
  · exact mul_zero _

/-- The negated matrix of the solve. -/
theorem v69_is (r s : Fin 64) : (res_main_v69 V0 : Vec Ideal S14x2x16x64x64 .f32) (ix5 n b (hd g h) r s)
    = (((-(A.blk b g n).A h) r s : ℝ) : EReal) := by
  unfold res_main_v69 res_main_v56 res_main_v47 res_main_v37
  pointwise
  rw [sgt_eq, Cert.KernelIdeal.Head.select_ofBool, Matrix.neg_apply, EReal.coe_neg]
  refine congrArg (fun z : EReal => -z) ?_
  unfold RBlk.A Cert.KernelIdeal.Head.gram
  split
  · next hlt =>
    refine (mul_is (mul_is (v27_is H n b g h r) (sum_is (fun x => v17_is H n b g h r x) (fun x => v17_is H n b g h s x))) (v54_is H n b g h r s)).trans (congrArg _ ?_)
    rw [if_pos hlt.le, Matrix.mul_apply, Finset.sum_mul]
    refine congrArg (fun z : ℝ => z * _) (congrArg (fun z : ℝ => _ * z) (Finset.sum_congr rfl fun x _ => ?_))
    rw [Matrix.transpose_apply]; ring
  · exact Ideal.ofBits_zero_f32

end Cert.ReferenceIdeal.Val
-- ==== Proof.Value.RefT.lean ====
/- The reference's solve by powers, and the chunk arrays made from it. -/
module

public import proofs.«01_k».proof.Proof.Value.RefIn

@[expose] public section

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.Tactic
open Cert.KernelIdeal.Head (RArgs RBlk hd row cum c128 c128_coe exp_coe exp_bot coe_sum)

/-- A power of a strictly lower matrix vanishes above its diagonal of that order. -/
theorem low_pow {M : Matrix (Fin 64) (Fin 64) ℝ} (hM : ∀ r s, r ≤ s → M r s = 0) (k : ℕ) (r s : Fin 64) (h : r.val < s.val + k) : (M ^ k) r s = 0 := by
  induction k generalizing r s with
  | zero =>
    rw [pow_zero]
    exact Matrix.one_apply_ne fun e => by subst e; omega
  | succ k ih =>
    rw [pow_succ, Matrix.mul_apply]
    refine Finset.sum_eq_zero fun x _ => ?_
    by_cases hx : x ≤ s
    · rw [hM x s hx, mul_zero]
    · rw [ih r x (by have := Fin.lt_def.1 (not_le.1 hx); omega), zero_mul]

/-- The product of one plus the powers of two inverts one minus a strictly lower matrix. -/
theorem neumann {M : Matrix (Fin 64) (Fin 64) ℝ} (hM : ∀ r s, r ≤ s → M r s = 0) :
    (((((1 + M) * (1 + M ^ 2)) * (1 + M ^ 4)) * (1 + M ^ 8)) * (1 + M ^ 16)) * (1 + M ^ 32) = (1 + -M)⁻¹ := by
  have h64 : M ^ 64 = 0 := by
    ext r s
    exact low_pow hM 64 r s (by omega)
  refine (Matrix.inv_eq_right_inv ?_).symm
  have e : (1 + -M) * ((((((1 + M) * (1 + M ^ 2)) * (1 + M ^ 4)) * (1 + M ^ 8)) * (1 + M ^ 16)) * (1 + M ^ 32)) = 1 - M ^ 64 := by
    noncomm_ring
  rw [e, h64, sub_zero]

/-- A stack of square matrices holds `M` at one chunk, batch and head. -/
def IsM (X : FVec Ideal S14x2x16x64x64 .f32) (n : Fin 14) (b : Fin 2) (g h : Fin 4) (M : Matrix (Fin 64) (Fin 64) ℝ) : Prop :=
  ∀ r s, X (ix5 n b (hd g h) r s) = ((M r s : ℝ) : EReal)

section
variable {n : Fin 14} {b : Fin 2} {g h : Fin 4} {X Y : FVec Ideal S14x2x16x64x64 .f32} {M N : Matrix (Fin 64) (Fin 64) ℝ}

theorem dotM (hX : IsM X n b g h M) (hY : IsM Y n b g h N) :
    IsM (Host.dotGeneral dot_S14x2x16x64x64_S14x2x16x64x64_S14x2x16x64x64_4_3_3_4_012_012 (some .fp32) X Y) n b g h (M * N) := fun r s => by
  pointwise
  exact sum_is (fun x => hX r x) (fun x => hY x s)

/-- The identity's entries. -/
theorem eye_eq : ∀ r s : Fin 64, IntOp.cmpi CmpIPredicate.eq (BitVec.ofNat 32 r.val) (BitVec.ofNat 32 s.val) = BitVec.ofBool (decide (r = s)) := by
  decide +kernel

theorem eyeM (V0 : Valuation τ sig (Elt Ideal)) (hX : IsM X n b g h M) :
    IsM (addf (broadcastInDim S14x2x16x64x64 ![0, 1, 2, 3, 4] bcast_S1x1x1x64x64_S14x2x16x64x64_0_1_2_3_4 (broadcastInDim S1x1x1x64x64 ![3, 4] bcast_S64x64_S1x1x1x64x64_3_4 (res_main_v68 V0))) X) n b g h (1 + M) := fun r s => by
  unfold res_main_v68
  pointwise
  refine add_is ?_ (hX r s)
  rw [show IntOp.addi (BitVec.ofNat 32 r.val) 0#32 = BitVec.ofNat 32 r.val from BitVec.add_zero _, eye_eq]
  by_cases e : r = s
  · subst e
    rw [Matrix.one_apply_eq, decide_eq_true rfl]
    show (((1 : ℕ) : ℝ) : EReal) = _
    norm_num
  · rw [Matrix.one_apply_ne e, decide_eq_false e]
    show (((0 : ℕ) : ℝ) : EReal) = _
    norm_num
end

variable {V0 : Valuation τ sig (Elt Ideal)} {A : RArgs} (H : In V0 A) (n : Fin 14) (b : Fin 2) (g h : Fin 4)

include H

theorem v69_isM : IsM (res_main_v69 V0) n b g h (-(A.blk b g n).A h) := v69_is H n b g h
theorem v73_isM : IsM (res_main_v73 V0) n b g h ((-(A.blk b g n).A h) ^ 2) := by
  rw [pow_two]; exact dotM (v69_isM H n b g h) (v69_isM H n b g h)
theorem v78_isM : IsM (res_main_v78 V0) n b g h ((-(A.blk b g n).A h) ^ 4) := by
  rw [show 4 = 2 + 2 from rfl, pow_add]; exact dotM (v73_isM H n b g h) (v73_isM H n b g h)
theorem v83_isM : IsM (res_main_v83 V0) n b g h ((-(A.blk b g n).A h) ^ 8) := by
  rw [show 8 = 4 + 4 from rfl, pow_add]; exact dotM (v78_isM H n b g h) (v78_isM H n b g h)
theorem v88_isM : IsM (res_main_v88 V0) n b g h ((-(A.blk b g n).A h) ^ 16) := by
  rw [show 16 = 8 + 8 from rfl, pow_add]; exact dotM (v83_isM H n b g h) (v83_isM H n b g h)
theorem v88sq_isM : IsM (Host.dotGeneral (φ₁ := .f32) (φ₂ := .f32) dot_S14x2x16x64x64_S14x2x16x64x64_S14x2x16x64x64_4_3_3_4_012_012 (some .fp32) (res_main_v88 V0 : FVec Ideal S14x2x16x64x64 .f32) (res_main_v88 V0 : FVec Ideal S14x2x16x64x64 .f32)) n b g h ((-(A.blk b g n).A h) ^ 32) := by
  rw [show 32 = 16 + 16 from rfl, pow_add]; exact dotM (v88_isM H n b g h) (v88_isM H n b g h)

/-- The solve's result is the inverse. -/
theorem v97_isM : IsM (res_main_v97 V0) n b g h (1 + (A.blk b g n).A h)⁻¹ := by
  have hM : ∀ r s, r ≤ s → (-(A.blk b g n).A h) r s = 0 := fun r s hrs => by
    rw [Matrix.neg_apply, RBlk.A, if_neg (not_lt.2 hrs), neg_zero]
  have e := neumann hM
  rw [neg_neg] at e
  rw [← e]
  exact dotM (dotM (dotM (dotM (dotM (eyeM V0 (v69_isM H n b g h)) (eyeM V0 (v73_isM H n b g h))) (eyeM V0 (v78_isM H n b g h))) (eyeM V0 (v83_isM H n b g h)))
    (eyeM V0 (v88_isM H n b g h))) (eyeM V0 (v88sq_isM H n b g h))

/-- The solved keys. -/
theorem v102_is (r : Fin 64) (c : Fin 128) : (res_main_v102 V0 : Vec Ideal S14x2x16x64x128 .f32) (ix5 n b (hd g h) r c)
    = ((∑ s, (1 + (A.blk b g n).A h)⁻¹ r s * ((A.blk b g n).be s h * Real.exp (cum (A.blk b g n).la s h) * ((A.blk b g n).k h s c * (A.blk b g n).sk h)) : ℝ) : EReal) := by
  unfold res_main_v102 res_main_v101 res_main_v98
  pointwise
  exact sum_is (fun x => v97_isM H n b g h r x) (fun x => mul_is (mul_is (v27_is H n b g h x) (v30_is H n b g h x)) (v17_is H n b g h x c))

/-- The keys decayed to the chunk's end. -/
theorem v105_is (r : Fin 64) (c : Fin 128) : (res_main_v105 V0 : Vec Ideal S14x2x16x64x128 .f32) (ix5 n b (hd g h) r c)
    = ((Real.exp (cum (A.blk b g n).la 63 h - cum (A.blk b g n).la r h) * ((A.blk b g n).k h r c * (A.blk b g n).sk h) : ℝ) : EReal) := by
  unfold res_main_v105 res_main_v36
  pointwise
  exact mul_is ((congrArg Ideal.exp (sub_is (v29_is H n b g h 63) (v29_is H n b g h r))).trans (exp_coe _)) (v17_is H n b g h r c)

/-- The decayed queries. -/
theorem v108_is (r : Fin 64) (c : Fin 128) : (res_main_v108 V0 : Vec Ideal S14x2x16x64x128 .f32) (ix5 n b (hd g h) r c)
    = ((Real.exp (cum (A.blk b g n).la r h) * ((A.blk b g n).q h r c * (A.blk b g n).sq h) : ℝ) : EReal) := by
  unfold res_main_v108
  pointwise
  exact mul_is (v30_is H n b g h r) (v13_is H n b g h r c)

end Cert.ReferenceIdeal.Val
-- ==== Proof.Value.RefLoop.lean ====
/- One chunk of the reference's backward loop, and the loop's state after each chunk. -/
module

public import proofs.«01_k».proof.Proof.Value.RefT

@[expose] public section

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.Tactic
open Cert.KernelIdeal.Head (RArgs RBlk hd row cum stR c128 c128_coe exp_coe exp_bot coe_sum)

/-- The loop's state: one head's matrix is `St`, for every batch and head. -/
def IsS (D : FVec Ideal S2x16x128x256 .f32) (St : Fin 2 → Fin 4 → Fin 4 → Matrix (Fin 128) (Fin 256) ℝ) : Prop :=
  ∀ b g h r c, D (ix4 b (hd g h) r c) = ((St b g h r c : ℝ) : EReal)

/-- A chunk's gradient of the corrected values. -/
def IsU (D : FVec Ideal S2x16x64x256 .f32) (St : Fin 2 → Fin 4 → Fin 4 → Matrix (Fin 64) (Fin 256) ℝ) : Prop :=
  ∀ b g h r c, D (ix4 b (hd g h) r c) = ((St b g h r c : ℝ) : EReal)

variable {V0 : Valuation τ sig (Elt Ideal)} {A : RArgs} (H : In V0 A) (n : Fin 14)

include H

/-- One chunk's gradient of the corrected values from the state. -/
theorem stepU {D : FVec Ideal S2x16x128x256 .f32} {St : Fin 2 → Fin 4 → Fin 4 → Matrix (Fin 128) (Fin 256) ℝ} (hD : IsS D St)
    (h1 : S14x2x16x64x64.Slices ![n.val, 0, 0, 0, 0] S1x2x16x64x64) (h2 : S14x2x16x64x256.Slices ![n.val, 0, 0, 0, 0] S1x2x16x64x256)
    (h3 : S14x2x16x64x128.Slices ![n.val, 0, 0, 0, 0] S1x2x16x64x128) :
    IsU (addf (Host.dotGeneral (φ₁ := .f32) (φ₂ := .f32) dot_S2x16x64x64_S2x16x64x256_S2x16x64x256_2_2_3_3_01_01 (some .fp32)
        (shapeCast S2x16x64x64 (extractStridedSlice S1x2x16x64x64 ![n.val, 0, 0, 0, 0] (res_main_v57 V0 : FVec Ideal S14x2x16x64x64 .f32) h1) shapeCasts_S1x2x16x64x64_S2x16x64x64)
        (shapeCast S2x16x64x256 (extractStridedSlice S1x2x16x64x256 ![n.val, 0, 0, 0, 0] (res_main_v23 V0 : FVec Ideal S14x2x16x64x256 .f32) h2) shapeCasts_S1x2x16x64x256_S2x16x64x256))
      (Host.dotGeneral (φ₁ := .f32) (φ₂ := .f32) dot_S2x16x64x128_S2x16x128x256_S2x16x64x256_3_2_2_3_01_01 (some .fp32)
        (shapeCast S2x16x64x128 (extractStridedSlice S1x2x16x64x128 ![n.val, 0, 0, 0, 0] (res_main_v105 V0 : FVec Ideal S14x2x16x64x128 .f32) h3) shapeCasts_S1x2x16x64x128_S2x16x64x128) D))
      fun b g h => (A.blk b g n).U h (St b g h) := fun b g h r c => by
  have e1 := fun x => v57_is H n b g h x r
  have e2 := fun x => v23_is H n b g h x c
  have e3 := fun x => v105_is H n b g h r x
  generalize res_main_v57 V0 = P at e1 ⊢
  generalize res_main_v23 V0 = O at e2 ⊢
  generalize res_main_v105 V0 = K at e3 ⊢
  pointwise
  refine (add_is (sum_is e1 e2) (sum_is e3 (fun x => hD b g h x c))).trans (congrArg _ ?_)
  unfold RBlk.U
  rw [Matrix.mul_apply, Matrix.mul_apply, Finset.sum_mul, Finset.mul_sum]
  refine congrArg₂ (fun x y : ℝ => x + y) (Finset.sum_congr rfl fun x _ => ?_) (Finset.sum_congr rfl fun x _ => ?_) <;> ring

omit H in
/-- The same double sum in the two orders the two programs take it. -/
theorem swap_sum (T : Matrix (Fin 64) (Fin 64) ℝ) (f : Fin 64 → ℝ) (U : Fin 64 → ℝ) :
    ∑ t, (∑ s, T t s * f s) * U t = ∑ s, f s * ∑ t, T.transpose s t * U t := by
  simp only [Finset.sum_mul, Finset.mul_sum]
  rw [Finset.sum_comm]
  refine Finset.sum_congr rfl fun s _ => Finset.sum_congr rfl fun t _ => ?_
  rw [Matrix.transpose_apply]; ring

/-- One chunk's next state. -/
theorem stepS {D : FVec Ideal S2x16x128x256 .f32} {St : Fin 2 → Fin 4 → Fin 4 → Matrix (Fin 128) (Fin 256) ℝ} (hD : IsS D St)
    {E : FVec Ideal S2x16x64x256 .f32} (hE : IsU E fun b g h => (A.blk b g n).U h (St b g h))
    (h1 : S14x2x16x64x128.Slices ![n.val, 0, 0, 0, 0] S1x2x16x64x128) (h2 : S14x2x16x64x256.Slices ![n.val, 0, 0, 0, 0] S1x2x16x64x256)
    (h3 : S14x2x16.Slices ![n.val, 0, 0] S1x2x16) :
    IsS (subf (addf (Host.dotGeneral (φ₁ := .f32) (φ₂ := .f32) dot_S2x16x64x128_S2x16x64x256_S2x16x128x256_2_2_3_3_01_01 (some .fp32)
          (shapeCast S2x16x64x128 (extractStridedSlice S1x2x16x64x128 ![n.val, 0, 0, 0, 0] (res_main_v108 V0 : FVec Ideal S14x2x16x64x128 .f32) h1) shapeCasts_S1x2x16x64x128_S2x16x64x128)
          (shapeCast S2x16x64x256 (extractStridedSlice S1x2x16x64x256 ![n.val, 0, 0, 0, 0] (res_main_v23 V0 : FVec Ideal S14x2x16x64x256 .f32) h2) shapeCasts_S1x2x16x64x256_S2x16x64x256))
        (mulf (broadcastInDim S2x16x128x256 ![0, 1, 2, 3] bcast_S2x16x1x1_S2x16x128x256_0_1_2_3 (broadcastInDim S2x16x1x1 ![0, 1] bcast_S2x16_S2x16x1x1_0_1
          (shapeCast S2x16 (extractStridedSlice S1x2x16 ![n.val, 0, 0] (res_main_v32 V0 : FVec Ideal S14x2x16 .f32) h3) shapeCasts_S1x2x16_S2x16))) D))
      (Host.dotGeneral (φ₁ := .f32) (φ₂ := .f32) dot_S2x16x64x128_S2x16x64x256_S2x16x128x256_2_2_3_3_01_01 (some .fp32)
        (shapeCast S2x16x64x128 (extractStridedSlice S1x2x16x64x128 ![n.val, 0, 0, 0, 0] (res_main_v102 V0 : FVec Ideal S14x2x16x64x128 .f32) h1) shapeCasts_S1x2x16x64x128_S2x16x64x128) E))
      fun b g h => (A.blk b g n).S h (St b g h) := fun b g h r c => by
  have e1 := fun x => v108_is H n b g h x r
  have e2 := fun x => v23_is H n b g h x c
  have e3 := v32_is H n b g h
  have e4 := fun x => v102_is H n b g h x r
  generalize res_main_v108 V0 = P at e1 ⊢
  generalize res_main_v23 V0 = O at e2 ⊢
  generalize res_main_v32 V0 = K at e3 ⊢
  generalize res_main_v102 V0 = W at e4 ⊢
  pointwise
  refine (sub_is (add_is (sum_is e1 e2) (mul_is e3 (hD b g h r c))) (sum_is e4 (fun x => hE b g h x c))).trans (congrArg _ ?_)
  unfold RBlk.S
  rw [swap_sum, add_comm, Matrix.mul_apply, Matrix.mul_apply, Finset.mul_sum, Finset.mul_sum]
  refine congrArg₂ (fun x y : ℝ => x - y) (congrArg (fun y : ℝ => _ + y) (Finset.sum_congr rfl fun x _ => ?_)) (Finset.sum_congr rfl fun x _ => ?_)
  · rw [Matrix.transpose_apply, RBlk.E]; ring
  · rw [Matrix.transpose_apply, RBlk.W, RBlk.V, Matrix.mul_apply]; ring

/-- The state before any chunk is zero. -/
theorem state_0 : IsS (res_main_v109 V0) (fun b g h => stR (A.blk b g) h 0) := fun b g h r c => by
  unfold res_main_v109
  pointwise
  exact EReal.coe_zero.symm

theorem u_13 : IsU (res_main_v118 V0) (fun b g h => (A.blk b g 13).U h (stR (A.blk b g) h 0)) :=
  stepU H 13 (state_0 H) slices_S14x2x16x64x64_S1x2x16x64x64_13_0_0_0_0 slices_S14x2x16x64x256_S1x2x16x64x256_13_0_0_0_0 slices_S14x2x16x64x128_S1x2x16x64x128_13_0_0_0_0
theorem state_1 : IsS (res_main_v133 V0) (fun b g h => stR (A.blk b g) h 1) :=
  stepS H 13 (state_0 H) (u_13 H) slices_S14x2x16x64x128_S1x2x16x64x128_13_0_0_0_0 slices_S14x2x16x64x256_S1x2x16x64x256_13_0_0_0_0 slices_S14x2x16_S1x2x16_13_0_0
theorem u_12 : IsU (res_main_v142 V0) (fun b g h => (A.blk b g 12).U h (stR (A.blk b g) h 1)) :=
  stepU H 12 (state_1 H) slices_S14x2x16x64x64_S1x2x16x64x64_12_0_0_0_0 slices_S14x2x16x64x256_S1x2x16x64x256_12_0_0_0_0 slices_S14x2x16x64x128_S1x2x16x64x128_12_0_0_0_0
theorem state_2 : IsS (res_main_v157 V0) (fun b g h => stR (A.blk b g) h 2) :=
  stepS H 12 (state_1 H) (u_12 H) slices_S14x2x16x64x128_S1x2x16x64x128_12_0_0_0_0 slices_S14x2x16x64x256_S1x2x16x64x256_12_0_0_0_0 slices_S14x2x16_S1x2x16_12_0_0
theorem u_11 : IsU (res_main_v166 V0) (fun b g h => (A.blk b g 11).U h (stR (A.blk b g) h 2)) :=
  stepU H 11 (state_2 H) slices_S14x2x16x64x64_S1x2x16x64x64_11_0_0_0_0 slices_S14x2x16x64x256_S1x2x16x64x256_11_0_0_0_0 slices_S14x2x16x64x128_S1x2x16x64x128_11_0_0_0_0
theorem state_3 : IsS (res_main_v181 V0) (fun b g h => stR (A.blk b g) h 3) :=
  stepS H 11 (state_2 H) (u_11 H) slices_S14x2x16x64x128_S1x2x16x64x128_11_0_0_0_0 slices_S14x2x16x64x256_S1x2x16x64x256_11_0_0_0_0 slices_S14x2x16_S1x2x16_11_0_0
theorem u_10 : IsU (res_main_v190 V0) (fun b g h => (A.blk b g 10).U h (stR (A.blk b g) h 3)) :=
  stepU H 10 (state_3 H) slices_S14x2x16x64x64_S1x2x16x64x64_10_0_0_0_0 slices_S14x2x16x64x256_S1x2x16x64x256_10_0_0_0_0 slices_S14x2x16x64x128_S1x2x16x64x128_10_0_0_0_0
theorem state_4 : IsS (res_main_v205 V0) (fun b g h => stR (A.blk b g) h 4) :=
  stepS H 10 (state_3 H) (u_10 H) slices_S14x2x16x64x128_S1x2x16x64x128_10_0_0_0_0 slices_S14x2x16x64x256_S1x2x16x64x256_10_0_0_0_0 slices_S14x2x16_S1x2x16_10_0_0
theorem u_9 : IsU (res_main_v214 V0) (fun b g h => (A.blk b g 9).U h (stR (A.blk b g) h 4)) :=
  stepU H 9 (state_4 H) slices_S14x2x16x64x64_S1x2x16x64x64_9_0_0_0_0 slices_S14x2x16x64x256_S1x2x16x64x256_9_0_0_0_0 slices_S14x2x16x64x128_S1x2x16x64x128_9_0_0_0_0
theorem state_5 : IsS (res_main_v229 V0) (fun b g h => stR (A.blk b g) h 5) :=
  stepS H 9 (state_4 H) (u_9 H) slices_S14x2x16x64x128_S1x2x16x64x128_9_0_0_0_0 slices_S14x2x16x64x256_S1x2x16x64x256_9_0_0_0_0 slices_S14x2x16_S1x2x16_9_0_0
theorem u_8 : IsU (res_main_v238 V0) (fun b g h => (A.blk b g 8).U h (stR (A.blk b g) h 5)) :=
  stepU H 8 (state_5 H) slices_S14x2x16x64x64_S1x2x16x64x64_8_0_0_0_0 slices_S14x2x16x64x256_S1x2x16x64x256_8_0_0_0_0 slices_S14x2x16x64x128_S1x2x16x64x128_8_0_0_0_0
theorem state_6 : IsS (res_main_v253 V0) (fun b g h => stR (A.blk b g) h 6) :=
  stepS H 8 (state_5 H) (u_8 H) slices_S14x2x16x64x128_S1x2x16x64x128_8_0_0_0_0 slices_S14x2x16x64x256_S1x2x16x64x256_8_0_0_0_0 slices_S14x2x16_S1x2x16_8_0_0
theorem u_7 : IsU (res_main_v262 V0) (fun b g h => (A.blk b g 7).U h (stR (A.blk b g) h 6)) :=
  stepU H 7 (state_6 H) slices_S14x2x16x64x64_S1x2x16x64x64_7_0_0_0_0 slices_S14x2x16x64x256_S1x2x16x64x256_7_0_0_0_0 slices_S14x2x16x64x128_S1x2x16x64x128_7_0_0_0_0
theorem state_7 : IsS (res_main_v277 V0) (fun b g h => stR (A.blk b g) h 7) :=
  stepS H 7 (state_6 H) (u_7 H) slices_S14x2x16x64x128_S1x2x16x64x128_7_0_0_0_0 slices_S14x2x16x64x256_S1x2x16x64x256_7_0_0_0_0 slices_S14x2x16_S1x2x16_7_0_0
theorem u_6 : IsU (res_main_v286 V0) (fun b g h => (A.blk b g 6).U h (stR (A.blk b g) h 7)) :=
  stepU H 6 (state_7 H) slices_S14x2x16x64x64_S1x2x16x64x64_6_0_0_0_0 slices_S14x2x16x64x256_S1x2x16x64x256_6_0_0_0_0 slices_S14x2x16x64x128_S1x2x16x64x128_6_0_0_0_0
theorem state_8 : IsS (res_main_v301 V0) (fun b g h => stR (A.blk b g) h 8) :=
  stepS H 6 (state_7 H) (u_6 H) slices_S14x2x16x64x128_S1x2x16x64x128_6_0_0_0_0 slices_S14x2x16x64x256_S1x2x16x64x256_6_0_0_0_0 slices_S14x2x16_S1x2x16_6_0_0
theorem u_5 : IsU (res_main_v310 V0) (fun b g h => (A.blk b g 5).U h (stR (A.blk b g) h 8)) :=
  stepU H 5 (state_8 H) slices_S14x2x16x64x64_S1x2x16x64x64_5_0_0_0_0 slices_S14x2x16x64x256_S1x2x16x64x256_5_0_0_0_0 slices_S14x2x16x64x128_S1x2x16x64x128_5_0_0_0_0
theorem state_9 : IsS (res_main_v325 V0) (fun b g h => stR (A.blk b g) h 9) :=
  stepS H 5 (state_8 H) (u_5 H) slices_S14x2x16x64x128_S1x2x16x64x128_5_0_0_0_0 slices_S14x2x16x64x256_S1x2x16x64x256_5_0_0_0_0 slices_S14x2x16_S1x2x16_5_0_0
theorem u_4 : IsU (res_main_v334 V0) (fun b g h => (A.blk b g 4).U h (stR (A.blk b g) h 9)) :=
  stepU H 4 (state_9 H) slices_S14x2x16x64x64_S1x2x16x64x64_4_0_0_0_0 slices_S14x2x16x64x256_S1x2x16x64x256_4_0_0_0_0 slices_S14x2x16x64x128_S1x2x16x64x128_4_0_0_0_0
theorem state_10 : IsS (res_main_v349 V0) (fun b g h => stR (A.blk b g) h 10) :=
  stepS H 4 (state_9 H) (u_4 H) slices_S14x2x16x64x128_S1x2x16x64x128_4_0_0_0_0 slices_S14x2x16x64x256_S1x2x16x64x256_4_0_0_0_0 slices_S14x2x16_S1x2x16_4_0_0
theorem u_3 : IsU (res_main_v358 V0) (fun b g h => (A.blk b g 3).U h (stR (A.blk b g) h 10)) :=
  stepU H 3 (state_10 H) slices_S14x2x16x64x64_S1x2x16x64x64_3_0_0_0_0 slices_S14x2x16x64x256_S1x2x16x64x256_3_0_0_0_0 slices_S14x2x16x64x128_S1x2x16x64x128_3_0_0_0_0
theorem state_11 : IsS (res_main_v373 V0) (fun b g h => stR (A.blk b g) h 11) :=
  stepS H 3 (state_10 H) (u_3 H) slices_S14x2x16x64x128_S1x2x16x64x128_3_0_0_0_0 slices_S14x2x16x64x256_S1x2x16x64x256_3_0_0_0_0 slices_S14x2x16_S1x2x16_3_0_0
theorem u_2 : IsU (res_main_v382 V0) (fun b g h => (A.blk b g 2).U h (stR (A.blk b g) h 11)) :=
  stepU H 2 (state_11 H) slices_S14x2x16x64x64_S1x2x16x64x64_2_0_0_0_0 slices_S14x2x16x64x256_S1x2x16x64x256_2_0_0_0_0 slices_S14x2x16x64x128_S1x2x16x64x128_2_0_0_0_0
theorem state_12 : IsS (res_main_v397 V0) (fun b g h => stR (A.blk b g) h 12) :=
  stepS H 2 (state_11 H) (u_2 H) slices_S14x2x16x64x128_S1x2x16x64x128_2_0_0_0_0 slices_S14x2x16x64x256_S1x2x16x64x256_2_0_0_0_0 slices_S14x2x16_S1x2x16_2_0_0
theorem u_1 : IsU (res_main_v406 V0) (fun b g h => (A.blk b g 1).U h (stR (A.blk b g) h 12)) :=
  stepU H 1 (state_12 H) slices_S14x2x16x64x64_S1x2x16x64x64_1_0_0_0_0 slices_S14x2x16x64x256_S1x2x16x64x256_1_0_0_0_0 slices_S14x2x16x64x128_S1x2x16x64x128_1_0_0_0_0
theorem state_13 : IsS (res_main_v421 V0) (fun b g h => stR (A.blk b g) h 13) :=
  stepS H 1 (state_12 H) (u_1 H) slices_S14x2x16x64x128_S1x2x16x64x128_1_0_0_0_0 slices_S14x2x16x64x256_S1x2x16x64x256_1_0_0_0_0 slices_S14x2x16_S1x2x16_1_0_0
theorem u_0 : IsU (res_main_v430 V0) (fun b g h => (A.blk b g 0).U h (stR (A.blk b g) h 13)) :=
  stepU H 0 (state_13 H) slices_S14x2x16x64x64_S1x2x16x64x64_0_0_0_0_0 slices_S14x2x16x64x256_S1x2x16x64x256_0_0_0_0_0 slices_S14x2x16x64x128_S1x2x16x64x128_0_0_0_0_0

end Cert.ReferenceIdeal.Val
-- ==== Proof.Value.Ref.lean ====
/- The reference's value gradient is the specified one. -/
module

public import proofs.«01_k».proof.Proof.Value.RefLoop

@[expose] public section

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.Tactic
open Cert.KernelIdeal.Head (RArgs RBlk hd row cum stR DvSpec DvSpec_row)

/-- The chunks' arrays laid end to end. -/
def stack (X : Fin 14 → FVec Ideal S2x16x64x256 .f32) : FVec Ideal S14x2x16x64x256 .f32 :=
  concatenate S14x2x16x64x256 0 [⟨S1x2x16x64x256, ((broadcastInDim S1x2x16x64x256 ![1, 2, 3, 4] bcast_S2x16x64x256_S1x2x16x64x256_1_2_3_4 (X 0)) : FVec Ideal S1x2x16x64x256 .f32)⟩, ⟨S1x2x16x64x256, ((broadcastInDim S1x2x16x64x256 ![1, 2, 3, 4] bcast_S2x16x64x256_S1x2x16x64x256_1_2_3_4 (X 1)) : FVec Ideal S1x2x16x64x256 .f32)⟩, ⟨S1x2x16x64x256, ((broadcastInDim S1x2x16x64x256 ![1, 2, 3, 4] bcast_S2x16x64x256_S1x2x16x64x256_1_2_3_4 (X 2)) : FVec Ideal S1x2x16x64x256 .f32)⟩, ⟨S1x2x16x64x256, ((broadcastInDim S1x2x16x64x256 ![1, 2, 3, 4] bcast_S2x16x64x256_S1x2x16x64x256_1_2_3_4 (X 3)) : FVec Ideal S1x2x16x64x256 .f32)⟩, ⟨S1x2x16x64x256, ((broadcastInDim S1x2x16x64x256 ![1, 2, 3, 4] bcast_S2x16x64x256_S1x2x16x64x256_1_2_3_4 (X 4)) : FVec Ideal S1x2x16x64x256 .f32)⟩, ⟨S1x2x16x64x256, ((broadcastInDim S1x2x16x64x256 ![1, 2, 3, 4] bcast_S2x16x64x256_S1x2x16x64x256_1_2_3_4 (X 5)) : FVec Ideal S1x2x16x64x256 .f32)⟩, ⟨S1x2x16x64x256, ((broadcastInDim S1x2x16x64x256 ![1, 2, 3, 4] bcast_S2x16x64x256_S1x2x16x64x256_1_2_3_4 (X 6)) : FVec Ideal S1x2x16x64x256 .f32)⟩, ⟨S1x2x16x64x256, ((broadcastInDim S1x2x16x64x256 ![1, 2, 3, 4] bcast_S2x16x64x256_S1x2x16x64x256_1_2_3_4 (X 7)) : FVec Ideal S1x2x16x64x256 .f32)⟩, ⟨S1x2x16x64x256, ((broadcastInDim S1x2x16x64x256 ![1, 2, 3, 4] bcast_S2x16x64x256_S1x2x16x64x256_1_2_3_4 (X 8)) : FVec Ideal S1x2x16x64x256 .f32)⟩, ⟨S1x2x16x64x256, ((broadcastInDim S1x2x16x64x256 ![1, 2, 3, 4] bcast_S2x16x64x256_S1x2x16x64x256_1_2_3_4 (X 9)) : FVec Ideal S1x2x16x64x256 .f32)⟩, ⟨S1x2x16x64x256, ((broadcastInDim S1x2x16x64x256 ![1, 2, 3, 4] bcast_S2x16x64x256_S1x2x16x64x256_1_2_3_4 (X 10)) : FVec Ideal S1x2x16x64x256 .f32)⟩, ⟨S1x2x16x64x256, ((broadcastInDim S1x2x16x64x256 ![1, 2, 3, 4] bcast_S2x16x64x256_S1x2x16x64x256_1_2_3_4 (X 11)) : FVec Ideal S1x2x16x64x256 .f32)⟩, ⟨S1x2x16x64x256, ((broadcastInDim S1x2x16x64x256 ![1, 2, 3, 4] bcast_S2x16x64x256_S1x2x16x64x256_1_2_3_4 (X 12)) : FVec Ideal S1x2x16x64x256 .f32)⟩, ⟨S1x2x16x64x256, ((broadcastInDim S1x2x16x64x256 ![1, 2, 3, 4] bcast_S2x16x64x256_S1x2x16x64x256_1_2_3_4 (X 13)) : FVec Ideal S1x2x16x64x256 .f32)⟩]
    concatenates_S1x2x16x64x256_S1x2x16x64x256_S1x2x16x64x256_S1x2x16x64x256_S1x2x16x64x256_S1x2x16x64x256_S1x2x16x64x256_S1x2x16x64x256_S1x2x16x64x256_S1x2x16x64x256_S1x2x16x64x256_S1x2x16x64x256_S1x2x16x64x256_S1x2x16x64x256_S14x2x16x64x256_d0

/-- Member `n` of the stack is chunk `n`'s array. -/
theorem stack_apply (X : Fin 14 → FVec Ideal S2x16x64x256 .f32) (n : Fin 14) (b : Fin 2) (h : Fin 16) (r : Fin 64) (c : Fin 256) :
    stack X (ix5 n b h r c) = X n (ix4 b h r c) := by
  have e : ∀ m : Fin 14, m.val = n.val → X m (ix4 b h r c) = X n (ix4 b h r c) := fun m hm => by rw [Fin.ext hm]
  unfold stack
  pointwise
  fin_vals n with hk
  all_goals simp only [hk, Nat.reduceSub, Nat.reduceLT, ↓reduceDIte]
  all_goals exact e _ hk.symm

variable {V0 : Valuation τ sig (Elt Ideal)} {A : RArgs} (H : In V0 A)

/-- Every chunk's gradient of the corrected values. -/
def dUs (V0 : Valuation τ sig (Elt Ideal)) : Fin 14 → FVec Ideal S2x16x64x256 .f32 :=
  ![res_main_v430 V0,
    res_main_v406 V0,
    res_main_v382 V0,
    res_main_v358 V0,
    res_main_v334 V0,
    res_main_v310 V0,
    res_main_v286 V0,
    res_main_v262 V0,
    res_main_v238 V0,
    res_main_v214 V0,
    res_main_v190 V0,
    res_main_v166 V0,
    res_main_v142 V0,
    res_main_v118 V0]

include H

theorem dUs_is (n : Fin 14) : IsU (dUs V0 n) (fun b g h => (A.blk b g n).U h (stR (A.blk b g) h (13 - n.val))) :=
  match n with
  | 0 => u_0 H
  | 1 => u_1 H
  | 2 => u_2 H
  | 3 => u_3 H
  | 4 => u_4 H
  | 5 => u_5 H
  | 6 => u_6 H
  | 7 => u_7 H
  | 8 => u_8 H
  | 9 => u_9 H
  | 10 => u_10 H
  | 11 => u_11 H
  | 12 => u_12 H
  | 13 => u_13 H

/-- The result before its last reshape. -/
theorem dv_apply (n : Fin 14) (b : Fin 2) (g h : Fin 4) (r : Fin 64) (c : Fin 256) :
    Host.dotGeneral (φ₁ := .f32) (φ₂ := .f32) dot_S14x2x16x64x64_S14x2x16x64x256_S14x2x16x64x256_3_3_4_4_012_012 (some .fp32) (res_main_v97 V0 : FVec Ideal S14x2x16x64x64 .f32) (stack (dUs V0)) (ix5 n b (hd g h) r c)
      = ((((1 + (A.blk b g n).A h)⁻¹.transpose * (A.blk b g n).U h (stR (A.blk b g) h (13 - n.val))) r c : ℝ) : EReal) := by
  have e1 := fun x => v97_isM H n b g h x r
  have e2 := fun x => (stack_apply (dUs V0) n b (hd g h) x c).trans (dUs_is H n b g h x c)
  generalize res_main_v97 V0 = P at e1 ⊢
  generalize stack (dUs V0) = O at e2 ⊢
  pointwise
  exact (sum_is e1 e2).trans (congrArg _ (by rw [Matrix.mul_apply]; rfl))

/-- The value gradient the reference returns. -/
theorem result_eq : (truncf .bf16 (shapeCast S2x16x896x256 (transpose S2x16x14x64x256 [1, 2, 0, 3, 4] (mulf (broadcastInDim S14x2x16x64x256 ![0, 1, 2, 3, 4] bcast_S14x2x16x64x1_S14x2x16x64x256_0_1_2_3_4 (broadcastInDim S14x2x16x64x1 ![0, 1, 2, 3] bcast_S14x2x16x64_S14x2x16x64x1_0_1_2_3 (res_main_v27 V0 : FVec Ideal S14x2x16x64 .f32)))
      (Host.dotGeneral (φ₁ := .f32) (φ₂ := .f32) dot_S14x2x16x64x64_S14x2x16x64x256_S14x2x16x64x256_3_3_4_4_012_012 (some .fp32) (res_main_v97 V0 : FVec Ideal S14x2x16x64x64 .f32) (stack (dUs V0))))
      transposes_S14x2x16x64x256_S2x16x14x64x256_1_2_0_3_4) shapeCasts_S2x16x14x64x256_S2x16x896x256) bitsLt_bf16_f32 : FVec Ideal S2x16x896x256 .bf16) = DvSpec A := by
  funext y
  obtain ⟨b, g, h, n, r, c, rfl⟩ : ∃ b g h n r c, y = ix4 b (hd g h) (row n r) c := by
    have h1 : (y 1).val < 16 := (y 1).isLt
    have h2 : (y 2).val < 896 := (y 2).isLt
    refine ⟨y 0, ⟨(y 1).val / 4, by omega⟩, ⟨(y 1).val % 4, by omega⟩, ⟨(y 2).val / 64, by omega⟩, ⟨(y 2).val % 64, by omega⟩, y 3, funext fun a => ?_⟩
    match a with
    | 0 => rfl
    | 1 => exact Fin.ext (Nat.div_add_mod _ _).symm
    | 2 => exact Fin.ext (Nat.div_add_mod _ _).symm
    | 3 => rfl
  refine Eq.trans ?_ (DvSpec_row A b g h n r c).symm
  have e1 := v27_is H n b g h r
  have e2 := dv_apply H n b g h r c
  generalize Host.dotGeneral (φ₁ := .f32) (φ₂ := .f32) dot_S14x2x16x64x64_S14x2x16x64x256_S14x2x16x64x256_3_3_4_4_012_012 (some .fp32) (res_main_v97 V0 : FVec Ideal S14x2x16x64x64 .f32) (stack (dUs V0)) = Z at e2 ⊢
  generalize res_main_v27 V0 = B at e1 ⊢
  pointwise [row]
  exact mul_is e1 e2

end Cert.ReferenceIdeal.Val
-- ==== Proof.Value.RefLoopQ.lean ====
/- The reference's forward chunk loop, as real numbers. -/
module

public import proofs.«01_k».proof.Proof.Value.RefLoop

@[expose] public section

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.Tactic
open Cert.KernelIdeal.Head (RArgs RBlk hd row cum stR stF c128 c128_coe exp_coe exp_bot coe_sum)

variable {V0 : Valuation τ sig (Elt Ideal)} {A : RArgs} (H : In V0 A) (n : Fin 14)

include H

/-- The corrected values before the state's part. -/
theorem v474_is (b : Fin 2) (g h : Fin 4) (r : Fin 64) (c : Fin 256) : (res_main_v474 V0 : Vec Ideal S14x2x16x64x256 .f32) (ix5 n b (hd g h) r c)
    = ((∑ s, (1 + (A.blk b g n).A h)⁻¹ r s * ((A.blk b g n).be s h * (A.blk b g n).v h s c) : ℝ) : EReal) := by
  unfold res_main_v474 res_main_v473 res_main_v470
  pointwise
  refine sum_is (fun x => v97_isM H n b g h r x) (fun x => mul_is (v27_is H n b g h x) ?_)
  rw [row_eq]
  exact H.v b _ _ c

omit H in
/-- The corrected values in the two orders the two programs take them. -/
theorem fu_sum (R : RBlk) (h : Fin 4) (St : Matrix (Fin 128) (Fin 256) ℝ) (r : Fin 64) (c : Fin 256) :
    ∑ s, (1 + R.A h)⁻¹ r s * (R.be s h * R.v h s c)
      - ∑ x, (∑ s, (1 + R.A h)⁻¹ r s * (R.be s h * Real.exp (cum R.la s h) * (R.k h s x * R.sk h))) * St x c = R.FU h St r c := by
  unfold RBlk.FU
  rw [Matrix.mul_apply]
  simp only [Finset.sum_mul]
  rw [Finset.sum_comm, ← Finset.sum_sub_distrib]
  refine Finset.sum_congr rfl fun s _ => ?_
  unfold RBlk.X
  rw [Matrix.mul_apply, Finset.sum_mul, mul_sub, mul_sub, Finset.mul_sum, Finset.mul_sum, Finset.mul_sum]
  refine congrArg (fun z : ℝ => _ - z) (Finset.sum_congr rfl fun x _ => ?_)
  ring

/-- One chunk's corrected values from the state. -/
theorem stepFU {D : FVec Ideal S2x16x128x256 .f32} {St : Fin 2 → Fin 4 → Fin 4 → Matrix (Fin 128) (Fin 256) ℝ} (hD : IsS D St)
    (h1 : S14x2x16x64x256.Slices ![n.val, 0, 0, 0, 0] S1x2x16x64x256) (h2 : S14x2x16x64x128.Slices ![n.val, 0, 0, 0, 0] S1x2x16x64x128) :
    IsU (subf (shapeCast S2x16x64x256 (extractStridedSlice S1x2x16x64x256 ![n.val, 0, 0, 0, 0] (res_main_v474 V0 : FVec Ideal S14x2x16x64x256 .f32) h1) shapeCasts_S1x2x16x64x256_S2x16x64x256)
      (Host.dotGeneral (φ₁ := .f32) (φ₂ := .f32) dot_S2x16x64x128_S2x16x128x256_S2x16x64x256_3_2_2_3_01_01 (some .fp32)
        (shapeCast S2x16x64x128 (extractStridedSlice S1x2x16x64x128 ![n.val, 0, 0, 0, 0] (res_main_v102 V0 : FVec Ideal S14x2x16x64x128 .f32) h2) shapeCasts_S1x2x16x64x128_S2x16x64x128) D))
      fun b g h => (A.blk b g n).FU h (St b g h) := fun b g h r c => by
  have e1 := v474_is H n b g h r c
  have e2 := fun x => v102_is H n b g h r x
  generalize res_main_v474 V0 = P at e1 ⊢
  generalize res_main_v102 V0 = O at e2 ⊢
  pointwise
  exact (sub_is e1 (sum_is e2 (fun x => hD b g h x c))).trans (congrArg _ (fu_sum _ _ _ _ _))

/-- One chunk's next state. -/
theorem stepFS {D : FVec Ideal S2x16x128x256 .f32} {St : Fin 2 → Fin 4 → Fin 4 → Matrix (Fin 128) (Fin 256) ℝ} (hD : IsS D St)
    {E : FVec Ideal S2x16x64x256 .f32} (hE : IsU E fun b g h => (A.blk b g n).FU h (St b g h))
    (h1 : S14x2x16x64x128.Slices ![n.val, 0, 0, 0, 0] S1x2x16x64x128) (h3 : S14x2x16.Slices ![n.val, 0, 0] S1x2x16) :
    IsS (addf (mulf (broadcastInDim S2x16x128x256 ![0, 1, 2, 3] bcast_S2x16x1x1_S2x16x128x256_0_1_2_3 (broadcastInDim S2x16x1x1 ![0, 1] bcast_S2x16_S2x16x1x1_0_1
          (shapeCast S2x16 (extractStridedSlice S1x2x16 ![n.val, 0, 0] (res_main_v32 V0 : FVec Ideal S14x2x16 .f32) h3) shapeCasts_S1x2x16_S2x16))) D)
      (Host.dotGeneral (φ₁ := .f32) (φ₂ := .f32) dot_S2x16x64x128_S2x16x64x256_S2x16x128x256_2_2_3_3_01_01 (some .fp32)
        (shapeCast S2x16x64x128 (extractStridedSlice S1x2x16x64x128 ![n.val, 0, 0, 0, 0] (res_main_v105 V0 : FVec Ideal S14x2x16x64x128 .f32) h1) shapeCasts_S1x2x16x64x128_S2x16x64x128) E))
      fun b g h => (A.blk b g n).FS h (St b g h) := fun b g h r c => by
  have e3 := v32_is H n b g h
  have e4 := fun x => v105_is H n b g h x r
  generalize res_main_v32 V0 = K at e3 ⊢
  generalize res_main_v105 V0 = W at e4 ⊢
  pointwise
  refine (add_is (mul_is e3 (hD b g h r c)) (sum_is e4 (fun x => hE b g h x c))).trans (congrArg _ ?_)
  unfold RBlk.FS
  rw [Matrix.mul_apply, Finset.mul_sum]
  refine congrArg (fun y : ℝ => _ + y) (Finset.sum_congr rfl fun x _ => ?_)
  rw [Matrix.transpose_apply, RBlk.Y]; ring

/-- The state before any chunk is zero. -/
theorem fstate_0 : IsS (res_main_v475 V0) (fun b g h => stF (A.blk b g) h 0) := fun b g h r c => by
  unfold res_main_v475
  pointwise
  exact EReal.coe_zero.symm

theorem fu_0 : IsU (res_main_v481 V0) (fun b g h => (A.blk b g 0).FU h (stF (A.blk b g) h 0)) :=
  stepFU H 0 (fstate_0 H) slices_S14x2x16x64x256_S1x2x16x64x256_0_0_0_0_0 slices_S14x2x16x64x128_S1x2x16x64x128_0_0_0_0_0
theorem fstate_1 : IsS (res_main_v490 V0) (fun b g h => stF (A.blk b g) h 1) :=
  stepFS H 0 (fstate_0 H) (fu_0 H) slices_S14x2x16x64x128_S1x2x16x64x128_0_0_0_0_0 slices_S14x2x16_S1x2x16_0_0_0
theorem fu_1 : IsU (res_main_v496 V0) (fun b g h => (A.blk b g 1).FU h (stF (A.blk b g) h 1)) :=
  stepFU H 1 (fstate_1 H) slices_S14x2x16x64x256_S1x2x16x64x256_1_0_0_0_0 slices_S14x2x16x64x128_S1x2x16x64x128_1_0_0_0_0
theorem fstate_2 : IsS (res_main_v505 V0) (fun b g h => stF (A.blk b g) h 2) :=
  stepFS H 1 (fstate_1 H) (fu_1 H) slices_S14x2x16x64x128_S1x2x16x64x128_1_0_0_0_0 slices_S14x2x16_S1x2x16_1_0_0
theorem fu_2 : IsU (res_main_v511 V0) (fun b g h => (A.blk b g 2).FU h (stF (A.blk b g) h 2)) :=
  stepFU H 2 (fstate_2 H) slices_S14x2x16x64x256_S1x2x16x64x256_2_0_0_0_0 slices_S14x2x16x64x128_S1x2x16x64x128_2_0_0_0_0
theorem fstate_3 : IsS (res_main_v520 V0) (fun b g h => stF (A.blk b g) h 3) :=
  stepFS H 2 (fstate_2 H) (fu_2 H) slices_S14x2x16x64x128_S1x2x16x64x128_2_0_0_0_0 slices_S14x2x16_S1x2x16_2_0_0
theorem fu_3 : IsU (res_main_v526 V0) (fun b g h => (A.blk b g 3).FU h (stF (A.blk b g) h 3)) :=
  stepFU H 3 (fstate_3 H) slices_S14x2x16x64x256_S1x2x16x64x256_3_0_0_0_0 slices_S14x2x16x64x128_S1x2x16x64x128_3_0_0_0_0
theorem fstate_4 : IsS (res_main_v535 V0) (fun b g h => stF (A.blk b g) h 4) :=
  stepFS H 3 (fstate_3 H) (fu_3 H) slices_S14x2x16x64x128_S1x2x16x64x128_3_0_0_0_0 slices_S14x2x16_S1x2x16_3_0_0
theorem fu_4 : IsU (res_main_v541 V0) (fun b g h => (A.blk b g 4).FU h (stF (A.blk b g) h 4)) :=
  stepFU H 4 (fstate_4 H) slices_S14x2x16x64x256_S1x2x16x64x256_4_0_0_0_0 slices_S14x2x16x64x128_S1x2x16x64x128_4_0_0_0_0
theorem fstate_5 : IsS (res_main_v550 V0) (fun b g h => stF (A.blk b g) h 5) :=
  stepFS H 4 (fstate_4 H) (fu_4 H) slices_S14x2x16x64x128_S1x2x16x64x128_4_0_0_0_0 slices_S14x2x16_S1x2x16_4_0_0
theorem fu_5 : IsU (res_main_v556 V0) (fun b g h => (A.blk b g 5).FU h (stF (A.blk b g) h 5)) :=
  stepFU H 5 (fstate_5 H) slices_S14x2x16x64x256_S1x2x16x64x256_5_0_0_0_0 slices_S14x2x16x64x128_S1x2x16x64x128_5_0_0_0_0
theorem fstate_6 : IsS (res_main_v565 V0) (fun b g h => stF (A.blk b g) h 6) :=
  stepFS H 5 (fstate_5 H) (fu_5 H) slices_S14x2x16x64x128_S1x2x16x64x128_5_0_0_0_0 slices_S14x2x16_S1x2x16_5_0_0
theorem fu_6 : IsU (res_main_v571 V0) (fun b g h => (A.blk b g 6).FU h (stF (A.blk b g) h 6)) :=
  stepFU H 6 (fstate_6 H) slices_S14x2x16x64x256_S1x2x16x64x256_6_0_0_0_0 slices_S14x2x16x64x128_S1x2x16x64x128_6_0_0_0_0
theorem fstate_7 : IsS (res_main_v580 V0) (fun b g h => stF (A.blk b g) h 7) :=
  stepFS H 6 (fstate_6 H) (fu_6 H) slices_S14x2x16x64x128_S1x2x16x64x128_6_0_0_0_0 slices_S14x2x16_S1x2x16_6_0_0
theorem fu_7 : IsU (res_main_v586 V0) (fun b g h => (A.blk b g 7).FU h (stF (A.blk b g) h 7)) :=
  stepFU H 7 (fstate_7 H) slices_S14x2x16x64x256_S1x2x16x64x256_7_0_0_0_0 slices_S14x2x16x64x128_S1x2x16x64x128_7_0_0_0_0
theorem fstate_8 : IsS (res_main_v595 V0) (fun b g h => stF (A.blk b g) h 8) :=
  stepFS H 7 (fstate_7 H) (fu_7 H) slices_S14x2x16x64x128_S1x2x16x64x128_7_0_0_0_0 slices_S14x2x16_S1x2x16_7_0_0
theorem fu_8 : IsU (res_main_v601 V0) (fun b g h => (A.blk b g 8).FU h (stF (A.blk b g) h 8)) :=
  stepFU H 8 (fstate_8 H) slices_S14x2x16x64x256_S1x2x16x64x256_8_0_0_0_0 slices_S14x2x16x64x128_S1x2x16x64x128_8_0_0_0_0
theorem fstate_9 : IsS (res_main_v610 V0) (fun b g h => stF (A.blk b g) h 9) :=
  stepFS H 8 (fstate_8 H) (fu_8 H) slices_S14x2x16x64x128_S1x2x16x64x128_8_0_0_0_0 slices_S14x2x16_S1x2x16_8_0_0
theorem fu_9 : IsU (res_main_v616 V0) (fun b g h => (A.blk b g 9).FU h (stF (A.blk b g) h 9)) :=
  stepFU H 9 (fstate_9 H) slices_S14x2x16x64x256_S1x2x16x64x256_9_0_0_0_0 slices_S14x2x16x64x128_S1x2x16x64x128_9_0_0_0_0
theorem fstate_10 : IsS (res_main_v625 V0) (fun b g h => stF (A.blk b g) h 10) :=
  stepFS H 9 (fstate_9 H) (fu_9 H) slices_S14x2x16x64x128_S1x2x16x64x128_9_0_0_0_0 slices_S14x2x16_S1x2x16_9_0_0
theorem fu_10 : IsU (res_main_v631 V0) (fun b g h => (A.blk b g 10).FU h (stF (A.blk b g) h 10)) :=
  stepFU H 10 (fstate_10 H) slices_S14x2x16x64x256_S1x2x16x64x256_10_0_0_0_0 slices_S14x2x16x64x128_S1x2x16x64x128_10_0_0_0_0
theorem fstate_11 : IsS (res_main_v640 V0) (fun b g h => stF (A.blk b g) h 11) :=
  stepFS H 10 (fstate_10 H) (fu_10 H) slices_S14x2x16x64x128_S1x2x16x64x128_10_0_0_0_0 slices_S14x2x16_S1x2x16_10_0_0
theorem fu_11 : IsU (res_main_v646 V0) (fun b g h => (A.blk b g 11).FU h (stF (A.blk b g) h 11)) :=
  stepFU H 11 (fstate_11 H) slices_S14x2x16x64x256_S1x2x16x64x256_11_0_0_0_0 slices_S14x2x16x64x128_S1x2x16x64x128_11_0_0_0_0
theorem fstate_12 : IsS (res_main_v655 V0) (fun b g h => stF (A.blk b g) h 12) :=
  stepFS H 11 (fstate_11 H) (fu_11 H) slices_S14x2x16x64x128_S1x2x16x64x128_11_0_0_0_0 slices_S14x2x16_S1x2x16_11_0_0
theorem fu_12 : IsU (res_main_v661 V0) (fun b g h => (A.blk b g 12).FU h (stF (A.blk b g) h 12)) :=
  stepFU H 12 (fstate_12 H) slices_S14x2x16x64x256_S1x2x16x64x256_12_0_0_0_0 slices_S14x2x16x64x128_S1x2x16x64x128_12_0_0_0_0
theorem fstate_13 : IsS (res_main_v670 V0) (fun b g h => stF (A.blk b g) h 13) :=
  stepFS H 12 (fstate_12 H) (fu_12 H) slices_S14x2x16x64x128_S1x2x16x64x128_12_0_0_0_0 slices_S14x2x16_S1x2x16_12_0_0
theorem fu_13 : IsU (res_main_v676 V0) (fun b g h => (A.blk b g 13).FU h (stF (A.blk b g) h 13)) :=
  stepFU H 13 (fstate_13 H) slices_S14x2x16x64x256_S1x2x16x64x256_13_0_0_0_0 slices_S14x2x16x64x128_S1x2x16x64x128_13_0_0_0_0

end Cert.ReferenceIdeal.Val
-- ==== Proof.Value.RefQ.lean ====
/- The query gradient the reference returns, as real numbers. -/
module

public import proofs.«01_k».proof.Proof.Value.Ref
public import proofs.«01_k».proof.Proof.Value.RefLoopQ

@[expose] public section

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.Tactic
open Cert.KernelIdeal.Head (RArgs RBlk hd row cum stF DqSpec DqSpec_row c128)

/-- The chunks' states laid end to end. -/
def stackS (X : Fin 14 → FVec Ideal S2x16x128x256 .f32) : FVec Ideal S14x2x16x128x256 .f32 :=
  concatenate S14x2x16x128x256 0 [⟨S1x2x16x128x256, ((broadcastInDim S1x2x16x128x256 ![1, 2, 3, 4] bcast_S2x16x128x256_S1x2x16x128x256_1_2_3_4 (X 0)) : FVec Ideal S1x2x16x128x256 .f32)⟩, ⟨S1x2x16x128x256, ((broadcastInDim S1x2x16x128x256 ![1, 2, 3, 4] bcast_S2x16x128x256_S1x2x16x128x256_1_2_3_4 (X 1)) : FVec Ideal S1x2x16x128x256 .f32)⟩, ⟨S1x2x16x128x256, ((broadcastInDim S1x2x16x128x256 ![1, 2, 3, 4] bcast_S2x16x128x256_S1x2x16x128x256_1_2_3_4 (X 2)) : FVec Ideal S1x2x16x128x256 .f32)⟩, ⟨S1x2x16x128x256, ((broadcastInDim S1x2x16x128x256 ![1, 2, 3, 4] bcast_S2x16x128x256_S1x2x16x128x256_1_2_3_4 (X 3)) : FVec Ideal S1x2x16x128x256 .f32)⟩, ⟨S1x2x16x128x256, ((broadcastInDim S1x2x16x128x256 ![1, 2, 3, 4] bcast_S2x16x128x256_S1x2x16x128x256_1_2_3_4 (X 4)) : FVec Ideal S1x2x16x128x256 .f32)⟩, ⟨S1x2x16x128x256, ((broadcastInDim S1x2x16x128x256 ![1, 2, 3, 4] bcast_S2x16x128x256_S1x2x16x128x256_1_2_3_4 (X 5)) : FVec Ideal S1x2x16x128x256 .f32)⟩, ⟨S1x2x16x128x256, ((broadcastInDim S1x2x16x128x256 ![1, 2, 3, 4] bcast_S2x16x128x256_S1x2x16x128x256_1_2_3_4 (X 6)) : FVec Ideal S1x2x16x128x256 .f32)⟩, ⟨S1x2x16x128x256, ((broadcastInDim S1x2x16x128x256 ![1, 2, 3, 4] bcast_S2x16x128x256_S1x2x16x128x256_1_2_3_4 (X 7)) : FVec Ideal S1x2x16x128x256 .f32)⟩, ⟨S1x2x16x128x256, ((broadcastInDim S1x2x16x128x256 ![1, 2, 3, 4] bcast_S2x16x128x256_S1x2x16x128x256_1_2_3_4 (X 8)) : FVec Ideal S1x2x16x128x256 .f32)⟩, ⟨S1x2x16x128x256, ((broadcastInDim S1x2x16x128x256 ![1, 2, 3, 4] bcast_S2x16x128x256_S1x2x16x128x256_1_2_3_4 (X 9)) : FVec Ideal S1x2x16x128x256 .f32)⟩, ⟨S1x2x16x128x256, ((broadcastInDim S1x2x16x128x256 ![1, 2, 3, 4] bcast_S2x16x128x256_S1x2x16x128x256_1_2_3_4 (X 10)) : FVec Ideal S1x2x16x128x256 .f32)⟩, ⟨S1x2x16x128x256, ((broadcastInDim S1x2x16x128x256 ![1, 2, 3, 4] bcast_S2x16x128x256_S1x2x16x128x256_1_2_3_4 (X 11)) : FVec Ideal S1x2x16x128x256 .f32)⟩, ⟨S1x2x16x128x256, ((broadcastInDim S1x2x16x128x256 ![1, 2, 3, 4] bcast_S2x16x128x256_S1x2x16x128x256_1_2_3_4 (X 12)) : FVec Ideal S1x2x16x128x256 .f32)⟩, ⟨S1x2x16x128x256, ((broadcastInDim S1x2x16x128x256 ![1, 2, 3, 4] bcast_S2x16x128x256_S1x2x16x128x256_1_2_3_4 (X 13)) : FVec Ideal S1x2x16x128x256 .f32)⟩]
    concatenates_S1x2x16x128x256_S1x2x16x128x256_S1x2x16x128x256_S1x2x16x128x256_S1x2x16x128x256_S1x2x16x128x256_S1x2x16x128x256_S1x2x16x128x256_S1x2x16x128x256_S1x2x16x128x256_S1x2x16x128x256_S1x2x16x128x256_S1x2x16x128x256_S1x2x16x128x256_S14x2x16x128x256_d0

/-- Member `n` of the stackS is chunk `n`'s state. -/
theorem stackS_apply (X : Fin 14 → FVec Ideal S2x16x128x256 .f32) (n : Fin 14) (b : Fin 2) (h : Fin 16) (r : Fin 128) (c : Fin 256) :
    stackS X (ix5 n b h r c) = X n (ix4 b h r c) := by
  have e : ∀ m : Fin 14, m.val = n.val → X m (ix4 b h r c) = X n (ix4 b h r c) := fun m hm => by rw [Fin.ext hm]
  unfold stackS
  pointwise
  fin_vals n with hk
  all_goals simp only [hk, Nat.reduceSub, Nat.reduceLT, ↓reduceDIte]
  all_goals exact e _ hk.symm

variable {V0 : Valuation τ sig (Elt Ideal)} {A : RArgs} (H : In V0 A)

/-- Every chunk's corrected values. -/
def fUs (V0 : Valuation τ sig (Elt Ideal)) : Fin 14 → FVec Ideal S2x16x64x256 .f32 :=
  ![res_main_v481 V0,
    res_main_v496 V0,
    res_main_v511 V0,
    res_main_v526 V0,
    res_main_v541 V0,
    res_main_v556 V0,
    res_main_v571 V0,
    res_main_v586 V0,
    res_main_v601 V0,
    res_main_v616 V0,
    res_main_v631 V0,
    res_main_v646 V0,
    res_main_v661 V0,
    res_main_v676 V0]

/-- Every chunk's state. -/
def fSs (V0 : Valuation τ sig (Elt Ideal)) : Fin 14 → FVec Ideal S2x16x128x256 .f32 :=
  ![res_main_v475 V0,
    res_main_v490 V0,
    res_main_v505 V0,
    res_main_v520 V0,
    res_main_v535 V0,
    res_main_v550 V0,
    res_main_v565 V0,
    res_main_v580 V0,
    res_main_v595 V0,
    res_main_v610 V0,
    res_main_v625 V0,
    res_main_v640 V0,
    res_main_v655 V0,
    res_main_v670 V0]

include H

theorem fUs_is (n : Fin 14) : IsU (fUs V0 n) (fun b g h => (A.blk b g n).FU h (stF (A.blk b g) h n.val)) :=
  match n with
  | 0 => fu_0 H
  | 1 => fu_1 H
  | 2 => fu_2 H
  | 3 => fu_3 H
  | 4 => fu_4 H
  | 5 => fu_5 H
  | 6 => fu_6 H
  | 7 => fu_7 H
  | 8 => fu_8 H
  | 9 => fu_9 H
  | 10 => fu_10 H
  | 11 => fu_11 H
  | 12 => fu_12 H
  | 13 => fu_13 H

theorem fSs_is (n : Fin 14) : IsS (fSs V0 n) (fun b g h => stF (A.blk b g) h n.val) :=
  match n with
  | 0 => fstate_0 H
  | 1 => fstate_1 H
  | 2 => fstate_2 H
  | 3 => fstate_3 H
  | 4 => fstate_4 H
  | 5 => fstate_5 H
  | 6 => fstate_6 H
  | 7 => fstate_7 H
  | 8 => fstate_8 H
  | 9 => fstate_9 H
  | 10 => fstate_10 H
  | 11 => fstate_11 H
  | 12 => fstate_12 H
  | 13 => fstate_13 H

/-- The states laid end to end. -/
theorem v700_is (n : Fin 14) (b : Fin 2) (g h : Fin 4) (r : Fin 128) (c : Fin 256) :
    (res_main_v700 V0 : FVec Ideal S14x2x16x128x256 .f32) (ix5 n b (hd g h) r c) = ((stF (A.blk b g) h n.val r c : ℝ) : EReal) := by
  rw [show (res_main_v700 V0 : FVec Ideal S14x2x16x128x256 .f32) = stackS (fSs V0) from rfl]
  exact (stackS_apply (fSs V0) n b (hd g h) r c).trans (fSs_is H n b g h r c)

/-- The corrected values laid end to end. -/
theorem v715_is (n : Fin 14) (b : Fin 2) (g h : Fin 4) (r : Fin 64) (c : Fin 256) :
    (res_main_v715 V0 : FVec Ideal S14x2x16x64x256 .f32) (ix5 n b (hd g h) r c) = (((A.blk b g n).FU h (stF (A.blk b g) h n.val) r c : ℝ) : EReal) := by
  rw [show (res_main_v715 V0 : FVec Ideal S14x2x16x64x256 .f32) = stack (fUs V0) from rfl]
  exact (stack_apply (fUs V0) n b (hd g h) r c).trans (fUs_is H n b g h r c)

/-- The gradient of the attention weights. -/
theorem v717_is (n : Fin 14) (b : Fin 2) (g h : Fin 4) (r s : Fin 64) :
    (res_main_v717 V0 : FVec Ideal S14x2x16x64x64 .f32) (ix5 n b (hd g h) r s)
      = (((A.blk b g n).DQ h (stF (A.blk b g) h n.val) r s : ℝ) : EReal) := by
  have e1 := fun x => v23_is H n b g h r x
  have e2 := fun x => v715_is H n b g h s x
  have e3 := v54_is H n b g h r s
  unfold res_main_v717
  generalize res_main_v23 V0 = P at e1 ⊢
  generalize res_main_v715 V0 = O at e2 ⊢
  generalize res_main_v54 V0 = D at e3 ⊢
  pointwise
  refine (mul_is (sum_is e1 e2) e3).trans (congrArg _ ?_)
  unfold RBlk.DQ
  rw [Matrix.mul_apply]
  simp only [Finset.sum_mul]
  refine Finset.sum_congr rfl fun x _ => ?_
  rw [Matrix.transpose_apply]; ring

/-- The query gradient before its last reshape. -/
def dqE (V0 : Valuation τ sig (Elt Ideal)) : FVec Ideal S14x2x16x64x128 .f32 :=
  addf (mulf (broadcastInDim S14x2x16x64x128 ![0, 1, 2, 3, 4] bcast_S14x2x16x64x1_S14x2x16x64x128_0_1_2_3_4 (broadcastInDim S14x2x16x64x1 ![0, 1, 2, 3] bcast_S14x2x16x64_S14x2x16x64x1_0_1_2_3 (res_main_v30 V0 : FVec Ideal S14x2x16x64 .f32)))
      (Host.dotGeneral (φ₁ := .f32) (φ₂ := .f32) dot_S14x2x16x64x256_S14x2x16x128x256_S14x2x16x64x128_4_4_3_3_012_012 (some .fp32) (res_main_v23 V0 : FVec Ideal S14x2x16x64x256 .f32) (res_main_v700 V0 : FVec Ideal S14x2x16x128x256 .f32)))
    (Host.dotGeneral (φ₁ := .f32) (φ₂ := .f32) dot_S14x2x16x64x64_S14x2x16x64x128_S14x2x16x64x128_4_3_3_4_012_012 (some .fp32)
      (res_main_v717 V0 : FVec Ideal S14x2x16x64x64 .f32) (res_main_v17 V0 : FVec Ideal S14x2x16x64x128 .f32))

theorem dq_apply (n : Fin 14) (b : Fin 2) (g h : Fin 4) (r : Fin 64) (c : Fin 128) :
    dqE V0 (ix5 n b (hd g h) r c) = (((A.blk b g n).Q h (stF (A.blk b g) h n.val) r c : ℝ) : EReal) := by
  unfold dqE
  have e1 := v30_is H n b g h r
  have e2 := fun x => v23_is H n b g h r x
  have e3 := fun x => v700_is H n b g h c x
  have e4 := fun x => v717_is H n b g h r x
  have e5 := fun x => v17_is H n b g h x c
  generalize res_main_v717 V0 = Z at e4 ⊢
  generalize res_main_v30 V0 = G at e1 ⊢
  generalize res_main_v23 V0 = P at e2 ⊢
  generalize res_main_v700 V0 = O at e3 ⊢
  generalize res_main_v17 V0 = K at e5 ⊢
  pointwise
  refine (add_is (mul_is e1 (sum_is e2 e3)) (sum_is e4 e5)).trans (congrArg _ ?_)
  unfold RBlk.Q
  rw [Matrix.mul_apply, Matrix.mul_apply, Finset.sum_mul, Finset.mul_sum (s := Finset.univ) (a := (A.blk b g n).sk h)]
  refine congrArg₂ (fun x y : ℝ => x + y) (congrArg (fun z : ℝ => Real.exp (cum (A.blk b g n).la r h) * z) (Finset.sum_congr rfl fun x _ => ?_)) (Finset.sum_congr rfl fun x _ => ?_)
  · rw [Matrix.transpose_apply]; ring
  · ring

/-- The query gradient the reference returns. -/
theorem resultQ_eq : (truncf .bf16 (shapeCast S2x16x896x128 (transpose S2x16x14x64x128 [1, 2, 0, 3, 4] (dqE V0)
      transposes_S14x2x16x64x128_S2x16x14x64x128_1_2_0_3_4) shapeCasts_S2x16x14x64x128_S2x16x896x128) bitsLt_bf16_f32 : FVec Ideal S2x16x896x128 .bf16) = DqSpec A := by
  funext y
  obtain ⟨b, g, h, n, r, c, rfl⟩ : ∃ b g h n r c, y = ix4 b (hd g h) (row n r) c := by
    have h1 : (y 1).val < 16 := (y 1).isLt
    have h2 : (y 2).val < 896 := (y 2).isLt
    refine ⟨y 0, ⟨(y 1).val / 4, by omega⟩, ⟨(y 1).val % 4, by omega⟩, ⟨(y 2).val / 64, by omega⟩, ⟨(y 2).val % 64, by omega⟩, y 3, funext fun a => ?_⟩
    match a with
    | 0 => rfl
    | 1 => exact Fin.ext (Nat.div_add_mod _ _).symm
    | 2 => exact Fin.ext (Nat.div_add_mod _ _).symm
    | 3 => rfl
  refine Eq.trans ?_ (DqSpec_row A b g h n r c).symm
  have e2 := dq_apply H n b g h r c
  generalize dqE V0 = Z at e2 ⊢
  pointwise [row]
  exact e2

end Cert.ReferenceIdeal.Val
-- ==== Proof.Value.RefK.lean ====
/- The key gradient the reference returns, as real numbers. -/
module

public import proofs.«01_k».proof.Proof.Value.RefQ

@[expose] public section

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.Tactic
open Cert.KernelIdeal.Head (RArgs RBlk hd row cum stF stR DkSpec DkSpec_row c128 coe_sum exp_coe)

/-- The keys with their write strengths and decays, over the reals. -/
def xw (R : RBlk) (h : Fin 4) : Matrix (Fin 64) (Fin 128) ℝ := fun r c => R.be r h * Real.exp (cum R.la r h) * (R.k h r c * R.sk h)
/-- The values with their write strengths, over the reals. -/
def xu (R : RBlk) (h : Fin 4) : Matrix (Fin 64) (Fin 256) ℝ := fun r c => R.be r h * R.v h r c

/-- The right-hand side of the solve, taken apart. -/
theorem x_eq (R : RBlk) (h : Fin 4) (St : Matrix (Fin 128) (Fin 256) ℝ) : R.X h St = xu R h - xw R h * St := by
  ext r c
  rw [Matrix.sub_apply, Matrix.mul_apply]
  unfold RBlk.X xu xw
  rw [Matrix.mul_apply, mul_sub, Finset.sum_mul, Finset.mul_sum, Finset.mul_sum]
  refine congrArg (fun z : ℝ => R.be r h * R.v h r c - z) (Finset.sum_congr rfl fun x _ => ?_)
  ring

/-- The gradient of the solve's matrix in the two orders the two programs take it. -/
theorem da_eq (R : RBlk) (h : Fin 4) (St D : Matrix (Fin 128) (Fin 256) ℝ) :
    ((1 + R.A h)⁻¹.transpose * (-(R.U h D * St.transpose) * (xw R h).transpose + R.U h D * (xu R h).transpose)) * (1 + R.A h)⁻¹.transpose
      = R.G h D * (R.FU h St).transpose := by
  have e : -(R.U h D * St.transpose) * (xw R h).transpose + R.U h D * (xu R h).transpose
      = R.U h D * ((xu R h).transpose - St.transpose * (xw R h).transpose) := by
    rw [Matrix.mul_sub, Matrix.neg_mul, Matrix.mul_assoc]; abel
  rw [e]
  unfold RBlk.G RBlk.FU
  rw [x_eq, Matrix.transpose_mul, Matrix.transpose_sub, Matrix.transpose_mul]
  simp only [Matrix.mul_assoc]

variable {V0 : Valuation τ sig (Elt Ideal)} {A : RArgs} (H : In V0 A)

/-- Every chunk's state gradient. -/
def dSs (V0 : Valuation τ sig (Elt Ideal)) : Fin 14 → FVec Ideal S2x16x128x256 .f32 :=
  ![res_main_v421 V0,
    res_main_v397 V0,
    res_main_v373 V0,
    res_main_v349 V0,
    res_main_v325 V0,
    res_main_v301 V0,
    res_main_v277 V0,
    res_main_v253 V0,
    res_main_v229 V0,
    res_main_v205 V0,
    res_main_v181 V0,
    res_main_v157 V0,
    res_main_v133 V0,
    res_main_v109 V0]

/-- The key gradient before its last reshape. -/
def dkv (V0 : Valuation τ sig (Elt Ideal)) : FVec Ideal S14x2x16x64x128 .f32 :=
  addf (addf (addf (Host.dotGeneral (φ₁ := .f32) (φ₂ := .f32) dot_S14x2x16x64x64_S14x2x16x64x128_S14x2x16x64x128_3_3_4_4_012_012 (some .fp32) (res_main_v717 V0 : FVec Ideal S14x2x16x64x64 .f32) (res_main_v13 V0 : FVec Ideal S14x2x16x64x128 .f32)) (mulf (broadcastInDim S14x2x16x64x128 ![0, 1, 2, 3, 4] bcast_S14x2x16x64x1_S14x2x16x64x128_0_1_2_3_4 (broadcastInDim S14x2x16x64x1 ![0, 1, 2, 3] bcast_S14x2x16x64_S14x2x16x64x1_0_1_2_3 (res_main_v36 V0 : FVec Ideal S14x2x16x64 .f32))) (Host.dotGeneral (φ₁ := .f32) (φ₂ := .f32) dot_S14x2x16x64x256_S14x2x16x128x256_S14x2x16x64x128_4_4_3_3_012_012 (some .fp32) (res_main_v715 V0 : FVec Ideal S14x2x16x64x256 .f32) (stackS (dSs V0)))))
        (mulf (broadcastInDim S14x2x16x64x128 ![0, 1, 2, 3, 4] bcast_S14x2x16x64x1_S14x2x16x64x128_0_1_2_3_4 (broadcastInDim S14x2x16x64x1 ![0, 1, 2, 3] bcast_S14x2x16x64_S14x2x16x64x1_0_1_2_3 (res_main_v98 V0 : FVec Ideal S14x2x16x64 .f32))) (Host.dotGeneral (φ₁ := .f32) (φ₂ := .f32) dot_S14x2x16x64x64_S14x2x16x64x128_S14x2x16x64x128_3_3_4_4_012_012 (some .fp32) (res_main_v97 V0 : FVec Ideal S14x2x16x64x64 .f32) (res_main_v728 V0 : FVec Ideal S14x2x16x64x128 .f32))))
        (Host.dotGeneral (φ₁ := .f32) (φ₂ := .f32) dot_S14x2x16x64x64_S14x2x16x64x128_S14x2x16x64x128_4_3_3_4_012_012 (some .fp32) (addf (res_main_v740 V0 : FVec Ideal S14x2x16x64x64 .f32) (transpose S14x2x16x64x64 [0, 1, 2, 4, 3] (res_main_v740 V0 : FVec Ideal S14x2x16x64x64 .f32) transposes_S14x2x16x64x64_S14x2x16x64x64_0_1_2_4_3)) (res_main_v17 V0 : FVec Ideal S14x2x16x64x128 .f32))

theorem v771_eq (V0 : Valuation τ sig (Elt Ideal)) : (res_main_v771 V0 : FVec Ideal S2x16x896x128 .f32)
    = shapeCast S2x16x896x128 (transpose S2x16x14x64x128 [1, 2, 0, 3, 4] (dkv V0) transposes_S14x2x16x64x128_S2x16x14x64x128_1_2_0_3_4) shapeCasts_S2x16x14x64x128_S2x16x896x128 := rfl

include H

theorem dSs_is (n : Fin 14) : IsS (dSs V0 n) (fun b g h => stR (A.blk b g) h (13 - n.val)) :=
  match n with
  | 0 => state_13 H
  | 1 => state_12 H
  | 2 => state_11 H
  | 3 => state_10 H
  | 4 => state_9 H
  | 5 => state_8 H
  | 6 => state_7 H
  | 7 => state_6 H
  | 8 => state_5 H
  | 9 => state_4 H
  | 10 => state_3 H
  | 11 => state_2 H
  | 12 => state_1 H
  | 13 => state_0 H

variable (n : Fin 14) (b : Fin 2) (g h : Fin 4)

/-- The gradients of the corrected values laid end to end. -/
theorem v460_is (r : Fin 64) (c : Fin 256) :
    (res_main_v460 V0 : FVec Ideal S14x2x16x64x256 .f32) (ix5 n b (hd g h) r c) = (((A.blk b g n).U h (stR (A.blk b g) h (13 - n.val)) r c : ℝ) : EReal) := by
  rw [show (res_main_v460 V0 : FVec Ideal S14x2x16x64x256 .f32) = stack (dUs V0) from rfl]
  exact (stack_apply (dUs V0) n b (hd g h) r c).trans (dUs_is H n b g h r c)

theorem v98_is (r : Fin 64) : (res_main_v98 V0 : Vec Ideal S14x2x16x64 .f32) (ix4 n b (hd g h) r)
    = (((A.blk b g n).be r h * Real.exp (cum (A.blk b g n).la r h) : ℝ) : EReal) := by
  unfold res_main_v98
  pointwise
  exact mul_is (v27_is H n b g h r) (v30_is H n b g h r)

theorem v36_is (r : Fin 64) : (res_main_v36 V0 : Vec Ideal S14x2x16x64 .f32) (ix4 n b (hd g h) r)
    = ((Real.exp (cum (A.blk b g n).la 63 h - cum (A.blk b g n).la r h) : ℝ) : EReal) := by
  unfold res_main_v36
  pointwise
  exact (congrArg Ideal.exp (sub_is (v29_is H n b g h 63) (v29_is H n b g h r))).trans (exp_coe _)

theorem v101_is (r : Fin 64) (c : Fin 128) : (res_main_v101 V0 : Vec Ideal S14x2x16x64x128 .f32) (ix5 n b (hd g h) r c)
    = ((xw (A.blk b g n) h r c : ℝ) : EReal) := by
  unfold res_main_v101
  pointwise
  exact mul_is (v98_is H n b g h r) (v17_is H n b g h r c)

theorem v473_is (r : Fin 64) (c : Fin 256) : (res_main_v473 V0 : Vec Ideal S14x2x16x64x256 .f32) (ix5 n b (hd g h) r c)
    = ((xu (A.blk b g n) h r c : ℝ) : EReal) := by
  unfold res_main_v473 res_main_v470
  pointwise
  refine mul_is (v27_is H n b g h r) ?_
  rw [row_eq]
  exact H.v b _ _ c

/-- The gradient of the solved keys. -/
theorem v728_is (r : Fin 64) (c : Fin 128) : (res_main_v728 V0 : Vec Ideal S14x2x16x64x128 .f32) (ix5 n b (hd g h) r c)
    = (((-((A.blk b g n).U h (stR (A.blk b g) h (13 - n.val)) * (stF (A.blk b g) h n.val).transpose)) r c : ℝ) : EReal) := by
  have e1 := fun x => v460_is H n b g h r x
  have e2 := fun x => v700_is H n b g h c x
  unfold res_main_v728
  generalize res_main_v460 V0 = P at e1 ⊢
  generalize res_main_v700 V0 = O at e2 ⊢
  pointwise
  rw [Matrix.neg_apply, EReal.coe_neg]
  refine congrArg (fun z : EReal => -z) ((sum_is e1 e2).trans (congrArg _ ?_))
  rw [Matrix.mul_apply]
  rfl

/-- The gradient of the solve's matrix, before its mask and sign. -/
theorem da_apply (r s : Fin 64) :
    (Host.dotGeneral (φ₁ := .f32) (φ₂ := .f32) dot_S14x2x16x64x64_S14x2x16x64x64_S14x2x16x64x64_4_4_3_3_012_012 (some .fp32) (Host.dotGeneral (φ₁ := .f32) (φ₂ := .f32) dot_S14x2x16x64x64_S14x2x16x64x64_S14x2x16x64x64_3_3_4_4_012_012 (some .fp32) (res_main_v97 V0 : FVec Ideal S14x2x16x64x64 .f32) (addf (Host.dotGeneral (φ₁ := .f32) (φ₂ := .f32) dot_S14x2x16x64x128_S14x2x16x64x128_S14x2x16x64x64_4_4_3_3_012_012 (some .fp32) (res_main_v728 V0 : FVec Ideal S14x2x16x64x128 .f32) (res_main_v101 V0 : FVec Ideal S14x2x16x64x128 .f32)) (Host.dotGeneral (φ₁ := .f32) (φ₂ := .f32) dot_S14x2x16x64x256_S14x2x16x64x256_S14x2x16x64x64_4_4_3_3_012_012 (some .fp32) (res_main_v460 V0 : FVec Ideal S14x2x16x64x256 .f32) (res_main_v473 V0 : FVec Ideal S14x2x16x64x256 .f32))) : FVec Ideal S14x2x16x64x64 .f32) (res_main_v97 V0 : FVec Ideal S14x2x16x64x64 .f32) : FVec Ideal S14x2x16x64x64 .f32) (ix5 n b (hd g h) r s)
      = ((((A.blk b g n).G h (stR (A.blk b g) h (13 - n.val)) * ((A.blk b g n).FU h (stF (A.blk b g) h n.val)).transpose) r s : ℝ) : EReal) := by
  rw [← da_eq]
  have e1 := fun x y => v97_isM H n b g h x y
  have e2 := fun x y => v728_is H n b g h x y
  have e3 := fun x y => v101_is H n b g h x y
  have e4 := fun x y => v460_is H n b g h x y
  have e5 := fun x y => v473_is H n b g h x y
  generalize res_main_v97 V0 = T at e1 ⊢
  generalize res_main_v728 V0 = W at e2 ⊢
  generalize res_main_v101 V0 = X at e3 ⊢
  generalize res_main_v460 V0 = U at e4 ⊢
  generalize res_main_v473 V0 = Y at e5 ⊢
  pointwise
  exact sum_is (fun x => (sum_is (fun y => e1 y r) (fun y => add_is (sum_is (fun z => e2 y z) (fun z => e3 x z)) (sum_is (fun z => e4 y z) (fun z => e5 x z))))) (fun x => e1 s x)

/-- The gradient of the solve's matrix, masked. -/
theorem v736_is (r s : Fin 64) : (res_main_v736 V0 : Vec Ideal S14x2x16x64x64 .f32) (ix5 n b (hd g h) r s)
    = ((if s < r then -((A.blk b g n).G h (stR (A.blk b g) h (13 - n.val)) * ((A.blk b g n).FU h (stF (A.blk b g) h n.val)).transpose) r s else 0 : ℝ) : EReal) := by
  have e1 := da_apply H n b g h r s
  unfold res_main_v736 res_main_v47 res_main_v37
  generalize (Host.dotGeneral (φ₁ := .f32) (φ₂ := .f32) dot_S14x2x16x64x64_S14x2x16x64x64_S14x2x16x64x64_4_4_3_3_012_012 (some .fp32) (Host.dotGeneral (φ₁ := .f32) (φ₂ := .f32) dot_S14x2x16x64x64_S14x2x16x64x64_S14x2x16x64x64_3_3_4_4_012_012 (some .fp32) (res_main_v97 V0 : FVec Ideal S14x2x16x64x64 .f32) (addf (Host.dotGeneral (φ₁ := .f32) (φ₂ := .f32) dot_S14x2x16x64x128_S14x2x16x64x128_S14x2x16x64x64_4_4_3_3_012_012 (some .fp32) (res_main_v728 V0 : FVec Ideal S14x2x16x64x128 .f32) (res_main_v101 V0 : FVec Ideal S14x2x16x64x128 .f32)) (Host.dotGeneral (φ₁ := .f32) (φ₂ := .f32) dot_S14x2x16x64x256_S14x2x16x64x256_S14x2x16x64x64_4_4_3_3_012_012 (some .fp32) (res_main_v460 V0 : FVec Ideal S14x2x16x64x256 .f32) (res_main_v473 V0 : FVec Ideal S14x2x16x64x256 .f32))) : FVec Ideal S14x2x16x64x64 .f32) (res_main_v97 V0 : FVec Ideal S14x2x16x64x64 .f32) : FVec Ideal S14x2x16x64x64 .f32) = Z at e1 ⊢
  pointwise
  rw [sgt_eq, Cert.KernelIdeal.Head.select_ofBool, e1]
  by_cases hl : s < r
  · rw [if_pos hl, if_pos hl, ← EReal.coe_neg]
  · rw [if_neg hl, if_neg hl]
    exact Ideal.ofBits_zero_f32.trans EReal.coe_zero.symm

/-- The gradient of the products of keys. -/
theorem v740_is (r s : Fin 64) : (res_main_v740 V0 : Vec Ideal S14x2x16x64x64 .f32) (ix5 n b (hd g h) r s)
    = (((A.blk b g n).DK h (stF (A.blk b g) h n.val) (stR (A.blk b g) h (13 - n.val)) r s : ℝ) : EReal) := by
  have e1 := v736_is H n b g h r s
  have e2 := v54_is H n b g h r s
  have e3 := v27_is H n b g h r
  unfold res_main_v740
  generalize res_main_v736 V0 = Z at e1 ⊢
  generalize res_main_v54 V0 = D at e2 ⊢
  generalize res_main_v27 V0 = B at e3 ⊢
  pointwise
  refine (mul_is (mul_is e1 e2) e3).trans (congrArg _ ?_)
  unfold RBlk.DK
  by_cases hl : s < r
  · rw [if_pos hl, if_pos hl, if_pos hl.le]; ring
  · rw [if_neg hl, if_neg hl]; ring

/-- Its entries. -/
theorem dk_apply (r : Fin 64) (c : Fin 128) : dkv V0 (ix5 n b (hd g h) r c)
    = (((A.blk b g n).K h (stF (A.blk b g) h n.val) (stR (A.blk b g) h (13 - n.val)) r c : ℝ) : EReal) := by
  unfold dkv
  have e1 := fun x => v717_is H n b g h x r
  have e2 := fun x => v13_is H n b g h x c
  have e3 := v36_is H n b g h r
  have e4 := fun x => v715_is H n b g h r x
  have e5 := fun x => (stackS_apply (dSs V0) n b (hd g h) c x).trans (dSs_is H n b g h c x)
  have e6 := v98_is H n b g h r
  have e7 := fun x => v97_isM H n b g h x r
  have e8 := fun x => v728_is H n b g h x c
  have e9 := fun x y => v740_is H n b g h x y
  have e10 := fun x => v17_is H n b g h x c
  generalize res_main_v717 V0 = Z1 at e1 ⊢
  generalize res_main_v13 V0 = Z2 at e2 ⊢
  generalize res_main_v36 V0 = Z3 at e3 ⊢
  generalize res_main_v715 V0 = Z4 at e4 ⊢
  generalize stackS (dSs V0) = Z5 at e5 ⊢
  generalize res_main_v98 V0 = Z6 at e6 ⊢
  generalize res_main_v97 V0 = Z7 at e7 ⊢
  generalize res_main_v728 V0 = Z8 at e8 ⊢
  generalize res_main_v740 V0 = Z9 at e9 ⊢
  generalize res_main_v17 V0 = Z10 at e10 ⊢
  pointwise
  refine (add_is (add_is (add_is (sum_is e1 e2) (mul_is e3 (sum_is e4 e5))) (mul_is e6 (sum_is e7 e8)))
    (sum_is (fun x => add_is (e9 r x) (e9 x r)) e10)).trans (congrArg _ ?_)
  have hg : ((A.blk b g n).G h (stR (A.blk b g) h (13 - n.val)) * (stF (A.blk b g) h n.val).transpose) r c
      = -∑ x, (1 + (A.blk b g n).A h)⁻¹ x r * (-((A.blk b g n).U h (stR (A.blk b g) h (13 - n.val)) * (stF (A.blk b g) h n.val).transpose)) x c := by
    unfold RBlk.G
    rw [Matrix.mul_assoc, Matrix.mul_apply, ← Finset.sum_neg_distrib]
    refine Finset.sum_congr rfl fun x _ => ?_
    rw [Matrix.neg_apply, Matrix.transpose_apply, mul_neg, neg_neg]
  have hy : ((A.blk b g n).Y h (stF (A.blk b g) h n.val) * (stR (A.blk b g) h (13 - n.val)).transpose) r c
      = Real.exp (cum (A.blk b g n).la 63 h - cum (A.blk b g n).la r h) * ∑ x, (A.blk b g n).FU h (stF (A.blk b g) h n.val) r x * stR (A.blk b g) h (13 - n.val) c x := by
    rw [Matrix.mul_apply, Finset.mul_sum]
    refine Finset.sum_congr rfl fun x _ => ?_
    rw [Matrix.transpose_apply, RBlk.Y, mul_assoc]
  have hq : ((Matrix.of fun r l => (A.blk b g n).DQ h (stF (A.blk b g) h n.val) l r * (A.blk b g n).sq h : Matrix (Fin 64) (Fin 64) ℝ) * (A.blk b g n).q h) r c
      = ∑ x, (A.blk b g n).DQ h (stF (A.blk b g) h n.val) x r * ((A.blk b g n).q h x c * (A.blk b g n).sq h) := by
    rw [Matrix.mul_apply]
    exact Finset.sum_congr rfl fun x _ => by rw [Matrix.of_apply]; ring
  have hk : ((Matrix.of fun r l => ((A.blk b g n).DK h (stF (A.blk b g) h n.val) (stR (A.blk b g) h (13 - n.val)) r l + (A.blk b g n).DK h (stF (A.blk b g) h n.val) (stR (A.blk b g) h (13 - n.val)) l r) * (A.blk b g n).sk h : Matrix (Fin 64) (Fin 64) ℝ) * (A.blk b g n).k h) r c
      = ∑ x, ((A.blk b g n).DK h (stF (A.blk b g) h n.val) (stR (A.blk b g) h (13 - n.val)) r x + (A.blk b g n).DK h (stF (A.blk b g) h n.val) (stR (A.blk b g) h (13 - n.val)) x r) * ((A.blk b g n).k h x c * (A.blk b g n).sk h) := by
    rw [Matrix.mul_apply]
    exact Finset.sum_congr rfl fun x _ => by rw [Matrix.of_apply]; ring
  unfold RBlk.K
  rw [Matrix.add_apply, hy, hg, hq, hk]
  ring

omit n b g h in
/-- The key gradient the reference returns. -/
theorem resultK_eq : (truncf .bf16 (res_main_v771 V0 : FVec Ideal S2x16x896x128 .f32) bitsLt_bf16_f32 : FVec Ideal S2x16x896x128 .bf16) = DkSpec A := by
  rw [v771_eq]
  funext y
  obtain ⟨b, g, h, n, r, c, rfl⟩ : ∃ b g h n r c, y = ix4 b (hd g h) (row n r) c := by
    have h1 : (y 1).val < 16 := (y 1).isLt
    have h2 : (y 2).val < 896 := (y 2).isLt
    refine ⟨y 0, ⟨(y 1).val / 4, by omega⟩, ⟨(y 1).val % 4, by omega⟩, ⟨(y 2).val / 64, by omega⟩, ⟨(y 2).val % 64, by omega⟩, y 3, funext fun a => ?_⟩
    match a with
    | 0 => rfl
    | 1 => exact Fin.ext (Nat.div_add_mod _ _).symm
    | 2 => exact Fin.ext (Nat.div_add_mod _ _).symm
    | 3 => rfl
  refine Eq.trans ?_ (DkSpec_row A b g h n r c).symm
  have e2 := dk_apply H n b g h r c
  generalize dkv V0 = Z at e2 ⊢
  pointwise [row]
  exact e2

end Cert.ReferenceIdeal.Val
-- ==== Proof.Value.RefB.lean ====
/- The gradient of the write strengths the reference returns, as real numbers. -/
module

public import proofs.«01_k».proof.Proof.Value.RefK

@[expose] public section

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.Tactic
open Cert.KernelIdeal.Head (RArgs RBlk hd row cum stF stR DbSpec DbSpec_row gram c128 coe_sum exp_coe)

variable {V0 : Valuation τ sig (Elt Ideal)} {A : RArgs} (H : In V0 A)
include H

variable (n : Fin 14) (b : Fin 2) (g h : Fin 4)

/-- The gradient of the solve's right-hand side. -/
theorem v461_is (r : Fin 64) (c : Fin 256) : (res_main_v461 V0 : FVec Ideal S14x2x16x64x256 .f32) (ix5 n b (hd g h) r c)
    = (((A.blk b g n).G h (stR (A.blk b g) h (13 - n.val)) r c : ℝ) : EReal) := by
  have e1 := fun x => v97_isM H n b g h x r
  have e2 := fun x => v460_is H n b g h x c
  unfold res_main_v461
  generalize res_main_v97 V0 = T at e1 ⊢
  generalize res_main_v460 V0 = P at e2 ⊢
  pointwise
  refine (sum_is e1 e2).trans (congrArg _ ?_)
  unfold RBlk.G
  rw [Matrix.mul_apply]
  rfl

theorem v470_is (r : Fin 64) (c : Fin 256) : (res_main_v470 V0 : FVec Ideal S14x2x16x64x256 .f32) (ix5 n b (hd g h) r c)
    = (((A.blk b g n).v h r c : ℝ) : EReal) := by
  unfold res_main_v470
  pointwise
  rw [row_eq]
  exact H.v b _ _ c

/-- The gradient of the solved keys' right-hand side. -/
theorem v729_is (r : Fin 64) (c : Fin 128) : (res_main_v729 V0 : FVec Ideal S14x2x16x64x128 .f32) (ix5 n b (hd g h) r c)
    = ((-((A.blk b g n).G h (stR (A.blk b g) h (13 - n.val)) * (stF (A.blk b g) h n.val).transpose) r c : ℝ) : EReal) := by
  have e1 := fun x => v97_isM H n b g h x r
  have e2 := fun x => v728_is H n b g h x c
  unfold res_main_v729
  generalize res_main_v97 V0 = T at e1 ⊢
  generalize res_main_v728 V0 = P at e2 ⊢
  pointwise
  refine (sum_is e1 e2).trans (congrArg _ ?_)
  unfold RBlk.G
  rw [Matrix.mul_assoc, Matrix.mul_apply, ← Finset.sum_neg_distrib]
  refine Finset.sum_congr rfl fun x _ => ?_
  rw [Matrix.neg_apply, Matrix.transpose_apply, mul_neg]

/-- The products of keys. -/
theorem v56_is (r s : Fin 64) : (res_main_v56 V0 : FVec Ideal S14x2x16x64x64 .f32) (ix5 n b (hd g h) r s)
    = ((gram ((A.blk b g n).k h) ((A.blk b g n).k h) r s * ((A.blk b g n).sk h * (A.blk b g n).sk h) : ℝ) : EReal) := by
  have e1 := fun x => v17_is H n b g h r x
  have e2 := fun x => v17_is H n b g h s x
  unfold res_main_v56
  generalize res_main_v17 V0 = T at e1 e2 ⊢
  pointwise
  refine (sum_is e1 e2).trans (congrArg _ ?_)
  unfold gram
  rw [Matrix.mul_apply, Finset.sum_mul]
  refine Finset.sum_congr rfl fun x _ => ?_
  rw [Matrix.transpose_apply]; ring

omit H in
theorem sumB256 {x : FVec Ideal S14x2x16x64x256 .f32} {X : Fin 256 → ℝ} {r : Fin 64} (hx : ∀ c, x (ix5 n b (hd g h) r c) = (X c : EReal)) :
    Host.reduceAdd x (constant (F := Ideal) S_ .f32 0x00000000#32) reducesTo_S14x2x16x64x256_S14x2x16x64_d4 h_S_ (ix4 n b (hd g h) r) = ((∑ c, X c : ℝ) : EReal) := by
  pointwise
  rw [← coe_sum]
  exact Finset.sum_congr rfl fun c _ => hx c

omit H in
theorem sumB128 {x : FVec Ideal S14x2x16x64x128 .f32} {X : Fin 128 → ℝ} {r : Fin 64} (hx : ∀ c, x (ix5 n b (hd g h) r c) = (X c : EReal)) :
    Host.reduceAdd x (constant (F := Ideal) S_ .f32 0x00000000#32) reducesTo_S14x2x16x64x128_S14x2x16x64_d4 h_S_ (ix4 n b (hd g h) r) = ((∑ c, X c : ℝ) : EReal) := by
  pointwise
  rw [← coe_sum]
  exact Finset.sum_congr rfl fun c _ => hx c

omit H in
theorem sumB64 {x : FVec Ideal S14x2x16x64x64 .f32} {X : Fin 64 → ℝ} {r : Fin 64} (hx : ∀ c, x (ix5 n b (hd g h) r c) = (X c : EReal)) :
    Host.reduceAdd x (constant (F := Ideal) S_ .f32 0x00000000#32) reducesTo_S14x2x16x64x64_S14x2x16x64_d4 h_S_ (ix4 n b (hd g h) r) = ((∑ c, X c : ℝ) : EReal) := by
  pointwise
  rw [← coe_sum]
  exact Finset.sum_congr rfl fun c _ => hx c

omit H in
/-- The gradient of the write strengths before its last reshapes. -/
def dbv (V0 : Valuation τ sig (Elt Ideal)) : FVec Ideal S14x2x16x64 .f32 :=
  addf (addf (Host.reduceAdd (mulf (res_main_v461 V0 : FVec Ideal S14x2x16x64x256 .f32) (res_main_v470 V0)) (constant S_ .f32 0x00000000#32) reducesTo_S14x2x16x64x256_S14x2x16x64_d4 h_S_)
      (mulf (res_main_v30 V0 : FVec Ideal S14x2x16x64 .f32) (Host.reduceAdd (mulf (res_main_v729 V0 : FVec Ideal S14x2x16x64x128 .f32) (res_main_v17 V0)) (constant S_ .f32 0x00000000#32) reducesTo_S14x2x16x64x128_S14x2x16x64_d4 h_S_)))
    (Host.reduceAdd (mulf (mulf (res_main_v736 V0 : FVec Ideal S14x2x16x64x64 .f32) (res_main_v56 V0)) (res_main_v54 V0)) (constant S_ .f32 0x00000000#32) reducesTo_S14x2x16x64x64_S14x2x16x64_d4 h_S_)

/-- Its entries. -/
theorem db_apply (r : Fin 64) : dbv V0 (ix4 n b (hd g h) r)
    = (((A.blk b g n).DB h (stF (A.blk b g) h n.val) (stR (A.blk b g) h (13 - n.val)) r : ℝ) : EReal) := by
  have s1 := sumB256 n b g h (r := r) (x := mulf (res_main_v461 V0 : FVec Ideal S14x2x16x64x256 .f32) (res_main_v470 V0)) fun c =>
    mul_is (v461_is H n b g h r c) (v470_is H n b g h r c)
  have s2 := sumB128 n b g h (r := r) (x := mulf (res_main_v729 V0 : FVec Ideal S14x2x16x64x128 .f32) (res_main_v17 V0)) fun c =>
    mul_is (v729_is H n b g h r c) (v17_is H n b g h r c)
  have s3 := sumB64 n b g h (r := r) (x := mulf (mulf (res_main_v736 V0 : FVec Ideal S14x2x16x64x64 .f32) (res_main_v56 V0)) (res_main_v54 V0)) fun s =>
    mul_is (mul_is (v736_is H n b g h r s) (v56_is H n b g h r s)) (v54_is H n b g h r s)
  refine (add_is (add_is s1 (mul_is (v30_is H n b g h r) s2)) s3).trans (congrArg _ ?_)
  unfold RBlk.DB
  refine congrArg₂ (fun x y : ℝ => x + y) (congrArg (fun x : ℝ => _ + x) ?_) ?_
  · rw [Finset.mul_sum, Finset.mul_sum]
    exact Finset.sum_congr rfl fun c _ => by ring
  · refine Finset.sum_congr rfl fun s _ => ?_
    unfold RBlk.C
    by_cases hl : s < r
    · rw [if_pos hl, if_pos hl, if_pos hl.le]; ring
    · rw [if_neg hl, if_neg hl]; ring

omit n b g h in
/-- The gradient of the write strengths the reference returns. -/
theorem resultB_eq : (shapeCast S2x4x896x4 (transpose S2x4x14x64x4 [1, 2, 0, 4, 3] (shapeCast S14x2x4x4x64 (dbv V0) shapeCasts_S14x2x16x64_S14x2x4x4x64)
      transposes_S14x2x4x4x64_S2x4x14x64x4_1_2_0_4_3) shapeCasts_S2x4x14x64x4_S2x4x896x4 : FVec Ideal S2x4x896x4 .f32) = DbSpec A := by
  funext y
  obtain ⟨b, g, h, n, r, rfl⟩ : ∃ b g h n r, y = ix4 b g (row n r) h := by
    have h2 : (y 2).val < 896 := (y 2).isLt
    refine ⟨y 0, y 1, y 3, ⟨(y 2).val / 64, by omega⟩, ⟨(y 2).val % 64, by omega⟩, funext fun a => ?_⟩
    match a with
    | 0 => rfl
    | 1 => rfl
    | 2 => exact Fin.ext (Nat.div_add_mod _ _).symm
    | 3 => rfl
  refine Eq.trans ?_ (DbSpec_row A b g h n r).symm
  have e2 := db_apply H n b g h r
  generalize dbv V0 = Z at e2 ⊢
  pointwise [row]
  refine Eq.trans (congrArg (fun x : Fin 16 => Z (ix4 n b x r)) (Fin.ext ?_)) e2
  show g.val * 4 + h.val = 4 * g.val + h.val
  omega

end Cert.ReferenceIdeal.Val
-- ==== Proof.Value.RefReg.lean ====
/- The reference's dequantised codes, and its run. -/
module

public import proofs.«01_k».proof.Proof.Value.RefB

@[expose] public section

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.Tactic
open Cert.KernelIdeal.Head (RArgs IsArgs DqSpec DkSpec DvSpec DbSpec)

variable (m : (b : Loc nD τ sig) → Buf (Elt Ideal) b) (c : Dev nD)

theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0] :=
  (by decide +kernel : ∀ t : Fin grid0.N, _)

theorem entry0 : V m c main_v0 = (bitcastToFloat .fp8e4m3 (m ((c.tc : Thread nD τ).loc main_arg0)) : FVec Ideal S2x896x16x128 .fp8e4m3) := by
  rfl

/-- The query codes' values. -/
theorem reg0 : reg_main_v3_0 m c = (bitcastToFloat .fp8e4m3 (m ((c.tc : Thread nD τ).loc main_arg0)) : FVec Ideal S2x896x16x128 .fp8e4m3) := by
  refine Pipeline.Dat.arrAt_eq_of_covers _ 3 _ (by decide +kernel) fun t hf y => ?_
  blk_simp
  rw [after0_3]
  frame_out
  unfold k0_pay1
  pointwise
  blk_simp [iblk]
  refine (congrFun (entry0 m c) _).trans (congrArg _ ?_)
  blk_ext [idx t]

theorem entry1 : V m c main_v1 = (bitcastToFloat .fp8e4m3 (m ((c.tc : Thread nD τ).loc main_arg2)) : FVec Ideal S2x896x16x128 .fp8e4m3) := by
  rfl

/-- The key codes' values. -/
theorem reg1 : reg_main_v3_1 m c = (bitcastToFloat .fp8e4m3 (m ((c.tc : Thread nD τ).loc main_arg2)) : FVec Ideal S2x896x16x128 .fp8e4m3) := by
  refine Pipeline.Dat.arrAt_eq_of_covers _ 4 _ (by decide +kernel) fun t hf y => ?_
  blk_simp
  rw [after0_4]
  frame_out
  unfold k0_pay2
  pointwise
  blk_simp [iblk]
  refine (congrFun (entry1 m c) _).trans (congrArg _ ?_)
  blk_ext [idx t]

theorem entry2 : V m c main_v2 = (bitcastToFloat .fp8e5m2 (m ((c.tc : Thread nD τ).loc main_arg7)) : FVec Ideal S2x896x16x256 .fp8e5m2) := by
  rfl

/-- The output gradient codes' values. -/
theorem reg2 : reg_main_v3_2 m c = (bitcastToFloat .fp8e5m2 (m ((c.tc : Thread nD τ).loc main_arg7)) : FVec Ideal S2x896x16x256 .fp8e5m2) := by
  refine Pipeline.Dat.arrAt_eq_of_covers _ 5 _ (by decide +kernel) fun t hf y => ?_
  blk_simp
  rw [after0_5]
  frame_out
  unfold k0_pay3
  pointwise
  blk_simp [iblk]
  refine (congrFun (entry2 m c) _).trans (congrArg _ ?_)
  blk_ext [idx t]

/-- Arguments that hold the numbers `A` leave the buffers holding them. -/
theorem in_of {A : RArgs} (H : IsArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) A) :
    In (exitV m c) A where
  q b p h j := (congrFun ((exit_main_v3_0 m c).trans (reg0 m c)) _).trans (H.q b p h j)
  sq b n h := (congrFun (exit_main_arg1 m c) _).trans (H.sq b n h)
  k b p h j := (congrFun ((exit_main_v3_1 m c).trans (reg1 m c)) _).trans (H.k b p h j)
  sk b n h := (congrFun (exit_main_arg3 m c) _).trans (H.sk b n h)
  v b p h j := (congrFun (exit_main_arg4 m c) _).trans (H.v b p h j)
  la b p h := (congrArg Ideal.log (congrFun (exit_main_arg5 m c) _)).trans (H.la b p h)
  be b p h := (congrFun (exit_main_arg6 m c) _).trans (H.be b p h)
  d b p h j := (congrFun ((exit_main_v3_2 m c).trans (reg2 m c)) _).trans (H.d b p h j)
  sd b n h := (congrFun (exit_main_arg8 m c) _).trans (H.sd b n h)

/-- The reference's run: its results are the gradients of the queries, the keys, the values and the write strengths of the numbers `A`, and it leaves its arguments alone. -/
theorem run_spec (ρ : Dev nD → PrngReg) {A : Dev nD → RArgs} (H : ∀ c : Dev nD, IsArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (A c)) :
    θ_run defs (onTc (τ := τ) (main (F := Ideal))) ⟨m, fun _ => 0, ρ⟩ fun r => ∀ c : Dev nD,
      r.2.mem ((c.tc : Thread nD τ).loc main_v726) = DqSpec (A c)
      ∧ r.2.mem ((c.tc : Thread nD τ).loc main_v772) = DkSpec (A c)
      ∧ r.2.mem ((c.tc : Thread nD τ).loc main_v467) = DvSpec (A c)
      ∧ r.2.mem ((c.tc : Thread nD τ).loc main_v785) = DbSpec (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (resultQ_eq (in_of m c (H c))), (h c).2.1.trans (resultK_eq (in_of m c (H c))), (h c).2.2.1.trans (result_eq (in_of m c (H c))), (h c).2.2.2.1.trans (resultB_eq (in_of m c (H c))), (h c).2.2.2.2⟩) (Cert.ReferenceIdeal.Value.run m ρ)

end Cert.ReferenceIdeal.Val
-- ==== Proof.lean ====
/- The certificate of the gated deltanet chunk backward kernel: every program runs to its end with its arguments
   unchanged and its counters at zero, the idealized kernel differs from the kernel by rewrites that preserve it, and on
   finite inputs with positive decay the idealized kernel and the reference return the same gradients of the queries, the keys, the values and the write strengths. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameKernel.Frame
public import proofs.«01_k».proof.Proof.FrameKernelIdeal.Frame
public import proofs.«01_k».proof.Proof.Gen.Pre_finite
public import proofs.«01_k».proof.Proof.Value.Pre
public import proofs.«01_k».proof.Proof.Value.Host
public import proofs.«01_k».proof.Proof.Value.RefReg
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- On inputs that meet the precondition the idealized kernel and the reference return the same gradients of the queries, the keys, the values and the write strengths. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  choose A hA using fun c => Cert.Pre_finite.Val.isArgs _ _ _ _ _ _ _ _ _ (hp c)
  refine ⟨fun c => Cert.KernelIdeal.Head.DqSpec (A c), fun c => Cert.KernelIdeal.Head.DkSpec (A c), fun c => Cert.KernelIdeal.Head.DvSpec (A c), fun c => Cert.KernelIdeal.Head.DbSpec (A c), ?_, ?_⟩
  · exact (θ_run Cert.KernelIdeal.defs _ _).mono (fun _ h c => ⟨(h.1 c).1, (h.1 c).2.1, (h.1 c).2.2.1, (h.1 c).2.2.2, h.2 c⟩)
      (θ_run_and (Cert.KernelIdeal.Val.run_spec m g hA) (Cert.KernelIdeal.Gen.unchanged m g))
  · refine Cert.ReferenceIdeal.Val.run_spec m' g' fun c => ?_
    obtain ⟨h0, h1, h2, h3, h4, h5, h6, h7, h8⟩ := hm c
    rw [h0, h1, h2, h3, h4, h5, h6, h7, h8]
    exact hA c

/-- Every claim of the certificate: the runs, the rewrites between the kernel and its idealization, and the four gradients. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  ⟨IdealRules.bf16_pack.statement _, IdealRules.bf16_pack.statement _, IdealRules.bf16_pack.statement _,
    IdealRules.bf16_pack.statement _, IdealRules.bf16_pack.statement _, IdealRules.bf16_pack.statement _⟩, algebraic⟩

end Cert.Proof

end
